-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.bf16_pair.PackStatement Cert.KernelIdeal.S64x1024
  ∧ IdealRules.bf16_pair.Statement Cert.KernelIdeal.S128x1024 Cert.KernelIdeal.S64x1024

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v7)) (v5 : (c : Dev Cert.KernelIdeal.nD) → Buf (Elt Ideal) ((c.tc : Thread Cert.KernelIdeal.nD Cert.KernelIdeal.τ).loc Cert.KernelIdeal.main_v4_1)) (v6 : (c : Dev Cert.KernelIdeal.nD) → Buf (Elt Ideal) ((c.tc : Thread Cert.KernelIdeal.nD Cert.KernelIdeal.τ).loc Cert.KernelIdeal.main_v8)) (v7 : (c : Dev Cert.KernelIdeal.nD) → Buf (Elt Ideal) ((c.tc : Thread Cert.KernelIdeal.nD Cert.KernelIdeal.τ).loc Cert.KernelIdeal.main_v5_5)) (v8 : (c : Dev Cert.KernelIdeal.nD) → Buf (Elt Ideal) ((c.tc : Thread Cert.KernelIdeal.nD Cert.KernelIdeal.τ).loc Cert.KernelIdeal.main_v9)) (v9 : (c : Dev Cert.KernelIdeal.nD) → Buf (Elt Ideal) ((c.tc : Thread Cert.KernelIdeal.nD Cert.KernelIdeal.τ).loc Cert.KernelIdeal.main_v5_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_v4_1) = v5 c
          ∧ r.2.mem ((c.tc : Thread Cert.KernelIdeal.nD Cert.KernelIdeal.τ).loc Cert.KernelIdeal.main_v8) = v6 c
          ∧ r.2.mem ((c.tc : Thread Cert.KernelIdeal.nD Cert.KernelIdeal.τ).loc Cert.KernelIdeal.main_v5_5) = v7 c
          ∧ r.2.mem ((c.tc : Thread Cert.KernelIdeal.nD Cert.KernelIdeal.τ).loc Cert.KernelIdeal.main_v9) = v8 c
          ∧ r.2.mem ((c.tc : Thread Cert.KernelIdeal.nD Cert.KernelIdeal.τ).loc Cert.KernelIdeal.main_v5_7) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_v211) = v1 c
          ∧ r.2.mem ((c.tc : Thread Cert.ReferenceIdeal.nD Cert.ReferenceIdeal.τ).loc Cert.ReferenceIdeal.main_v213) = v2 c
          ∧ r.2.mem ((c.tc : Thread Cert.ReferenceIdeal.nD Cert.ReferenceIdeal.τ).loc Cert.ReferenceIdeal.main_v214) = v3 c
          ∧ r.2.mem ((c.tc : Thread Cert.ReferenceIdeal.nD Cert.ReferenceIdeal.τ).loc Cert.ReferenceIdeal.main_v16) = v4 c
          ∧ r.2.mem ((c.tc : Thread Cert.ReferenceIdeal.nD Cert.ReferenceIdeal.τ).loc Cert.ReferenceIdeal.main_v9) = v5 c
          ∧ r.2.mem ((c.tc : Thread Cert.ReferenceIdeal.nD Cert.ReferenceIdeal.τ).loc Cert.ReferenceIdeal.main_v116) = v6 c
          ∧ r.2.mem ((c.tc : Thread Cert.ReferenceIdeal.nD Cert.ReferenceIdeal.τ).loc Cert.ReferenceIdeal.main_v109) = v7 c
          ∧ r.2.mem ((c.tc : Thread Cert.ReferenceIdeal.nD Cert.ReferenceIdeal.τ).loc Cert.ReferenceIdeal.main_v167) = v8 c
          ∧ r.2.mem ((c.tc : Thread Cert.ReferenceIdeal.nD Cert.ReferenceIdeal.τ).loc Cert.ReferenceIdeal.main_v160) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1536x1024 : Shape := ⟨3, ![6, 1536, 1024]⟩
abbrev S1024x4096 : Shape := ⟨2, ![1024, 4096]⟩
abbrev S4096x1024 : Shape := ⟨2, ![4096, 1024]⟩
abbrev S512x4096 : Shape := ⟨2, ![512, 4096]⟩
abbrev S2048x1024 : Shape := ⟨2, ![2048, 1024]⟩
abbrev S8x4096 : Shape := ⟨2, ![8, 4096]⟩
abbrev S32x1024 : Shape := ⟨2, ![32, 1024]⟩
abbrev S512x1024 : Shape := ⟨2, ![512, 1024]⟩
abbrev S8x1024 : Shape := ⟨2, ![8, 1024]⟩
abbrev S1024x1024 : Shape := ⟨2, ![1024, 1024]⟩
abbrev S64x1024 : Shape := ⟨2, ![64, 1024]⟩
abbrev S1x1024 : Shape := ⟨2, ![1, 1024]⟩
abbrev S128x1024 : Shape := ⟨2, ![128, 1024]⟩
abbrev S9216x1024 : Shape := ⟨2, ![9216, 1024]⟩
abbrev S6x1536 : Shape := ⟨2, ![6, 1536]⟩
abbrev S9216x4096 : Shape := ⟨2, ![9216, 4096]⟩
abbrev S9216x256 : Shape := ⟨2, ![9216, 256]⟩
abbrev S256x1024 : Shape := ⟨2, ![256, 1024]⟩
abbrev S1024x2048 : Shape := ⟨2, ![1024, 2048]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S128x128 : Shape := ⟨2, ![128, 128]⟩
abbrev S128 : Shape := ⟨1, ![128]⟩
abbrev S1x128 : Shape := ⟨2, ![1, 128]⟩
abbrev S1x256 : Shape := ⟨2, ![1, 256]⟩
abbrev S1024x256 : Shape := ⟨2, ![1024, 256]⟩
abbrev S256x256 : Shape := ⟨2, ![256, 256]⟩
abbrev S4x6x1536 : Shape := ⟨3, ![4, 6, 1536]⟩
abbrev S4x1024 : Shape := ⟨2, ![4, 1024]⟩
abbrev S256x4096 : Shape := ⟨2, ![256, 4096]⟩
abbrev S4x8x1024 : Shape := ⟨3, ![4, 8, 1024]⟩
abbrev S4096x256 : Shape := ⟨2, ![4096, 256]⟩
abbrev S8x256 : Shape := ⟨2, ![8, 256]⟩
abbrev S1x8x256 : Shape := ⟨3, ![1, 8, 256]⟩
abbrev S1x1x256 : Shape := ⟨3, ![1, 1, 256]⟩
abbrev S6x1536x4096 : Shape := ⟨3, ![6, 1536, 4096]⟩

abbrev nBuf : Space → Nat
  | .hbm => 34
  | .vmem => 69
  | .smem => 0
  | _ => 0

abbrev bufTy : (tb : Table) → Fin (tcTables nBuf tb) → BufTy
  | .hbm, ⟨0, _⟩ => ⟨S6x1536x1024, .bf16⟩
  | .hbm, ⟨1, _⟩ => ⟨S1024x4096, .bf16⟩
  | .hbm, ⟨2, _⟩ => ⟨S1024x4096, .bf16⟩
  | .hbm, ⟨3, _⟩ => ⟨S4096x1024, .bf16⟩
  | .hbm, ⟨4, _⟩ => ⟨S512x4096, .i8⟩
  | .hbm, ⟨5, _⟩ => ⟨S512x4096, .i8⟩
  | .hbm, ⟨6, _⟩ => ⟨S2048x1024, .i8⟩
  | .hbm, ⟨7, _⟩ => ⟨S8x4096, .f32⟩
  | .hbm, ⟨8, _⟩ => ⟨S8x4096, .f32⟩
  | .hbm, ⟨9, _⟩ => ⟨S32x1024, .f32⟩
  | .hbm, ⟨10, _⟩ => ⟨S1024x4096, .bf16⟩
  | .hbm, ⟨11, _⟩ => ⟨S1024x4096, .bf16⟩
  | .hbm, ⟨12, _⟩ => ⟨S4096x1024, .bf16⟩
  | .hbm, ⟨13, _⟩ => ⟨S9216x1024, .bf16⟩
  | .hbm, ⟨14, _⟩ => ⟨S9216x1024, .i8⟩
  | .hbm, ⟨15, _⟩ => ⟨S6x1536, .f32⟩
  | .hbm, ⟨16, _⟩ => ⟨S9216x4096, .f32⟩
  | .hbm, ⟨17, _⟩ => ⟨S9216x4096, .f32⟩
  | .hbm, ⟨18, _⟩ => ⟨S9216x4096, .bf16⟩
  | .hbm, ⟨19, _⟩ => ⟨S9216x4096, .bf16⟩
  | .hbm, ⟨20, _⟩ => ⟨S9216x256, .f32⟩
  | .hbm, ⟨21, _⟩ => ⟨S9216x256, .f32⟩
  | .hbm, ⟨22, _⟩ => ⟨S4x6x1536, .f32⟩
  | .hbm, ⟨23, _⟩ => ⟨S4x1024, .f32⟩
  | .hbm, ⟨24, _⟩ => ⟨S6x1536, .f32⟩
  | .hbm, ⟨25, _⟩ => ⟨S9216x1024, .bf16⟩
  | .hbm, ⟨26, _⟩ => ⟨S9216x4096, .i8⟩
  | .hbm, ⟨27, _⟩ => ⟨S6x1536, .f32⟩
  | .hbm, ⟨28, _⟩ => ⟨S9216x4096, .i8⟩
  | .hbm, ⟨29, _⟩ => ⟨S6x1536, .f32⟩
  | .hbm, ⟨30, _⟩ => ⟨S6x1536x1024, .bf16⟩
  | .hbm, ⟨31, _⟩ => ⟨S6x1536x1024, .i8⟩
  | .hbm, ⟨32, _⟩ => ⟨S6x1536x4096, .i8⟩
  | .hbm, ⟨33, _⟩ => ⟨S6x1536x4096, .i8⟩
  | .local _ .vmem, ⟨0, _⟩ => ⟨S512x1024, .i8⟩
  | .local _ .vmem, ⟨1, _⟩ => ⟨S512x1024, .i8⟩
  | .local _ .vmem, ⟨2, _⟩ => ⟨S8x1024, .f32⟩
  | .local _ .vmem, ⟨3, _⟩ => ⟨S8x1024, .f32⟩
  | .local _ .vmem, ⟨4, _⟩ => ⟨S1024x1024, .bf16⟩
  | .local _ .vmem, ⟨5, _⟩ => ⟨S1024x1024, .bf16⟩
  | .local _ .vmem, ⟨6, _⟩ => ⟨S512x1024, .i8⟩
  | .local _ .vmem, ⟨7, _⟩ => ⟨S512x1024, .i8⟩
  | .local _ .vmem, ⟨8, _⟩ => ⟨S8x1024, .f32⟩
  | .local _ .vmem, ⟨9, _⟩ => ⟨S8x1024, .f32⟩
  | .local _ .vmem, ⟨10, _⟩ => ⟨S1024x1024, .bf16⟩
  | .local _ .vmem, ⟨11, _⟩ => ⟨S1024x1024, .bf16⟩
  | .local _ .vmem, ⟨12, _⟩ => ⟨S512x1024, .i8⟩
  | .local _ .vmem, ⟨13, _⟩ => ⟨S512x1024, .i8⟩
  | .local _ .vmem, ⟨14, _⟩ => ⟨S8x1024, .f32⟩
  | .local _ .vmem, ⟨15, _⟩ => ⟨S8x1024, .f32⟩
  | .local _ .vmem, ⟨16, _⟩ => ⟨S1024x1024, .bf16⟩
  | .local _ .vmem, ⟨17, _⟩ => ⟨S1024x1024, .bf16⟩
  | .local _ .vmem, ⟨18, _⟩ => ⟨S256x1024, .bf16⟩
  | .local _ .vmem, ⟨19, _⟩ => ⟨S256x1024, .bf16⟩
  | .local _ .vmem, ⟨20, _⟩ => ⟨S1024x2048, .bf16⟩
  | .local _ .vmem, ⟨21, _⟩ => ⟨S1024x2048, .bf16⟩
  | .local _ .vmem, ⟨22, _⟩ => ⟨S1024x2048, .bf16⟩
  | .local _ .vmem, ⟨23, _⟩ => ⟨S1024x2048, .bf16⟩
  | .local _ .vmem, ⟨24, _⟩ => ⟨S1024x2048, .bf16⟩
  | .local _ .vmem, ⟨25, _⟩ => ⟨S1024x2048, .bf16⟩
  | .local _ .vmem, ⟨26, _⟩ => ⟨S1024x2048, .bf16⟩
  | .local _ .vmem, ⟨27, _⟩ => ⟨S1024x2048, .bf16⟩
  | .local _ .vmem, ⟨28, _⟩ => ⟨S256x1024, .i8⟩
  | .local _ .vmem, ⟨29, _⟩ => ⟨S256x1024, .i8⟩
  | .local _ .vmem, ⟨30, _⟩ => ⟨S6x1536, .f32⟩
  | .local _ .vmem, ⟨31, _⟩ => ⟨S256x2048, .f32⟩
  | .local _ .vmem, ⟨32, _⟩ => ⟨S256x2048, .f32⟩
  | .local _ .vmem, ⟨33, _⟩ => ⟨S256x2048, .f32⟩
  | .local _ .vmem, ⟨34, _⟩ => ⟨S256x2048, .f32⟩
  | .local _ .vmem, ⟨35, _⟩ => ⟨S256x2048, .bf16⟩
  | .local _ .vmem, ⟨36, _⟩ => ⟨S256x2048, .bf16⟩
  | .local _ .vmem, ⟨37, _⟩ => ⟨S256x2048, .bf16⟩
  | .local _ .vmem, ⟨38, _⟩ => ⟨S256x2048, .bf16⟩
  | .local _ .vmem, ⟨39, _⟩ => ⟨S256x128, .f32⟩
  | .local _ .vmem, ⟨40, _⟩ => ⟨S256x128, .f32⟩
  | .local _ .vmem, ⟨41, _⟩ => ⟨S256x128, .f32⟩
  | .local _ .vmem, ⟨42, _⟩ => ⟨S256x128, .f32⟩
  | .local _ .vmem, ⟨43, _⟩ => ⟨S256x4096, .f32⟩
  | .local _ .vmem, ⟨44, _⟩ => ⟨S256x4096, .f32⟩
  | .local _ .vmem, ⟨45, _⟩ => ⟨S256x4096, .f32⟩
  | .local _ .vmem, ⟨46, _⟩ => ⟨S256x4096, .f32⟩
  | .local _ .vmem, ⟨47, _⟩ => ⟨S256x4096, .bf16⟩
  | .local _ .vmem, ⟨48, _⟩ => ⟨S256x4096, .bf16⟩
  | .local _ .vmem, ⟨49, _⟩ => ⟨S256x4096, .bf16⟩
  | .local _ .vmem, ⟨50, _⟩ => ⟨S256x4096, .bf16⟩
  | .local _ .vmem, ⟨51, _⟩ => ⟨S256x256, .f32⟩
  | .local _ .vmem, ⟨52, _⟩ => ⟨S256x256, .f32⟩
  | .local _ .vmem, ⟨53, _⟩ => ⟨S256x256, .f32⟩
  | .local _ .vmem, ⟨54, _⟩ => ⟨S256x256, .f32⟩
  | .local _ .vmem, ⟨55, _⟩ => ⟨S4096x1024, .bf16⟩
  | .local _ .vmem, ⟨56, _⟩ => ⟨S4096x1024, .bf16⟩
  | .local _ .vmem, ⟨57, _⟩ => ⟨S4x6x1536, .f32⟩
  | .local _ .vmem, ⟨58, _⟩ => ⟨S4x1024, .f32⟩
  | .local _ .vmem, ⟨59, _⟩ => ⟨S6x1536, .f32⟩
  | .local _ .vmem, ⟨60, _⟩ => ⟨S256x1024, .bf16⟩
  | .local _ .vmem, ⟨61, _⟩ => ⟨S256x1024, .bf16⟩
  | .local _ .vmem, ⟨62, _⟩ => ⟨S256x4096, .i8⟩
  | .local _ .vmem, ⟨63, _⟩ => ⟨S256x4096, .i8⟩
  | .local _ .vmem, ⟨64, _⟩ => ⟨S6x1536, .f32⟩
  | .local _ .vmem, ⟨65, _⟩ => ⟨S256x4096, .i8⟩
  | .local _ .vmem, ⟨66, _⟩ => ⟨S256x4096, .i8⟩
  | .local _ .vmem, ⟨67, _⟩ => ⟨S6x1536, .f32⟩
  | .local _ .vmem, ⟨68, _⟩ => ⟨S4x8x1024, .f32⟩
  | _, _ => ⟨S6x1536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v4_6 : Ref sig .tc := ⟨.hbm, 20, rfl⟩
abbrev main_v4_7 : Ref sig .tc := ⟨.hbm, 21, rfl⟩
abbrev main_v5_0 : Ref sig .tc := ⟨.hbm, 22, rfl⟩
abbrev main_v5_1 : Ref sig .tc := ⟨.hbm, 23, rfl⟩
abbrev main_v5_2 : Ref sig .tc := ⟨.hbm, 24, rfl⟩
abbrev main_v5_3 : Ref sig .tc := ⟨.hbm, 25, rfl⟩
abbrev main_v5_4 : Ref sig .tc := ⟨.hbm, 26, rfl⟩
abbrev main_v5_5 : Ref sig .tc := ⟨.hbm, 27, rfl⟩
abbrev main_v5_6 : Ref sig .tc := ⟨.hbm, 28, rfl⟩
abbrev main_v5_7 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg7_1 : Ref sig .tc := ⟨.vmem, 32, rfl⟩
abbrev cc3_stg8_0 : Ref sig .tc := ⟨.vmem, 33, rfl⟩
abbrev cc3_stg8_1 : Ref sig .tc := ⟨.vmem, 34, rfl⟩
abbrev cc3_stg9_0 : Ref sig .tc := ⟨.vmem, 35, rfl⟩
abbrev cc3_stg9_1 : Ref sig .tc := ⟨.vmem, 36, rfl⟩
abbrev cc3_stg10_0 : Ref sig .tc := ⟨.vmem, 37, rfl⟩
abbrev cc3_stg10_1 : Ref sig .tc := ⟨.vmem, 38, rfl⟩
abbrev cc3_stg11_0 : Ref sig .tc := ⟨.vmem, 39, rfl⟩
abbrev cc3_stg11_1 : Ref sig .tc := ⟨.vmem, 40, rfl⟩
abbrev cc3_stg12_0 : Ref sig .tc := ⟨.vmem, 41, rfl⟩
abbrev cc3_stg12_1 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg1_1 : Ref sig .tc := ⟨.vmem, 46, rfl⟩
abbrev cc4_stg2_0 : Ref sig .tc := ⟨.vmem, 47, rfl⟩
abbrev cc4_stg2_1 : Ref sig .tc := ⟨.vmem, 48, rfl⟩
abbrev cc4_stg3_0 : Ref sig .tc := ⟨.vmem, 49, rfl⟩
abbrev cc4_stg3_1 : Ref sig .tc := ⟨.vmem, 50, rfl⟩
abbrev cc4_stg4_0 : Ref sig .tc := ⟨.vmem, 51, rfl⟩
abbrev cc4_stg4_1 : Ref sig .tc := ⟨.vmem, 52, rfl⟩
abbrev cc4_stg5_0 : Ref sig .tc := ⟨.vmem, 53, rfl⟩
abbrev cc4_stg5_1 : Ref sig .tc := ⟨.vmem, 54, rfl⟩
abbrev cc4_stg6_0 : Ref sig .tc := ⟨.vmem, 55, rfl⟩
abbrev cc4_stg7_0 : Ref sig .tc := ⟨.vmem, 56, rfl⟩
abbrev cc4_stg8_0 : Ref sig .tc := ⟨.vmem, 57, rfl⟩
abbrev cc4_stg9_0 : Ref sig .tc := ⟨.vmem, 58, rfl⟩
abbrev cc4_stg10_0 : Ref sig .tc := ⟨.vmem, 59, rfl⟩
abbrev cc4_stg11_0 : Ref sig .tc := ⟨.vmem, 60, rfl⟩
abbrev cc4_stg11_1 : Ref sig .tc := ⟨.vmem, 61, rfl⟩
abbrev cc4_stg12_0 : Ref sig .tc := ⟨.vmem, 62, rfl⟩
abbrev cc4_stg12_1 : Ref sig .tc := ⟨.vmem, 63, rfl⟩
abbrev cc4_stg13_0 : Ref sig .tc := ⟨.vmem, 64, rfl⟩
abbrev cc4_stg14_0 : Ref sig .tc := ⟨.vmem, 65, rfl⟩
abbrev cc4_stg14_1 : Ref sig .tc := ⟨.vmem, 66, rfl⟩
abbrev cc4_stg15_0 : Ref sig .tc := ⟨.vmem, 67, rfl⟩
abbrev cc4_scratch0 : Ref sig .tc := ⟨.vmem, 68, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem5_1 : DmaSem sig := 29
abbrev cc3_sem6_0 : DmaSem sig := 30
abbrev cc3_sem7_0 : DmaSem sig := 31
abbrev cc3_sem7_1 : DmaSem sig := 32
abbrev cc3_sem8_0 : DmaSem sig := 33
abbrev cc3_sem8_1 : DmaSem sig := 34
abbrev cc3_sem9_0 : DmaSem sig := 35
abbrev cc3_sem9_1 : DmaSem sig := 36
abbrev cc3_sem10_0 : DmaSem sig := 37
abbrev cc3_sem10_1 : DmaSem sig := 38
abbrev cc3_sem11_0 : DmaSem sig := 39
abbrev cc3_sem11_1 : DmaSem sig := 40
abbrev cc3_sem12_0 : DmaSem sig := 41
abbrev cc3_sem12_1 : DmaSem sig := 42
abbrev cc4_sem0_0 : DmaSem sig := 43
abbrev cc4_sem0_1 : DmaSem sig := 44
abbrev cc4_sem1_0 : DmaSem sig := 45
abbrev cc4_sem1_1 : DmaSem sig := 46
abbrev cc4_sem2_0 : DmaSem sig := 47
abbrev cc4_sem2_1 : DmaSem sig := 48
abbrev cc4_sem3_0 : DmaSem sig := 49
abbrev cc4_sem3_1 : DmaSem sig := 50
abbrev cc4_sem4_0 : DmaSem sig := 51
abbrev cc4_sem4_1 : DmaSem sig := 52
abbrev cc4_sem5_0 : DmaSem sig := 53
abbrev cc4_sem5_1 : DmaSem sig := 54
abbrev cc4_sem6_0 : DmaSem sig := 55
abbrev cc4_sem7_0 : DmaSem sig := 56
abbrev cc4_sem8_0 : DmaSem sig := 57
abbrev cc4_sem9_0 : DmaSem sig := 58
abbrev cc4_sem10_0 : DmaSem sig := 59
abbrev cc4_sem11_0 : DmaSem sig := 60
abbrev cc4_sem11_1 : DmaSem sig := 61
abbrev cc4_sem12_0 : DmaSem sig := 62
abbrev cc4_sem12_1 : DmaSem sig := 63
abbrev cc4_sem13_0 : DmaSem sig := 64
abbrev cc4_sem14_0 : DmaSem sig := 65
abbrev cc4_sem14_1 : DmaSem sig := 66
abbrev cc4_sem15_0 : DmaSem sig := 67

abbrev nD : Nat := 1
abbrev τ : Topo := Topo.v7x

variable {F : FTy → Type} [BitOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .i8 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S8x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 36], ![false, false]⟩

def k3_mult1 (i : grid3.Coords) : BitVec 32 :=
  let arg1 : BitVec 32 := BitVec.ofNat 32 (i 1).val
  let c6_i32_12 : BitVec 32 := 6#32
  let c0_i32_13 : BitVec 32 := 0#32
  let v55 : BitVec 1 := Scalar.cmpi .eq c6_i32_12 c0_i32_13
  let c1_i32_14 : BitVec 32 := 1#32
  let v56 : BitVec 32 := Scalar.select v55 c1_i32_14 c6_i32_12
  let v57 : BitVec 32 := Scalar.remsi arg1 v56
  let c0_i32_16 : BitVec 32 := 0#32
  let v59 : BitVec 1 := Scalar.cmpi .slt v57 c0_i32_16
  let c0_i32_17 : BitVec 32 := 0#32
  let v60 : BitVec 1 := Scalar.cmpi .slt v56 c0_i32_17
  let v61 : BitVec 1 := Scalar.xori v59 v60
  let c0_i32_15 : BitVec 32 := 0#32
  let v58 : BitVec 1 := Scalar.cmpi .ne v57 c0_i32_15
  let v62 : BitVec 1 := Scalar.andi v61 v58
  let v63 : BitVec 32 := Scalar.addi v57 v56
  let v64 : BitVec 32 := Scalar.select v62 v63 v57
  let c256_i32 : BitVec 32 := 256#32
  let v65 : BitVec 32 := Scalar.muli v64 c256_i32
  v65
def k3_off1 (i : grid3.Coords) : Fin 2 → Nat :=
  let arg1 : BitVec 32 := BitVec.ofNat 32 (i 1).val
  let c0_i32 : BitVec 32 := 0#32
  let v39 : BitVec 1 := Scalar.cmpi .sgt arg1 c0_i32
  let v40 : BitVec 32 := Scalar.extui v39
  let c0_i32_8 : BitVec 32 := 0#32
  let v41 : BitVec 1 := Scalar.cmpi .slt arg1 c0_i32_8
  let v42 : BitVec 32 := Scalar.extui v41
  let v43 : BitVec 32 := Scalar.subi v40 v42
  let c6_i32 : BitVec 32 := 6#32
  let c0_i32_9 : BitVec 32 := 0#32
  let v44 : BitVec 1 := Scalar.cmpi .sgt c6_i32 c0_i32_9
  let v45 : BitVec 32 := Scalar.extui v44
  let c0_i32_10 : BitVec 32 := 0#32
  let v46 : BitVec 1 := Scalar.cmpi .slt c6_i32 c0_i32_10
  let v47 : BitVec 32 := Scalar.extui v46
  let v48 : BitVec 32 := Scalar.subi v45 v47
  let v49 : BitVec 1 := Scalar.cmpi .ne v43 v48
  let v50 : BitVec 32 := Scalar.remsi arg1 c6_i32
  let c0_i32_11 : BitVec 32 := 0#32
  let v51 : BitVec 1 := Scalar.cmpi .ne v50 c0_i32_11
  let v52 : BitVec 1 := Scalar.andi v49 v51
  let v38 : BitVec 32 := Scalar.divsi arg1 c6_i32
  let c1_i32 : BitVec 32 := 1#32
  let v53 : BitVec 32 := Scalar.subi v38 c1_i32
  let v54 : BitVec 32 := Scalar.select v52 v53 v38
  let v82 : Index := Scalar.indexCast v54
  let c6_i32_12 : BitVec 32 := 6#32
  let c0_i32_13 : BitVec 32 := 0#32
  let v55 : BitVec 1 := Scalar.cmpi .eq c6_i32_12 c0_i32_13
  let c1_i32_14 : BitVec 32 := 1#32
  let v56 : BitVec 32 := Scalar.select v55 c1_i32_14 c6_i32_12
  let v57 : BitVec 32 := Scalar.remsi arg1 v56
  let c0_i32_16 : BitVec 32 := 0#32
  let v59 : BitVec 1 := Scalar.cmpi .slt v57 c0_i32_16
  let c0_i32_17 : BitVec 32 := 0#32
  let v60 : BitVec 1 := Scalar.cmpi .slt v56 c0_i32_17
  let v61 : BitVec 1 := Scalar.xori v59 v60
  let c0_i32_15 : BitVec 32 := 0#32
  let v58 : BitVec 1 := Scalar.cmpi .ne v57 c0_i32_15
  let v62 : BitVec 1 := Scalar.andi v61 v58
  let v63 : BitVec 32 := Scalar.addi v57 v56
  let v64 : BitVec 32 := Scalar.select v62 v63 v57
  let c256_i32 : BitVec 32 := 256#32
  let v65 : BitVec 32 := Scalar.muli v64 c256_i32
  let v66 : BitVec 32 := v65
  let v83 : Index := Scalar.indexCast v66
  ![v82.toNat, v83.toNat]
def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_11 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_12 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1024x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1024x2048 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1024x2048 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S256x1024 .i8 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![false, true]

abbrev stage3_6 : Fin 1 → Memref sig .tc .vmem S6x1536 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S256x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S256x2048 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S256x2048 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S256x2048 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev stage3_11 : Fin 2 → Memref sig .tc .vmem S256x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, true]

abbrev stage3_12 : Fin 2 → Memref sig .tc .vmem S256x128 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true, true]

abbrev grid4 : Pipeline.Grid := ⟨1, ![36], ![false]⟩

def k4_mult1 (i : grid4.Coords) : BitVec 32 :=
  let arg0 : BitVec 32 := BitVec.ofNat 32 (i 0).val
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  v27
def k4_off1 (i : grid4.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c6_i32 : BitVec 32 := 6#32
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let v0 : BitVec 32 := Scalar.divsi arg0 c6_i32
  let c1_i32 : BitVec 32 := 1#32
  let v15 : BitVec 32 := Scalar.subi v0 c1_i32
  let v16 : BitVec 32 := Scalar.select v14 v15 v0
  let v55 : Index := Scalar.indexCast v16
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v28 : BitVec 32 := v27
  let v56 : Index := Scalar.indexCast v28
  ![v55.toNat, v56.toNat]
def k4_off2 (i : grid4.Coords) : Fin 3 → Nat :=
  let c0_222 : Index := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c6_i32 : BitVec 32 := 6#32
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let v0 : BitVec 32 := Scalar.divsi arg0 c6_i32
  let c1_i32 : BitVec 32 := 1#32
  let v15 : BitVec 32 := Scalar.subi v0 c1_i32
  let v16 : BitVec 32 := Scalar.select v14 v15 v0
  let v1433 : Index := Scalar.indexCast v16
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v28 : BitVec 32 := v27
  let v1434 : Index := Scalar.indexCast v28
  ![0, v1433.toNat, v1434.toNat]
def k4_off3 (i : grid4.Coords) : Fin 3 → Nat :=
  let c1_225 : Index := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c6_i32 : BitVec 32 := 6#32
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let v0 : BitVec 32 := Scalar.divsi arg0 c6_i32
  let c1_i32 : BitVec 32 := 1#32
  let v15 : BitVec 32 := Scalar.subi v0 c1_i32
  let v16 : BitVec 32 := Scalar.select v14 v15 v0
  let v1447 : Index := Scalar.indexCast v16
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v28 : BitVec 32 := v27
  let v1448 : Index := Scalar.indexCast v28
  ![1, v1447.toNat, v1448.toNat]
def k4_off4 (i : grid4.Coords) : Fin 3 → Nat :=
  let c2_228 : Index := 2#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c6_i32 : BitVec 32 := 6#32
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let v0 : BitVec 32 := Scalar.divsi arg0 c6_i32
  let c1_i32 : BitVec 32 := 1#32
  let v15 : BitVec 32 := Scalar.subi v0 c1_i32
  let v16 : BitVec 32 := Scalar.select v14 v15 v0
  let v1461 : Index := Scalar.indexCast v16
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v28 : BitVec 32 := v27
  let v1462 : Index := Scalar.indexCast v28
  ![2, v1461.toNat, v1462.toNat]
def k4_off5 (i : grid4.Coords) : Fin 3 → Nat :=
  let c3_231 : Index := 3#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c6_i32 : BitVec 32 := 6#32
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let v0 : BitVec 32 := Scalar.divsi arg0 c6_i32
  let c1_i32 : BitVec 32 := 1#32
  let v15 : BitVec 32 := Scalar.subi v0 c1_i32
  let v16 : BitVec 32 := Scalar.select v14 v15 v0
  let v1475 : Index := Scalar.indexCast v16
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v28 : BitVec 32 := v27
  let v1476 : Index := Scalar.indexCast v28
  ![3, v1475.toNat, v1476.toNat]
def k4_cond2 (i : grid4.Coords) : BitVec 1 :=
  let arg0 : BitVec 32 := BitVec.ofNat 32 (i 0).val
  let c35_i32 : BitVec 32 := 35#32
  let v1492 : BitVec 1 := Scalar.cmpi .eq arg0 c35_i32
  let v1493 : BitVec 32 := Scalar.extui v1492
  let c0_i32_234 : BitVec 32 := 0#32
  let v1494 : BitVec 1 := Scalar.cmpi .ne v1493 c0_i32_234
  v1494

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_12 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_15 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S256x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x4096 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x4096 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S4096x1024 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S4096x1024 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S4x6x1536 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S4x1024 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S6x1536 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S256x1024 .bf16 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev stage4_12 : Fin 2 → Memref sig .tc .vmem S256x4096 .i8 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

abbrev stage4_13 : Fin 1 → Memref sig .tc .vmem S6x1536 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 2 → Memref sig .tc .vmem S256x4096 .i8 := fun | 0 => Memref.whole cc4_stg14_0 | 1 => Memref.whole cc4_stg14_1 | ⟨_ + 2, h⟩ => absurd h (Nat.not_lt.2 (Nat.le_add_left _ _))
abbrev sem4_14 : Fin 2 → DmaSem sig := fun | 0 => cc4_sem14_0 | 1 => cc4_sem14_1 | ⟨_ + 2, h⟩ => absurd h (Nat.not_lt.2 (Nat.le_add_left _ _))
abbrev reads4_14 : Fin grid4.rank → Bool := ![true]

abbrev stage4_15 : Fin 1 → Memref sig .tc .vmem S6x1536 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]
-- ==== KernelIdeal.lean ====
variable {F : FTy → Type} [FloatOps F]
-- ==== ReferenceIdeal.lean ====
abbrev S6x1536x1024 : Shape := ⟨3, ![6, 1536, 1024]⟩
abbrev S1024x4096 : Shape := ⟨2, ![1024, 4096]⟩
abbrev S4096x1024 : Shape := ⟨2, ![4096, 1024]⟩
abbrev S512x4096 : Shape := ⟨2, ![512, 4096]⟩
abbrev S2048x1024 : Shape := ⟨2, ![2048, 1024]⟩
abbrev S8x4096 : Shape := ⟨2, ![8, 4096]⟩
abbrev S32x1024 : Shape := ⟨2, ![32, 1024]⟩
abbrev S6x1536x4096 : Shape := ⟨3, ![6, 1536, 4096]⟩
abbrev S_ : Shape := ⟨0, ![]⟩
abbrev S6x1536 : Shape := ⟨2, ![6, 1536]⟩
abbrev S6x1536x1 : Shape := ⟨3, ![6, 1536, 1]⟩
abbrev S8x64x4096 : Shape := ⟨3, ![8, 64, 4096]⟩
abbrev S6x1536x512 : Shape := ⟨3, ![6, 1536, 512]⟩
abbrev S32x64x1024 : Shape := ⟨3, ![32, 64, 1024]⟩
abbrev S6x1536x2048 : Shape := ⟨3, ![6, 1536, 2048]⟩
abbrev S1x6x1536x1024 : Shape := ⟨4, ![1, 6, 1536, 1024]⟩
abbrev S4x6x1536x1024 : Shape := ⟨4, ![4, 6, 1536, 1024]⟩
abbrev S4x6x1536 : Shape := ⟨3, ![4, 6, 1536]⟩
abbrev S4x1024 : Shape := ⟨2, ![4, 1024]⟩

abbrev nBuf : Space → Nat
  | .hbm => 295
  | .vmem => 0
  | .smem => 0
  | _ => 0

abbrev hbmTy0_0 (i : Nat) : BufTy := match i % 128 with
  | 0 => ⟨S6x1536x1024, .bf16⟩
  | 1 => ⟨S1024x4096, .bf16⟩
  | 2 => ⟨S1024x4096, .bf16⟩
  | 3 => ⟨S4096x1024, .bf16⟩
  | 4 => ⟨S512x4096, .i8⟩
  | 5 => ⟨S512x4096, .i8⟩
  | 6 => ⟨S2048x1024, .i8⟩
  | 7 => ⟨S8x4096, .f32⟩
  | 8 => ⟨S8x4096, .f32⟩
  | 9 => ⟨S32x1024, .f32⟩
  | 10 => ⟨S6x1536x4096, .f32⟩
  | 11 => ⟨S6x1536x4096, .f32⟩
  | 12 => ⟨S6x1536x1024, .f32⟩
  | 13 => ⟨S6x1536x1024, .f32⟩
  | 14 => ⟨S_, .f32⟩
  | 15 => ⟨S6x1536, .f32⟩
  | 16 => ⟨S_, .f32⟩
  | 17 => ⟨S6x1536, .f32⟩
  | 18 => ⟨S6x1536, .i1⟩
  | 19 => ⟨S_, .f32⟩
  | 20 => ⟨S6x1536, .f32⟩
  | 21 => ⟨S6x1536, .f32⟩
  | 22 => ⟨S_, .f32⟩
  | 23 => ⟨S_, .f32⟩
  | 24 => ⟨S6x1536, .f32⟩
  | 25 => ⟨S6x1536, .f32⟩
  | 26 => ⟨S6x1536x1, .f32⟩
  | 27 => ⟨S6x1536x1024, .f32⟩
  | 28 => ⟨S6x1536x1024, .f32⟩
  | 29 => ⟨S6x1536x1024, .f32⟩
  | 30 => ⟨S_, .i32⟩
  | 31 => ⟨S_, .i32⟩
  | 32 => ⟨S_, .f32⟩
  | 33 => ⟨S6x1536x1024, .f32⟩
  | 34 => ⟨S6x1536x1024, .f32⟩
  | 35 => ⟨S_, .f32⟩
  | 36 => ⟨S6x1536x1024, .f32⟩
  | 37 => ⟨S6x1536x1024, .f32⟩
  | 38 => ⟨S6x1536x1024, .i32⟩
  | 39 => ⟨S6x1536x1024, .i8⟩
  | 40 => ⟨S512x4096, .i32⟩
  | 41 => ⟨S8x64x4096, .f32⟩
  | 42 => ⟨S512x4096, .f32⟩
  | 43 => ⟨S512x4096, .bf16⟩
  | 44 => ⟨S_, .i32⟩
  | 45 => ⟨S512x4096, .i32⟩
  | 46 => ⟨S512x4096, .i32⟩
  | 47 => ⟨S_, .i32⟩
  | 48 => ⟨S512x4096, .i32⟩
  | 49 => ⟨S512x4096, .i1⟩
  | 50 => ⟨S_, .i32⟩
  | 51 => ⟨S512x4096, .i32⟩
  | 52 => ⟨S512x4096, .i32⟩
  | 53 => ⟨S512x4096, .i32⟩
  | 54 => ⟨S512x4096, .bf16⟩
  | 55 => ⟨S512x4096, .bf16⟩
  | 56 => ⟨S_, .i32⟩
  | 57 => ⟨S512x4096, .i32⟩
  | 58 => ⟨S512x4096, .i32⟩
  | 59 => ⟨S_, .i32⟩
  | 60 => ⟨S512x4096, .i32⟩
  | 61 => ⟨S512x4096, .i1⟩
  | 62 => ⟨S_, .i32⟩
  | 63 => ⟨S512x4096, .i32⟩
  | 64 => ⟨S512x4096, .i32⟩
  | 65 => ⟨S512x4096, .i32⟩
  | 66 => ⟨S512x4096, .bf16⟩
  | 67 => ⟨S512x4096, .bf16⟩
  | 68 => ⟨S6x1536x1024, .i32⟩
  | 69 => ⟨S6x1536x512, .i32⟩
  | 70 => ⟨S6x1536x512, .bf16⟩
  | 71 => ⟨S6x1536x512, .i32⟩
  | 72 => ⟨S6x1536x512, .bf16⟩
  | 73 => ⟨S6x1536x4096, .f32⟩
  | 74 => ⟨S6x1536x4096, .f32⟩
  | 75 => ⟨S6x1536x4096, .f32⟩
  | 76 => ⟨S6x1536x1, .f32⟩
  | 77 => ⟨S6x1536x4096, .f32⟩
  | 78 => ⟨S6x1536x4096, .f32⟩
  | 79 => ⟨S512x4096, .i32⟩
  | 80 => ⟨S8x64x4096, .f32⟩
  | 81 => ⟨S512x4096, .f32⟩
  | 82 => ⟨S512x4096, .bf16⟩
  | 83 => ⟨S_, .i32⟩
  | 84 => ⟨S512x4096, .i32⟩
  | 85 => ⟨S512x4096, .i32⟩
  | 86 => ⟨S_, .i32⟩
  | 87 => ⟨S512x4096, .i32⟩
  | 88 => ⟨S512x4096, .i1⟩
  | 89 => ⟨S_, .i32⟩
  | 90 => ⟨S512x4096, .i32⟩
  | 91 => ⟨S512x4096, .i32⟩
  | 92 => ⟨S512x4096, .i32⟩
  | 93 => ⟨S512x4096, .bf16⟩
  | 94 => ⟨S512x4096, .bf16⟩
  | 95 => ⟨S_, .i32⟩
  | 96 => ⟨S512x4096, .i32⟩
  | 97 => ⟨S512x4096, .i32⟩
  | 98 => ⟨S_, .i32⟩
  | 99 => ⟨S512x4096, .i32⟩
  | 100 => ⟨S512x4096, .i1⟩
  | 101 => ⟨S_, .i32⟩
  | 102 => ⟨S512x4096, .i32⟩
  | 103 => ⟨S512x4096, .i32⟩
  | 104 => ⟨S512x4096, .i32⟩
  | 105 => ⟨S512x4096, .bf16⟩
  | 106 => ⟨S512x4096, .bf16⟩
  | 107 => ⟨S6x1536x1024, .i32⟩
  | 108 => ⟨S6x1536x512, .i32⟩
  | 109 => ⟨S6x1536x512, .bf16⟩
  | 110 => ⟨S6x1536x512, .i32⟩
  | 111 => ⟨S6x1536x512, .bf16⟩
  | 112 => ⟨S6x1536x4096, .f32⟩
  | 113 => ⟨S6x1536x4096, .f32⟩
  | 114 => ⟨S6x1536x4096, .f32⟩
  | 115 => ⟨S6x1536x1, .f32⟩
  | 116 => ⟨S6x1536x4096, .f32⟩
  | 117 => ⟨S6x1536x4096, .f32⟩
  | 118 => ⟨S6x1536x4096, .f32⟩
  | 119 => ⟨S6x1536x4096, .f32⟩
  | 120 => ⟨S_, .f32⟩
  | 121 => ⟨S6x1536x4096, .f32⟩
  | 122 => ⟨S6x1536x4096, .f32⟩
  | 123 => ⟨S_, .f32⟩
  | 124 => ⟨S6x1536x4096, .f32⟩
  | 125 => ⟨S6x1536x4096, .f32⟩
  | 126 => ⟨S6x1536x4096, .f32⟩
  | 127 => ⟨S6x1536x4096, .f32⟩
  | _ => ⟨S6x1536x1024, .bf16⟩

abbrev hbmTy0_1 (i : Nat) : BufTy := match i % 128 with
  | 0 => ⟨S6x1536x4096, .f32⟩
  | 1 => ⟨S_, .f32⟩
  | 2 => ⟨S6x1536x4096, .f32⟩
  | 3 => ⟨S6x1536x4096, .f32⟩
  | 4 => ⟨S_, .f32⟩
  | 5 => ⟨S6x1536x4096, .f32⟩
  | 6 => ⟨S6x1536x4096, .f32⟩
  | 7 => ⟨S6x1536x4096, .f32⟩
  | 8 => ⟨S6x1536x4096, .f32⟩
  | 9 => ⟨S6x1536x4096, .f32⟩
  | 10 => ⟨S6x1536x4096, .f32⟩
  | 11 => ⟨S6x1536x4096, .f32⟩
  | 12 => ⟨S6x1536x4096, .bf16⟩
  | 13 => ⟨S6x1536x1024, .f32⟩
  | 14 => ⟨S6x1536x4096, .f32⟩
  | 15 => ⟨S_, .f32⟩
  | 16 => ⟨S6x1536, .f32⟩
  | 17 => ⟨S_, .f32⟩
  | 18 => ⟨S6x1536, .f32⟩
  | 19 => ⟨S6x1536, .i1⟩
  | 20 => ⟨S_, .f32⟩
  | 21 => ⟨S6x1536, .f32⟩
  | 22 => ⟨S6x1536, .f32⟩
  | 23 => ⟨S_, .f32⟩
  | 24 => ⟨S_, .f32⟩
  | 25 => ⟨S6x1536, .f32⟩
  | 26 => ⟨S6x1536, .f32⟩
  | 27 => ⟨S6x1536x1, .f32⟩
  | 28 => ⟨S6x1536x4096, .f32⟩
  | 29 => ⟨S6x1536x4096, .f32⟩
  | 30 => ⟨S6x1536x4096, .f32⟩
  | 31 => ⟨S_, .i32⟩
  | 32 => ⟨S_, .i32⟩
  | 33 => ⟨S_, .f32⟩
  | 34 => ⟨S6x1536x4096, .f32⟩
  | 35 => ⟨S6x1536x4096, .f32⟩
  | 36 => ⟨S_, .f32⟩
  | 37 => ⟨S6x1536x4096, .f32⟩
  | 38 => ⟨S6x1536x4096, .f32⟩
  | 39 => ⟨S6x1536x4096, .i32⟩
  | 40 => ⟨S6x1536x4096, .i8⟩
  | 41 => ⟨S2048x1024, .i32⟩
  | 42 => ⟨S32x64x1024, .f32⟩
  | 43 => ⟨S2048x1024, .f32⟩
  | 44 => ⟨S2048x1024, .bf16⟩
  | 45 => ⟨S_, .i32⟩
  | 46 => ⟨S2048x1024, .i32⟩
  | 47 => ⟨S2048x1024, .i32⟩
  | 48 => ⟨S_, .i32⟩
  | 49 => ⟨S2048x1024, .i32⟩
  | 50 => ⟨S2048x1024, .i1⟩
  | 51 => ⟨S_, .i32⟩
  | 52 => ⟨S2048x1024, .i32⟩
  | 53 => ⟨S2048x1024, .i32⟩
  | 54 => ⟨S2048x1024, .i32⟩
  | 55 => ⟨S2048x1024, .bf16⟩
  | 56 => ⟨S2048x1024, .bf16⟩
  | 57 => ⟨S_, .i32⟩
  | 58 => ⟨S2048x1024, .i32⟩
  | 59 => ⟨S2048x1024, .i32⟩
  | 60 => ⟨S_, .i32⟩
  | 61 => ⟨S2048x1024, .i32⟩
  | 62 => ⟨S2048x1024, .i1⟩
  | 63 => ⟨S_, .i32⟩
  | 64 => ⟨S2048x1024, .i32⟩
  | 65 => ⟨S2048x1024, .i32⟩
  | 66 => ⟨S2048x1024, .i32⟩
  | 67 => ⟨S2048x1024, .bf16⟩
  | 68 => ⟨S2048x1024, .bf16⟩
  | 69 => ⟨S6x1536x4096, .i32⟩
  | 70 => ⟨S6x1536x2048, .i32⟩
  | 71 => ⟨S6x1536x2048, .bf16⟩
  | 72 => ⟨S6x1536x2048, .i32⟩
  | 73 => ⟨S6x1536x2048, .bf16⟩
  | 74 => ⟨S6x1536x1024, .f32⟩
  | 75 => ⟨S6x1536x1024, .f32⟩
  | 76 => ⟨S6x1536x1024, .f32⟩
  | 77 => ⟨S6x1536x1, .f32⟩
  | 78 => ⟨S6x1536x1024, .f32⟩
  | 79 => ⟨S6x1536x1024, .f32⟩
  | 80 => ⟨S6x1536x4096, .bf16⟩
  | 81 => ⟨S6x1536x1024, .f32⟩
  | 82 => ⟨S6x1536x4096, .bf16⟩
  | 83 => ⟨S6x1536x1024, .f32⟩
  | 84 => ⟨S6x1536x4096, .f32⟩
  | 85 => ⟨S_, .f32⟩
  | 86 => ⟨S6x1536, .f32⟩
  | 87 => ⟨S_, .f32⟩
  | 88 => ⟨S6x1536, .f32⟩
  | 89 => ⟨S6x1536, .i1⟩
  | 90 => ⟨S_, .f32⟩
  | 91 => ⟨S6x1536, .f32⟩
  | 92 => ⟨S6x1536, .f32⟩
  | 93 => ⟨S_, .f32⟩
  | 94 => ⟨S_, .f32⟩
  | 95 => ⟨S6x1536, .f32⟩
  | 96 => ⟨S6x1536, .f32⟩
  | 97 => ⟨S6x1536x1, .f32⟩
  | 98 => ⟨S6x1536x4096, .f32⟩
  | 99 => ⟨S6x1536x4096, .f32⟩
  | 100 => ⟨S6x1536x4096, .f32⟩
  | 101 => ⟨S_, .i32⟩
  | 102 => ⟨S_, .i32⟩
  | 103 => ⟨S_, .f32⟩
  | 104 => ⟨S6x1536x4096, .f32⟩
  | 105 => ⟨S6x1536x4096, .f32⟩
  | 106 => ⟨S_, .f32⟩
  | 107 => ⟨S6x1536x4096, .f32⟩
  | 108 => ⟨S6x1536x4096, .f32⟩
  | 109 => ⟨S6x1536x4096, .i32⟩
  | 110 => ⟨S6x1536x4096, .i8⟩
  | 111 => ⟨S2048x1024, .i32⟩
  | 112 => ⟨S32x64x1024, .f32⟩
  | 113 => ⟨S2048x1024, .f32⟩
  | 114 => ⟨S2048x1024, .bf16⟩
  | 115 => ⟨S_, .i32⟩
  | 116 => ⟨S2048x1024, .i32⟩
  | 117 => ⟨S2048x1024, .i32⟩
  | 118 => ⟨S_, .i32⟩
  | 119 => ⟨S2048x1024, .i32⟩
  | 120 => ⟨S2048x1024, .i1⟩
  | 121 => ⟨S_, .i32⟩
  | 122 => ⟨S2048x1024, .i32⟩
  | 123 => ⟨S2048x1024, .i32⟩
  | 124 => ⟨S2048x1024, .i32⟩
  | 125 => ⟨S2048x1024, .bf16⟩
  | 126 => ⟨S2048x1024, .bf16⟩
  | 127 => ⟨S_, .i32⟩
  | _ => ⟨S6x1536x1024, .bf16⟩

abbrev hbmTy0_2 (i : Nat) : BufTy := match i % 128 with
  | 0 => ⟨S2048x1024, .i32⟩
  | 1 => ⟨S2048x1024, .i32⟩
  | 2 => ⟨S_, .i32⟩
  | 3 => ⟨S2048x1024, .i32⟩
  | 4 => ⟨S2048x1024, .i1⟩
  | 5 => ⟨S_, .i32⟩
  | 6 => ⟨S2048x1024, .i32⟩
  | 7 => ⟨S2048x1024, .i32⟩
  | 8 => ⟨S2048x1024, .i32⟩
  | 9 => ⟨S2048x1024, .bf16⟩
  | 10 => ⟨S2048x1024, .bf16⟩
  | 11 => ⟨S6x1536x4096, .i32⟩
  | 12 => ⟨S6x1536x2048, .i32⟩
  | 13 => ⟨S6x1536x2048, .bf16⟩
  | 14 => ⟨S6x1536x2048, .i32⟩
  | 15 => ⟨S6x1536x2048, .bf16⟩
  | 16 => ⟨S6x1536x1024, .f32⟩
  | 17 => ⟨S6x1536x1024, .f32⟩
  | 18 => ⟨S6x1536x1024, .f32⟩
  | 19 => ⟨S6x1536x1, .f32⟩
  | 20 => ⟨S6x1536x1024, .f32⟩
  | 21 => ⟨S6x1536x1024, .f32⟩
  | 22 => ⟨S1x6x1536x1024, .f32⟩
  | 23 => ⟨S1x6x1536x1024, .f32⟩
  | 24 => ⟨S1x6x1536x1024, .f32⟩
  | 25 => ⟨S1x6x1536x1024, .f32⟩
  | 26 => ⟨S4x6x1536x1024, .f32⟩
  | 27 => ⟨S1x6x1536x1024, .f32⟩
  | 28 => ⟨S4x6x1536x1024, .f32⟩
  | 29 => ⟨S4x6x1536x1024, .f32⟩
  | 30 => ⟨S4x6x1536x1024, .f32⟩
  | 31 => ⟨S_, .f32⟩
  | 32 => ⟨S4x6x1536, .f32⟩
  | 33 => ⟨S_, .f32⟩
  | 34 => ⟨S4x1024, .f32⟩
  | 35 => ⟨S6x1536x1024, .f32⟩
  | 36 => ⟨S_, .f32⟩
  | 37 => ⟨S6x1536, .f32⟩
  | 38 => ⟨S6x1536x1024, .bf16⟩
  | _ => ⟨S6x1536x1024, .bf16⟩

abbrev hbmTy (i : Nat) : BufTy := match i / 128 with
  | 0 => hbmTy0_0 i
  | 1 => hbmTy0_1 i
  | 2 => hbmTy0_2 i
  | _ => ⟨S6x1536x1024, .bf16⟩

abbrev bufTy : (tb : Table) → Fin (tcTables nBuf tb) → BufTy
  | .hbm, ⟨i, _⟩ => hbmTy i
  | _, _ => ⟨S6x1536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_c_3 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_c_5 : Ref sig .tc := ⟨.hbm, 47, rfl⟩
abbrev main_v23 : Ref sig .tc := ⟨.hbm, 48, rfl⟩
abbrev main_v24 : Ref sig .tc := ⟨.hbm, 49, rfl⟩
abbrev main_c_6 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_7 : Ref sig .tc := ⟨.hbm, 56, rfl⟩
abbrev main_v30 : Ref sig .tc := ⟨.hbm, 57, rfl⟩
abbrev main_v31 : Ref sig .tc := ⟨.hbm, 58, rfl⟩
abbrev main_c_8 : Ref sig .tc := ⟨.hbm, 59, rfl⟩
abbrev main_v32 : Ref sig .tc := ⟨.hbm, 60, rfl⟩
abbrev main_v33 : Ref sig .tc := ⟨.hbm, 61, rfl⟩
abbrev main_c_9 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_10 : Ref sig .tc := ⟨.hbm, 83, rfl⟩
abbrev main_v54 : Ref sig .tc := ⟨.hbm, 84, rfl⟩
abbrev main_v55 : Ref sig .tc := ⟨.hbm, 85, rfl⟩
abbrev main_c_11 : Ref sig .tc := ⟨.hbm, 86, rfl⟩
abbrev main_v56 : Ref sig .tc := ⟨.hbm, 87, rfl⟩
abbrev main_v57 : Ref sig .tc := ⟨.hbm, 88, rfl⟩
abbrev main_c_12 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_13 : Ref sig .tc := ⟨.hbm, 95, rfl⟩
abbrev main_v63 : Ref sig .tc := ⟨.hbm, 96, rfl⟩
abbrev main_v64 : Ref sig .tc := ⟨.hbm, 97, rfl⟩
abbrev main_c_14 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_16 : Ref sig .tc := ⟨.hbm, 120, rfl⟩
abbrev main_v85 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_18 : Ref sig .tc := ⟨.hbm, 129, rfl⟩
abbrev main_v92 : Ref sig .tc := ⟨.hbm, 130, rfl⟩
abbrev main_v93 : Ref sig .tc := ⟨.hbm, 131, rfl⟩
abbrev main_cst_19 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_20 : Ref sig .tc := ⟨.hbm, 143, rfl⟩
abbrev main_v104 : Ref sig .tc := ⟨.hbm, 144, rfl⟩
abbrev main_cst_21 : Ref sig .tc := ⟨.hbm, 145, rfl⟩
abbrev main_v105 : Ref sig .tc := ⟨.hbm, 146, rfl⟩
abbrev main_v106 : Ref sig .tc := ⟨.hbm, 147, rfl⟩
abbrev main_cst_22 : Ref sig .tc := ⟨.hbm, 148, rfl⟩
abbrev main_v107 : Ref sig .tc := ⟨.hbm, 149, rfl⟩
abbrev main_v108 : Ref sig .tc := ⟨.hbm, 150, rfl⟩
abbrev main_cst_23 : Ref sig .tc := ⟨.hbm, 151, rfl⟩
abbrev main_call7_v0 : Ref sig .tc := ⟨.hbm, 152, rfl⟩
abbrev main_call7_v1 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_c_24 : Ref sig .tc := ⟨.hbm, 159, rfl⟩
abbrev main_c_25 : Ref sig .tc := ⟨.hbm, 160, rfl⟩
abbrev main_call9_v0 : Ref sig .tc := ⟨.hbm, 161, rfl⟩
abbrev main_call9_v1 : Ref sig .tc := ⟨.hbm, 162, rfl⟩
abbrev main_call9_v2 : Ref sig .tc := ⟨.hbm, 163, rfl⟩
abbrev main_call9_v3 : Ref sig .tc := ⟨.hbm, 164, rfl⟩
abbrev main_call9_v4 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_c_26 : Ref sig .tc := ⟨.hbm, 173, rfl⟩
abbrev main_v121 : Ref sig .tc := ⟨.hbm, 174, rfl⟩
abbrev main_v122 : Ref sig .tc := ⟨.hbm, 175, rfl⟩
abbrev main_c_27 : Ref sig .tc := ⟨.hbm, 176, rfl⟩
abbrev main_v123 : Ref sig .tc := ⟨.hbm, 177, rfl⟩
abbrev main_v124 : Ref sig .tc := ⟨.hbm, 178, rfl⟩
abbrev main_c_28 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_c_29 : Ref sig .tc := ⟨.hbm, 185, rfl⟩
abbrev main_v130 : Ref sig .tc := ⟨.hbm, 186, rfl⟩
abbrev main_v131 : Ref sig .tc := ⟨.hbm, 187, rfl⟩
abbrev main_c_30 : Ref sig .tc := ⟨.hbm, 188, rfl⟩
abbrev main_v132 : Ref sig .tc := ⟨.hbm, 189, rfl⟩
abbrev main_v133 : Ref sig .tc := ⟨.hbm, 190, rfl⟩
abbrev main_c_31 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_cst_32 : Ref sig .tc := ⟨.hbm, 213, rfl⟩
abbrev main_v155 : Ref sig .tc := ⟨.hbm, 214, rfl⟩
abbrev main_cst_33 : Ref sig .tc := ⟨.hbm, 215, rfl⟩
abbrev main_v156 : Ref sig .tc := ⟨.hbm, 216, rfl⟩
abbrev main_v157 : Ref sig .tc := ⟨.hbm, 217, rfl⟩
abbrev main_cst_34 : Ref sig .tc := ⟨.hbm, 218, rfl⟩
abbrev main_v158 : Ref sig .tc := ⟨.hbm, 219, rfl⟩
abbrev main_v159 : Ref sig .tc := ⟨.hbm, 220, rfl⟩
abbrev main_cst_35 : Ref sig .tc := ⟨.hbm, 221, rfl⟩
abbrev main_call12_v0 : Ref sig .tc := ⟨.hbm, 222, rfl⟩
abbrev main_call12_v1 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_c_36 : Ref sig .tc := ⟨.hbm, 229, rfl⟩
abbrev main_c_37 : Ref sig .tc := ⟨.hbm, 230, rfl⟩
abbrev main_call14_v0 : Ref sig .tc := ⟨.hbm, 231, rfl⟩
abbrev main_call14_v1 : Ref sig .tc := ⟨.hbm, 232, rfl⟩
abbrev main_call14_v2 : Ref sig .tc := ⟨.hbm, 233, rfl⟩
abbrev main_call14_v3 : Ref sig .tc := ⟨.hbm, 234, rfl⟩
abbrev main_call14_v4 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_c_38 : Ref sig .tc := ⟨.hbm, 243, rfl⟩
abbrev main_v172 : Ref sig .tc := ⟨.hbm, 244, rfl⟩
abbrev main_v173 : Ref sig .tc := ⟨.hbm, 245, rfl⟩
abbrev main_c_39 : Ref sig .tc := ⟨.hbm, 246, rfl⟩
abbrev main_v174 : Ref sig .tc := ⟨.hbm, 247, rfl⟩
abbrev main_v175 : Ref sig .tc := ⟨.hbm, 248, rfl⟩
abbrev main_c_40 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_c_41 : Ref sig .tc := ⟨.hbm, 255, rfl⟩
abbrev main_v181 : Ref sig .tc := ⟨.hbm, 256, rfl⟩
abbrev main_v182 : Ref sig .tc := ⟨.hbm, 257, rfl⟩
abbrev main_c_42 : Ref sig .tc := ⟨.hbm, 258, rfl⟩
abbrev main_v183 : Ref sig .tc := ⟨.hbm, 259, rfl⟩
abbrev main_v184 : Ref sig .tc := ⟨.hbm, 260, rfl⟩
abbrev main_c_43 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_cst_44 : Ref sig .tc := ⟨.hbm, 287, rfl⟩
abbrev main_v210 : Ref sig .tc := ⟨.hbm, 288, rfl⟩
abbrev main_cst_45 : Ref sig .tc := ⟨.hbm, 289, rfl⟩
abbrev main_v211 : Ref sig .tc := ⟨.hbm, 290, rfl⟩
abbrev main_v212 : Ref sig .tc := ⟨.hbm, 291, rfl⟩
abbrev main_cst_46 : Ref sig .tc := ⟨.hbm, 292, rfl⟩
abbrev main_v213 : Ref sig .tc := ⟨.hbm, 293, rfl⟩
abbrev main_v214 : Ref sig .tc := ⟨.hbm, 294, rfl⟩

abbrev nD : Nat := 1
abbrev τ : Topo := Topo.v7x

variable {F : FTy → Type} [FloatOps F]
-- ==== Proof.RowData.lean ====
/- Proof data in which some output windows are held to a predicate: a window of which the body stores one row at each point. When the
   predicate at a flushing point fixes the whole buffer, the arrays after the run are those of the exact data. -/
module

public import Idealize.ShloMosaic.Lib.Pipeline.DatRel
public import Idealize.ShloMosaic.Lib.Pipeline.ArrRel
public import Idealize.ShloMosaic.Lib.Pipeline.Cells
public import Idealize.ShloMosaic.Lib.Tactic

@[expose] public section

namespace Cert.RowData

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {nD : Nat} {τ : Topo} {sig : RefSig} {Val : EltTy → Type} {Λ₀ : Idealize.SL.Sem.Labels}
variable {Ix : Type} [DecidableEq Ix] {Name : Type} [DecidableEq Name] {U : Type} [URA U] {Lvl : Type}
variable {cfg : Cfg sig Λ₀} {c : Dev nD} (dat : Dat τ Val Ix Name U Lvl cfg c)

local notation "𝕄" => MT nD τ sig Ix Val Name U Lvl

/-- The arrays after the run, as the exact data name them: what a marked window's body may leave at a flushing point is what the exact
    data say. -/
theorem arraysAt_exact [∀ e, Nonempty (Val e)] (fgt : Fin cfg.W → Bool)
    (Rl : (w : Fin cfg.W) → Fin cfg.N → ((cfg.win w).block.Idx → Val (cfg.win w).elt) → Prop)
    (hR : ∀ w, fgt w = true → ∀ t : Fin cfg.N, (cfg.win w).flush t = true → ∀ X, Rl w t X → X = dat.after w t) (n : Nat) :
    (dat.toRRel fgt Rl).arraysAt n ⊢ (dat.arrays (dat.arrAt · n) : sProp 𝕄) := by
  unfold RDat.arraysAt Dat.arrays
  refine bigSep_mono fun w _ => ?_
  show (iprop(∃ G, ⌜(dat.toRRel fgt Rl).ArrAt w n G⌝
      ∗ (cfg.win w).arr.view.loc (c.tc : Thread nD τ) ↦[(cfg.win w).arr.view.set]{dat.share w} G) : sProp 𝕄)
    ⊢ iprop((cfg.win w).arr.view.loc (c.tc : Thread nD τ) ↦[(cfg.win w).arr.view.set]{dat.share w} dat.arrAt w n)
  iintro ⟨%G, %hG, H⟩
  have e : G = dat.arrAt w n := by
    cases hf : fgt w
    · exact dat.toR_arrAt w n G ((dat.toR.override_arrAt (by simp only [hf]) n G).mp hG)
    · obtain ⟨X, hX, hA⟩ := hG.exists_exact
      exact hA dat.after fun u hu hfl => (hR w hf u hfl (X u) (dat.toRRel_leaves hf (hX u hu hfl))).symm
  rw [← e]
  iexact H

/-- What the body finds at a later point in a marked window that is neither fetched nor flushed in between: something that meets the
    predicate at the point before. -/
theorem finds_prev {fgt : Fin cfg.W → Bool}
    {Rl : (w : Fin cfg.W) → Fin cfg.N → ((cfg.win w).block.Idx → Val (cfg.win w).elt) → Prop} {w : Fin cfg.W} (hw : fgt w = true)
    {t : Fin cfg.N} (hf : (cfg.win w).fetch t = false) (ht : t.val ≠ 0) (hfl : (cfg.win w).flush ⟨t.val - 1, Nat.lt_of_le_of_lt (Nat.sub_le _ _) t.isLt⟩ = false)
    {Y : (cfg.win w).block.Idx → Val (cfg.win w).elt} (hY : (dat.toRRel fgt Rl).Finds w t Y) : Rl w ⟨t.val - 1, Nat.lt_of_le_of_lt (Nat.sub_le _ _) t.isLt⟩ Y := by
  rw [(dat.toRRel fgt Rl).finds_of_pos hf ht] at hY
  exact dat.toRRel_leaves hw (by simpa [hfl] using hY)

end Cert.RowData
-- ==== Proof.Kernel.Deq.lean ====
/- The three dequantising regions: what their bodies leave, the triples, the proof data and the body obligations. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the buffer contents when a region is entered
variable (V : (c : Dev nD) → (b : Ref sig .tc) → Buf (Elt F) ((c : Thread nD τ).loc b))

/-! ## The body's accesses, the same in the three regions -/

abbrev rs : Rect S8x1024 := Rect.unit (s := S8x1024) ![0, 0] S8x1024.size inb_S8x1024_S8x1024_0_0
abbrev rw0 : Rect S512x1024 := Rect.unit (s := S512x1024) ![0, 0] S64x1024.size inb_S512x1024_S64x1024_0_0
abbrev ro0 : Rect S1024x1024 := Rect.unit (s := S1024x1024) ![0, 0] S128x1024.size inb_S1024x1024_S128x1024_0_0
abbrev rw1 : Rect S512x1024 := Rect.unit (s := S512x1024) ![64, 0] S64x1024.size inb_S512x1024_S64x1024_64_0
abbrev ro1 : Rect S1024x1024 := Rect.unit (s := S1024x1024) ![128, 0] S128x1024.size inb_S1024x1024_S128x1024_128_0
abbrev rw2 : Rect S512x1024 := Rect.unit (s := S512x1024) ![128, 0] S64x1024.size inb_S512x1024_S64x1024_128_0
abbrev ro2 : Rect S1024x1024 := Rect.unit (s := S1024x1024) ![256, 0] S128x1024.size inb_S1024x1024_S128x1024_256_0
abbrev rw3 : Rect S512x1024 := Rect.unit (s := S512x1024) ![192, 0] S64x1024.size inb_S512x1024_S64x1024_192_0
abbrev ro3 : Rect S1024x1024 := Rect.unit (s := S1024x1024) ![384, 0] S128x1024.size inb_S1024x1024_S128x1024_384_0
abbrev rw4 : Rect S512x1024 := Rect.unit (s := S512x1024) ![256, 0] S64x1024.size inb_S512x1024_S64x1024_256_0
abbrev ro4 : Rect S1024x1024 := Rect.unit (s := S1024x1024) ![512, 0] S128x1024.size inb_S1024x1024_S128x1024_512_0
abbrev rw5 : Rect S512x1024 := Rect.unit (s := S512x1024) ![320, 0] S64x1024.size inb_S512x1024_S64x1024_320_0
abbrev ro5 : Rect S1024x1024 := Rect.unit (s := S1024x1024) ![640, 0] S128x1024.size inb_S1024x1024_S128x1024_640_0
abbrev rw6 : Rect S512x1024 := Rect.unit (s := S512x1024) ![384, 0] S64x1024.size inb_S512x1024_S64x1024_384_0
abbrev ro6 : Rect S1024x1024 := Rect.unit (s := S1024x1024) ![768, 0] S128x1024.size inb_S1024x1024_S128x1024_768_0
abbrev rw7 : Rect S512x1024 := Rect.unit (s := S512x1024) ![448, 0] S64x1024.size inb_S512x1024_S64x1024_448_0
abbrev ro7 : Rect S1024x1024 := Rect.unit (s := S1024x1024) ![896, 0] S128x1024.size inb_S1024x1024_S128x1024_896_0

/-- One group of 128 output rows: 64 rows of packed codes, each giving its low and its high half, times the group's scales. -/
def deqGroup (s : FVec F S1x1024 .f32) (w : Vec F S64x1024 .i8) : FVec F S128x1024 .bf16 :=
  have v4 : IVec S64x1024 32 := extui 32 w natLt_8_32
  have v6 : IVec S64x1024 32 := broadcast S64x1024 28#32
  have v7 : IVec S64x1024 32 := shli v4 v6
  have v8 : IVec S64x1024 32 := broadcast S64x1024 28#32
  have v9 : IVec S64x1024 32 := shrsi v7 v8
  have v10 : FVec F S64x1024 .f32 := sitofp .f32 v9
  have v11 : FVec F S64x1024 .f32 := broadcastTo S64x1024 s broadcasts_S1x1024_S64x1024
  have v12 : FVec F S64x1024 .f32 := mulf v10 v11
  have v13 : IVec S64x1024 32 := broadcast S64x1024 24#32
  have v14 : IVec S64x1024 32 := shli v4 v13
  have v15 : IVec S64x1024 32 := broadcast S64x1024 28#32
  have v16 : IVec S64x1024 32 := shrsi v14 v15
  have v17 : FVec F S64x1024 .f32 := sitofp .f32 v16
  have v18 : FVec F S64x1024 .f32 := broadcastTo S64x1024 s broadcasts_S1x1024_S64x1024
  have v19 : FVec F S64x1024 .f32 := mulf v17 v18
  have v20 : IVec S64x1024 32 := packElementwise v12 v19
  have v21 : FVec F S128x1024 .bf16 := bitcastToFloat .bf16 (bitcast S128x1024 16 v20 bitcasts_S64x1024_w32_S128x1024_w16)
  v21

/-- The whole output block from the block of codes and the block of scales: eight groups, last stored first. -/
def deqBlock (x0 : Vec F S512x1024 .i8) (x1 : Vec F S8x1024 .f32) : Vec F S1024x1024 .bf16 :=
  View.canon [⟨ro7, deqGroup (extractStridedSlice S1x1024 ![7, 0] (k0_pay1 (View.ld x1 rs)) slices_S8x1024_o7_0_S1x1024) (View.ld x0 rw7)⟩,
    ⟨ro6, deqGroup (extractStridedSlice S1x1024 ![6, 0] (k0_pay1 (View.ld x1 rs)) slices_S8x1024_o6_0_S1x1024) (View.ld x0 rw6)⟩,
    ⟨ro5, deqGroup (extractStridedSlice S1x1024 ![5, 0] (k0_pay1 (View.ld x1 rs)) slices_S8x1024_o5_0_S1x1024) (View.ld x0 rw5)⟩,
    ⟨ro4, deqGroup (extractStridedSlice S1x1024 ![4, 0] (k0_pay1 (View.ld x1 rs)) slices_S8x1024_o4_0_S1x1024) (View.ld x0 rw4)⟩,
    ⟨ro3, deqGroup (extractStridedSlice S1x1024 ![3, 0] (k0_pay1 (View.ld x1 rs)) slices_S8x1024_o3_0_S1x1024) (View.ld x0 rw3)⟩,
    ⟨ro2, deqGroup (extractStridedSlice S1x1024 ![2, 0] (k0_pay1 (View.ld x1 rs)) slices_S8x1024_o2_0_S1x1024) (View.ld x0 rw2)⟩,
    ⟨ro1, deqGroup (extractStridedSlice S1x1024 ![1, 0] (k0_pay1 (View.ld x1 rs)) slices_S8x1024_o1_0_S1x1024) (View.ld x0 rw1)⟩,
    ⟨ro0, deqGroup (extractStridedSlice S1x1024 ![0, 0] (k0_pay1 (View.ld x1 rs)) slices_S8x1024_o0_0_S1x1024) (View.ld x0 rw0)⟩]

theorem cover_deq (p0 : Vec F S128x1024 .bf16) (p1 : Vec F S128x1024 .bf16) (p2 : Vec F S128x1024 .bf16) (p3 : Vec F S128x1024 .bf16) (p4 : Vec F S128x1024 .bf16) (p5 : Vec F S128x1024 .bf16) (p6 : Vec F S128x1024 .bf16) (p7 : Vec F S128x1024 .bf16) (y : S1024x1024.Idx) :
    ∃ pc ∈ ([⟨ro7, p0⟩, ⟨ro6, p1⟩, ⟨ro5, p2⟩, ⟨ro4, p3⟩, ⟨ro3, p4⟩, ⟨ro2, p5⟩, ⟨ro1, p6⟩, ⟨ro0, p7⟩] : List (View.Piece (Elt F) S1024x1024 .bf16)), y ∈ pc.1.set :=
  View.cover_of_tiled [⟨ro7, p0⟩, ⟨ro6, p1⟩, ⟨ro5, p2⟩, ⟨ro4, p3⟩, ⟨ro3, p4⟩, ⟨ro2, p5⟩, ⟨ro1, p6⟩, ⟨ro0, p7⟩] S128x1024.size (by rfl) y

/-! # Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
theorem sound_kernel0 (c : Dev nD) (E : Set ℕ) (i : grid0.Coords) (arg2 : Memref sig .tc .vmem S512x1024 .i8) (harg2 : arg2.IsWhole) (arg3 : Memref sig .tc .vmem S8x1024 .f32) (harg3 : arg3.IsWhole) (arg4 : Memref sig .tc .vmem S1024x1024 .bf16) (harg4 : arg4.IsWhole)
    (x0 : Vec F S512x1024 .i8) (x1 : Vec F S8x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (deqBlock x0 x1)) -∗ K ⟨⟩))
      ⊢ wp frame (wpE (defs₀ (F := F)) Variants.none c none) E (cc0_dequant i arg2 harg2 arg3 harg3 arg4 harg4) K := by
  simp only [cc0_dequant_eq_skeleton]; unfold cc0_dequant_skel
  simp only [k0_part1_eq_skeleton, k0_part2_eq_skeleton, k0_part3_eq_skeleton, k0_part4_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover_deq _ _ _ _ _ _ _ _)).trans ?_
  rfl

/-- The proof data: the arrays as the region finds them; each input's buffer left at its block, the output's at `deqBlock` of the two. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => deqBlock (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = deqBlock (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
theorem sound_kernel1 (c : Dev nD) (E : Set ℕ) (i : grid1.Coords) (arg2 : Memref sig .tc .vmem S512x1024 .i8) (harg2 : arg2.IsWhole) (arg3 : Memref sig .tc .vmem S8x1024 .f32) (harg3 : arg3.IsWhole) (arg4 : Memref sig .tc .vmem S1024x1024 .bf16) (harg4 : arg4.IsWhole)
    (x0 : Vec F S512x1024 .i8) (x1 : Vec F S8x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (deqBlock x0 x1)) -∗ K ⟨⟩))
      ⊢ wp frame (wpE (defs₀ (F := F)) Variants.none c none) E (cc1_dequant i arg2 harg2 arg3 harg3 arg4 harg4) K := by
  have e : cc1_dequant (F := F) i arg2 harg2 arg3 harg3 arg4 harg4 = cc0_dequant i arg2 harg2 arg3 harg3 arg4 harg4 := rfl
  rw [e]
  exact sound_kernel0 c E i arg2 harg2 arg3 harg3 arg4 harg4 x0 x1 K

/-- The proof data: the arrays as the region finds them; each input's buffer left at its block, the output's at `deqBlock` of the two. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => deqBlock (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = deqBlock (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # Region 2 -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

set_option maxHeartbeats 1000000 in
theorem sound_kernel2 (c : Dev nD) (E : Set ℕ) (i : grid2.Coords) (arg2 : Memref sig .tc .vmem S512x1024 .i8) (harg2 : arg2.IsWhole) (arg3 : Memref sig .tc .vmem S8x1024 .f32) (harg3 : arg3.IsWhole) (arg4 : Memref sig .tc .vmem S1024x1024 .bf16) (harg4 : arg4.IsWhole)
    (x0 : Vec F S512x1024 .i8) (x1 : Vec F S8x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (deqBlock x0 x1)) -∗ K ⟨⟩))
      ⊢ wp frame (wpE (defs₀ (F := F)) Variants.none c none) E (cc2_dequant i arg2 harg2 arg3 harg3 arg4 harg4) K := by
  have e : cc2_dequant (F := F) i arg2 harg2 arg3 harg3 arg4 harg4 = cc0_dequant (grid0.coords ⟨0, by decide⟩) arg2 harg2 arg3 harg3 arg4 harg4 := rfl
  rw [e]
  exact sound_kernel0 c E (grid0.coords ⟨0, by decide⟩) arg2 harg2 arg3 harg3 arg4 harg4 x0 x1 K

/-- The proof data: the arrays as the region finds them; each input's buffer left at its block, the output's at `deqBlock` of the two. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => deqBlock (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = deqBlock (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.Kernel.Hand
-- ==== Proof.Kernel.Gate.lean ====
/- The gate and up region: what its body leaves, the triple, the proof data (the row of scales held to a predicate) and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pointwise.Index
public import Idealize.ShloMosaic.Lib.VecWindow
public import proofs.«01_k».proof.Proof.RowData

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the buffer contents when a region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev gx : Rect S256x1024 := Rect.unit (s := S256x1024) ![0, 0] S256x1024.size inb_S256x1024_S256x1024_0_0
abbrev gp : Rect S256x128 := Rect.unit (s := S256x128) ![0, 0] S256x128.size inb_S256x128_S256x128_0_0
abbrev gw0 : Rect S1024x2048 := Rect.unit (s := S1024x2048) ![0, 0] S1024x256.size inb_S1024x2048_S1024x256_0_0
abbrev gh0 : Rect S256x2048 := Rect.unit (s := S256x2048) ![0, 0] S256x256.size inb_S256x2048_S256x256_0_0
abbrev gw1 : Rect S1024x2048 := Rect.unit (s := S1024x2048) ![0, 256] S1024x256.size inb_S1024x2048_S1024x256_0_256
abbrev gh1 : Rect S256x2048 := Rect.unit (s := S256x2048) ![0, 256] S256x256.size inb_S256x2048_S256x256_0_256
abbrev gw2 : Rect S1024x2048 := Rect.unit (s := S1024x2048) ![0, 512] S1024x256.size inb_S1024x2048_S1024x256_0_512
abbrev gh2 : Rect S256x2048 := Rect.unit (s := S256x2048) ![0, 512] S256x256.size inb_S256x2048_S256x256_0_512
abbrev gw3 : Rect S1024x2048 := Rect.unit (s := S1024x2048) ![0, 768] S1024x256.size inb_S1024x2048_S1024x256_0_768
abbrev gh3 : Rect S256x2048 := Rect.unit (s := S256x2048) ![0, 768] S256x256.size inb_S256x2048_S256x256_0_768
abbrev gw4 : Rect S1024x2048 := Rect.unit (s := S1024x2048) ![0, 1024] S1024x256.size inb_S1024x2048_S1024x256_0_1024
abbrev gh4 : Rect S256x2048 := Rect.unit (s := S256x2048) ![0, 1024] S256x256.size inb_S256x2048_S256x256_0_1024
abbrev gw5 : Rect S1024x2048 := Rect.unit (s := S1024x2048) ![0, 1280] S1024x256.size inb_S1024x2048_S1024x256_0_1280
abbrev gh5 : Rect S256x2048 := Rect.unit (s := S256x2048) ![0, 1280] S256x256.size inb_S256x2048_S256x256_0_1280
abbrev gw6 : Rect S1024x2048 := Rect.unit (s := S1024x2048) ![0, 1536] S1024x256.size inb_S1024x2048_S1024x256_0_1536
abbrev gh6 : Rect S256x2048 := Rect.unit (s := S256x2048) ![0, 1536] S256x256.size inb_S256x2048_S256x256_0_1536
abbrev gw7 : Rect S1024x2048 := Rect.unit (s := S1024x2048) ![0, 1792] S1024x256.size inb_S1024x2048_S1024x256_0_1792
abbrev gh7 : Rect S256x2048 := Rect.unit (s := S256x2048) ![0, 1792] S256x256.size inb_S256x2048_S256x256_0_1792

/-! ## What the body leaves, by the first chunk's payload functions -/

abbrev gxv (x0 : Vec F S256x1024 .bf16) : FVec F S256x1024 .bf16 := k3_pay3 (View.ld x0 gx)
abbrev gxs (x0 : Vec F S256x1024 .bf16) : FVec F S256x1 .f32 := k3_pay5 (View.ld x0 gx)
abbrev gxc (x0 : Vec F S256x1024 .bf16) : FVec F S256x1024 .bf16 := k3_pay8 (View.ld x0 gx)
/-- The row of scales of the 256 tokens. -/
def rowScale3 (x0 : Vec F S256x1024 .bf16) : FVec F S1x256 .f32 := k3_pay9 (k3_pay4 (View.ld x0 gx))
/-- The larger of the magnitudes at `j` and at `j + 128` of a row of 256. -/
def foldAbs (h : FVec F S256x256 .f32) : FVec F S256x128 .f32 :=
  maximumf (extractStridedSlice S256x128 ![0, 0] (absf h) slices_S256x256_o0_0_S256x128)
    (extractStridedSlice S256x128 ![0, 128] (absf h) slices_S256x256_o0_128_S256x128)

def out3_5 (x0 : Vec F S256x1024 .bf16) : Vec F S256x1024 .i8 := View.canon [⟨gx, k3_pay7 (View.ld x0 gx)⟩]
theorem cover3_5 (p0 : Vec F S256x1024 .i8) (y : S256x1024.Idx) :
    ∃ pc ∈ ([⟨gx, p0⟩] : List (View.Piece (Elt F) S256x1024 .i8)), y ∈ pc.1.set :=
  View.cover_of_tiled [⟨gx, p0⟩] S256x1024.size (by rfl) y
theorem cover3_p (p0 : Vec F S256x128 .f32) (y : S256x128.Idx) :
    ∃ pc ∈ ([⟨gp, p0⟩] : List (View.Piece (Elt F) S256x128 .f32)), y ∈ pc.1.set :=
  View.cover_of_tiled [⟨gp, p0⟩] S256x128.size (by rfl) y
theorem cover3_f (p0 : Vec F S256x256 .f32) (p1 : Vec F S256x256 .f32) (p2 : Vec F S256x256 .f32) (p3 : Vec F S256x256 .f32) (p4 : Vec F S256x256 .f32) (p5 : Vec F S256x256 .f32) (p6 : Vec F S256x256 .f32) (p7 : Vec F S256x256 .f32) (y : S256x2048.Idx) :
    ∃ pc ∈ ([⟨gh7, p0⟩, ⟨gh6, p1⟩, ⟨gh5, p2⟩, ⟨gh4, p3⟩, ⟨gh3, p4⟩, ⟨gh2, p5⟩, ⟨gh1, p6⟩, ⟨gh0, p7⟩] : List (View.Piece (Elt F) S256x2048 .f32)), y ∈ pc.1.set :=
  View.cover_of_tiled [⟨gh7, p0⟩, ⟨gh6, p1⟩, ⟨gh5, p2⟩, ⟨gh4, p3⟩, ⟨gh3, p4⟩, ⟨gh2, p5⟩, ⟨gh1, p6⟩, ⟨gh0, p7⟩] S256x256.size (by rfl) y
theorem cover3_b (p0 : Vec F S256x256 .bf16) (p1 : Vec F S256x256 .bf16) (p2 : Vec F S256x256 .bf16) (p3 : Vec F S256x256 .bf16) (p4 : Vec F S256x256 .bf16) (p5 : Vec F S256x256 .bf16) (p6 : Vec F S256x256 .bf16) (p7 : Vec F S256x256 .bf16) (y : S256x2048.Idx) :
    ∃ pc ∈ ([⟨gh7, p0⟩, ⟨gh6, p1⟩, ⟨gh5, p2⟩, ⟨gh4, p3⟩, ⟨gh3, p4⟩, ⟨gh2, p5⟩, ⟨gh1, p6⟩, ⟨gh0, p7⟩] : List (View.Piece (Elt F) S256x2048 .bf16)), y ∈ pc.1.set :=
  View.cover_of_tiled [⟨gh7, p0⟩, ⟨gh6, p1⟩, ⟨gh5, p2⟩, ⟨gh4, p3⟩, ⟨gh3, p4⟩, ⟨gh2, p5⟩, ⟨gh1, p6⟩, ⟨gh0, p7⟩] S256x256.size (by rfl) y
def out3_7 (x0 : Vec F S256x1024 .bf16) (x3 : Vec F S1024x2048 .bf16) (x4 : Vec F S1024x2048 .bf16) : Vec F S256x2048 .f32 :=
  View.canon [⟨gh7, k3_pay14 (gxs x0) (gxc x0) (View.ld x3 gw7) (View.ld x4 gw7)⟩,
    ⟨gh6, k3_pay14 (gxs x0) (gxc x0) (View.ld x3 gw6) (View.ld x4 gw6)⟩,
    ⟨gh5, k3_pay14 (gxs x0) (gxc x0) (View.ld x3 gw5) (View.ld x4 gw5)⟩,
    ⟨gh4, k3_pay14 (gxs x0) (gxc x0) (View.ld x3 gw4) (View.ld x4 gw4)⟩,
    ⟨gh3, k3_pay14 (gxs x0) (gxc x0) (View.ld x3 gw3) (View.ld x4 gw3)⟩,
    ⟨gh2, k3_pay14 (gxs x0) (gxc x0) (View.ld x3 gw2) (View.ld x4 gw2)⟩,
    ⟨gh1, k3_pay14 (gxs x0) (gxc x0) (View.ld x3 gw1) (View.ld x4 gw1)⟩,
    ⟨gh0, k3_pay14 (gxs x0) (gxc x0) (View.ld x3 gw0) (View.ld x4 gw0)⟩]
def out3_8 (x0 : Vec F S256x1024 .bf16) (x1 : Vec F S1024x2048 .bf16) (x2 : Vec F S1024x2048 .bf16) : Vec F S256x2048 .f32 :=
  View.canon [⟨gh7, k3_pay15 (gxv x0) (View.ld x1 gw7) (View.ld x2 gw7)⟩,
    ⟨gh6, k3_pay15 (gxv x0) (View.ld x1 gw6) (View.ld x2 gw6)⟩,
    ⟨gh5, k3_pay15 (gxv x0) (View.ld x1 gw5) (View.ld x2 gw5)⟩,
    ⟨gh4, k3_pay15 (gxv x0) (View.ld x1 gw4) (View.ld x2 gw4)⟩,
    ⟨gh3, k3_pay15 (gxv x0) (View.ld x1 gw3) (View.ld x2 gw3)⟩,
    ⟨gh2, k3_pay15 (gxv x0) (View.ld x1 gw2) (View.ld x2 gw2)⟩,
    ⟨gh1, k3_pay15 (gxv x0) (View.ld x1 gw1) (View.ld x2 gw1)⟩,
    ⟨gh0, k3_pay15 (gxv x0) (View.ld x1 gw0) (View.ld x2 gw0)⟩]
def out3_9 (x0 : Vec F S256x1024 .bf16) (x2 : Vec F S1024x2048 .bf16) (x3 : Vec F S1024x2048 .bf16) : Vec F S256x2048 .bf16 :=
  View.canon [⟨gh7, k3_pay16 (gxv x0) (gxs x0) (gxc x0) (View.ld x2 gw7) (View.ld x3 gw7)⟩,
    ⟨gh6, k3_pay16 (gxv x0) (gxs x0) (gxc x0) (View.ld x2 gw6) (View.ld x3 gw6)⟩,
    ⟨gh5, k3_pay16 (gxv x0) (gxs x0) (gxc x0) (View.ld x2 gw5) (View.ld x3 gw5)⟩,
    ⟨gh4, k3_pay16 (gxv x0) (gxs x0) (gxc x0) (View.ld x2 gw4) (View.ld x3 gw4)⟩,
    ⟨gh3, k3_pay16 (gxv x0) (gxs x0) (gxc x0) (View.ld x2 gw3) (View.ld x3 gw3)⟩,
    ⟨gh2, k3_pay16 (gxv x0) (gxs x0) (gxc x0) (View.ld x2 gw2) (View.ld x3 gw2)⟩,
    ⟨gh1, k3_pay16 (gxv x0) (gxs x0) (gxc x0) (View.ld x2 gw1) (View.ld x3 gw1)⟩,
    ⟨gh0, k3_pay16 (gxv x0) (gxs x0) (gxc x0) (View.ld x2 gw0) (View.ld x3 gw0)⟩]
def out3_10 (x0 : Vec F S256x1024 .bf16) (x1 : Vec F S1024x2048 .bf16) (x4 : Vec F S1024x2048 .bf16) : Vec F S256x2048 .bf16 :=
  View.canon [⟨gh7, k3_pay17 (gxv x0) (gxs x0) (gxc x0) (View.ld x1 gw7) (View.ld x4 gw7)⟩,
    ⟨gh6, k3_pay17 (gxv x0) (gxs x0) (gxc x0) (View.ld x1 gw6) (View.ld x4 gw6)⟩,
    ⟨gh5, k3_pay17 (gxv x0) (gxs x0) (gxc x0) (View.ld x1 gw5) (View.ld x4 gw5)⟩,
    ⟨gh4, k3_pay17 (gxv x0) (gxs x0) (gxc x0) (View.ld x1 gw4) (View.ld x4 gw4)⟩,
    ⟨gh3, k3_pay17 (gxv x0) (gxs x0) (gxc x0) (View.ld x1 gw3) (View.ld x4 gw3)⟩,
    ⟨gh2, k3_pay17 (gxv x0) (gxs x0) (gxc x0) (View.ld x1 gw2) (View.ld x4 gw2)⟩,
    ⟨gh1, k3_pay17 (gxv x0) (gxs x0) (gxc x0) (View.ld x1 gw1) (View.ld x4 gw1)⟩,
    ⟨gh0, k3_pay17 (gxv x0) (gxs x0) (gxc x0) (View.ld x1 gw0) (View.ld x4 gw0)⟩]
def out3_11 (x0 : Vec F S256x1024 .bf16) (x3 : Vec F S1024x2048 .bf16) (x4 : Vec F S1024x2048 .bf16) : Vec F S256x128 .f32 :=
  View.canon [⟨gp, maximumf (maximumf (maximumf (maximumf (maximumf (maximumf (maximumf (foldAbs (k3_pay14 (gxs x0) (gxc x0) (View.ld x3 gw0) (View.ld x4 gw0))) (foldAbs (k3_pay14 (gxs x0) (gxc x0) (View.ld x3 gw1) (View.ld x4 gw1)))) (foldAbs (k3_pay14 (gxs x0) (gxc x0) (View.ld x3 gw2) (View.ld x4 gw2)))) (foldAbs (k3_pay14 (gxs x0) (gxc x0) (View.ld x3 gw3) (View.ld x4 gw3)))) (foldAbs (k3_pay14 (gxs x0) (gxc x0) (View.ld x3 gw4) (View.ld x4 gw4)))) (foldAbs (k3_pay14 (gxs x0) (gxc x0) (View.ld x3 gw5) (View.ld x4 gw5)))) (foldAbs (k3_pay14 (gxs x0) (gxc x0) (View.ld x3 gw6) (View.ld x4 gw6)))) (foldAbs (k3_pay14 (gxs x0) (gxc x0) (View.ld x3 gw7) (View.ld x4 gw7)))⟩]
def out3_12 (x0 : Vec F S256x1024 .bf16) (x1 : Vec F S1024x2048 .bf16) (x2 : Vec F S1024x2048 .bf16) : Vec F S256x128 .f32 :=
  View.canon [⟨gp, maximumf (maximumf (maximumf (maximumf (maximumf (maximumf (maximumf (foldAbs (k3_pay15 (gxv x0) (View.ld x1 gw0) (View.ld x2 gw0))) (foldAbs (k3_pay15 (gxv x0) (View.ld x1 gw1) (View.ld x2 gw1)))) (foldAbs (k3_pay15 (gxv x0) (View.ld x1 gw2) (View.ld x2 gw2)))) (foldAbs (k3_pay15 (gxv x0) (View.ld x1 gw3) (View.ld x2 gw3)))) (foldAbs (k3_pay15 (gxv x0) (View.ld x1 gw4) (View.ld x2 gw4)))) (foldAbs (k3_pay15 (gxv x0) (View.ld x1 gw5) (View.ld x2 gw5)))) (foldAbs (k3_pay15 (gxv x0) (View.ld x1 gw6) (View.ld x2 gw6)))) (foldAbs (k3_pay15 (gxv x0) (View.ld x1 gw7) (View.ld x2 gw7)))⟩]

/-! ## The body's triple -/

set_option maxHeartbeats 2000000 in
theorem sound_kernel3 (c : Dev nD) (E : Set ℕ) (i : grid3.Coords) (arg2 : Memref sig .tc .vmem S256x1024 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S256x1024 .i8) (harg7 : arg7.IsWhole) (arg8 : Memref sig .tc .vmem S6x1536 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x128 .f32) (harg13 : arg13.IsWhole) (arg14 : Memref sig .tc .vmem S256x128 .f32) (harg14 : arg14.IsWhole)
    (x0 : Vec F S256x1024 .bf16) (x1 : Vec F S1024x2048 .bf16) (x2 : Vec F S1024x2048 .bf16) (x3 : Vec F S1024x2048 .bf16) (x4 : Vec F S1024x2048 .bf16) (y : Vec F S6x1536 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out3_5 x0) ∗ owns (c : Thread nD τ) arg8 fullShare (VecWindow.put y (k3_off1 i) S1x256.size (rowScale3 x0)) ∗ owns (c : Thread nD τ) arg9 fullShare (out3_7 x0 x3 x4) ∗ owns (c : Thread nD τ) arg10 fullShare (out3_8 x0 x1 x2) ∗ owns (c : Thread nD τ) arg11 fullShare (out3_9 x0 x2 x3) ∗ owns (c : Thread nD τ) arg12 fullShare (out3_10 x0 x1 x4) ∗ owns (c : Thread nD τ) arg13 fullShare (out3_11 x0 x3 x4) ∗ owns (c : Thread nD τ) arg14 fullShare (out3_12 x0 x1 x2)) -∗ K ⟨⟩))
      ⊢ wp frame (wpE (defs₀ (F := F)) Variants.none c none) E (cc3_gate_up i arg2 harg2 arg3 harg3 arg4 harg4 arg5 harg5 arg6 harg6 arg7 harg7 arg8 harg8 arg9 harg9 arg10 harg10 arg11 harg11 arg12 harg12 arg13 harg13 arg14 harg14) K := by
  simp only [cc3_gate_up_eq_skeleton]; unfold cc3_gate_up_skel
  simp only [k3_part1_eq_skeleton, k3_part2_eq_skeleton, k3_part3_eq_skeleton, k3_part4_eq_skeleton, k3_part5_eq_skeleton, k3_part6_eq_skeleton, k3_part7_eq_skeleton, k3_part8_eq_skeleton, k3_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf0 hf1 hf2 hf3 hf4 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover3_5 _)).trans ?_
    rfl
  isplitl [H6]
  · iexists _; isplitr
    swap; · iexact H6
    ipureintro
    exact View.read_writes_cons_put _ _ _ _ [] rfl
  isplitl [H7]
  · iexists _; isplitr
    swap; · iexact H7
    ipureintro
    refine (View.read_writes_eq_canon _ _ _ (cover3_f _ _ _ _ _ _ _ _)).trans ?_
    rfl
  isplitl [H8]
  · iexists _; isplitr
    swap; · iexact H8
    ipureintro
    refine (View.read_writes_eq_canon _ _ _ (cover3_f _ _ _ _ _ _ _ _)).trans ?_
    rfl
  isplitl [H9]
  · iexists _; isplitr
    swap; · iexact H9
    ipureintro
    refine (View.read_writes_eq_canon _ _ _ (cover3_b _ _ _ _ _ _ _ _)).trans ?_
    rfl
  isplitl [H10]
  · iexists _; isplitr
    swap; · iexact H10
    ipureintro
    refine (View.read_writes_eq_canon _ _ _ (cover3_b _ _ _ _ _ _ _ _)).trans ?_
    rfl
  isplitl [H11]
  · iexists _; isplitr
    swap; · iexact H11
    ipureintro
    refine (View.read_writes_eq_canon _ _ _ (cover3_p _)).trans ?_
    rfl
  iexists _; isplitr
  swap; · iexact H12
  ipureintro
  refine (View.read_writes_eq_canon _ _ _ (cover3_p _)).trans ?_
  rfl

/-! ## The proof data -/

theorem N3 : cfg3.N = 72 := rfl

/-- Every token's scale: token `256 * (6 * r + q) + l` at row `r`, column `256 * q + l`, from the block of point `6 * r + q`. -/
def xsAll3 (c : Dev nD) : Vec F S6x1536 .f32 := fun j =>
  rowScale3 (iblk3 V c 0 ⟨6 * (j 0).val + (j 1).val / 256, by
    have h0 : (j 0).val < 6 := (j 0).isLt
    have h1 : (j 1).val < 1536 := (j 1).isLt
    rw [N3]; omega⟩) (ix2 0 ⟨(j 1).val % 256, Nat.mod_lt _ (by omega)⟩)

/-- The arrays as the region finds them; each input's buffer left at its block, each output's at `out3_W`; the scales' buffer at its final contents. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t)
    | ⟨6, _⟩ => xsAll3 V c
    | ⟨7, _⟩ => out3_7 (iblk3 V c 0 t) (iblk3 V c 3 t) (iblk3 V c 4 t)
    | ⟨8, _⟩ => out3_8 (iblk3 V c 0 t) (iblk3 V c 1 t) (iblk3 V c 2 t)
    | ⟨9, _⟩ => out3_9 (iblk3 V c 0 t) (iblk3 V c 2 t) (iblk3 V c 3 t)
    | ⟨10, _⟩ => out3_10 (iblk3 V c 0 t) (iblk3 V c 1 t) (iblk3 V c 4 t)
    | ⟨11, _⟩ => out3_11 (iblk3 V c 0 t) (iblk3 V c 3 t) (iblk3 V c 4 t)
    | ⟨12, _⟩ => out3_12 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) := by dsimp only [dat3]
theorem after3_6 (c : Dev nD) (t : Fin cfg3.N) : (dat3 V c).after 6 t = xsAll3 V c := by dsimp only [dat3]
theorem after3_7 (c : Dev nD) (t : Fin cfg3.N) : (dat3 V c).after 7 t = out3_7 (iblk3 V c 0 t) (iblk3 V c 3 t) (iblk3 V c 4 t) := by dsimp only [dat3]
theorem after3_8 (c : Dev nD) (t : Fin cfg3.N) : (dat3 V c).after 8 t = out3_8 (iblk3 V c 0 t) (iblk3 V c 1 t) (iblk3 V c 2 t) := by dsimp only [dat3]
theorem after3_9 (c : Dev nD) (t : Fin cfg3.N) : (dat3 V c).after 9 t = out3_9 (iblk3 V c 0 t) (iblk3 V c 2 t) (iblk3 V c 3 t) := by dsimp only [dat3]
theorem after3_10 (c : Dev nD) (t : Fin cfg3.N) : (dat3 V c).after 10 t = out3_10 (iblk3 V c 0 t) (iblk3 V c 1 t) (iblk3 V c 4 t) := by dsimp only [dat3]
theorem after3_11 (c : Dev nD) (t : Fin cfg3.N) : (dat3 V c).after 11 t = out3_11 (iblk3 V c 0 t) (iblk3 V c 3 t) (iblk3 V c 4 t) := by dsimp only [dat3]
theorem after3_12 (c : Dev nD) (t : Fin cfg3.N) : (dat3 V c).after 12 t = out3_12 (iblk3 V c 0 t) (iblk3 V c 1 t) (iblk3 V c 2 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- The window of scales is the one held to a predicate. -/
def fgt3 : Fin cfg3.W → Bool
  | ⟨6, _⟩ => true
  | _ => false

/-- After point `t` the scales of the points up to `t` are in place. -/
def Rl3 (c : Dev nD) : (w : Fin cfg3.W) → Fin cfg3.N → ((cfg3.win w).block.Idx → Elt F (cfg3.win w).elt) → Prop
  | ⟨6, _⟩ => fun t X => ∀ j : S6x1536.Idx, 6 * (j 0).val + (j 1).val / 256 ≤ t.val → X j = xsAll3 V c j
  | _ => fun _ _ => True

theorem Rl3_exact (c : Dev nD) (w : Fin cfg3.W) (hw : fgt3 w = true) (t : Fin cfg3.N) (ht : (cfg3.win w).flush t = true)
    (X : (cfg3.win w).block.Idx → Elt F (cfg3.win w).elt) (hX : Rl3 V c w t X) : X = (dat3 V c).after w t := by
  match w, hw with
  | ⟨6, _⟩, _ =>
    rw [show (dat3 V c).after ⟨6, _⟩ t = xsAll3 V c from after3_6 V c t]
    have h71 : t.val % 72 = 71 := (flush3_6 t).mp ht
    exact funext fun (j : S6x1536.Idx) => (show ∀ j : S6x1536.Idx, 6 * (j 0).val + (j 1).val / 256 ≤ t.val → X j = xsAll3 V c j from hX) j (by
      have h0 : (j 0).val < 6 := (j 0).isLt
      have h1 : (j 1).val < 1536 := (j 1).isLt
      omega)

theorem off3_eq : ∀ t : Fin cfg3.N, k3_off1 (grid3.coords t) = ![t.val % 36 / 6, t.val % 36 % 6 * 256] := by decide +kernel

theorem index3_0 : ∀ t : Fin cfg3.N, win3_0.index t = ![t.val % 36, 0] := by decide +kernel

/-- The token block of point `t` holds the 256 tokens from `256 * (t % 36)` on. -/
theorem iblk3_0_apply (c : Dev nD) (t : Fin cfg3.N) (j : S256x1024.Idx) :
    (iblk3 V c 0 t : Vec F S256x1024 .bf16) j
      = (V c main_v3 : Vec F S9216x1024 .bf16) (ix2 ⟨256 * (t.val % 36) + (j 0).val, by
          have h0 : (j 0).val < 256 := (j 0).isLt
          omega⟩ (j 1)) := by
  show (V c main_v3 : Vec F S9216x1024 .bf16) ((win3_0.rect t).emb j) = _
  refine congrArg _ (funext fun a => Fin.ext ?_)
  rw [win3_0.rect_emb_val t j a rfl, index3_0]
  match a with
  | ⟨0, _⟩ => show t.val % 36 * 256 + (j 0).val = 256 * (t.val % 36) + (j 0).val; omega
  | ⟨1, _⟩ => show 0 * 1024 + (j 1).val = (j 1).val; omega

/-- The token block of a point is that of the same point of the first pass. -/
theorem iblk3_mod (c : Dev nD) (t t' : Fin cfg3.N) (h : t'.val = t.val % 36) :
    (iblk3 V c 0 t' : Vec F S256x1024 .bf16) = (iblk3 V c 0 t : Vec F S256x1024 .bf16) := by
  funext j
  rw [iblk3_0_apply, iblk3_0_apply]
  have e : t'.val % 36 = t.val % 36 := by omega
  simp only [e]

/-- One point's step of the scales. -/
theorem row_step3 (c : Dev nD) (t : Fin cfg3.N) (Y : Vec F S6x1536 .f32) (hY : (((dat3 V c).toRRel fgt3 (Rl3 V c)).Finds 6 t Y)) :
    Rl3 V c 6 t (VecWindow.put Y (k3_off1 (grid3.coords t)) S1x256.size (rowScale3 (iblk3 V c 0 t))) := by
  intro j hj
  have h0 : (j 0).val < 6 := (j 0).isLt
  have h1 : (j 1).val < 1536 := (j 1).isLt
  have ht : t.val < 72 := t.isLt
  rw [off3_eq]
  unfold VecWindow.put
  split
  · rename_i h
    have a0 := h 0
    have a1 := h 1
    simp at a0 a1
    unfold xsAll3
    rw [iblk3_mod V c t ⟨6 * (j 0).val + (j 1).val / 256, by rw [N3]; omega⟩ (by show _ = _; simp; omega)]
    congr 1
    funext a
    apply Fin.ext
    match a with
    | ⟨0, _⟩ => simp; omega
    | ⟨1, _⟩ => simp; omega
  · rename_i h
    have hne : 6 * (j 0).val + (j 1).val / 256 ≠ t.val % 36 := fun e => h fun a => by
      match a with
      | ⟨0, _⟩ => simp; omega
      | ⟨1, _⟩ => simp; omega
    have hpos : t.val ≠ 0 := fun e => hne (by rw [e] at hj ⊢; omega)
    have hp : Rl3 V c 6 ⟨t.val - 1, Nat.lt_of_le_of_lt (Nat.sub_le _ _) t.isLt⟩ Y :=
      Cert.RowData.finds_prev (dat3 V c) rfl rfl hpos (by
        cases hfl : (cfg3.win 6).flush ⟨t.val - 1, Nat.lt_of_le_of_lt (Nat.sub_le _ _) t.isLt⟩
        · rfl
        · have := (flush3_6 _).mp hfl
          simp at this; omega) hY
    exact hp j (by show _ ≤ t.val - 1; omega)

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ Y, ⌜((dat3 V c).toRRel fgt3 (Rl3 V c)).Finds 6 t Y⌝ ∗ owns (c : Thread nD τ) (st3_6 t) fullShare Y)
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ (∃ X, ⌜Rl3 V c 6 t X⌝ ∗ owns (c : Thread nD τ) (st3_6 t) fullShare X)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t))

set_option maxHeartbeats 1000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_7, after3_8, after3_9, after3_10, after3_11, after3_12]
  iintro ⟨HΦ, Ho, ⟨%d0, H0⟩, ⟨%d1, H1⟩, ⟨%d2, H2⟩, ⟨%d3, H3⟩, ⟨%d4, H4⟩, ⟨%d5, H5⟩, ⟨%y, %hy, H6⟩, ⟨%d7, H7⟩, ⟨%d8, H8⟩, ⟨%d9, H9⟩, ⟨%d10, H10⟩, ⟨%d11, H11⟩, ⟨%d12, H12⟩⟩
  iapply (sound_kernel3 c Set.univ (grid3.coords t) _ _ _ _ _ _ _ _ _ _ _ _ _ _ _ _ _ _ _ _ _ _ _ _ _ _ (iblk3 V c 0 t) (iblk3 V c 1 t) (iblk3 V c 2 t) (iblk3 V c 3 t) (iblk3 V c 4 t) y _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; exact row_step3 V c t y hy
  isplitl [H7]; · iexact H7
  isplitl [H8]; · iexact H8
  isplitl [H9]; · iexact H9
  isplitl [H10]; · iexact H10
  isplitl [H11]; · iexact H11
  iexact H12

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) :
    Pipeline.BodyObligationRel (dat3 (F := F) V c) (defs₀ (F := F)) Variants.none () Set.univ fgt3 (Rl3 V c) := fun t => by
  rw [bigSep_W3, bigSep_W3, defs₀_row3]
  exact triple_restated (sound_body3 V c t) rfl .rfl fun _ => .rfl

end Cert.Kernel.Hand
-- ==== Proof.Kernel.Down.lean ====
/- The down region: what its body leaves, the triple by cases of the point, the proof data (the partly stored windows held to predicates, the accumulator carried) and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pointwise.Index
public import Idealize.ShloMosaic.Lib.VecWindow
public import proofs.«01_k».proof.Proof.RowData

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the buffer contents when a region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev dM : Rect S256x4096 := Rect.unit (s := S256x4096) ![0, 0] S256x4096.size inb_S256x4096_S256x4096_0_0
abbrev dP : Rect S256x256 := Rect.unit (s := S256x256) ![0, 0] S256x256.size inb_S256x256_S256x256_0_0
abbrev dE : Rect S4x1024 := Rect.unit (s := S4x1024) ![0, 0] S4x1024.size inb_S4x1024_S4x1024_0_0
abbrev dAll : Rect S4x8x1024 := Rect.unit (s := S4x8x1024) ![0, 0, 0] S4x8x1024.size inb_S4x8x1024_S4x8x1024_0_0_0
abbrev dw0 : Rect S4096x1024 := Rect.unit (s := S4096x1024) ![0, 0] S4096x256.size inb_S4096x1024_S4096x256_0_0
abbrev dy0 : Rect S256x1024 := Rect.unit (s := S256x1024) ![0, 0] S256x256.size inb_S256x1024_S256x256_0_0
abbrev da00 : Rect S4x8x1024 := Rect.unit (s := S4x8x1024) ![0, 0, 0] S1x8x256.size inb_S4x8x1024_S1x8x256_0_0_0
abbrev da10 : Rect S4x8x1024 := Rect.unit (s := S4x8x1024) ![1, 0, 0] S1x8x256.size inb_S4x8x1024_S1x8x256_1_0_0
abbrev da20 : Rect S4x8x1024 := Rect.unit (s := S4x8x1024) ![2, 0, 0] S1x8x256.size inb_S4x8x1024_S1x8x256_2_0_0
abbrev da30 : Rect S4x8x1024 := Rect.unit (s := S4x8x1024) ![3, 0, 0] S1x8x256.size inb_S4x8x1024_S1x8x256_3_0_0
abbrev dw1 : Rect S4096x1024 := Rect.unit (s := S4096x1024) ![0, 256] S4096x256.size inb_S4096x1024_S4096x256_0_256
abbrev dy1 : Rect S256x1024 := Rect.unit (s := S256x1024) ![0, 256] S256x256.size inb_S256x1024_S256x256_0_256
abbrev da01 : Rect S4x8x1024 := Rect.unit (s := S4x8x1024) ![0, 0, 256] S1x8x256.size inb_S4x8x1024_S1x8x256_0_0_256
abbrev da11 : Rect S4x8x1024 := Rect.unit (s := S4x8x1024) ![1, 0, 256] S1x8x256.size inb_S4x8x1024_S1x8x256_1_0_256
abbrev da21 : Rect S4x8x1024 := Rect.unit (s := S4x8x1024) ![2, 0, 256] S1x8x256.size inb_S4x8x1024_S1x8x256_2_0_256
abbrev da31 : Rect S4x8x1024 := Rect.unit (s := S4x8x1024) ![3, 0, 256] S1x8x256.size inb_S4x8x1024_S1x8x256_3_0_256
abbrev dw2 : Rect S4096x1024 := Rect.unit (s := S4096x1024) ![0, 512] S4096x256.size inb_S4096x1024_S4096x256_0_512
abbrev dy2 : Rect S256x1024 := Rect.unit (s := S256x1024) ![0, 512] S256x256.size inb_S256x1024_S256x256_0_512
abbrev da02 : Rect S4x8x1024 := Rect.unit (s := S4x8x1024) ![0, 0, 512] S1x8x256.size inb_S4x8x1024_S1x8x256_0_0_512
abbrev da12 : Rect S4x8x1024 := Rect.unit (s := S4x8x1024) ![1, 0, 512] S1x8x256.size inb_S4x8x1024_S1x8x256_1_0_512
abbrev da22 : Rect S4x8x1024 := Rect.unit (s := S4x8x1024) ![2, 0, 512] S1x8x256.size inb_S4x8x1024_S1x8x256_2_0_512
abbrev da32 : Rect S4x8x1024 := Rect.unit (s := S4x8x1024) ![3, 0, 512] S1x8x256.size inb_S4x8x1024_S1x8x256_3_0_512
abbrev dw3 : Rect S4096x1024 := Rect.unit (s := S4096x1024) ![0, 768] S4096x256.size inb_S4096x1024_S4096x256_0_768
abbrev dy3 : Rect S256x1024 := Rect.unit (s := S256x1024) ![0, 768] S256x256.size inb_S256x1024_S256x256_0_768
abbrev da03 : Rect S4x8x1024 := Rect.unit (s := S4x8x1024) ![0, 0, 768] S1x8x256.size inb_S4x8x1024_S1x8x256_0_0_768
abbrev da13 : Rect S4x8x1024 := Rect.unit (s := S4x8x1024) ![1, 0, 768] S1x8x256.size inb_S4x8x1024_S1x8x256_1_0_768
abbrev da23 : Rect S4x8x1024 := Rect.unit (s := S4x8x1024) ![2, 0, 768] S1x8x256.size inb_S4x8x1024_S1x8x256_2_0_768
abbrev da33 : Rect S4x8x1024 := Rect.unit (s := S4x8x1024) ![3, 0, 768] S1x8x256.size inb_S4x8x1024_S1x8x256_3_0_768

/-! ## What the body leaves, by functions of one chunk of 256 columns -/

/-- The 32 groups of 8 rows of a chunk, added. -/
def colSum8 (e : FVec F S256x256 .f32) : FVec F S8x256 .f32 :=
  addf (addf (addf (addf (addf (addf (addf (addf (addf (addf (addf (addf (addf (addf (addf (addf (addf (addf (addf (addf (addf (addf (addf (addf (addf (addf (addf (addf (addf (addf (addf (extractStridedSlice S8x256 ![0, 0] e slices_S256x256_o0_0_S8x256) (extractStridedSlice S8x256 ![8, 0] e slices_S256x256_o8_0_S8x256)) (extractStridedSlice S8x256 ![16, 0] e slices_S256x256_o16_0_S8x256)) (extractStridedSlice S8x256 ![24, 0] e slices_S256x256_o24_0_S8x256)) (extractStridedSlice S8x256 ![32, 0] e slices_S256x256_o32_0_S8x256)) (extractStridedSlice S8x256 ![40, 0] e slices_S256x256_o40_0_S8x256)) (extractStridedSlice S8x256 ![48, 0] e slices_S256x256_o48_0_S8x256)) (extractStridedSlice S8x256 ![56, 0] e slices_S256x256_o56_0_S8x256)) (extractStridedSlice S8x256 ![64, 0] e slices_S256x256_o64_0_S8x256)) (extractStridedSlice S8x256 ![72, 0] e slices_S256x256_o72_0_S8x256)) (extractStridedSlice S8x256 ![80, 0] e slices_S256x256_o80_0_S8x256)) (extractStridedSlice S8x256 ![88, 0] e slices_S256x256_o88_0_S8x256)) (extractStridedSlice S8x256 ![96, 0] e slices_S256x256_o96_0_S8x256)) (extractStridedSlice S8x256 ![104, 0] e slices_S256x256_o104_0_S8x256)) (extractStridedSlice S8x256 ![112, 0] e slices_S256x256_o112_0_S8x256)) (extractStridedSlice S8x256 ![120, 0] e slices_S256x256_o120_0_S8x256)) (extractStridedSlice S8x256 ![128, 0] e slices_S256x256_o128_0_S8x256)) (extractStridedSlice S8x256 ![136, 0] e slices_S256x256_o136_0_S8x256)) (extractStridedSlice S8x256 ![144, 0] e slices_S256x256_o144_0_S8x256)) (extractStridedSlice S8x256 ![152, 0] e slices_S256x256_o152_0_S8x256)) (extractStridedSlice S8x256 ![160, 0] e slices_S256x256_o160_0_S8x256)) (extractStridedSlice S8x256 ![168, 0] e slices_S256x256_o168_0_S8x256)) (extractStridedSlice S8x256 ![176, 0] e slices_S256x256_o176_0_S8x256)) (extractStridedSlice S8x256 ![184, 0] e slices_S256x256_o184_0_S8x256)) (extractStridedSlice S8x256 ![192, 0] e slices_S256x256_o192_0_S8x256)) (extractStridedSlice S8x256 ![200, 0] e slices_S256x256_o200_0_S8x256)) (extractStridedSlice S8x256 ![208, 0] e slices_S256x256_o208_0_S8x256)) (extractStridedSlice S8x256 ![216, 0] e slices_S256x256_o216_0_S8x256)) (extractStridedSlice S8x256 ![224, 0] e slices_S256x256_o224_0_S8x256)) (extractStridedSlice S8x256 ![232, 0] e slices_S256x256_o232_0_S8x256)) (extractStridedSlice S8x256 ![240, 0] e slices_S256x256_o240_0_S8x256)) (extractStridedSlice S8x256 ![248, 0] e slices_S256x256_o248_0_S8x256)
/-- The two halves of a chunk's columns, added. -/
def foldAdd (e : FVec F S256x256 .f32) : FVec F S256x128 .f32 :=
  addf (extractStridedSlice S256x128 ![0, 0] e slices_S256x256_o0_0_S256x128) (extractStridedSlice S256x128 ![0, 128] e slices_S256x256_o0_128_S256x128)
/-- One piece of the accumulator after a chunk. -/
def accPiece (v : Vec F S1x8x256 .f32) (e : FVec F S256x256 .f32) : FVec F S1x8x256 .f32 :=
  shapeCast S1x8x256 (addf (shapeCast S8x256 v shapeCasts_S1x8x256_S8x256) (colSum8 e)) shapeCasts_S8x256_S1x8x256
abbrev sq (e : FVec F S256x256 .f32) : FVec F S256x256 .f32 := mulf e e

abbrev dhr (x1 : Vec F S256x4096 .f32) : FVec F S256x4096 .bf16 := k4_pay3 (View.ld x1 dM)
abbrev dfs (x4 : Vec F S256x256 .f32) : FVec F S256x1 .f32 := k4_pay8 (k4_pay4 (View.ld x4 dP)) (k4_pay5 (View.ld x4 dP))
abbrev dfc (x0 : Vec F S256x4096 .f32) (x4 : Vec F S256x256 .f32) : FVec F S256x4096 .bf16 := k4_pay11 (k4_pay4 (View.ld x4 dP)) (k4_pay5 (View.ld x4 dP)) (View.ld x0 dM)
/-- The differences' squares of the four variants, for a chunk `w` of the weights and `d` of the unpacked weights. -/
def eSq0 (x0 : Vec F S256x4096 .f32) (x1 : Vec F S256x4096 .f32) (x4 : Vec F S256x256 .f32) (w d : Vec F S4096x256 .bf16) : FVec F S256x256 .f32 := k4_pay23 (dhr x1) (dfs x4) (dfc x0 x4) w d
def eSq1 (x1 : Vec F S256x4096 .f32) (x2 : Vec F S256x4096 .bf16) (w : Vec F S4096x256 .bf16) : FVec F S256x256 .f32 := k4_pay29 (k4_pay18 (dhr x1) w) (k4_pay19 (View.ld x2 dM) w)
def eSq2 (x1 : Vec F S256x4096 .f32) (x3 : Vec F S256x4096 .bf16) (w : Vec F S4096x256 .bf16) : FVec F S256x256 .f32 := k4_pay29 (k4_pay18 (dhr x1) w) (k4_pay20 (View.ld x3 dM) w)
def eSq3 (x1 : Vec F S256x4096 .f32) (x5 : Vec F S256x256 .f32) (w d : Vec F S4096x256 .bf16) : FVec F S256x256 .f32 :=
  k4_pay29 (k4_pay18 (dhr x1) w) (k4_pay21 (k4_pay14 (View.ld x5 dP)) (k4_pay17 (View.ld x5 dP) (View.ld x1 dM)) d)
def ySq (x1 : Vec F S256x4096 .f32) (w : Vec F S4096x256 .bf16) : FVec F S256x256 .f32 := sq (k4_pay18 (dhr x1) w)
/-- The row of token sums of variant 0. -/
def etRow0 (x0 : Vec F S256x4096 .f32) (x1 : Vec F S256x4096 .f32) (x4 : Vec F S256x256 .f32) (x6 : Vec F S4096x1024 .bf16) (x7 : Vec F S4096x1024 .bf16) : FVec F S1x1x256 .f32 :=
  k4_pay122 (addf (addf (addf (foldAdd (eSq0 x0 x1 x4 (View.ld x6 dw0) (View.ld x7 dw0))) (foldAdd (eSq0 x0 x1 x4 (View.ld x6 dw1) (View.ld x7 dw1)))) (foldAdd (eSq0 x0 x1 x4 (View.ld x6 dw2) (View.ld x7 dw2)))) (foldAdd (eSq0 x0 x1 x4 (View.ld x6 dw3) (View.ld x7 dw3))))
/-- The row of token sums of variant 1. -/
def etRow1 (x1 : Vec F S256x4096 .f32) (x2 : Vec F S256x4096 .bf16) (x6 : Vec F S4096x1024 .bf16) : FVec F S1x1x256 .f32 :=
  k4_pay122 (addf (addf (addf (foldAdd (eSq1 x1 x2 (View.ld x6 dw0))) (foldAdd (eSq1 x1 x2 (View.ld x6 dw1)))) (foldAdd (eSq1 x1 x2 (View.ld x6 dw2)))) (foldAdd (eSq1 x1 x2 (View.ld x6 dw3))))
/-- The row of token sums of variant 2. -/
def etRow2 (x1 : Vec F S256x4096 .f32) (x3 : Vec F S256x4096 .bf16) (x6 : Vec F S4096x1024 .bf16) : FVec F S1x1x256 .f32 :=
  k4_pay122 (addf (addf (addf (foldAdd (eSq2 x1 x3 (View.ld x6 dw0))) (foldAdd (eSq2 x1 x3 (View.ld x6 dw1)))) (foldAdd (eSq2 x1 x3 (View.ld x6 dw2)))) (foldAdd (eSq2 x1 x3 (View.ld x6 dw3))))
/-- The row of token sums of variant 3. -/
def etRow3 (x1 : Vec F S256x4096 .f32) (x5 : Vec F S256x256 .f32) (x6 : Vec F S4096x1024 .bf16) (x7 : Vec F S4096x1024 .bf16) : FVec F S1x1x256 .f32 :=
  k4_pay122 (addf (addf (addf (foldAdd (eSq3 x1 x5 (View.ld x6 dw0) (View.ld x7 dw0))) (foldAdd (eSq3 x1 x5 (View.ld x6 dw1) (View.ld x7 dw1)))) (foldAdd (eSq3 x1 x5 (View.ld x6 dw2) (View.ld x7 dw2)))) (foldAdd (eSq3 x1 x5 (View.ld x6 dw3) (View.ld x7 dw3))))
/-- The row of token sums of the reference's squares. -/
def stRow (x1 : Vec F S256x4096 .f32) (x6 : Vec F S4096x1024 .bf16) : FVec F S1x256 .f32 :=
  k4_pay127 (addf (addf (addf (foldAdd (ySq x1 (View.ld x6 dw0))) (foldAdd (ySq x1 (View.ld x6 dw1)))) (foldAdd (ySq x1 (View.ld x6 dw2)))) (foldAdd (ySq x1 (View.ld x6 dw3))))
def fsRow (x4 : Vec F S256x256 .f32) : FVec F S1x256 .f32 := k4_pay7 (k4_pay4 (View.ld x4 dP)) (k4_pay5 (View.ld x4 dP))
def rsRow (x5 : Vec F S256x256 .f32) : FVec F S1x256 .f32 := k4_pay13 (View.ld x5 dP)
def out4_11 (x1 : Vec F S256x4096 .f32) (x6 : Vec F S4096x1024 .bf16) : Vec F S256x1024 .bf16 :=
  View.canon [⟨dy3, k4_pay22 (dhr x1) (View.ld x6 dw3)⟩, ⟨dy2, k4_pay22 (dhr x1) (View.ld x6 dw2)⟩, ⟨dy1, k4_pay22 (dhr x1) (View.ld x6 dw1)⟩, ⟨dy0, k4_pay22 (dhr x1) (View.ld x6 dw0)⟩]
def out4_12 (x0 : Vec F S256x4096 .f32) (x4 : Vec F S256x256 .f32) : Vec F S256x4096 .i8 :=
  View.canon [⟨dM, k4_pay10 (k4_pay4 (View.ld x4 dP)) (k4_pay5 (View.ld x4 dP)) (View.ld x0 dM)⟩]
def out4_14 (x1 : Vec F S256x4096 .f32) (x5 : Vec F S256x256 .f32) : Vec F S256x4096 .i8 :=
  View.canon [⟨dM, k4_pay16 (View.ld x5 dP) (View.ld x1 dM)⟩]
/-- The accumulator after a point. -/
def accStep (x0 : Vec F S256x4096 .f32) (x1 : Vec F S256x4096 .f32) (x2 : Vec F S256x4096 .bf16) (x3 : Vec F S256x4096 .bf16) (x4 : Vec F S256x256 .f32) (x5 : Vec F S256x256 .f32) (x6 : Vec F S4096x1024 .bf16) (x7 : Vec F S4096x1024 .bf16) (a : Vec F S4x8x1024 .f32) : Vec F S4x8x1024 .f32 :=
  View.canon [⟨da33, accPiece (View.ld a da33) (eSq3 x1 x5 (View.ld x6 dw3) (View.ld x7 dw3))⟩,
    ⟨da23, accPiece (View.ld a da23) (eSq2 x1 x3 (View.ld x6 dw3))⟩,
    ⟨da13, accPiece (View.ld a da13) (eSq1 x1 x2 (View.ld x6 dw3))⟩,
    ⟨da03, accPiece (View.ld a da03) (eSq0 x0 x1 x4 (View.ld x6 dw3) (View.ld x7 dw3))⟩,
    ⟨da32, accPiece (View.ld a da32) (eSq3 x1 x5 (View.ld x6 dw2) (View.ld x7 dw2))⟩,
    ⟨da22, accPiece (View.ld a da22) (eSq2 x1 x3 (View.ld x6 dw2))⟩,
    ⟨da12, accPiece (View.ld a da12) (eSq1 x1 x2 (View.ld x6 dw2))⟩,
    ⟨da02, accPiece (View.ld a da02) (eSq0 x0 x1 x4 (View.ld x6 dw2) (View.ld x7 dw2))⟩,
    ⟨da31, accPiece (View.ld a da31) (eSq3 x1 x5 (View.ld x6 dw1) (View.ld x7 dw1))⟩,
    ⟨da21, accPiece (View.ld a da21) (eSq2 x1 x3 (View.ld x6 dw1))⟩,
    ⟨da11, accPiece (View.ld a da11) (eSq1 x1 x2 (View.ld x6 dw1))⟩,
    ⟨da01, accPiece (View.ld a da01) (eSq0 x0 x1 x4 (View.ld x6 dw1) (View.ld x7 dw1))⟩,
    ⟨da30, accPiece (View.ld a da30) (eSq3 x1 x5 (View.ld x6 dw0) (View.ld x7 dw0))⟩,
    ⟨da20, accPiece (View.ld a da20) (eSq2 x1 x3 (View.ld x6 dw0))⟩,
    ⟨da10, accPiece (View.ld a da10) (eSq1 x1 x2 (View.ld x6 dw0))⟩,
    ⟨da00, accPiece (View.ld a da00) (eSq0 x0 x1 x4 (View.ld x6 dw0) (View.ld x7 dw0))⟩]
/-- The column sums, from the accumulator. -/
def ecOut (a : Vec F S4x8x1024 .f32) : Vec F S4x1024 .f32 := View.canon [⟨dE, k4_pay1 (View.ld a dAll)⟩]

theorem cover4_e (p0 : Vec F S4x1024 .f32) (y : S4x1024.Idx) :
    ∃ pc ∈ ([⟨dE, p0⟩] : List (View.Piece (Elt F) S4x1024 .f32)), y ∈ pc.1.set :=
  View.cover_of_tiled [⟨dE, p0⟩] S4x1024.size (by rfl) y
theorem cover4_i (p0 : Vec F S256x4096 .i8) (y : S256x4096.Idx) :
    ∃ pc ∈ ([⟨dM, p0⟩] : List (View.Piece (Elt F) S256x4096 .i8)), y ∈ pc.1.set :=
  View.cover_of_tiled [⟨dM, p0⟩] S256x4096.size (by rfl) y
theorem cover4_y (p0 p1 p2 p3 : Vec F S256x256 .bf16) (y : S256x1024.Idx) :
    ∃ pc ∈ ([⟨dy3, p3⟩, ⟨dy2, p2⟩, ⟨dy1, p1⟩, ⟨dy0, p0⟩] : List (View.Piece (Elt F) S256x1024 .bf16)), y ∈ pc.1.set :=
  View.cover_of_tiled [⟨dy3, p3⟩, ⟨dy2, p2⟩, ⟨dy1, p1⟩, ⟨dy0, p0⟩] S256x256.size (by rfl) y
theorem cover4_a (p33 p23 p13 p03 p32 p22 p12 p02 p31 p21 p11 p01 p30 p20 p10 p00 : Vec F S1x8x256 .f32) (y : S4x8x1024.Idx) :
    ∃ pc ∈ ([⟨da33, p33⟩, ⟨da23, p23⟩, ⟨da13, p13⟩, ⟨da03, p03⟩, ⟨da32, p32⟩, ⟨da22, p22⟩, ⟨da12, p12⟩, ⟨da02, p02⟩, ⟨da31, p31⟩, ⟨da21, p21⟩, ⟨da11, p11⟩, ⟨da01, p01⟩, ⟨da30, p30⟩, ⟨da20, p20⟩, ⟨da10, p10⟩, ⟨da00, p00⟩] : List (View.Piece (Elt F) S4x8x1024 .f32)), y ∈ pc.1.set :=
  View.cover_of_tiled [⟨da33, p33⟩, ⟨da23, p23⟩, ⟨da13, p13⟩, ⟨da03, p03⟩, ⟨da32, p32⟩, ⟨da22, p22⟩, ⟨da12, p12⟩, ⟨da02, p02⟩, ⟨da31, p31⟩, ⟨da21, p21⟩, ⟨da11, p11⟩, ⟨da01, p01⟩, ⟨da30, p30⟩, ⟨da20, p20⟩, ⟨da10, p10⟩, ⟨da00, p00⟩] S1x8x256.size (by rfl) y
/-- The same over a store of the whole. -/
theorem cover4_az (p33 p23 p13 p03 p32 p22 p12 p02 p31 p21 p11 p01 p30 p20 p10 p00 : Vec F S1x8x256 .f32) (z : Vec F S4x8x1024 .f32) (y : S4x8x1024.Idx) :
    ∃ pc ∈ ([⟨da33, p33⟩, ⟨da23, p23⟩, ⟨da13, p13⟩, ⟨da03, p03⟩, ⟨da32, p32⟩, ⟨da22, p22⟩, ⟨da12, p12⟩, ⟨da02, p02⟩, ⟨da31, p31⟩, ⟨da21, p21⟩, ⟨da11, p11⟩, ⟨da01, p01⟩, ⟨da30, p30⟩, ⟨da20, p20⟩, ⟨da10, p10⟩, ⟨da00, p00⟩, ⟨dAll, z⟩] : List (View.Piece (Elt F) S4x8x1024 .f32)), y ∈ pc.1.set := by
  obtain ⟨pc, h, hy⟩ := cover4_a p33 p23 p13 p03 p32 p22 p12 p02 p31 p21 p11 p01 p30 p20 p10 p00 y
  exact ⟨pc, by
    have h' := List.mem_append_left ([⟨dAll, z⟩] : List (View.Piece (Elt F) S4x8x1024 .f32)) h
    exact h', hy⟩

/-- Four stores of rows of the token sums, read back. -/
theorem read_put4 (v : View sig .tc .vmem S4x6x1536 .f32) (f : v.ty.Contents (Elt F)) {o1 o2 o3 o4 : Fin 3 → ℕ}
    (h1 : ∀ a, o1 a + S1x1x256.size a ≤ S4x6x1536.size a) (h2 : ∀ a, o2 a + S1x1x256.size a ≤ S4x6x1536.size a)
    (h3 : ∀ a, o3 a + S1x1x256.size a ≤ S4x6x1536.size a) (h4 : ∀ a, o4 a + S1x1x256.size a ≤ S4x6x1536.size a)
    (w1 w2 w3 w4 : Vec F S1x1x256 .f32) :
    v.read (Elt F) (v.writes (Elt F) f [⟨Rect.unit (s := S4x6x1536) o4 S1x1x256.size h4, w4⟩, ⟨Rect.unit (s := S4x6x1536) o3 S1x1x256.size h3, w3⟩,
        ⟨Rect.unit (s := S4x6x1536) o2 S1x1x256.size h2, w2⟩, ⟨Rect.unit (s := S4x6x1536) o1 S1x1x256.size h1, w1⟩])
      = VecWindow.put (VecWindow.put (VecWindow.put (VecWindow.put (v.read (Elt F) f) o1 S1x1x256.size w1) o2 S1x1x256.size w2) o3 S1x1x256.size w3) o4 S1x1x256.size w4 := by
  rw [View.read_writes_cons_put _ _ _ _ _ rfl, View.read_writes_cons_put _ _ _ _ _ rfl, View.read_writes_cons_put _ _ _ _ _ rfl, View.read_writes_cons_put _ _ _ _ _ rfl]
  rfl

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 := by decide +kernel
abbrev cond4_1 (i : grid4.Coords) : Prop := k4_cond2 i = 1#1
theorem hcond4_1 : ∀ t : Fin cfg4.N, cond4_1 (grid4.coords t) ↔ t.val = 35 := by decide +kernel

/-! ## The body's triple, by cases: the first point, a middle point, the last point -/

/-- A list of writes over a write of the whole, all apart from a box. -/
inductive Clear (r : Rect S4x8x1024) (z : Vec F S4x8x1024 .f32) : List (View.Piece (Elt F) S4x8x1024 .f32) → Prop
  | base : Clear r z [⟨dAll, z⟩]
  | step (p : View.Piece (Elt F) S4x8x1024 .f32) (L : List (View.Piece (Elt F) S4x8x1024 .f32)) (h : Disjoint p.1.set r.set) (hL : Clear r z L) : Clear r z (p :: L)

theorem clear_readCov (v : View sig .tc .vmem S4x8x1024 .f32) (L : List (View.Piece (Elt F) S4x8x1024 .f32)) (r : Rect S4x8x1024)
    (z : Vec F S4x8x1024 .f32) (h : Clear r z L) : v.readCov L r.toLoadRect = View.ld z r := by
  induction h with
  | base =>
    show View.ld (v.read (Elt F) (v.writes (Elt F) v.junk [⟨dAll, z⟩])) r = _
    exact congrArg (fun x => View.ld x r) (View.read_writes_full v v.junk _ z [])
  | step p L h hL ih =>
    exact (View.readCov_cons_of_disjoint v p L r.toLoadRect h).trans ih

theorem accPiece_eq {x : FVec F S1x8x256 .f32} (v v' : Vec F S1x8x256 .f32) (e : FVec F S256x256 .f32) (hx : x = accPiece v e) (h : v = v') :
    x = accPiece v' e := by rw [hx, h]

theorem canon16 {p33 p23 p13 p03 p32 p22 p12 p02 p31 p21 p11 p01 p30 p20 p10 p00 q33 q23 q13 q03 q32 q22 q12 q02 q31 q21 q11 q01 q30 q20 q10 q00 : Vec F S1x8x256 .f32} (h33 : p33 = q33) (h23 : p23 = q23) (h13 : p13 = q13) (h03 : p03 = q03) (h32 : p32 = q32) (h22 : p22 = q22) (h12 : p12 = q12) (h02 : p02 = q02) (h31 : p31 = q31) (h21 : p21 = q21) (h11 : p11 = q11) (h01 : p01 = q01) (h30 : p30 = q30) (h20 : p20 = q20) (h10 : p10 = q10) (h00 : p00 = q00) :
    (View.canon [⟨da33, p33⟩, ⟨da23, p23⟩, ⟨da13, p13⟩, ⟨da03, p03⟩, ⟨da32, p32⟩, ⟨da22, p22⟩, ⟨da12, p12⟩, ⟨da02, p02⟩, ⟨da31, p31⟩, ⟨da21, p21⟩, ⟨da11, p11⟩, ⟨da01, p01⟩, ⟨da30, p30⟩, ⟨da20, p20⟩, ⟨da10, p10⟩, ⟨da00, p00⟩] : Vec F S4x8x1024 .f32) = View.canon [⟨da33, q33⟩, ⟨da23, q23⟩, ⟨da13, q13⟩, ⟨da03, q03⟩, ⟨da32, q32⟩, ⟨da22, q22⟩, ⟨da12, q12⟩, ⟨da02, q02⟩, ⟨da31, q31⟩, ⟨da21, q21⟩, ⟨da11, q11⟩, ⟨da01, q01⟩, ⟨da30, q30⟩, ⟨da20, q20⟩, ⟨da10, q10⟩, ⟨da00, q00⟩] := by
  rw [h33, h23, h13, h03, h32, h22, h12, h02, h31, h21, h11, h01, h30, h20, h10, h00]

theorem writes_append {S : Shape} {e : EltTy} (v : View sig .tc .vmem S e) (f : v.ty.Contents (Elt F)) (L M : List (View.Piece (Elt F) S e)) :
    v.writes (Elt F) f (L ++ M) = v.writes (Elt F) (v.writes (Elt F) f M) L := by
  induction L with
  | nil => rfl
  | cons p L ih => exact congrArg (fun g => (v.slice p.1).write (Elt F) g p.2 Finset.univ) ih

/-- The accumulator's 16 pieces stored over a store of the whole. -/
theorem read_writes_az (v : View sig .tc .vmem S4x8x1024 .f32) (f : v.ty.Contents (Elt F)) (p33 p23 p13 p03 p32 p22 p12 p02 p31 p21 p11 p01 p30 p20 p10 p00 : Vec F S1x8x256 .f32) (z : Vec F S4x8x1024 .f32) :
    v.read (Elt F) (v.writes (Elt F) f [⟨da33, p33⟩, ⟨da23, p23⟩, ⟨da13, p13⟩, ⟨da03, p03⟩, ⟨da32, p32⟩, ⟨da22, p22⟩, ⟨da12, p12⟩, ⟨da02, p02⟩, ⟨da31, p31⟩, ⟨da21, p21⟩, ⟨da11, p11⟩, ⟨da01, p01⟩, ⟨da30, p30⟩, ⟨da20, p20⟩, ⟨da10, p10⟩, ⟨da00, p00⟩, ⟨dAll, z⟩]) = View.canon [⟨da33, p33⟩, ⟨da23, p23⟩, ⟨da13, p13⟩, ⟨da03, p03⟩, ⟨da32, p32⟩, ⟨da22, p22⟩, ⟨da12, p12⟩, ⟨da02, p02⟩, ⟨da31, p31⟩, ⟨da21, p21⟩, ⟨da11, p11⟩, ⟨da01, p01⟩, ⟨da30, p30⟩, ⟨da20, p20⟩, ⟨da10, p10⟩, ⟨da00, p00⟩] :=
  (congrArg (v.read (Elt F)) (writes_append v f [⟨da33, p33⟩, ⟨da23, p23⟩, ⟨da13, p13⟩, ⟨da03, p03⟩, ⟨da32, p32⟩, ⟨da22, p22⟩, ⟨da12, p12⟩, ⟨da02, p02⟩, ⟨da31, p31⟩, ⟨da21, p21⟩, ⟨da11, p11⟩, ⟨da01, p01⟩, ⟨da30, p30⟩, ⟨da20, p20⟩, ⟨da10, p10⟩, ⟨da00, p00⟩] [⟨dAll, z⟩])).trans (View.read_writes_eq_canon v _ [⟨da33, p33⟩, ⟨da23, p23⟩, ⟨da13, p13⟩, ⟨da03, p03⟩, ⟨da32, p32⟩, ⟨da22, p22⟩, ⟨da12, p12⟩, ⟨da02, p02⟩, ⟨da31, p31⟩, ⟨da21, p21⟩, ⟨da11, p11⟩, ⟨da01, p01⟩, ⟨da30, p30⟩, ⟨da20, p20⟩, ⟨da10, p10⟩, ⟨da00, p00⟩] (cover4_a p33 p23 p13 p03 p32 p22 p12 p02 p31 p21 p11 p01 p30 p20 p10 p00))

set_option maxHeartbeats 4000000 in
theorem sound_kernel4_A (c : Dev nD) (E : Set ℕ) (i : grid4.Coords) (arg1 : Memref sig .tc .vmem S256x4096 .f32) (harg1 : arg1.IsWhole) (arg2 : Memref sig .tc .vmem S256x4096 .f32) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x256 .f32) (harg5 : arg5.IsWhole) (arg6 : Memref sig .tc .vmem S256x256 .f32) (harg6 : arg6.IsWhole) (arg7 : Memref sig .tc .vmem S4096x1024 .bf16) (harg7 : arg7.IsWhole) (arg8 : Memref sig .tc .vmem S4096x1024 .bf16) (harg8 : arg8.IsWhole) (arg9 : Memref sig .tc .vmem S4x6x1536 .f32) (harg9 : arg9.IsWhole) (arg10 : Memref sig .tc .vmem S4x1024 .f32) (harg10 : arg10.IsWhole) (arg11 : Memref sig .tc .vmem S6x1536 .f32) (harg11 : arg11.IsWhole) (arg12 : Memref sig .tc .vmem S256x1024 .bf16) (harg12 : arg12.IsWhole) (arg13 : Memref sig .tc .vmem S256x4096 .i8) (harg13 : arg13.IsWhole) (arg14 : Memref sig .tc .vmem S6x1536 .f32) (harg14 : arg14.IsWhole) (arg15 : Memref sig .tc .vmem S256x4096 .i8) (harg15 : arg15.IsWhole) (arg16 : Memref sig .tc .vmem S6x1536 .f32) (harg16 : arg16.IsWhole) (arg17 : Memref sig .tc .vmem S4x8x1024 .f32) (harg17 : arg17.IsWhole)
    (hc0 : cond4_0 i) (hc1 : ¬cond4_1 i)
    (x0 : Vec F S256x4096 .f32) (x1 : Vec F S256x4096 .f32) (x2 : Vec F S256x4096 .bf16) (x3 : Vec F S256x4096 .bf16) (x4 : Vec F S256x256 .f32) (x5 : Vec F S256x256 .f32) (x6 : Vec F S4096x1024 .bf16) (x7 : Vec F S4096x1024 .bf16) (y8 : Vec F S4x6x1536 .f32) (y9 : Vec F S4x1024 .f32) (y10 : Vec F S6x1536 .f32) (y13 : Vec F S6x1536 .f32) (y15 : Vec F S6x1536 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ owns (c : Thread nD τ) arg11 fullShare y10 ∗ (∃ d, owns (c : Thread nD τ) arg12 fullShare d) ∗ (∃ d, owns (c : Thread nD τ) arg13 fullShare d) ∗ owns (c : Thread nD τ) arg14 fullShare y13 ∗ (∃ d, owns (c : Thread nD τ) arg15 fullShare d) ∗ owns (c : Thread nD τ) arg16 fullShare y15 ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (VecWindow.put (VecWindow.put (VecWindow.put (VecWindow.put y8 (k4_off2 i) S1x1x256.size (etRow0 x0 x1 x4 x6 x7)) (k4_off3 i) S1x1x256.size (etRow1 x1 x2 x6)) (k4_off4 i) S1x1x256.size (etRow2 x1 x3 x6)) (k4_off5 i) S1x1x256.size (etRow3 x1 x5 x6 x7)) ∗ owns (c : Thread nD τ) arg10 fullShare y9 ∗ owns (c : Thread nD τ) arg11 fullShare (VecWindow.put y10 (k4_off1 i) S1x256.size (stRow x1 x6)) ∗ owns (c : Thread nD τ) arg12 fullShare (out4_11 x1 x6) ∗ owns (c : Thread nD τ) arg13 fullShare (out4_12 x0 x4) ∗ owns (c : Thread nD τ) arg14 fullShare (VecWindow.put y13 (k4_off1 i) S1x256.size (fsRow x4)) ∗ owns (c : Thread nD τ) arg15 fullShare (out4_14 x1 x5) ∗ owns (c : Thread nD τ) arg16 fullShare (VecWindow.put y15 (k4_off1 i) S1x256.size (rsRow x5)) ∗ owns (c : Thread nD τ) arg17 fullShare (accStep x0 x1 x2 x3 x4 x5 x6 x7 k4_pay2)) -∗ K ⟨⟩))
      ⊢ wp frame (wpE (defs₀ (F := F)) Variants.none c none) E (cc4_down i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc4_down_eq_skeleton]; unfold cc4_down_skel
  simp only [k4_part30_eq_skeleton, k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%d14, %f14, -, H14⟩, ⟨%f15, %hf15, H15⟩, ⟨%d16, %f16, -, H16⟩, Hk⟩
  subst hf0 hf1 hf2 hf3 hf4 hf5 hf6 hf7 hf8 hf9 hf10 hf13 hf15
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact read_put4 _ _ _ _ _ _ _ _ _ _
  isplitl [H9]
  · iexists f9; isplitr; · ipureintro; rfl
    iexact H9
  isplitl [H10]
  · iexists _; isplitr
    swap; · iexact H10
    ipureintro
    exact View.read_writes_cons_put _ _ _ _ [] rfl
  isplitl [H11]
  · iexists _; isplitr
    swap; · iexact H11
    ipureintro
    refine (View.read_writes_eq_canon _ _ _ (cover4_y _ _ _ _)).trans ?_
    rfl
  isplitl [H12]
  · iexists _; isplitr
    swap; · iexact H12
    ipureintro
    refine (View.read_writes_eq_canon _ _ _ (cover4_i _)).trans ?_
    rfl
  isplitl [H13]
  · iexists _; isplitr
    swap; · iexact H13
    ipureintro
    exact View.read_writes_cons_put _ _ _ _ [] rfl
  isplitl [H14]
  · iexists _; isplitr
    swap; · iexact H14
    ipureintro
    refine (View.read_writes_eq_canon _ _ _ (cover4_i _)).trans ?_
    rfl
  isplitl [H15]
  · iexists _; isplitr
    swap; · iexact H15
    ipureintro
    exact View.read_writes_cons_put _ _ _ _ [] rfl
  iexists _; isplitr
  swap; · iexact H16
  ipureintro
  refine (read_writes_az _ _ _ _ _ _ _ _ _ _ _ _ _ _ _ _ _ _ _).trans ?_
  refine canon16 ?_ ?_ ?_ ?_ ?_ ?_ ?_ ?_ ?_ ?_ ?_ ?_ ?_ ?_ ?_ ?_
  · refine accPiece_eq _ _ _ rfl ?_
    refine clear_readCov _ _ _ _ ?_
    refine Clear.step _ _ (Rect.unit_disjoint (inb := inb_S4x8x1024_S1x8x256_2_0_768) (inb' := inb_S4x8x1024_S1x8x256_3_0_768) 0 (.inl (by decide))) ?_
    refine Clear.step _ _ (Rect.unit_disjoint (inb := inb_S4x8x1024_S1x8x256_1_0_768) (inb' := inb_S4x8x1024_S1x8x256_3_0_768) 0 (.inl (by decide))) ?_
    refine Clear.step _ _ (Rect.unit_disjoint (inb := inb_S4x8x1024_S1x8x256_0_0_768) (inb' := inb_S4x8x1024_S1x8x256_3_0_768) 0 (.inl (by decide))) ?_
    refine Clear.step _ _ (Rect.unit_disjoint (inb := inb_S4x8x1024_S1x8x256_3_0_512) (inb' := inb_S4x8x1024_S1x8x256_3_0_768) 2 (.inl (by decide))) ?_
    refine Clear.step _ _ (Rect.unit_disjoint (inb := inb_S4x8x1024_S1x8x256_2_0_512) (inb' := inb_S4x8x1024_S1x8x256_3_0_768) 0 (.inl (by decide))) ?_
    refine Clear.step _ _ (Rect.unit_disjoint (inb := inb_S4x8x1024_S1x8x256_1_0_512) (inb' := inb_S4x8x1024_S1x8x256_3_0_768) 0 (.inl (by decide))) ?_
    refine Clear.step _ _ (Rect.unit_disjoint (inb := inb_S4x8x1024_S1x8x256_0_0_512) (inb' := inb_S4x8x1024_S1x8x256_3_0_768) 0 (.inl (by decide))) ?_
    refine Clear.step _ _ (Rect.unit_disjoint (inb := inb_S4x8x1024_S1x8x256_3_0_256) (inb' := inb_S4x8x1024_S1x8x256_3_0_768) 2 (.inl (by decide))) ?_
    refine Clear.step _ _ (Rect.unit_disjoint (inb := inb_S4x8x1024_S1x8x256_2_0_256) (inb' := inb_S4x8x1024_S1x8x256_3_0_768) 0 (.inl (by decide))) ?_
    refine Clear.step _ _ (Rect.unit_disjoint (inb := inb_S4x8x1024_S1x8x256_1_0_256) (inb' := inb_S4x8x1024_S1x8x256_3_0_768) 0 (.inl (by decide))) ?_
    refine Clear.step _ _ (Rect.unit_disjoint (inb := inb_S4x8x1024_S1x8x256_0_0_256) (inb' := inb_S4x8x1024_S1x8x256_3_0_768) 0 (.inl (by decide))) ?_
    refine Clear.step _ _ (Rect.unit_disjoint (inb := inb_S4x8x1024_S1x8x256_3_0_0) (inb' := inb_S4x8x1024_S1x8x256_3_0_768) 2 (.inl (by decide))) ?_
    refine Clear.step _ _ (Rect.unit_disjoint (inb := inb_S4x8x1024_S1x8x256_2_0_0) (inb' := inb_S4x8x1024_S1x8x256_3_0_768) 0 (.inl (by decide))) ?_
    refine Clear.step _ _ (Rect.unit_disjoint (inb := inb_S4x8x1024_S1x8x256_1_0_0) (inb' := inb_S4x8x1024_S1x8x256_3_0_768) 0 (.inl (by decide))) ?_
    refine Clear.step _ _ (Rect.unit_disjoint (inb := inb_S4x8x1024_S1x8x256_0_0_0) (inb' := inb_S4x8x1024_S1x8x256_3_0_768) 0 (.inl (by decide))) ?_
    exact Clear.base
  · refine accPiece_eq _ _ _ rfl ?_
    refine clear_readCov _ _ _ _ ?_
    refine Clear.step _ _ (Rect.unit_disjoint (inb := inb_S4x8x1024_S1x8x256_1_0_768) (inb' := inb_S4x8x1024_S1x8x256_2_0_768) 0 (.inl (by decide))) ?_
    refine Clear.step _ _ (Rect.unit_disjoint (inb := inb_S4x8x1024_S1x8x256_0_0_768) (inb' := inb_S4x8x1024_S1x8x256_2_0_768) 0 (.inl (by decide))) ?_
    refine Clear.step _ _ (Rect.unit_disjoint (inb := inb_S4x8x1024_S1x8x256_3_0_512) (inb' := inb_S4x8x1024_S1x8x256_2_0_768) 0 (.inr (by decide))) ?_
    refine Clear.step _ _ (Rect.unit_disjoint (inb := inb_S4x8x1024_S1x8x256_2_0_512) (inb' := inb_S4x8x1024_S1x8x256_2_0_768) 2 (.inl (by decide))) ?_
    refine Clear.step _ _ (Rect.unit_disjoint (inb := inb_S4x8x1024_S1x8x256_1_0_512) (inb' := inb_S4x8x1024_S1x8x256_2_0_768) 0 (.inl (by decide))) ?_
    refine Clear.step _ _ (Rect.unit_disjoint (inb := inb_S4x8x1024_S1x8x256_0_0_512) (inb' := inb_S4x8x1024_S1x8x256_2_0_768) 0 (.inl (by decide))) ?_
    refine Clear.step _ _ (Rect.unit_disjoint (inb := inb_S4x8x1024_S1x8x256_3_0_256) (inb' := inb_S4x8x1024_S1x8x256_2_0_768) 0 (.inr (by decide))) ?_
    refine Clear.step _ _ (Rect.unit_disjoint (inb := inb_S4x8x1024_S1x8x256_2_0_256) (inb' := inb_S4x8x1024_S1x8x256_2_0_768) 2 (.inl (by decide))) ?_
    refine Clear.step _ _ (Rect.unit_disjoint (inb := inb_S4x8x1024_S1x8x256_1_0_256) (inb' := inb_S4x8x1024_S1x8x256_2_0_768) 0 (.inl (by decide))) ?_
    refine Clear.step _ _ (Rect.unit_disjoint (inb := inb_S4x8x1024_S1x8x256_0_0_256) (inb' := inb_S4x8x1024_S1x8x256_2_0_768) 0 (.inl (by decide))) ?_
    refine Clear.step _ _ (Rect.unit_disjoint (inb := inb_S4x8x1024_S1x8x256_3_0_0) (inb' := inb_S4x8x1024_S1x8x256_2_0_768) 0 (.inr (by decide))) ?_
    refine Clear.step _ _ (Rect.unit_disjoint (inb := inb_S4x8x1024_S1x8x256_2_0_0) (inb' := inb_S4x8x1024_S1x8x256_2_0_768) 2 (.inl (by decide))) ?_
    refine Clear.step _ _ (Rect.unit_disjoint (inb := inb_S4x8x1024_S1x8x256_1_0_0) (inb' := inb_S4x8x1024_S1x8x256_2_0_768) 0 (.inl (by decide))) ?_
    refine Clear.step _ _ (Rect.unit_disjoint (inb := inb_S4x8x1024_S1x8x256_0_0_0) (inb' := inb_S4x8x1024_S1x8x256_2_0_768) 0 (.inl (by decide))) ?_
    exact Clear.base
  · refine accPiece_eq _ _ _ rfl ?_
    refine clear_readCov _ _ _ _ ?_
    refine Clear.step _ _ (Rect.unit_disjoint (inb := inb_S4x8x1024_S1x8x256_0_0_768) (inb' := inb_S4x8x1024_S1x8x256_1_0_768) 0 (.inl (by decide))) ?_
    refine Clear.step _ _ (Rect.unit_disjoint (inb := inb_S4x8x1024_S1x8x256_3_0_512) (inb' := inb_S4x8x1024_S1x8x256_1_0_768) 0 (.inr (by decide))) ?_
    refine Clear.step _ _ (Rect.unit_disjoint (inb := inb_S4x8x1024_S1x8x256_2_0_512) (inb' := inb_S4x8x1024_S1x8x256_1_0_768) 0 (.inr (by decide))) ?_
    refine Clear.step _ _ (Rect.unit_disjoint (inb := inb_S4x8x1024_S1x8x256_1_0_512) (inb' := inb_S4x8x1024_S1x8x256_1_0_768) 2 (.inl (by decide))) ?_
    refine Clear.step _ _ (Rect.unit_disjoint (inb := inb_S4x8x1024_S1x8x256_0_0_512) (inb' := inb_S4x8x1024_S1x8x256_1_0_768) 0 (.inl (by decide))) ?_
    refine Clear.step _ _ (Rect.unit_disjoint (inb := inb_S4x8x1024_S1x8x256_3_0_256) (inb' := inb_S4x8x1024_S1x8x256_1_0_768) 0 (.inr (by decide))) ?_
    refine Clear.step _ _ (Rect.unit_disjoint (inb := inb_S4x8x1024_S1x8x256_2_0_256) (inb' := inb_S4x8x1024_S1x8x256_1_0_768) 0 (.inr (by decide))) ?_
    refine Clear.step _ _ (Rect.unit_disjoint (inb := inb_S4x8x1024_S1x8x256_1_0_256) (inb' := inb_S4x8x1024_S1x8x256_1_0_768) 2 (.inl (by decide))) ?_
    refine Clear.step _ _ (Rect.unit_disjoint (inb := inb_S4x8x1024_S1x8x256_0_0_256) (inb' := inb_S4x8x1024_S1x8x256_1_0_768) 0 (.inl (by decide))) ?_
    refine Clear.step _ _ (Rect.unit_disjoint (inb := inb_S4x8x1024_S1x8x256_3_0_0) (inb' := inb_S4x8x1024_S1x8x256_1_0_768) 0 (.inr (by decide))) ?_
    refine Clear.step _ _ (Rect.unit_disjoint (inb := inb_S4x8x1024_S1x8x256_2_0_0) (inb' := inb_S4x8x1024_S1x8x256_1_0_768) 0 (.inr (by decide))) ?_
    refine Clear.step _ _ (Rect.unit_disjoint (inb := inb_S4x8x1024_S1x8x256_1_0_0) (inb' := inb_S4x8x1024_S1x8x256_1_0_768) 2 (.inl (by decide))) ?_
    refine Clear.step _ _ (Rect.unit_disjoint (inb := inb_S4x8x1024_S1x8x256_0_0_0) (inb' := inb_S4x8x1024_S1x8x256_1_0_768) 0 (.inl (by decide))) ?_
    exact Clear.base
  · refine accPiece_eq _ _ _ rfl ?_
    refine clear_readCov _ _ _ _ ?_
    refine Clear.step _ _ (Rect.unit_disjoint (inb := inb_S4x8x1024_S1x8x256_3_0_512) (inb' := inb_S4x8x1024_S1x8x256_0_0_768) 0 (.inr (by decide))) ?_
    refine Clear.step _ _ (Rect.unit_disjoint (inb := inb_S4x8x1024_S1x8x256_2_0_512) (inb' := inb_S4x8x1024_S1x8x256_0_0_768) 0 (.inr (by decide))) ?_
    refine Clear.step _ _ (Rect.unit_disjoint (inb := inb_S4x8x1024_S1x8x256_1_0_512) (inb' := inb_S4x8x1024_S1x8x256_0_0_768) 0 (.inr (by decide))) ?_
    refine Clear.step _ _ (Rect.unit_disjoint (inb := inb_S4x8x1024_S1x8x256_0_0_512) (inb' := inb_S4x8x1024_S1x8x256_0_0_768) 2 (.inl (by decide))) ?_
    refine Clear.step _ _ (Rect.unit_disjoint (inb := inb_S4x8x1024_S1x8x256_3_0_256) (inb' := inb_S4x8x1024_S1x8x256_0_0_768) 0 (.inr (by decide))) ?_
    refine Clear.step _ _ (Rect.unit_disjoint (inb := inb_S4x8x1024_S1x8x256_2_0_256) (inb' := inb_S4x8x1024_S1x8x256_0_0_768) 0 (.inr (by decide))) ?_
    refine Clear.step _ _ (Rect.unit_disjoint (inb := inb_S4x8x1024_S1x8x256_1_0_256) (inb' := inb_S4x8x1024_S1x8x256_0_0_768) 0 (.inr (by decide))) ?_
    refine Clear.step _ _ (Rect.unit_disjoint (inb := inb_S4x8x1024_S1x8x256_0_0_256) (inb' := inb_S4x8x1024_S1x8x256_0_0_768) 2 (.inl (by decide))) ?_
    refine Clear.step _ _ (Rect.unit_disjoint (inb := inb_S4x8x1024_S1x8x256_3_0_0) (inb' := inb_S4x8x1024_S1x8x256_0_0_768) 0 (.inr (by decide))) ?_
    refine Clear.step _ _ (Rect.unit_disjoint (inb := inb_S4x8x1024_S1x8x256_2_0_0) (inb' := inb_S4x8x1024_S1x8x256_0_0_768) 0 (.inr (by decide))) ?_
    refine Clear.step _ _ (Rect.unit_disjoint (inb := inb_S4x8x1024_S1x8x256_1_0_0) (inb' := inb_S4x8x1024_S1x8x256_0_0_768) 0 (.inr (by decide))) ?_
    refine Clear.step _ _ (Rect.unit_disjoint (inb := inb_S4x8x1024_S1x8x256_0_0_0) (inb' := inb_S4x8x1024_S1x8x256_0_0_768) 2 (.inl (by decide))) ?_
    exact Clear.base
  · refine accPiece_eq _ _ _ rfl ?_
    refine clear_readCov _ _ _ _ ?_
    refine Clear.step _ _ (Rect.unit_disjoint (inb := inb_S4x8x1024_S1x8x256_2_0_512) (inb' := inb_S4x8x1024_S1x8x256_3_0_512) 0 (.inl (by decide))) ?_
    refine Clear.step _ _ (Rect.unit_disjoint (inb := inb_S4x8x1024_S1x8x256_1_0_512) (inb' := inb_S4x8x1024_S1x8x256_3_0_512) 0 (.inl (by decide))) ?_
    refine Clear.step _ _ (Rect.unit_disjoint (inb := inb_S4x8x1024_S1x8x256_0_0_512) (inb' := inb_S4x8x1024_S1x8x256_3_0_512) 0 (.inl (by decide))) ?_
    refine Clear.step _ _ (Rect.unit_disjoint (inb := inb_S4x8x1024_S1x8x256_3_0_256) (inb' := inb_S4x8x1024_S1x8x256_3_0_512) 2 (.inl (by decide))) ?_
    refine Clear.step _ _ (Rect.unit_disjoint (inb := inb_S4x8x1024_S1x8x256_2_0_256) (inb' := inb_S4x8x1024_S1x8x256_3_0_512) 0 (.inl (by decide))) ?_
    refine Clear.step _ _ (Rect.unit_disjoint (inb := inb_S4x8x1024_S1x8x256_1_0_256) (inb' := inb_S4x8x1024_S1x8x256_3_0_512) 0 (.inl (by decide))) ?_
    refine Clear.step _ _ (Rect.unit_disjoint (inb := inb_S4x8x1024_S1x8x256_0_0_256) (inb' := inb_S4x8x1024_S1x8x256_3_0_512) 0 (.inl (by decide))) ?_
    refine Clear.step _ _ (Rect.unit_disjoint (inb := inb_S4x8x1024_S1x8x256_3_0_0) (inb' := inb_S4x8x1024_S1x8x256_3_0_512) 2 (.inl (by decide))) ?_
    refine Clear.step _ _ (Rect.unit_disjoint (inb := inb_S4x8x1024_S1x8x256_2_0_0) (inb' := inb_S4x8x1024_S1x8x256_3_0_512) 0 (.inl (by decide))) ?_
    refine Clear.step _ _ (Rect.unit_disjoint (inb := inb_S4x8x1024_S1x8x256_1_0_0) (inb' := inb_S4x8x1024_S1x8x256_3_0_512) 0 (.inl (by decide))) ?_
    refine Clear.step _ _ (Rect.unit_disjoint (inb := inb_S4x8x1024_S1x8x256_0_0_0) (inb' := inb_S4x8x1024_S1x8x256_3_0_512) 0 (.inl (by decide))) ?_
    exact Clear.base
  · refine accPiece_eq _ _ _ rfl ?_
    refine clear_readCov _ _ _ _ ?_
    refine Clear.step _ _ (Rect.unit_disjoint (inb := inb_S4x8x1024_S1x8x256_1_0_512) (inb' := inb_S4x8x1024_S1x8x256_2_0_512) 0 (.inl (by decide))) ?_
    refine Clear.step _ _ (Rect.unit_disjoint (inb := inb_S4x8x1024_S1x8x256_0_0_512) (inb' := inb_S4x8x1024_S1x8x256_2_0_512) 0 (.inl (by decide))) ?_
    refine Clear.step _ _ (Rect.unit_disjoint (inb := inb_S4x8x1024_S1x8x256_3_0_256) (inb' := inb_S4x8x1024_S1x8x256_2_0_512) 0 (.inr (by decide))) ?_
    refine Clear.step _ _ (Rect.unit_disjoint (inb := inb_S4x8x1024_S1x8x256_2_0_256) (inb' := inb_S4x8x1024_S1x8x256_2_0_512) 2 (.inl (by decide))) ?_
    refine Clear.step _ _ (Rect.unit_disjoint (inb := inb_S4x8x1024_S1x8x256_1_0_256) (inb' := inb_S4x8x1024_S1x8x256_2_0_512) 0 (.inl (by decide))) ?_
    refine Clear.step _ _ (Rect.unit_disjoint (inb := inb_S4x8x1024_S1x8x256_0_0_256) (inb' := inb_S4x8x1024_S1x8x256_2_0_512) 0 (.inl (by decide))) ?_
    refine Clear.step _ _ (Rect.unit_disjoint (inb := inb_S4x8x1024_S1x8x256_3_0_0) (inb' := inb_S4x8x1024_S1x8x256_2_0_512) 0 (.inr (by decide))) ?_
    refine Clear.step _ _ (Rect.unit_disjoint (inb := inb_S4x8x1024_S1x8x256_2_0_0) (inb' := inb_S4x8x1024_S1x8x256_2_0_512) 2 (.inl (by decide))) ?_
    refine Clear.step _ _ (Rect.unit_disjoint (inb := inb_S4x8x1024_S1x8x256_1_0_0) (inb' := inb_S4x8x1024_S1x8x256_2_0_512) 0 (.inl (by decide))) ?_
    refine Clear.step _ _ (Rect.unit_disjoint (inb := inb_S4x8x1024_S1x8x256_0_0_0) (inb' := inb_S4x8x1024_S1x8x256_2_0_512) 0 (.inl (by decide))) ?_
    exact Clear.base
  · refine accPiece_eq _ _ _ rfl ?_
    refine clear_readCov _ _ _ _ ?_
    refine Clear.step _ _ (Rect.unit_disjoint (inb := inb_S4x8x1024_S1x8x256_0_0_512) (inb' := inb_S4x8x1024_S1x8x256_1_0_512) 0 (.inl (by decide))) ?_
    refine Clear.step _ _ (Rect.unit_disjoint (inb := inb_S4x8x1024_S1x8x256_3_0_256) (inb' := inb_S4x8x1024_S1x8x256_1_0_512) 0 (.inr (by decide))) ?_
    refine Clear.step _ _ (Rect.unit_disjoint (inb := inb_S4x8x1024_S1x8x256_2_0_256) (inb' := inb_S4x8x1024_S1x8x256_1_0_512) 0 (.inr (by decide))) ?_
    refine Clear.step _ _ (Rect.unit_disjoint (inb := inb_S4x8x1024_S1x8x256_1_0_256) (inb' := inb_S4x8x1024_S1x8x256_1_0_512) 2 (.inl (by decide))) ?_
    refine Clear.step _ _ (Rect.unit_disjoint (inb := inb_S4x8x1024_S1x8x256_0_0_256) (inb' := inb_S4x8x1024_S1x8x256_1_0_512) 0 (.inl (by decide))) ?_
    refine Clear.step _ _ (Rect.unit_disjoint (inb := inb_S4x8x1024_S1x8x256_3_0_0) (inb' := inb_S4x8x1024_S1x8x256_1_0_512) 0 (.inr (by decide))) ?_
    refine Clear.step _ _ (Rect.unit_disjoint (inb := inb_S4x8x1024_S1x8x256_2_0_0) (inb' := inb_S4x8x1024_S1x8x256_1_0_512) 0 (.inr (by decide))) ?_
    refine Clear.step _ _ (Rect.unit_disjoint (inb := inb_S4x8x1024_S1x8x256_1_0_0) (inb' := inb_S4x8x1024_S1x8x256_1_0_512) 2 (.inl (by decide))) ?_
    refine Clear.step _ _ (Rect.unit_disjoint (inb := inb_S4x8x1024_S1x8x256_0_0_0) (inb' := inb_S4x8x1024_S1x8x256_1_0_512) 0 (.inl (by decide))) ?_
    exact Clear.base
  · refine accPiece_eq _ _ _ rfl ?_
    refine clear_readCov _ _ _ _ ?_
    refine Clear.step _ _ (Rect.unit_disjoint (inb := inb_S4x8x1024_S1x8x256_3_0_256) (inb' := inb_S4x8x1024_S1x8x256_0_0_512) 0 (.inr (by decide))) ?_
    refine Clear.step _ _ (Rect.unit_disjoint (inb := inb_S4x8x1024_S1x8x256_2_0_256) (inb' := inb_S4x8x1024_S1x8x256_0_0_512) 0 (.inr (by decide))) ?_
    refine Clear.step _ _ (Rect.unit_disjoint (inb := inb_S4x8x1024_S1x8x256_1_0_256) (inb' := inb_S4x8x1024_S1x8x256_0_0_512) 0 (.inr (by decide))) ?_
    refine Clear.step _ _ (Rect.unit_disjoint (inb := inb_S4x8x1024_S1x8x256_0_0_256) (inb' := inb_S4x8x1024_S1x8x256_0_0_512) 2 (.inl (by decide))) ?_
    refine Clear.step _ _ (Rect.unit_disjoint (inb := inb_S4x8x1024_S1x8x256_3_0_0) (inb' := inb_S4x8x1024_S1x8x256_0_0_512) 0 (.inr (by decide))) ?_
    refine Clear.step _ _ (Rect.unit_disjoint (inb := inb_S4x8x1024_S1x8x256_2_0_0) (inb' := inb_S4x8x1024_S1x8x256_0_0_512) 0 (.inr (by decide))) ?_
    refine Clear.step _ _ (Rect.unit_disjoint (inb := inb_S4x8x1024_S1x8x256_1_0_0) (inb' := inb_S4x8x1024_S1x8x256_0_0_512) 0 (.inr (by decide))) ?_
    refine Clear.step _ _ (Rect.unit_disjoint (inb := inb_S4x8x1024_S1x8x256_0_0_0) (inb' := inb_S4x8x1024_S1x8x256_0_0_512) 2 (.inl (by decide))) ?_
    exact Clear.base
  · refine accPiece_eq _ _ _ rfl ?_
    refine clear_readCov _ _ _ _ ?_
    refine Clear.step _ _ (Rect.unit_disjoint (inb := inb_S4x8x1024_S1x8x256_2_0_256) (inb' := inb_S4x8x1024_S1x8x256_3_0_256) 0 (.inl (by decide))) ?_
    refine Clear.step _ _ (Rect.unit_disjoint (inb := inb_S4x8x1024_S1x8x256_1_0_256) (inb' := inb_S4x8x1024_S1x8x256_3_0_256) 0 (.inl (by decide))) ?_
    refine Clear.step _ _ (Rect.unit_disjoint (inb := inb_S4x8x1024_S1x8x256_0_0_256) (inb' := inb_S4x8x1024_S1x8x256_3_0_256) 0 (.inl (by decide))) ?_
    refine Clear.step _ _ (Rect.unit_disjoint (inb := inb_S4x8x1024_S1x8x256_3_0_0) (inb' := inb_S4x8x1024_S1x8x256_3_0_256) 2 (.inl (by decide))) ?_
    refine Clear.step _ _ (Rect.unit_disjoint (inb := inb_S4x8x1024_S1x8x256_2_0_0) (inb' := inb_S4x8x1024_S1x8x256_3_0_256) 0 (.inl (by decide))) ?_
    refine Clear.step _ _ (Rect.unit_disjoint (inb := inb_S4x8x1024_S1x8x256_1_0_0) (inb' := inb_S4x8x1024_S1x8x256_3_0_256) 0 (.inl (by decide))) ?_
    refine Clear.step _ _ (Rect.unit_disjoint (inb := inb_S4x8x1024_S1x8x256_0_0_0) (inb' := inb_S4x8x1024_S1x8x256_3_0_256) 0 (.inl (by decide))) ?_
    exact Clear.base
  · refine accPiece_eq _ _ _ rfl ?_
    refine clear_readCov _ _ _ _ ?_
    refine Clear.step _ _ (Rect.unit_disjoint (inb := inb_S4x8x1024_S1x8x256_1_0_256) (inb' := inb_S4x8x1024_S1x8x256_2_0_256) 0 (.inl (by decide))) ?_
    refine Clear.step _ _ (Rect.unit_disjoint (inb := inb_S4x8x1024_S1x8x256_0_0_256) (inb' := inb_S4x8x1024_S1x8x256_2_0_256) 0 (.inl (by decide))) ?_
    refine Clear.step _ _ (Rect.unit_disjoint (inb := inb_S4x8x1024_S1x8x256_3_0_0) (inb' := inb_S4x8x1024_S1x8x256_2_0_256) 0 (.inr (by decide))) ?_
    refine Clear.step _ _ (Rect.unit_disjoint (inb := inb_S4x8x1024_S1x8x256_2_0_0) (inb' := inb_S4x8x1024_S1x8x256_2_0_256) 2 (.inl (by decide))) ?_
    refine Clear.step _ _ (Rect.unit_disjoint (inb := inb_S4x8x1024_S1x8x256_1_0_0) (inb' := inb_S4x8x1024_S1x8x256_2_0_256) 0 (.inl (by decide))) ?_
    refine Clear.step _ _ (Rect.unit_disjoint (inb := inb_S4x8x1024_S1x8x256_0_0_0) (inb' := inb_S4x8x1024_S1x8x256_2_0_256) 0 (.inl (by decide))) ?_
    exact Clear.base
  · refine accPiece_eq _ _ _ rfl ?_
    refine clear_readCov _ _ _ _ ?_
    refine Clear.step _ _ (Rect.unit_disjoint (inb := inb_S4x8x1024_S1x8x256_0_0_256) (inb' := inb_S4x8x1024_S1x8x256_1_0_256) 0 (.inl (by decide))) ?_
    refine Clear.step _ _ (Rect.unit_disjoint (inb := inb_S4x8x1024_S1x8x256_3_0_0) (inb' := inb_S4x8x1024_S1x8x256_1_0_256) 0 (.inr (by decide))) ?_
    refine Clear.step _ _ (Rect.unit_disjoint (inb := inb_S4x8x1024_S1x8x256_2_0_0) (inb' := inb_S4x8x1024_S1x8x256_1_0_256) 0 (.inr (by decide))) ?_
    refine Clear.step _ _ (Rect.unit_disjoint (inb := inb_S4x8x1024_S1x8x256_1_0_0) (inb' := inb_S4x8x1024_S1x8x256_1_0_256) 2 (.inl (by decide))) ?_
    refine Clear.step _ _ (Rect.unit_disjoint (inb := inb_S4x8x1024_S1x8x256_0_0_0) (inb' := inb_S4x8x1024_S1x8x256_1_0_256) 0 (.inl (by decide))) ?_
    exact Clear.base
  · refine accPiece_eq _ _ _ rfl ?_
    refine clear_readCov _ _ _ _ ?_
    refine Clear.step _ _ (Rect.unit_disjoint (inb := inb_S4x8x1024_S1x8x256_3_0_0) (inb' := inb_S4x8x1024_S1x8x256_0_0_256) 0 (.inr (by decide))) ?_
    refine Clear.step _ _ (Rect.unit_disjoint (inb := inb_S4x8x1024_S1x8x256_2_0_0) (inb' := inb_S4x8x1024_S1x8x256_0_0_256) 0 (.inr (by decide))) ?_
    refine Clear.step _ _ (Rect.unit_disjoint (inb := inb_S4x8x1024_S1x8x256_1_0_0) (inb' := inb_S4x8x1024_S1x8x256_0_0_256) 0 (.inr (by decide))) ?_
    refine Clear.step _ _ (Rect.unit_disjoint (inb := inb_S4x8x1024_S1x8x256_0_0_0) (inb' := inb_S4x8x1024_S1x8x256_0_0_256) 2 (.inl (by decide))) ?_
    exact Clear.base
  · refine accPiece_eq _ _ _ rfl ?_
    refine clear_readCov _ _ _ _ ?_
    refine Clear.step _ _ (Rect.unit_disjoint (inb := inb_S4x8x1024_S1x8x256_2_0_0) (inb' := inb_S4x8x1024_S1x8x256_3_0_0) 0 (.inl (by decide))) ?_
    refine Clear.step _ _ (Rect.unit_disjoint (inb := inb_S4x8x1024_S1x8x256_1_0_0) (inb' := inb_S4x8x1024_S1x8x256_3_0_0) 0 (.inl (by decide))) ?_
    refine Clear.step _ _ (Rect.unit_disjoint (inb := inb_S4x8x1024_S1x8x256_0_0_0) (inb' := inb_S4x8x1024_S1x8x256_3_0_0) 0 (.inl (by decide))) ?_
    exact Clear.base
  · refine accPiece_eq _ _ _ rfl ?_
    refine clear_readCov _ _ _ _ ?_
    refine Clear.step _ _ (Rect.unit_disjoint (inb := inb_S4x8x1024_S1x8x256_1_0_0) (inb' := inb_S4x8x1024_S1x8x256_2_0_0) 0 (.inl (by decide))) ?_
    refine Clear.step _ _ (Rect.unit_disjoint (inb := inb_S4x8x1024_S1x8x256_0_0_0) (inb' := inb_S4x8x1024_S1x8x256_2_0_0) 0 (.inl (by decide))) ?_
    exact Clear.base
  · refine accPiece_eq _ _ _ rfl ?_
    refine clear_readCov _ _ _ _ ?_
    refine Clear.step _ _ (Rect.unit_disjoint (inb := inb_S4x8x1024_S1x8x256_0_0_0) (inb' := inb_S4x8x1024_S1x8x256_1_0_0) 0 (.inl (by decide))) ?_
    exact Clear.base
  · refine accPiece_eq _ _ _ rfl ?_
    refine clear_readCov _ _ _ _ ?_
    exact Clear.base

set_option maxHeartbeats 4000000 in
theorem sound_kernel4_B (c : Dev nD) (E : Set ℕ) (i : grid4.Coords) (arg1 : Memref sig .tc .vmem S256x4096 .f32) (harg1 : arg1.IsWhole) (arg2 : Memref sig .tc .vmem S256x4096 .f32) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x256 .f32) (harg5 : arg5.IsWhole) (arg6 : Memref sig .tc .vmem S256x256 .f32) (harg6 : arg6.IsWhole) (arg7 : Memref sig .tc .vmem S4096x1024 .bf16) (harg7 : arg7.IsWhole) (arg8 : Memref sig .tc .vmem S4096x1024 .bf16) (harg8 : arg8.IsWhole) (arg9 : Memref sig .tc .vmem S4x6x1536 .f32) (harg9 : arg9.IsWhole) (arg10 : Memref sig .tc .vmem S4x1024 .f32) (harg10 : arg10.IsWhole) (arg11 : Memref sig .tc .vmem S6x1536 .f32) (harg11 : arg11.IsWhole) (arg12 : Memref sig .tc .vmem S256x1024 .bf16) (harg12 : arg12.IsWhole) (arg13 : Memref sig .tc .vmem S256x4096 .i8) (harg13 : arg13.IsWhole) (arg14 : Memref sig .tc .vmem S6x1536 .f32) (harg14 : arg14.IsWhole) (arg15 : Memref sig .tc .vmem S256x4096 .i8) (harg15 : arg15.IsWhole) (arg16 : Memref sig .tc .vmem S6x1536 .f32) (harg16 : arg16.IsWhole) (arg17 : Memref sig .tc .vmem S4x8x1024 .f32) (harg17 : arg17.IsWhole)
    (hc0 : ¬cond4_0 i) (hc1 : ¬cond4_1 i)
    (x0 : Vec F S256x4096 .f32) (x1 : Vec F S256x4096 .f32) (x2 : Vec F S256x4096 .bf16) (x3 : Vec F S256x4096 .bf16) (x4 : Vec F S256x256 .f32) (x5 : Vec F S256x256 .f32) (x6 : Vec F S4096x1024 .bf16) (x7 : Vec F S4096x1024 .bf16) (y8 : Vec F S4x6x1536 .f32) (y9 : Vec F S4x1024 .f32) (y10 : Vec F S6x1536 .f32) (y13 : Vec F S6x1536 .f32) (y15 : Vec F S6x1536 .f32) (a : Vec F S4x8x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ owns (c : Thread nD τ) arg11 fullShare y10 ∗ (∃ d, owns (c : Thread nD τ) arg12 fullShare d) ∗ (∃ d, owns (c : Thread nD τ) arg13 fullShare d) ∗ owns (c : Thread nD τ) arg14 fullShare y13 ∗ (∃ d, owns (c : Thread nD τ) arg15 fullShare d) ∗ owns (c : Thread nD τ) arg16 fullShare y15 ∗ owns (c : Thread nD τ) arg17 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (VecWindow.put (VecWindow.put (VecWindow.put (VecWindow.put y8 (k4_off2 i) S1x1x256.size (etRow0 x0 x1 x4 x6 x7)) (k4_off3 i) S1x1x256.size (etRow1 x1 x2 x6)) (k4_off4 i) S1x1x256.size (etRow2 x1 x3 x6)) (k4_off5 i) S1x1x256.size (etRow3 x1 x5 x6 x7)) ∗ owns (c : Thread nD τ) arg10 fullShare y9 ∗ owns (c : Thread nD τ) arg11 fullShare (VecWindow.put y10 (k4_off1 i) S1x256.size (stRow x1 x6)) ∗ owns (c : Thread nD τ) arg12 fullShare (out4_11 x1 x6) ∗ owns (c : Thread nD τ) arg13 fullShare (out4_12 x0 x4) ∗ owns (c : Thread nD τ) arg14 fullShare (VecWindow.put y13 (k4_off1 i) S1x256.size (fsRow x4)) ∗ owns (c : Thread nD τ) arg15 fullShare (out4_14 x1 x5) ∗ owns (c : Thread nD τ) arg16 fullShare (VecWindow.put y15 (k4_off1 i) S1x256.size (rsRow x5)) ∗ owns (c : Thread nD τ) arg17 fullShare (accStep x0 x1 x2 x3 x4 x5 x6 x7 a)) -∗ K ⟨⟩))
      ⊢ wp frame (wpE (defs₀ (F := F)) Variants.none c none) E (cc4_down i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc4_down_eq_skeleton]; unfold cc4_down_skel
  simp only [k4_part1_eq_skeleton, k4_part2_eq_skeleton, k4_part3_eq_skeleton, k4_part4_eq_skeleton, k4_part5_eq_skeleton, k4_part6_eq_skeleton, k4_part7_eq_skeleton, k4_part8_eq_skeleton, k4_part9_eq_skeleton, k4_part10_eq_skeleton, k4_part11_eq_skeleton, k4_part12_eq_skeleton, k4_part13_eq_skeleton, k4_part14_eq_skeleton, k4_part15_eq_skeleton, k4_part16_eq_skeleton, k4_part17_eq_skeleton, k4_part18_eq_skeleton, k4_part19_eq_skeleton, k4_part20_eq_skeleton, k4_part21_eq_skeleton, k4_part22_eq_skeleton, k4_part23_eq_skeleton, k4_part24_eq_skeleton, k4_part25_eq_skeleton, k4_part26_eq_skeleton, k4_part27_eq_skeleton, k4_part28_eq_skeleton, k4_part29_eq_skeleton, k4_part30_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%d14, %f14, -, H14⟩, ⟨%f15, %hf15, H15⟩, ⟨%f16, %hf16, H16⟩, Hk⟩
  subst hf0 hf1 hf2 hf3 hf4 hf5 hf6 hf7 hf8 hf9 hf10 hf13 hf15 hf16
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact read_put4 _ _ _ _ _ _ _ _ _ _
  isplitl [H9]
  · iexists f9; isplitr; · ipureintro; rfl
    iexact H9
  isplitl [H10]
  · iexists _; isplitr
    swap; · iexact H10
    ipureintro
    exact View.read_writes_cons_put _ _ _ _ [] rfl
  isplitl [H11]
  · iexists _; isplitr
    swap; · iexact H11
    ipureintro
    refine (View.read_writes_eq_canon _ _ _ (cover4_y _ _ _ _)).trans ?_
    rfl
  isplitl [H12]
  · iexists _; isplitr
    swap; · iexact H12
    ipureintro
    refine (View.read_writes_eq_canon _ _ _ (cover4_i _)).trans ?_
    rfl
  isplitl [H13]
  · iexists _; isplitr
    swap; · iexact H13
    ipureintro
    exact View.read_writes_cons_put _ _ _ _ [] rfl
  isplitl [H14]
  · iexists _; isplitr
    swap; · iexact H14
    ipureintro
    refine (View.read_writes_eq_canon _ _ _ (cover4_i _)).trans ?_
    rfl
  isplitl [H15]
  · iexists _; isplitr
    swap; · iexact H15
    ipureintro
    exact View.read_writes_cons_put _ _ _ _ [] rfl
  iexists _; isplitr
  swap; · iexact H16
  ipureintro
  refine (View.read_writes_eq_canon _ _ _ (cover4_a _ _ _ _ _ _ _ _ _ _ _ _ _ _ _ _)).trans ?_
  rfl

set_option maxHeartbeats 4000000 in
theorem sound_kernel4_C (c : Dev nD) (E : Set ℕ) (i : grid4.Coords) (arg1 : Memref sig .tc .vmem S256x4096 .f32) (harg1 : arg1.IsWhole) (arg2 : Memref sig .tc .vmem S256x4096 .f32) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x256 .f32) (harg5 : arg5.IsWhole) (arg6 : Memref sig .tc .vmem S256x256 .f32) (harg6 : arg6.IsWhole) (arg7 : Memref sig .tc .vmem S4096x1024 .bf16) (harg7 : arg7.IsWhole) (arg8 : Memref sig .tc .vmem S4096x1024 .bf16) (harg8 : arg8.IsWhole) (arg9 : Memref sig .tc .vmem S4x6x1536 .f32) (harg9 : arg9.IsWhole) (arg10 : Memref sig .tc .vmem S4x1024 .f32) (harg10 : arg10.IsWhole) (arg11 : Memref sig .tc .vmem S6x1536 .f32) (harg11 : arg11.IsWhole) (arg12 : Memref sig .tc .vmem S256x1024 .bf16) (harg12 : arg12.IsWhole) (arg13 : Memref sig .tc .vmem S256x4096 .i8) (harg13 : arg13.IsWhole) (arg14 : Memref sig .tc .vmem S6x1536 .f32) (harg14 : arg14.IsWhole) (arg15 : Memref sig .tc .vmem S256x4096 .i8) (harg15 : arg15.IsWhole) (arg16 : Memref sig .tc .vmem S6x1536 .f32) (harg16 : arg16.IsWhole) (arg17 : Memref sig .tc .vmem S4x8x1024 .f32) (harg17 : arg17.IsWhole)
    (hc0 : ¬cond4_0 i) (hc1 : cond4_1 i)
    (x0 : Vec F S256x4096 .f32) (x1 : Vec F S256x4096 .f32) (x2 : Vec F S256x4096 .bf16) (x3 : Vec F S256x4096 .bf16) (x4 : Vec F S256x256 .f32) (x5 : Vec F S256x256 .f32) (x6 : Vec F S4096x1024 .bf16) (x7 : Vec F S4096x1024 .bf16) (y8 : Vec F S4x6x1536 .f32) (y9 : Vec F S4x1024 .f32) (y10 : Vec F S6x1536 .f32) (y13 : Vec F S6x1536 .f32) (y15 : Vec F S6x1536 .f32) (a : Vec F S4x8x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ owns (c : Thread nD τ) arg11 fullShare y10 ∗ (∃ d, owns (c : Thread nD τ) arg12 fullShare d) ∗ (∃ d, owns (c : Thread nD τ) arg13 fullShare d) ∗ owns (c : Thread nD τ) arg14 fullShare y13 ∗ (∃ d, owns (c : Thread nD τ) arg15 fullShare d) ∗ owns (c : Thread nD τ) arg16 fullShare y15 ∗ owns (c : Thread nD τ) arg17 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (VecWindow.put (VecWindow.put (VecWindow.put (VecWindow.put y8 (k4_off2 i) S1x1x256.size (etRow0 x0 x1 x4 x6 x7)) (k4_off3 i) S1x1x256.size (etRow1 x1 x2 x6)) (k4_off4 i) S1x1x256.size (etRow2 x1 x3 x6)) (k4_off5 i) S1x1x256.size (etRow3 x1 x5 x6 x7)) ∗ owns (c : Thread nD τ) arg10 fullShare (ecOut (accStep x0 x1 x2 x3 x4 x5 x6 x7 a)) ∗ owns (c : Thread nD τ) arg11 fullShare (VecWindow.put y10 (k4_off1 i) S1x256.size (stRow x1 x6)) ∗ owns (c : Thread nD τ) arg12 fullShare (out4_11 x1 x6) ∗ owns (c : Thread nD τ) arg13 fullShare (out4_12 x0 x4) ∗ owns (c : Thread nD τ) arg14 fullShare (VecWindow.put y13 (k4_off1 i) S1x256.size (fsRow x4)) ∗ owns (c : Thread nD τ) arg15 fullShare (out4_14 x1 x5) ∗ owns (c : Thread nD τ) arg16 fullShare (VecWindow.put y15 (k4_off1 i) S1x256.size (rsRow x5)) ∗ owns (c : Thread nD τ) arg17 fullShare (accStep x0 x1 x2 x3 x4 x5 x6 x7 a)) -∗ K ⟨⟩))
      ⊢ wp frame (wpE (defs₀ (F := F)) Variants.none c none) E (cc4_down i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc4_down_eq_skeleton]; unfold cc4_down_skel
  simp only [k4_part1_eq_skeleton, k4_part2_eq_skeleton, k4_part3_eq_skeleton, k4_part4_eq_skeleton, k4_part5_eq_skeleton, k4_part6_eq_skeleton, k4_part7_eq_skeleton, k4_part8_eq_skeleton, k4_part9_eq_skeleton, k4_part10_eq_skeleton, k4_part11_eq_skeleton, k4_part12_eq_skeleton, k4_part13_eq_skeleton, k4_part14_eq_skeleton, k4_part15_eq_skeleton, k4_part16_eq_skeleton, k4_part17_eq_skeleton, k4_part18_eq_skeleton, k4_part19_eq_skeleton, k4_part20_eq_skeleton, k4_part21_eq_skeleton, k4_part22_eq_skeleton, k4_part23_eq_skeleton, k4_part24_eq_skeleton, k4_part25_eq_skeleton, k4_part26_eq_skeleton, k4_part27_eq_skeleton, k4_part28_eq_skeleton, k4_part29_eq_skeleton, k4_part30_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%d14, %f14, -, H14⟩, ⟨%f15, %hf15, H15⟩, ⟨%f16, %hf16, H16⟩, Hk⟩
  subst hf0 hf1 hf2 hf3 hf4 hf5 hf6 hf7 hf8 hf9 hf10 hf13 hf15 hf16
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact read_put4 _ _ _ _ _ _ _ _ _ _
  isplitl [H9]
  · iexists _; isplitr
    swap; · iexact H9
    ipureintro
    refine (View.read_writes_eq_canon _ _ _ (cover4_e _)).trans ?_
    exact congrArg (fun v : Vec F S4x8x1024 .f32 => (View.canon [⟨dE, k4_pay1 v⟩] : Vec F S4x1024 .f32)) ((fun L => View.readCov_eq_canon' _ L _ : ∀ L : List (View.Piece (Elt F) S4x8x1024 .f32), (arg17.view.readCov L dAll.toLoadRect : Vec F S4x8x1024 .f32) = View.ld (View.canon L) dAll) _)
  isplitl [H10]
  · iexists _; isplitr
    swap; · iexact H10
    ipureintro
    exact View.read_writes_cons_put _ _ _ _ [] rfl
  isplitl [H11]
  · iexists _; isplitr
    swap; · iexact H11
    ipureintro
    refine (View.read_writes_eq_canon _ _ _ (cover4_y _ _ _ _)).trans ?_
    rfl
  isplitl [H12]
  · iexists _; isplitr
    swap; · iexact H12
    ipureintro
    refine (View.read_writes_eq_canon _ _ _ (cover4_i _)).trans ?_
    rfl
  isplitl [H13]
  · iexists _; isplitr
    swap; · iexact H13
    ipureintro
    exact View.read_writes_cons_put _ _ _ _ [] rfl
  isplitl [H14]
  · iexists _; isplitr
    swap; · iexact H14
    ipureintro
    refine (View.read_writes_eq_canon _ _ _ (cover4_i _)).trans ?_
    rfl
  isplitl [H15]
  · iexists _; isplitr
    swap; · iexact H15
    ipureintro
    exact View.read_writes_cons_put _ _ _ _ [] rfl
  iexists _; isplitr
  swap; · iexact H16
  ipureintro
  refine (View.read_writes_eq_canon _ _ _ (cover4_a _ _ _ _ _ _ _ _ _ _ _ _ _ _ _ _)).trans ?_
  rfl

/-! ## The proof data -/

theorem N4 : cfg4.N = 36 := rfl

/-- The point whose tokens hold token `1536 * r + q`. -/
def ptOf (r : Fin 6) (q : Fin 1536) : Fin cfg4.N := ⟨6 * r.val + q.val / 256, by
  have h0 : r.val < 6 := r.isLt
  have h1 : q.val < 1536 := q.isLt
  rw [N4]; omega⟩

/-- A row of 256 a point put together over the points. -/
def rowsOf (R : Fin cfg4.N → FVec F S1x256 .f32) : Vec F S6x1536 .f32 := fun j =>
  R (ptOf (j 0) (j 1)) (ix2 0 ⟨(j 1).val % 256, Nat.mod_lt _ (by omega)⟩)
/-- The same for the four variants. -/
def rows4Of (R : Fin 4 → Fin cfg4.N → FVec F S1x1x256 .f32) : Vec F S4x6x1536 .f32 := fun j =>
  R (j 0) (ptOf (j 1) (j 2)) (ix3 0 0 ⟨(j 2).val % 256, Nat.mod_lt _ (by omega)⟩)

/-- The accumulator before point `n`. -/
def accN (c : Dev nD) : ℕ → Vec F S4x8x1024 .f32
  | 0 => k4_pay2
  | n + 1 => if h : n < cfg4.N then accStep (iblk4 V c 0 ⟨n, h⟩) (iblk4 V c 1 ⟨n, h⟩) (iblk4 V c 2 ⟨n, h⟩) (iblk4 V c 3 ⟨n, h⟩) (iblk4 V c 4 ⟨n, h⟩) (iblk4 V c 5 ⟨n, h⟩) (iblk4 V c 6 ⟨n, h⟩) (iblk4 V c 7 ⟨n, h⟩) (accN c n) else accN c n

theorem accN_succ (c : Dev nD) (t : Fin cfg4.N) : accN V c (t.val + 1) = accStep (iblk4 V c 0 t) (iblk4 V c 1 t) (iblk4 V c 2 t) (iblk4 V c 3 t) (iblk4 V c 4 t) (iblk4 V c 5 t) (iblk4 V c 6 t) (iblk4 V c 7 t) (accN V c t.val) :=
  (dif_pos t.isLt).trans rfl

def etRows4 (c : Dev nD) (k : Fin 4) (t : Fin cfg4.N) : FVec F S1x1x256 .f32 := match k with
  | 0 => etRow0 (iblk4 V c 0 t) (iblk4 V c 1 t) (iblk4 V c 4 t) (iblk4 V c 6 t) (iblk4 V c 7 t)
  | 1 => etRow1 (iblk4 V c 1 t) (iblk4 V c 2 t) (iblk4 V c 6 t)
  | 2 => etRow2 (iblk4 V c 1 t) (iblk4 V c 3 t) (iblk4 V c 6 t)
  | 3 => etRow3 (iblk4 V c 1 t) (iblk4 V c 5 t) (iblk4 V c 6 t) (iblk4 V c 7 t)
def etAll4 (c : Dev nD) : Vec F S4x6x1536 .f32 := rows4Of (etRows4 V c)
def ecAll4 (c : Dev nD) : Vec F S4x1024 .f32 := ecOut (accN V c 36)
def stAll4 (c : Dev nD) : Vec F S6x1536 .f32 := rowsOf fun t => stRow (iblk4 V c 1 t) (iblk4 V c 6 t)
def fsAll4 (c : Dev nD) : Vec F S6x1536 .f32 := rowsOf fun t => fsRow (iblk4 V c 4 t)
def rsAll4 (c : Dev nD) : Vec F S6x1536 .f32 := rowsOf fun t => rsRow (iblk4 V c 5 t)

abbrev scM4 : Memref sig .tc .vmem S4x8x1024 .f32 := Memref.whole cc4_scratch0

/-- The invariant before position `n`: the scratch at anything before the first point, afterwards at the accumulator. -/
def Phi4 (c : Dev nD) : ℕ → sProp 𝕄
  | 0 => Pipeline.ΦA spec4 c
  | n + 1 => iprop((owns (c : Thread nD τ) scM4 fullShare (accN V c (n + 1))
      ∗ Pipeline.scopedRestBut (Ix := Unit) (Name := ℕ) (U := UR sig nD τ) (Lvl := ℕ) (Val := Elt F) spec4 c [cc4_scratch0]) ∗ (∃ r, prngReg c r))

theorem PhiA4_eq (c : Dev nD) :
    (Pipeline.ΦA spec4 c : sProp 𝕄)
      = iprop(((∃ d, owns (c : Thread nD τ) scM4 fullShare d)
        ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-- The arrays as the region finds them; each input's buffer left at its block, each output's at what the body leaves or, partly stored, at its final contents. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => etAll4 V c
    | ⟨9, _⟩ => ecAll4 V c
    | ⟨10, _⟩ => stAll4 V c
    | ⟨11, _⟩ => out4_11 (iblk4 V c 1 t) (iblk4 V c 6 t)
    | ⟨12, _⟩ => out4_12 (iblk4 V c 0 t) (iblk4 V c 4 t)
    | ⟨13, _⟩ => fsAll4 V c
    | ⟨14, _⟩ => out4_14 (iblk4 V c 1 t) (iblk4 V c 5 t)
    | ⟨15, _⟩ => rsAll4 V c
    | ⟨_ + 16, h⟩ => absurd h (Nat.not_lt.mpr (Nat.le_add_left 16 _))
  Φ t := Phi4 V c t.val
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = etAll4 V c := by dsimp only [dat4]
theorem after4_9 (c : Dev nD) (t : Fin cfg4.N) : (dat4 V c).after 9 t = ecAll4 V c := by dsimp only [dat4]
theorem after4_10 (c : Dev nD) (t : Fin cfg4.N) : (dat4 V c).after 10 t = stAll4 V c := by dsimp only [dat4]
theorem after4_11 (c : Dev nD) (t : Fin cfg4.N) : (dat4 V c).after 11 t = out4_11 (iblk4 V c 1 t) (iblk4 V c 6 t) := by dsimp only [dat4]
theorem after4_12 (c : Dev nD) (t : Fin cfg4.N) : (dat4 V c).after 12 t = out4_12 (iblk4 V c 0 t) (iblk4 V c 4 t) := by dsimp only [dat4]
theorem after4_13 (c : Dev nD) (t : Fin cfg4.N) : (dat4 V c).after 13 t = fsAll4 V c := by dsimp only [dat4]
theorem after4_14 (c : Dev nD) (t : Fin cfg4.N) : (dat4 V c).after 14 t = out4_14 (iblk4 V c 1 t) (iblk4 V c 5 t) := by dsimp only [dat4]
theorem after4_15 (c : Dev nD) (t : Fin cfg4.N) : (dat4 V c).after 15 t = rsAll4 V c := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d

/-- The windows held to a predicate: the rows of sums and of scales, and the column sums, stored at the last point alone. -/
def fgt4 : Fin cfg4.W → Bool
  | ⟨8, _⟩ => true
  | ⟨9, _⟩ => true
  | ⟨10, _⟩ => true
  | ⟨13, _⟩ => true
  | ⟨15, _⟩ => true
  | _ => false

/-- A row window after point `t`: the rows of the points up to `t` are in place. -/
def RowsTo (A X : Vec F S6x1536 .f32) (n : ℕ) : Prop := ∀ j : S6x1536.Idx, 6 * (j 0).val + (j 1).val / 256 < n → X j = A j
def Rows4To (A X : Vec F S4x6x1536 .f32) (n : ℕ) : Prop := ∀ j : S4x6x1536.Idx, 6 * (j 1).val + (j 2).val / 256 < n → X j = A j

def Rl4 (c : Dev nD) : (w : Fin cfg4.W) → Fin cfg4.N → ((cfg4.win w).block.Idx → Elt F (cfg4.win w).elt) → Prop
  | ⟨8, _⟩ => fun t X => Rows4To (etAll4 V c) X (t.val + 1)
  | ⟨9, _⟩ => fun t X => t.val = 35 → (X : Vec F S4x1024 .f32) = ecAll4 V c
  | ⟨10, _⟩ => fun t X => RowsTo (stAll4 V c) X (t.val + 1)
  | ⟨13, _⟩ => fun t X => RowsTo (fsAll4 V c) X (t.val + 1)
  | ⟨15, _⟩ => fun t X => RowsTo (rsAll4 V c) X (t.val + 1)
  | _ => fun _ _ => True

theorem RowsTo.all {A X : Vec F S6x1536 .f32} {n : ℕ} (h : RowsTo A X n) (hn : n = 36) : X = A := funext fun j => h j (by
  have h0 : (j 0).val < 6 := (j 0).isLt
  have h1 : (j 1).val < 1536 := (j 1).isLt
  omega)
theorem Rows4To.all {A X : Vec F S4x6x1536 .f32} {n : ℕ} (h : Rows4To A X n) (hn : n = 36) : X = A := funext fun j => h j (by
  have h0 : (j 1).val < 6 := (j 1).isLt
  have h1 : (j 2).val < 1536 := (j 2).isLt
  omega)

theorem Rl4_exact (c : Dev nD) (w : Fin cfg4.W) (hw : fgt4 w = true) (t : Fin cfg4.N) (ht : (cfg4.win w).flush t = true)
    (X : (cfg4.win w).block.Idx → Elt F (cfg4.win w).elt) (hX : Rl4 V c w t X) : X = (dat4 V c).after w t := by
  have hN : t.val < 36 := t.isLt
  match w, hw with
  | ⟨8, _⟩, _ =>
    rw [show (dat4 V c).after ⟨8, _⟩ t = etAll4 V c from after4_8 V c t]
    have h35 : t.val % 36 = 35 := (flush4_8 t).mp ht
    exact Rows4To.all (n := t.val + 1) hX (by omega)
  | ⟨9, _⟩, _ =>
    rw [show (dat4 V c).after ⟨9, _⟩ t = ecAll4 V c from after4_9 V c t]
    have h35 : t.val % 36 = 35 := (flush4_9 t).mp ht
    exact (show t.val = 35 → (X : Vec F S4x1024 .f32) = ecAll4 V c from hX) (by omega)
  | ⟨10, _⟩, _ =>
    rw [show (dat4 V c).after ⟨10, _⟩ t = stAll4 V c from after4_10 V c t]
    have h35 : t.val % 36 = 35 := (flush4_10 t).mp ht
    exact RowsTo.all (n := t.val + 1) hX (by omega)
  | ⟨13, _⟩, _ =>
    rw [show (dat4 V c).after ⟨13, _⟩ t = fsAll4 V c from after4_13 V c t]
    have h35 : t.val % 36 = 35 := (flush4_13 t).mp ht
    exact RowsTo.all (n := t.val + 1) hX (by omega)
  | ⟨15, _⟩, _ =>
    rw [show (dat4 V c).after ⟨15, _⟩ t = rsAll4 V c from after4_15 V c t]
    have h35 : t.val % 36 = 35 := (flush4_15 t).mp ht
    exact RowsTo.all (n := t.val + 1) hX (by omega)

theorem off4_1_eq : ∀ t : Fin cfg4.N, k4_off1 (grid4.coords t) = ![t.val / 6, t.val % 6 * 256] := by decide +kernel
theorem off4_2_eq : ∀ t : Fin cfg4.N, k4_off2 (grid4.coords t) = ![0, t.val / 6, t.val % 6 * 256] := by decide +kernel
theorem off4_3_eq : ∀ t : Fin cfg4.N, k4_off3 (grid4.coords t) = ![1, t.val / 6, t.val % 6 * 256] := by decide +kernel
theorem off4_4_eq : ∀ t : Fin cfg4.N, k4_off4 (grid4.coords t) = ![2, t.val / 6, t.val % 6 * 256] := by decide +kernel
theorem off4_5_eq : ∀ t : Fin cfg4.N, k4_off5 (grid4.coords t) = ![3, t.val / 6, t.val % 6 * 256] := by decide +kernel

/-- One point's row put in place. -/
theorem put_row (R : Fin cfg4.N → FVec F S1x256 .f32) (t : Fin cfg4.N) (Y : Vec F S6x1536 .f32) (hY : RowsTo (rowsOf R) Y t.val) :
    RowsTo (rowsOf R) (VecWindow.put Y (k4_off1 (grid4.coords t)) S1x256.size (R t)) (t.val + 1) := by
  intro j hj
  have h0 : (j 0).val < 6 := (j 0).isLt
  have h1 : (j 1).val < 1536 := (j 1).isLt
  rw [off4_1_eq]
  unfold VecWindow.put
  split
  · rename_i h
    have a0 := h 0
    have a1 := h 1
    simp at a0 a1
    unfold rowsOf
    rw [show ptOf (j 0) (j 1) = t from Fin.ext (by show 6 * (j 0).val + (j 1).val / 256 = t.val; omega)]
    congr 1
    funext a
    apply Fin.ext
    match a with
    | ⟨0, _⟩ => simp; omega
    | ⟨1, _⟩ => simp; omega
  · rename_i h
    refine hY j (Nat.lt_of_le_of_ne (Nat.le_of_lt_succ hj) fun e => h fun a => ?_)
    match a with
    | ⟨0, _⟩ => simp; omega
    | ⟨1, _⟩ => simp; omega

/-- One store of a variant's row, at an index. -/
theorem put_row4 (A Y : Vec F S4x6x1536 .f32) (R : Fin 4 → Fin cfg4.N → FVec F S1x1x256 .f32) (hA : A = rows4Of R) (t : Fin cfg4.N) (k : Fin 4) (j : S4x6x1536.Idx)
    (hj : 6 * (j 1).val + (j 2).val / 256 < t.val + 1) (hY : 6 * (j 1).val + (j 2).val / 256 < t.val ∨ (j 0).val < k.val → Y j = A j) :
    6 * (j 1).val + (j 2).val / 256 < t.val ∨ (j 0).val < k.val + 1 → VecWindow.put Y ![k.val, t.val / 6, t.val % 6 * 256] S1x1x256.size (R k t) j = A j := by
  intro hc
  have h0 : (j 0).val < 4 := (j 0).isLt
  have h1 : (j 1).val < 6 := (j 1).isLt
  have h2 : (j 2).val < 1536 := (j 2).isLt
  unfold VecWindow.put
  split
  · rename_i h
    have a0 := h 0
    have a1 := h 1
    have a2 := h 2
    simp at a0 a1 a2
    rw [hA]; unfold rows4Of
    rw [show ptOf (j 1) (j 2) = t from Fin.ext (by show 6 * (j 1).val + (j 2).val / 256 = t.val; omega), show (j 0 : Fin 4) = k from Fin.ext (by omega)]
    congr 1
    funext a
    apply Fin.ext
    match a with
    | ⟨0, _⟩ => simp; omega
    | ⟨1, _⟩ => simp; omega
    | ⟨2, _⟩ => simp; omega
  · rename_i h
    refine hY ?_
    by_contra hn
    refine h fun a => ?_
    match a with
    | ⟨0, _⟩ => simp; omega
    | ⟨1, _⟩ => simp; omega
    | ⟨2, _⟩ => simp; omega

theorem put_rows4 (R : Fin 4 → Fin cfg4.N → FVec F S1x1x256 .f32) (t : Fin cfg4.N) (Y : Vec F S4x6x1536 .f32) (hY : Rows4To (rows4Of R) Y t.val) :
    Rows4To (rows4Of R) (VecWindow.put (VecWindow.put (VecWindow.put (VecWindow.put Y (k4_off2 (grid4.coords t)) S1x1x256.size (R 0 t)) (k4_off3 (grid4.coords t)) S1x1x256.size (R 1 t))
      (k4_off4 (grid4.coords t)) S1x1x256.size (R 2 t)) (k4_off5 (grid4.coords t)) S1x1x256.size (R 3 t)) (t.val + 1) := by
  intro j hj
  have h0 : (j 0).val < 4 := (j 0).isLt
  rw [off4_2_eq, off4_3_eq, off4_4_eq, off4_5_eq]
  exact put_row4 _ _ R rfl t 3 j hj (put_row4 _ _ R rfl t 2 j hj (put_row4 _ _ R rfl t 1 j hj (put_row4 _ _ R rfl t 0 j hj
    (fun h => h.elim (hY j) (fun h => absurd h (Nat.not_lt_zero _)))))) (.inr h0)

theorem prev4_8 (c : Dev nD) (t : Fin cfg4.N) (Y : Vec F S4x6x1536 .f32) (hY : (((dat4 V c).toRRel fgt4 (Rl4 V c)).Finds 8 t Y)) : Rows4To (etAll4 V c) Y t.val := by
  have hN : t.val < 36 := t.isLt
  by_cases hpos : t.val = 0
  · intro j hj; rw [hpos] at hj; exact absurd hj (Nat.not_lt_zero _)
  · have hp : Rl4 V c 8 ⟨t.val - 1, Nat.lt_of_le_of_lt (Nat.sub_le _ _) t.isLt⟩ Y :=
      Cert.RowData.finds_prev (dat4 V c) rfl rfl hpos (by
        cases hfl : (cfg4.win 8).flush ⟨t.val - 1, Nat.lt_of_le_of_lt (Nat.sub_le _ _) t.isLt⟩
        · rfl
        · have := (flush4_8 _).mp hfl
          simp at this; omega) hY
    have e : t.val - 1 + 1 = t.val := by omega
    intro j hj
    exact (show Rows4To (etAll4 V c) Y (t.val - 1 + 1) from hp) j (by rw [e]; exact hj)

theorem prev4_10 (c : Dev nD) (t : Fin cfg4.N) (Y : Vec F S6x1536 .f32) (hY : (((dat4 V c).toRRel fgt4 (Rl4 V c)).Finds 10 t Y)) : RowsTo (stAll4 V c) Y t.val := by
  have hN : t.val < 36 := t.isLt
  by_cases hpos : t.val = 0
  · intro j hj; rw [hpos] at hj; exact absurd hj (Nat.not_lt_zero _)
  · have hp : Rl4 V c 10 ⟨t.val - 1, Nat.lt_of_le_of_lt (Nat.sub_le _ _) t.isLt⟩ Y :=
      Cert.RowData.finds_prev (dat4 V c) rfl rfl hpos (by
        cases hfl : (cfg4.win 10).flush ⟨t.val - 1, Nat.lt_of_le_of_lt (Nat.sub_le _ _) t.isLt⟩
        · rfl
        · have := (flush4_10 _).mp hfl
          simp at this; omega) hY
    have e : t.val - 1 + 1 = t.val := by omega
    intro j hj
    exact (show RowsTo (stAll4 V c) Y (t.val - 1 + 1) from hp) j (by rw [e]; exact hj)

theorem prev4_13 (c : Dev nD) (t : Fin cfg4.N) (Y : Vec F S6x1536 .f32) (hY : (((dat4 V c).toRRel fgt4 (Rl4 V c)).Finds 13 t Y)) : RowsTo (fsAll4 V c) Y t.val := by
  have hN : t.val < 36 := t.isLt
  by_cases hpos : t.val = 0
  · intro j hj; rw [hpos] at hj; exact absurd hj (Nat.not_lt_zero _)
  · have hp : Rl4 V c 13 ⟨t.val - 1, Nat.lt_of_le_of_lt (Nat.sub_le _ _) t.isLt⟩ Y :=
      Cert.RowData.finds_prev (dat4 V c) rfl rfl hpos (by
        cases hfl : (cfg4.win 13).flush ⟨t.val - 1, Nat.lt_of_le_of_lt (Nat.sub_le _ _) t.isLt⟩
        · rfl
        · have := (flush4_13 _).mp hfl
          simp at this; omega) hY
    have e : t.val - 1 + 1 = t.val := by omega
    intro j hj
    exact (show RowsTo (fsAll4 V c) Y (t.val - 1 + 1) from hp) j (by rw [e]; exact hj)

theorem prev4_15 (c : Dev nD) (t : Fin cfg4.N) (Y : Vec F S6x1536 .f32) (hY : (((dat4 V c).toRRel fgt4 (Rl4 V c)).Finds 15 t Y)) : RowsTo (rsAll4 V c) Y t.val := by
  have hN : t.val < 36 := t.isLt
  by_cases hpos : t.val = 0
  · intro j hj; rw [hpos] at hj; exact absurd hj (Nat.not_lt_zero _)
  · have hp : Rl4 V c 15 ⟨t.val - 1, Nat.lt_of_le_of_lt (Nat.sub_le _ _) t.isLt⟩ Y :=
      Cert.RowData.finds_prev (dat4 V c) rfl rfl hpos (by
        cases hfl : (cfg4.win 15).flush ⟨t.val - 1, Nat.lt_of_le_of_lt (Nat.sub_le _ _) t.isLt⟩
        · rfl
        · have := (flush4_15 _).mp hfl
          simp at this; omega) hY
    have e : t.val - 1 + 1 = t.val := by omega
    intro j hj
    exact (show RowsTo (rsAll4 V c) Y (t.val - 1 + 1) from hp) j (by rw [e]; exact hj)

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ Y, ⌜((dat4 V c).toRRel fgt4 (Rl4 V c)).Finds 8 t Y⌝ ∗ owns (c : Thread nD τ) (st4_8 t) fullShare Y)
    ∗ (∃ Y, ⌜((dat4 V c).toRRel fgt4 (Rl4 V c)).Finds 9 t Y⌝ ∗ owns (c : Thread nD τ) (st4_9 t) fullShare Y)
    ∗ (∃ Y, ⌜((dat4 V c).toRRel fgt4 (Rl4 V c)).Finds 10 t Y⌝ ∗ owns (c : Thread nD τ) (st4_10 t) fullShare Y)
    ∗ (∃ d, owns (c : Thread nD τ) (st4_11 t) fullShare ((dat4 V c).before 11 t d))
    ∗ (∃ d, owns (c : Thread nD τ) (st4_12 t) fullShare ((dat4 V c).before 12 t d))
    ∗ (∃ Y, ⌜((dat4 V c).toRRel fgt4 (Rl4 V c)).Finds 13 t Y⌝ ∗ owns (c : Thread nD τ) (st4_13 t) fullShare Y)
    ∗ (∃ d, owns (c : Thread nD τ) (st4_14 t) fullShare ((dat4 V c).before 14 t d))
    ∗ (∃ Y, ⌜((dat4 V c).toRRel fgt4 (Rl4 V c)).Finds 15 t Y⌝ ∗ owns (c : Thread nD τ) (st4_15 t) fullShare Y))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ (∃ X, ⌜Rl4 V c 8 t X⌝ ∗ owns (c : Thread nD τ) (st4_8 t) fullShare X)
    ∗ (∃ X, ⌜Rl4 V c 9 t X⌝ ∗ owns (c : Thread nD τ) (st4_9 t) fullShare X)
    ∗ (∃ X, ⌜Rl4 V c 10 t X⌝ ∗ owns (c : Thread nD τ) (st4_10 t) fullShare X)
    ∗ owns (c : Thread nD τ) (st4_11 t) fullShare ((dat4 V c).after 11 t)
    ∗ owns (c : Thread nD τ) (st4_12 t) fullShare ((dat4 V c).after 12 t)
    ∗ (∃ X, ⌜Rl4 V c 13 t X⌝ ∗ owns (c : Thread nD τ) (st4_13 t) fullShare X)
    ∗ owns (c : Thread nD τ) (st4_14 t) fullShare ((dat4 V c).after 14 t)
    ∗ (∃ X, ⌜Rl4 V c 15 t X⌝ ∗ owns (c : Thread nD τ) (st4_15 t) fullShare X))

set_option maxHeartbeats 2000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7]
  rw [show (dat4 V c).Φ t.succ = Phi4 V c (t.val + 1) from rfl, show (dat4 V c).Φ t.castSucc = Phi4 V c t.val from rfl,
    show (dat4 V c).owesAt () t.succ = (dat4 V c).owesAt () t.castSucc from rfl,
    after4_0, after4_1, after4_2, after4_3, after4_4, after4_5, after4_6, after4_7, after4_11, after4_12, after4_14]
  have hN : t.val < 36 := t.isLt
  by_cases h0 : t.val = 0
  · skip
    rw [show Phi4 V c t.val = Pipeline.ΦA spec4 c from by rw [h0]; rfl, PhiA4_eq]
    rw [show Phi4 V c (t.val + 1) = iprop((owns (c : Thread nD τ) scM4 fullShare (accN V c (t.val + 1))
      ∗ Pipeline.scopedRestBut (Ix := Unit) (Name := ℕ) (U := UR sig nD τ) (Lvl := ℕ) (Val := Elt F) spec4 c [cc4_scratch0]) ∗ (∃ r, prngReg c r)) from rfl, accN_succ]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%y8, %hy8, H8⟩, ⟨%y9, %hy9, H9⟩, ⟨%y10, %hy10, H10⟩, ⟨%d11, H11⟩, ⟨%d12, H12⟩, ⟨%y13, %hy13, H13⟩, ⟨%d14, H14⟩, ⟨%y15, %hy15, H15⟩⟩
    iapply (sound_kernel4_A c Set.univ (grid4.coords t) _ _ _ _ _ _ _ _ _ _ _ _ _ _ _ _ _ _ _ _ _ _ _ _ _ _ _ _ _ _ _ _ _ _ ((hcond4_0 t).mpr h0) (fun h => absurd ((hcond4_1 t).mp h) (by omega)) (iblk4 V c 0 t) (iblk4 V c 1 t) (iblk4 V c 2 t) (iblk4 V c 3 t) (iblk4 V c 4 t) (iblk4 V c 5 t) (iblk4 V c 6 t) (iblk4 V c 7 t) y8 y9 y10 y13 y15 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexact H13
    isplitl [H14]; · iexists _; iexact H14
    isplitl [H15]; · iexact H15
    isplitl [HS]; · iexact HS
    iintro ⟨H0, H1, H2, H3, H4, H5, H6, H7, H8, H9, H10, H11, H12, H13, H14, H15, HS⟩
    rw [show accN V c t.val = k4_pay2 from by rw [h0]; rfl]
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; isplitr
      swap; · iexact H8
      ipureintro
      exact put_rows4 (etRows4 V c) t y8 (prev4_8 V c t y8 hy8)
    isplitl [H9]
    · iexists _; isplitr
      swap; · iexact H9
      ipureintro
      intro h; exact absurd h (by omega)
    isplitl [H10]
    · iexists _; isplitr
      swap; · iexact H10
      ipureintro
      exact put_row (fun t => stRow (iblk4 V c 1 t) (iblk4 V c 6 t)) t y10 (prev4_10 V c t y10 hy10)
    isplitl [H11]; · iexact H11
    isplitl [H12]; · iexact H12
    isplitl [H13]
    · iexists _; isplitr
      swap; · iexact H13
      ipureintro
      exact put_row (fun t => fsRow (iblk4 V c 4 t)) t y13 (prev4_13 V c t y13 hy13)
    isplitl [H14]; · iexact H14
    iexists _; isplitr
    swap; · iexact H15
    ipureintro
    exact put_row (fun t => rsRow (iblk4 V c 5 t)) t y15 (prev4_15 V c t y15 hy15)
  by_cases h1 : t.val = 35
  · skip
    rw [show Phi4 V c t.val = iprop((owns (c : Thread nD τ) scM4 fullShare (accN V c t.val)
      ∗ Pipeline.scopedRestBut (Ix := Unit) (Name := ℕ) (U := UR sig nD τ) (Lvl := ℕ) (Val := Elt F) spec4 c [cc4_scratch0]) ∗ (∃ r, prngReg c r)) from by
        obtain ⟨n, hn⟩ : ∃ n, t.val = n + 1 := ⟨t.val - 1, by omega⟩
        rw [hn]; rfl]
    rw [show Phi4 V c (t.val + 1) = iprop((owns (c : Thread nD τ) scM4 fullShare (accN V c (t.val + 1))
      ∗ Pipeline.scopedRestBut (Ix := Unit) (Name := ℕ) (U := UR sig nD τ) (Lvl := ℕ) (Val := Elt F) spec4 c [cc4_scratch0]) ∗ (∃ r, prngReg c r)) from rfl, accN_succ]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%y8, %hy8, H8⟩, ⟨%y9, %hy9, H9⟩, ⟨%y10, %hy10, H10⟩, ⟨%d11, H11⟩, ⟨%d12, H12⟩, ⟨%y13, %hy13, H13⟩, ⟨%d14, H14⟩, ⟨%y15, %hy15, H15⟩⟩
    iapply (sound_kernel4_C c Set.univ (grid4.coords t) _ _ _ _ _ _ _ _ _ _ _ _ _ _ _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) y8 y9 y10 y13 y15 (accN V c t.val) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexact H13
    isplitl [H14]; · iexists _; iexact H14
    isplitl [H15]; · iexact H15
    isplitl [HS]; · iexact HS
    iintro ⟨H0, H1, H2, H3, H4, H5, H6, H7, H8, H9, H10, H11, H12, H13, H14, H15, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; isplitr
      swap; · iexact H8
      ipureintro
      exact put_rows4 (etRows4 V c) t y8 (prev4_8 V c t y8 hy8)
    isplitl [H9]
    · iexists _; isplitr
      swap; · iexact H9
      ipureintro
      intro h; unfold ecAll4; rw [← show t.val + 1 = 36 by omega, accN_succ]
    isplitl [H10]
    · iexists _; isplitr
      swap; · iexact H10
      ipureintro
      exact put_row (fun t => stRow (iblk4 V c 1 t) (iblk4 V c 6 t)) t y10 (prev4_10 V c t y10 hy10)
    isplitl [H11]; · iexact H11
    isplitl [H12]; · iexact H12
    isplitl [H13]
    · iexists _; isplitr
      swap; · iexact H13
      ipureintro
      exact put_row (fun t => fsRow (iblk4 V c 4 t)) t y13 (prev4_13 V c t y13 hy13)
    isplitl [H14]; · iexact H14
    iexists _; isplitr
    swap; · iexact H15
    ipureintro
    exact put_row (fun t => rsRow (iblk4 V c 5 t)) t y15 (prev4_15 V c t y15 hy15)
  · skip
    rw [show Phi4 V c t.val = iprop((owns (c : Thread nD τ) scM4 fullShare (accN V c t.val)
      ∗ Pipeline.scopedRestBut (Ix := Unit) (Name := ℕ) (U := UR sig nD τ) (Lvl := ℕ) (Val := Elt F) spec4 c [cc4_scratch0]) ∗ (∃ r, prngReg c r)) from by
        obtain ⟨n, hn⟩ : ∃ n, t.val = n + 1 := ⟨t.val - 1, by omega⟩
        rw [hn]; rfl]
    rw [show Phi4 V c (t.val + 1) = iprop((owns (c : Thread nD τ) scM4 fullShare (accN V c (t.val + 1))
      ∗ Pipeline.scopedRestBut (Ix := Unit) (Name := ℕ) (U := UR sig nD τ) (Lvl := ℕ) (Val := Elt F) spec4 c [cc4_scratch0]) ∗ (∃ r, prngReg c r)) from rfl, accN_succ]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%y8, %hy8, H8⟩, ⟨%y9, %hy9, H9⟩, ⟨%y10, %hy10, H10⟩, ⟨%d11, H11⟩, ⟨%d12, H12⟩, ⟨%y13, %hy13, H13⟩, ⟨%d14, H14⟩, ⟨%y15, %hy15, H15⟩⟩
    iapply (sound_kernel4_B c Set.univ (grid4.coords t) _ _ _ _ _ _ _ _ _ _ _ _ _ _ _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) y8 y9 y10 y13 y15 (accN V c t.val) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexact H13
    isplitl [H14]; · iexists _; iexact H14
    isplitl [H15]; · iexact H15
    isplitl [HS]; · iexact HS
    iintro ⟨H0, H1, H2, H3, H4, H5, H6, H7, H8, H9, H10, H11, H12, H13, H14, H15, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; isplitr
      swap; · iexact H8
      ipureintro
      exact put_rows4 (etRows4 V c) t y8 (prev4_8 V c t y8 hy8)
    isplitl [H9]
    · iexists _; isplitr
      swap; · iexact H9
      ipureintro
      intro h; exact absurd h (by omega)
    isplitl [H10]
    · iexists _; isplitr
      swap; · iexact H10
      ipureintro
      exact put_row (fun t => stRow (iblk4 V c 1 t) (iblk4 V c 6 t)) t y10 (prev4_10 V c t y10 hy10)
    isplitl [H11]; · iexact H11
    isplitl [H12]; · iexact H12
    isplitl [H13]
    · iexists _; isplitr
      swap; · iexact H13
      ipureintro
      exact put_row (fun t => fsRow (iblk4 V c 4 t)) t y13 (prev4_13 V c t y13 hy13)
    isplitl [H14]; · iexact H14
    iexists _; isplitr
    swap; · iexact H15
    ipureintro
    exact put_row (fun t => rsRow (iblk4 V c 5 t)) t y15 (prev4_15 V c t y15 hy15)

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) :
    Pipeline.BodyObligationRel (dat4 (F := F) V c) (defs₀ (F := F)) Variants.none () Set.univ fgt4 (Rl4 V c) := fun t => by
  rw [bigSep_W4, bigSep_W4, defs₀_row4]
  exact triple_restated (sound_body4 V c t) rfl .rfl fun _ => .rfl

/-- What the launch hands the region is the invariant before the first point. -/
theorem hin4 (c : Dev nD) : Pipeline.ΦA spec4 c ⊢ (dat4 V c).Φ 0 := by
  rw [show (dat4 V c).Φ 0 = Pipeline.ΦA spec4 c from rfl]

/-- After the last point the accumulator's contents are forgotten. -/
theorem hout4 (c : Dev nD) : (dat4 V c).Φ (Fin.last cfg4.N) ⊢ Pipeline.ΦA spec4 c := by
  rw [show (dat4 V c).Φ (Fin.last cfg4.N) = Phi4 V c 36 from rfl, PhiA4_eq]
  show iprop((owns (c : Thread nD τ) scM4 fullShare (accN V c 36)
      ∗ Pipeline.scopedRestBut (Ix := Unit) (Name := ℕ) (U := UR sig nD τ) (Lvl := ℕ) (Val := Elt F) spec4 c [cc4_scratch0]) ∗ (∃ r, prngReg c r)) ⊢ _
  iintro ⟨⟨HS, Hr⟩, Hg⟩
  isplitl [HS Hr]
  · isplitl [HS]
    · iexists _; iexact HS
    iexact Hr
  iexact Hg

end Cert.Kernel.Hand
-- ==== Proof.Kernel.Run.lean ====
/- The run of the five calls and of the host operations between them: the buffer contents at each boundary, and the frame. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.UnfoldOut
public import proofs.«01_k».proof.Proof.RowData
public import proofs.«01_k».proof.Proof.Kernel.Deq
public import proofs.«01_k».proof.Proof.Kernel.Gate
public import proofs.«01_k».proof.Proof.Kernel.Down

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch (Lib/StableHlo/Run.lean
    `after_of_writes_sub`) -/

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v3]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps5` allocates a buffer. -/
theorem hostOps5_fresh : (hostOps5 : List (HloOp τ sig (Elt F))).Forall fun op => op.fresh = ∅ := by
  simp only [List.Forall]; repeat' constructor
/-- The reference each operation of `hostOps5` writes, in order. -/
abbrev hostOps5_W : List (Ref sig .tc) := [main_v6, main_v7, main_v8, main_v9]
theorem hostOps5_writes : (hostOps5 : List (HloOp τ sig (Elt F))).Forall fun op => op.writes ⊆ (hostOps5_W.map (Proc.devRef (τ := τ) .tc)).toFinset :=
  StableHlo.forall_writes_sub_of_map rfl
/-- `hostOps5` writes none of the argument arrays (checked: each argument against each reference it writes). -/
theorem hostOps5_args : ∀ a ∈ argRefs, a ∉ hostOps5_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b

/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A reference that is none of region 1's OUTPUT arrays keeps its entry contents across it: an input window's
    array is never written back (`Dat.arrAt_in`, `A_eq1`); any other buffer is left as is. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- A reference that is none of region 2's OUTPUT arrays keeps its entry contents across it: an input window's
    array is never written back (`Dat.arrAt_in`, `A_eq2`); any other buffer is left as is. -/
theorem W3_of (c : Dev nD) (r : Ref sig .tc) (h : ∀ w : Fin cfg2.W, Pipeline.arrRef spec2 w = r → (cfg2.win w).isOut = false) :
    W3 m ρ c (Proc.devRef .tc r) = W2 m ρ c (Proc.devRef .tc r) := by
  by_cases hw : ∃ w : Fin cfg2.W, Pipeline.arrRef spec2 w = r
  · obtain ⟨w, rfl⟩ := hw
    exact (W3_arr m ρ c w).trans (((dat2 (V2 m ρ) c).arrAt_in w (h w rfl) _).trans (A_eq2 (V2 m ρ) c w))
  · exact W3_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn2 a ha)).trans (W2_args m ρ c a ha)
/-- The same read at the TensorCore's references (region 2's exit contents). -/
abbrev V3 : (c : Dev nD) → (b : Ref sig .tc) → Buf (Elt F) ((c : Thread nD τ).loc b) := fun c b => W3 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- After `hostOps3` (region 3's entry). -/
abbrev W4 : Dev nD → Valuation τ sig (Elt F) := fun c => StableHlo.after hostOps3 (W3 m ρ c)
/-- A reference `hostOps3` does not write keeps its contents across it. -/
theorem W4_of (c : Dev nD) (r : Ref sig .tc) (h : r ∉ hostOps3_W) : W4 m ρ c (Proc.devRef .tc r) = W3 m ρ c (Proc.devRef .tc r) :=
  StableHlo.after_of_writes_sub hostOps3 _ hostOps3_writes h
theorem W4_args (c : Dev nD) : ∀ a ∈ argRefs, W4 m ρ c (Proc.devRef .tc a) = m ((c : Thread nD τ).loc a) :=
  fun a ha => (W4_of m ρ c a (hostOps3_args a ha)).trans (W3_args m ρ c a ha)
/-- The same read at the TensorCore's references (what region 3's proof data take). -/
abbrev V4 : (c : Dev nD) → (b : Ref sig .tc) → Buf (Elt F) ((c : Thread nD τ).loc b) := fun c b => W4 m ρ c b

/-- At region 3's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- A reference that is none of region 3's OUTPUT arrays keeps its entry contents across it: an input window's
    array is never written back (`Dat.arrAt_in`, `A_eq3`); any other buffer is left as is. -/
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn3 a ha)).trans (W4_args m ρ c a ha)
/-- The same read at the TensorCore's references (region 3's exit contents). -/
abbrev V5 : (c : Dev nD) → (b : Ref sig .tc) → Buf (Elt F) ((c : Thread nD τ).loc b) := fun c b => W5 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- At region 4's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
/-- A reference that is none of region 4's OUTPUT arrays keeps its entry contents across it: an input window's
    array is never written back (`Dat.arrAt_in`, `A_eq4`); any other buffer is left as is. -/
theorem W6_of (c : Dev nD) (r : Ref sig .tc) (h : ∀ w : Fin cfg4.W, Pipeline.arrRef spec4 w = r → (cfg4.win w).isOut = false) :
    W6 m ρ c (Proc.devRef .tc r) = W5 m ρ c (Proc.devRef .tc r) := by
  by_cases hw : ∃ w : Fin cfg4.W, Pipeline.arrRef spec4 w = r
  · obtain ⟨w, rfl⟩ := hw
    exact (W6_arr m ρ c w).trans (((dat4 (V5 m ρ) c).arrAt_in w (h w rfl) _).trans (A_eq4 (V5 m ρ) c w))
  · exact W6_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn4 a ha)).trans (W5_args m ρ c a ha)
/-- The same read at the TensorCore's references (region 4's exit contents). -/
abbrev V6 : (c : Dev nD) → (b : Ref sig .tc) → Buf (Elt F) ((c : Thread nD τ).loc b) := fun c b => W6 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-- After `hostOps5`. -/
abbrev W7 : Dev nD → Valuation τ sig (Elt F) := fun c => StableHlo.after hostOps5 (W6 m ρ c)
/-- A reference `hostOps5` does not write keeps its contents across it. -/
theorem W7_of (c : Dev nD) (r : Ref sig .tc) (h : r ∉ hostOps5_W) : W7 m ρ c (Proc.devRef .tc r) = W6 m ρ c (Proc.devRef .tc r) :=
  StableHlo.after_of_writes_sub hostOps5 _ hostOps5_writes h
theorem W7_args (c : Dev nD) : ∀ a ∈ argRefs, W7 m ρ c (Proc.devRef .tc a) = m ((c : Thread nD τ).loc a) :=
  fun a ha => (W7_of m ρ c a (hostOps5_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)
theorem W7_main_arg6 (c : Dev nD) : W7 m ρ c (Proc.devRef .tc main_arg6) = m ((c : Thread nD τ).loc main_arg6) :=
  W7_args m ρ c main_arg6 (by decide)
theorem W7_main_arg7 (c : Dev nD) : W7 m ρ c (Proc.devRef .tc main_arg7) = m ((c : Thread nD τ).loc main_arg7) :=
  W7_args m ρ c main_arg7 (by decide)
theorem W7_main_arg8 (c : Dev nD) : W7 m ρ c (Proc.devRef .tc main_arg8) = m ((c : Thread nD τ).loc main_arg8) :=
  W7_args m ρ c main_arg8 (by decide)
theorem W7_main_arg9 (c : Dev nD) : W7 m ρ c (Proc.devRef .tc main_arg9) = m ((c : Thread nD τ).loc main_arg9) :=
  W7_args m ρ c main_arg9 (by decide)

/-! ## The proof data family and the thread state -/

/-- The prefetched tables' admissible contents: no pipeline has a table. -/
abbrev adm : (p : Fin 5) → (pcfgs (F := F) p).Adm := fun p => (cfgs p).toPCfg_adm
/-- Every pipeline's exact proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V4 m ρ) c
  | ⟨4, _⟩ => fun c => dat4 (V5 m ρ) c
/-- The data of the run: the windows that a body stores row by row are held to the predicates of the two last regions. -/
def rdats : (p : Fin 5) → (c : Dev nD) → RDat τ (Elt F) Unit ℕ (UR sig nD τ) ℕ (Pipeline.pin (pcfgs (F := F)) adm p) c
  | ⟨0, _⟩ => fun c => (dat0 (V0 m ρ) c).toR
  | ⟨1, _⟩ => fun c => (dat1 (V1 m ρ) c).toR
  | ⟨2, _⟩ => fun c => (dat2 (V2 m ρ) c).toR
  | ⟨3, _⟩ => fun c => (dat3 (V4 m ρ) c).toRRel fgt3 (Rl3 (V4 m ρ) c)
  | ⟨4, _⟩ => fun c => (dat4 (V5 m ρ) c).toRRel fgt4 (Rl4 (V5 m ρ) c)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).toR
  hwaits := RDat.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := RDat.arrays_of_unscopedBufs (p := 0) (pcfgs (F := F)) adm (rdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    have hx : (rdats m ρ 0 c).arraysAt cfg0.N ⊢ ((pdats m ρ 0 c).arrays ((pdats m ρ 0 c).arrAt · cfg0.N) : sProp 𝕄) :=
      (pdats m ρ 0 c).toR_arraysAt_post cfg0.N
    iintro ⟨Ha, HO, HY, Hrest⟩
    ihave Hb := hx $$ Ha
    imodintro
    isplitl [Hb Hrest]
    · iapply hjoin; isplitl [Hb] <;> iassumption
    isplitl [HY]; · iexact HY
    unfold RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg1 : RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).toR
  hwaits := RDat.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := RDat.arrays_of_unscopedBufs (p := 1) (pcfgs (F := F)) adm (rdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    have hx : (rdats m ρ 1 c).arraysAt cfg1.N ⊢ ((pdats m ρ 1 c).arrays ((pdats m ρ 1 c).arrAt · cfg1.N) : sProp 𝕄) :=
      (pdats m ρ 1 c).toR_arraysAt_post cfg1.N
    iintro ⟨Ha, HO, HY, Hrest⟩
    ihave Hb := hx $$ Ha
    imodintro
    isplitl [Hb Hrest]
    · iapply hjoin; isplitl [Hb] <;> iassumption
    isplitl [HY]; · iexact HY
    unfold RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg2 : RDat.RegionSeg (pcfgs (F := F)) adm (rdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).toR
  hwaits := RDat.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := RDat.arrays_of_unscopedBufs (p := 2) (pcfgs (F := F)) adm (rdats m ρ) launch2.win launch2.arr_whole c
      ((pdats m ρ 2 c).share_full fun _ => rfl) (V2 m ρ c) (A_eq2 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    have hx : (rdats m ρ 2 c).arraysAt cfg2.N ⊢ ((pdats m ρ 2 c).arrays ((pdats m ρ 2 c).arrAt · cfg2.N) : sProp 𝕄) :=
      (pdats m ρ 2 c).toR_arraysAt_post cfg2.N
    iintro ⟨Ha, HO, HY, Hrest⟩
    ihave Hb := hx $$ Ha
    imodintro
    isplitl [Hb Hrest]
    · iapply hjoin; isplitl [Hb] <;> iassumption
    isplitl [HY]; · iexact HY
    unfold RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg3 : RDat.RegionSeg (pcfgs (F := F)) adm (rdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).toRRel
  hwaits := RDat.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := RDat.arrays_of_unscopedBufs (p := 3) (pcfgs (F := F)) adm (rdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    have hx : (rdats m ρ 3 c).arraysAt cfg3.N ⊢ ((pdats m ρ 3 c).arrays ((pdats m ρ 3 c).arrAt · cfg3.N) : sProp 𝕄) :=
      Cert.RowData.arraysAt_exact (dat3 (V4 m ρ) c) fgt3 (Rl3 (V4 m ρ) c) (Rl3_exact (V4 m ρ) c) cfg3.N
    iintro ⟨Ha, HO, HY, Hrest⟩
    ihave Hb := hx $$ Ha
    imodintro
    isplitl [Hb Hrest]
    · iapply hjoin; isplitl [Hb] <;> iassumption
    isplitl [HY]; · iexact HY
    unfold RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 4 (custom_call 4) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg4 : RDat.RegionSeg (pcfgs (F := F)) adm (rdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).toRRel
  hwaits := RDat.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := RDat.arrays_of_unscopedBufs (p := 4) (pcfgs (F := F)) adm (rdats m ρ) launch4.win launch4.arr_whole c
      ((pdats m ρ 4 c).share_full fun _ => rfl) (V5 m ρ c) (A_eq4 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V5 m ρ) c)
    unfold Pipeline.ΦA
    iintro ⟨Hp, -, Hr⟩
    isplitl [Hr]; · iexact Hr
    iexact Hp
  hout c := by
    rw [Pipeline.ownSems0_none]
    refine BIBase.Entails.trans (hout4 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    have hx : (rdats m ρ 4 c).arraysAt cfg4.N ⊢ ((pdats m ρ 4 c).arrays ((pdats m ρ 4 c).arrAt · cfg4.N) : sProp 𝕄) :=
      Cert.RowData.arraysAt_exact (dat4 (V5 m ρ) c) fgt4 (Rl4 (V5 m ρ) c) (Rl4_exact (V5 m ρ) c) cfg4.N
    iintro ⟨Ha, HO, HY, Hrest⟩
    ihave Hb := hx $$ Ha
    imodintro
    isplitl [Hb Hrest]
    · iapply hjoin; isplitl [Hb] <;> iassumption
    isplitl [HY]; · iexact HY
    unfold RDat.owesAt Pipeline.owesWithin
    icases HO with ⟨%W, -, HO⟩; iexists W; iexact HO

/-! ## @main as segments, and the launch -/

/-- @main's 7 segments in order: a host segment per stretch from its boundary's contents, a region per pallas_call. -/
abbrev segs : List (RDat.Seg (pcfgs (F := F)) adm (rdats m ρ) () defs₀ 𝒱₀ L lv) :=
  [ .region (reg0 m ρ),
    .region (reg1 m ρ),
    .region (reg2 m ρ),
    .host (hseg hostOps3 hostOps3_sub hostOps3_fresh (W3 m ρ)),
    .region (reg3 m ρ),
    .region (reg4 m ρ),
    .host (hseg hostOps5 hostOps5_sub hostOps5_fresh (W6 m ρ)) ]
/-- @main IS the run of the segments. -/
theorem main_run (c : Dev nD) : main (F := F) c = RDat.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main terminates, nothing faulting, with every unscoped
    buffer at the last boundary's contents and every semaphore counter at zero. -/
theorem run : θ_run defs (onTc (τ := τ) (main (F := F))) ⟨m, fun _ => 0, ρ⟩ (fun r => (∀ (c : Dev nD) (b : Ref sig .tc),
      ¬ (Proc.devRef .tc b : DevRef τ sig).isScoped → r.2.mem ((c.tc : Thread nD τ).loc b) = W7 m ρ c (Proc.devRef .tc b))
      ∧ r.2.sem = fun _ => 0) :=
  RDat.θ_run_regions_kit_sems (pcfgs (F := F)) adm (rdats m ρ) () cellOf_inj emb₁ defs₀ 𝒱₀ L lv m ρ main (segs m ρ)
    (fun c Q => by rw [main_run m ρ c])
    (by show List.Nodup ([0, 1, 2, 3, 4] : List (Fin 5)); decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [RDat.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨fun c b hb => h c _ (mem_uc b hb), funext fun g => hz g (.inr (no_unscoped g.2))⟩)

/-- THE FRAME: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨(h.1 c main_arg0 (by decide)).trans (W7_main_arg0 m ρ c),
    (h.1 c main_arg1 (by decide)).trans (W7_main_arg1 m ρ c),
    (h.1 c main_arg2 (by decide)).trans (W7_main_arg2 m ρ c),
    (h.1 c main_arg3 (by decide)).trans (W7_main_arg3 m ρ c),
    (h.1 c main_arg4 (by decide)).trans (W7_main_arg4 m ρ c),
    (h.1 c main_arg5 (by decide)).trans (W7_main_arg5 m ρ c),
    (h.1 c main_arg6 (by decide)).trans (W7_main_arg6 m ρ c),
    (h.1 c main_arg7 (by decide)).trans (W7_main_arg7 m ρ c),
    (h.1 c main_arg8 (by decide)).trans (W7_main_arg8 m ρ c),
    (h.1 c main_arg9 (by decide)).trans (W7_main_arg9 m ρ c)⟩, h.2⟩) (run m ρ)

end Cert.Kernel.Hand

end
-- ==== Proof.KernelIdeal.Deq.lean ====
/- The three dequantising regions: what their bodies leave, the triples, the proof data and the body obligations. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when a region is entered
variable (V : (c : Dev nD) → (b : Ref sig .tc) → Buf (Elt F) ((c : Thread nD τ).loc b))

/-! ## The body's accesses, the same in the three regions -/

abbrev rs : Rect S8x1024 := Rect.unit (s := S8x1024) ![0, 0] S8x1024.size inb_S8x1024_S8x1024_0_0
abbrev rw0 : Rect S512x1024 := Rect.unit (s := S512x1024) ![0, 0] S64x1024.size inb_S512x1024_S64x1024_0_0
abbrev ro0 : Rect S1024x1024 := Rect.unit (s := S1024x1024) ![0, 0] S128x1024.size inb_S1024x1024_S128x1024_0_0
abbrev rw1 : Rect S512x1024 := Rect.unit (s := S512x1024) ![64, 0] S64x1024.size inb_S512x1024_S64x1024_64_0
abbrev ro1 : Rect S1024x1024 := Rect.unit (s := S1024x1024) ![128, 0] S128x1024.size inb_S1024x1024_S128x1024_128_0
abbrev rw2 : Rect S512x1024 := Rect.unit (s := S512x1024) ![128, 0] S64x1024.size inb_S512x1024_S64x1024_128_0
abbrev ro2 : Rect S1024x1024 := Rect.unit (s := S1024x1024) ![256, 0] S128x1024.size inb_S1024x1024_S128x1024_256_0
abbrev rw3 : Rect S512x1024 := Rect.unit (s := S512x1024) ![192, 0] S64x1024.size inb_S512x1024_S64x1024_192_0
abbrev ro3 : Rect S1024x1024 := Rect.unit (s := S1024x1024) ![384, 0] S128x1024.size inb_S1024x1024_S128x1024_384_0
abbrev rw4 : Rect S512x1024 := Rect.unit (s := S512x1024) ![256, 0] S64x1024.size inb_S512x1024_S64x1024_256_0
abbrev ro4 : Rect S1024x1024 := Rect.unit (s := S1024x1024) ![512, 0] S128x1024.size inb_S1024x1024_S128x1024_512_0
abbrev rw5 : Rect S512x1024 := Rect.unit (s := S512x1024) ![320, 0] S64x1024.size inb_S512x1024_S64x1024_320_0
abbrev ro5 : Rect S1024x1024 := Rect.unit (s := S1024x1024) ![640, 0] S128x1024.size inb_S1024x1024_S128x1024_640_0
abbrev rw6 : Rect S512x1024 := Rect.unit (s := S512x1024) ![384, 0] S64x1024.size inb_S512x1024_S64x1024_384_0
abbrev ro6 : Rect S1024x1024 := Rect.unit (s := S1024x1024) ![768, 0] S128x1024.size inb_S1024x1024_S128x1024_768_0
abbrev rw7 : Rect S512x1024 := Rect.unit (s := S512x1024) ![448, 0] S64x1024.size inb_S512x1024_S64x1024_448_0
abbrev ro7 : Rect S1024x1024 := Rect.unit (s := S1024x1024) ![896, 0] S128x1024.size inb_S1024x1024_S128x1024_896_0

/-- One group of 128 output rows: 64 rows of packed codes, each giving its low and its high half, times the group's scales. -/
def deqGroup (s : FVec F S1x1024 .f32) (w : Vec F S64x1024 .i8) : FVec F S128x1024 .bf16 :=
  have v4 : IVec S64x1024 32 := extui 32 w natLt_8_32
  have v6 : IVec S64x1024 32 := broadcast S64x1024 28#32
  have v7 : IVec S64x1024 32 := shli v4 v6
  have v8 : IVec S64x1024 32 := broadcast S64x1024 28#32
  have v9 : IVec S64x1024 32 := shrsi v7 v8
  have v10 : FVec F S64x1024 .f32 := sitofp .f32 v9
  have v11 : FVec F S64x1024 .f32 := broadcastTo S64x1024 s broadcasts_S1x1024_S64x1024
  have v12 : FVec F S64x1024 .f32 := mulf v10 v11
  have v13 : IVec S64x1024 32 := broadcast S64x1024 24#32
  have v14 : IVec S64x1024 32 := shli v4 v13
  have v15 : IVec S64x1024 32 := broadcast S64x1024 28#32
  have v16 : IVec S64x1024 32 := shrsi v14 v15
  have v17 : FVec F S64x1024 .f32 := sitofp .f32 v16
  have v18 : FVec F S64x1024 .f32 := broadcastTo S64x1024 s broadcasts_S1x1024_S64x1024
  have v19 : FVec F S64x1024 .f32 := mulf v17 v18
  have v20_lo : FVec F S64x1024 .bf16 := truncf .bf16 v12
  have v20_hi : FVec F S64x1024 .bf16 := truncf .bf16 v19
  have v21 : FVec F S128x1024 .bf16 := interleaveRows S128x1024 v20_lo v20_hi bitcasts_S128x1024_w16_S64x1024_w32
  v21

/-- The whole output block from the block of codes and the block of scales: eight groups, last stored first. -/
def deqBlock (x0 : Vec F S512x1024 .i8) (x1 : Vec F S8x1024 .f32) : Vec F S1024x1024 .bf16 :=
  View.canon [⟨ro7, deqGroup (extractStridedSlice S1x1024 ![7, 0] (k0_pay2 (View.ld x1 rs)) slices_S8x1024_o7_0_S1x1024) (View.ld x0 rw7)⟩,
    ⟨ro6, deqGroup (extractStridedSlice S1x1024 ![6, 0] (k0_pay2 (View.ld x1 rs)) slices_S8x1024_o6_0_S1x1024) (View.ld x0 rw6)⟩,
    ⟨ro5, deqGroup (extractStridedSlice S1x1024 ![5, 0] (k0_pay2 (View.ld x1 rs)) slices_S8x1024_o5_0_S1x1024) (View.ld x0 rw5)⟩,
    ⟨ro4, deqGroup (extractStridedSlice S1x1024 ![4, 0] (k0_pay2 (View.ld x1 rs)) slices_S8x1024_o4_0_S1x1024) (View.ld x0 rw4)⟩,
    ⟨ro3, deqGroup (extractStridedSlice S1x1024 ![3, 0] (k0_pay2 (View.ld x1 rs)) slices_S8x1024_o3_0_S1x1024) (View.ld x0 rw3)⟩,
    ⟨ro2, deqGroup (extractStridedSlice S1x1024 ![2, 0] (k0_pay2 (View.ld x1 rs)) slices_S8x1024_o2_0_S1x1024) (View.ld x0 rw2)⟩,
    ⟨ro1, deqGroup (extractStridedSlice S1x1024 ![1, 0] (k0_pay2 (View.ld x1 rs)) slices_S8x1024_o1_0_S1x1024) (View.ld x0 rw1)⟩,
    ⟨ro0, deqGroup (extractStridedSlice S1x1024 ![0, 0] (k0_pay2 (View.ld x1 rs)) slices_S8x1024_o0_0_S1x1024) (View.ld x0 rw0)⟩]

theorem cover_deq (p0 : Vec F S128x1024 .bf16) (p1 : Vec F S128x1024 .bf16) (p2 : Vec F S128x1024 .bf16) (p3 : Vec F S128x1024 .bf16) (p4 : Vec F S128x1024 .bf16) (p5 : Vec F S128x1024 .bf16) (p6 : Vec F S128x1024 .bf16) (p7 : Vec F S128x1024 .bf16) (y : S1024x1024.Idx) :
    ∃ pc ∈ ([⟨ro7, p0⟩, ⟨ro6, p1⟩, ⟨ro5, p2⟩, ⟨ro4, p3⟩, ⟨ro3, p4⟩, ⟨ro2, p5⟩, ⟨ro1, p6⟩, ⟨ro0, p7⟩] : List (View.Piece (Elt F) S1024x1024 .bf16)), y ∈ pc.1.set :=
  View.cover_of_tiled [⟨ro7, p0⟩, ⟨ro6, p1⟩, ⟨ro5, p2⟩, ⟨ro4, p3⟩, ⟨ro3, p4⟩, ⟨ro2, p5⟩, ⟨ro1, p6⟩, ⟨ro0, p7⟩] S128x1024.size (by rfl) y

/-! # Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
theorem sound_kernel0 (c : Dev nD) (E : Set ℕ) (i : grid0.Coords) (arg2 : Memref sig .tc .vmem S512x1024 .i8) (harg2 : arg2.IsWhole) (arg3 : Memref sig .tc .vmem S8x1024 .f32) (harg3 : arg3.IsWhole) (arg4 : Memref sig .tc .vmem S1024x1024 .bf16) (harg4 : arg4.IsWhole)
    (x0 : Vec F S512x1024 .i8) (x1 : Vec F S8x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (deqBlock x0 x1)) -∗ K ⟨⟩))
      ⊢ wp frame (wpE (defs₀ (F := F)) Variants.none c none) E (cc0_dequant i arg2 harg2 arg3 harg3 arg4 harg4) K := by
  simp only [cc0_dequant_eq_skeleton]; unfold cc0_dequant_skel
  simp only [k0_part1_eq_skeleton, k0_part2_eq_skeleton, k0_part3_eq_skeleton, k0_part4_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover_deq _ _ _ _ _ _ _ _)).trans ?_
  rfl

/-- The proof data: the arrays as the region finds them; each input's buffer left at its block, the output's at `deqBlock` of the two. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => deqBlock (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = deqBlock (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
theorem sound_kernel1 (c : Dev nD) (E : Set ℕ) (i : grid1.Coords) (arg2 : Memref sig .tc .vmem S512x1024 .i8) (harg2 : arg2.IsWhole) (arg3 : Memref sig .tc .vmem S8x1024 .f32) (harg3 : arg3.IsWhole) (arg4 : Memref sig .tc .vmem S1024x1024 .bf16) (harg4 : arg4.IsWhole)
    (x0 : Vec F S512x1024 .i8) (x1 : Vec F S8x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (deqBlock x0 x1)) -∗ K ⟨⟩))
      ⊢ wp frame (wpE (defs₀ (F := F)) Variants.none c none) E (cc1_dequant i arg2 harg2 arg3 harg3 arg4 harg4) K := by
  have e : cc1_dequant (F := F) i arg2 harg2 arg3 harg3 arg4 harg4 = cc0_dequant i arg2 harg2 arg3 harg3 arg4 harg4 := rfl
  rw [e]
  exact sound_kernel0 c E i arg2 harg2 arg3 harg3 arg4 harg4 x0 x1 K

/-- The proof data: the arrays as the region finds them; each input's buffer left at its block, the output's at `deqBlock` of the two. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => deqBlock (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = deqBlock (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # Region 2 -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

set_option maxHeartbeats 1000000 in
theorem sound_kernel2 (c : Dev nD) (E : Set ℕ) (i : grid2.Coords) (arg2 : Memref sig .tc .vmem S512x1024 .i8) (harg2 : arg2.IsWhole) (arg3 : Memref sig .tc .vmem S8x1024 .f32) (harg3 : arg3.IsWhole) (arg4 : Memref sig .tc .vmem S1024x1024 .bf16) (harg4 : arg4.IsWhole)
    (x0 : Vec F S512x1024 .i8) (x1 : Vec F S8x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (deqBlock x0 x1)) -∗ K ⟨⟩))
      ⊢ wp frame (wpE (defs₀ (F := F)) Variants.none c none) E (cc2_dequant i arg2 harg2 arg3 harg3 arg4 harg4) K := by
  have e : cc2_dequant (F := F) i arg2 harg2 arg3 harg3 arg4 harg4 = cc0_dequant (grid0.coords ⟨0, by decide⟩) arg2 harg2 arg3 harg3 arg4 harg4 := rfl
  rw [e]
  exact sound_kernel0 c E (grid0.coords ⟨0, by decide⟩) arg2 harg2 arg3 harg3 arg4 harg4 x0 x1 K

/-- The proof data: the arrays as the region finds them; each input's buffer left at its block, the output's at `deqBlock` of the two. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => deqBlock (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = deqBlock (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Hand
-- ==== Proof.KernelIdeal.Gate.lean ====
/- The gate and up region: what its body leaves, the triple, the proof data (the row of scales held to a predicate) and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pointwise.Index
public import Idealize.ShloMosaic.Lib.VecWindow
public import proofs.«01_k».proof.Proof.RowData

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when a region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev gx : Rect S256x1024 := Rect.unit (s := S256x1024) ![0, 0] S256x1024.size inb_S256x1024_S256x1024_0_0
abbrev gp : Rect S256x128 := Rect.unit (s := S256x128) ![0, 0] S256x128.size inb_S256x128_S256x128_0_0
abbrev gw0 : Rect S1024x2048 := Rect.unit (s := S1024x2048) ![0, 0] S1024x256.size inb_S1024x2048_S1024x256_0_0
abbrev gh0 : Rect S256x2048 := Rect.unit (s := S256x2048) ![0, 0] S256x256.size inb_S256x2048_S256x256_0_0
abbrev gw1 : Rect S1024x2048 := Rect.unit (s := S1024x2048) ![0, 256] S1024x256.size inb_S1024x2048_S1024x256_0_256
abbrev gh1 : Rect S256x2048 := Rect.unit (s := S256x2048) ![0, 256] S256x256.size inb_S256x2048_S256x256_0_256
abbrev gw2 : Rect S1024x2048 := Rect.unit (s := S1024x2048) ![0, 512] S1024x256.size inb_S1024x2048_S1024x256_0_512
abbrev gh2 : Rect S256x2048 := Rect.unit (s := S256x2048) ![0, 512] S256x256.size inb_S256x2048_S256x256_0_512
abbrev gw3 : Rect S1024x2048 := Rect.unit (s := S1024x2048) ![0, 768] S1024x256.size inb_S1024x2048_S1024x256_0_768
abbrev gh3 : Rect S256x2048 := Rect.unit (s := S256x2048) ![0, 768] S256x256.size inb_S256x2048_S256x256_0_768
abbrev gw4 : Rect S1024x2048 := Rect.unit (s := S1024x2048) ![0, 1024] S1024x256.size inb_S1024x2048_S1024x256_0_1024
abbrev gh4 : Rect S256x2048 := Rect.unit (s := S256x2048) ![0, 1024] S256x256.size inb_S256x2048_S256x256_0_1024
abbrev gw5 : Rect S1024x2048 := Rect.unit (s := S1024x2048) ![0, 1280] S1024x256.size inb_S1024x2048_S1024x256_0_1280
abbrev gh5 : Rect S256x2048 := Rect.unit (s := S256x2048) ![0, 1280] S256x256.size inb_S256x2048_S256x256_0_1280
abbrev gw6 : Rect S1024x2048 := Rect.unit (s := S1024x2048) ![0, 1536] S1024x256.size inb_S1024x2048_S1024x256_0_1536
abbrev gh6 : Rect S256x2048 := Rect.unit (s := S256x2048) ![0, 1536] S256x256.size inb_S256x2048_S256x256_0_1536
abbrev gw7 : Rect S1024x2048 := Rect.unit (s := S1024x2048) ![0, 1792] S1024x256.size inb_S1024x2048_S1024x256_0_1792
abbrev gh7 : Rect S256x2048 := Rect.unit (s := S256x2048) ![0, 1792] S256x256.size inb_S256x2048_S256x256_0_1792

/-! ## What the body leaves, by the first chunk's payload functions -/

abbrev gxv (x0 : Vec F S256x1024 .bf16) : FVec F S256x1024 .bf16 := k3_pay3 (View.ld x0 gx)
abbrev gxs (x0 : Vec F S256x1024 .bf16) : FVec F S256x1 .f32 := k3_pay5 (View.ld x0 gx)
abbrev gxc (x0 : Vec F S256x1024 .bf16) : FVec F S256x1024 .bf16 := k3_pay8 (View.ld x0 gx)
/-- The row of scales of the 256 tokens. -/
def rowScale3 (x0 : Vec F S256x1024 .bf16) : FVec F S1x256 .f32 := k3_pay9 (k3_pay4 (View.ld x0 gx))
/-- The larger of the magnitudes at `j` and at `j + 128` of a row of 256. -/
def foldAbs (h : FVec F S256x256 .f32) : FVec F S256x128 .f32 :=
  maximumf (extractStridedSlice S256x128 ![0, 0] (absf h) slices_S256x256_o0_0_S256x128)
    (extractStridedSlice S256x128 ![0, 128] (absf h) slices_S256x256_o0_128_S256x128)

def out3_5 (x0 : Vec F S256x1024 .bf16) : Vec F S256x1024 .i8 := View.canon [⟨gx, k3_pay7 (View.ld x0 gx)⟩]
theorem cover3_5 (p0 : Vec F S256x1024 .i8) (y : S256x1024.Idx) :
    ∃ pc ∈ ([⟨gx, p0⟩] : List (View.Piece (Elt F) S256x1024 .i8)), y ∈ pc.1.set :=
  View.cover_of_tiled [⟨gx, p0⟩] S256x1024.size (by rfl) y
theorem cover3_p (p0 : Vec F S256x128 .f32) (y : S256x128.Idx) :
    ∃ pc ∈ ([⟨gp, p0⟩] : List (View.Piece (Elt F) S256x128 .f32)), y ∈ pc.1.set :=
  View.cover_of_tiled [⟨gp, p0⟩] S256x128.size (by rfl) y
theorem cover3_f (p0 : Vec F S256x256 .f32) (p1 : Vec F S256x256 .f32) (p2 : Vec F S256x256 .f32) (p3 : Vec F S256x256 .f32) (p4 : Vec F S256x256 .f32) (p5 : Vec F S256x256 .f32) (p6 : Vec F S256x256 .f32) (p7 : Vec F S256x256 .f32) (y : S256x2048.Idx) :
    ∃ pc ∈ ([⟨gh7, p0⟩, ⟨gh6, p1⟩, ⟨gh5, p2⟩, ⟨gh4, p3⟩, ⟨gh3, p4⟩, ⟨gh2, p5⟩, ⟨gh1, p6⟩, ⟨gh0, p7⟩] : List (View.Piece (Elt F) S256x2048 .f32)), y ∈ pc.1.set :=
  View.cover_of_tiled [⟨gh7, p0⟩, ⟨gh6, p1⟩, ⟨gh5, p2⟩, ⟨gh4, p3⟩, ⟨gh3, p4⟩, ⟨gh2, p5⟩, ⟨gh1, p6⟩, ⟨gh0, p7⟩] S256x256.size (by rfl) y
theorem cover3_b (p0 : Vec F S256x256 .bf16) (p1 : Vec F S256x256 .bf16) (p2 : Vec F S256x256 .bf16) (p3 : Vec F S256x256 .bf16) (p4 : Vec F S256x256 .bf16) (p5 : Vec F S256x256 .bf16) (p6 : Vec F S256x256 .bf16) (p7 : Vec F S256x256 .bf16) (y : S256x2048.Idx) :
    ∃ pc ∈ ([⟨gh7, p0⟩, ⟨gh6, p1⟩, ⟨gh5, p2⟩, ⟨gh4, p3⟩, ⟨gh3, p4⟩, ⟨gh2, p5⟩, ⟨gh1, p6⟩, ⟨gh0, p7⟩] : List (View.Piece (Elt F) S256x2048 .bf16)), y ∈ pc.1.set :=
  View.cover_of_tiled [⟨gh7, p0⟩, ⟨gh6, p1⟩, ⟨gh5, p2⟩, ⟨gh4, p3⟩, ⟨gh3, p4⟩, ⟨gh2, p5⟩, ⟨gh1, p6⟩, ⟨gh0, p7⟩] S256x256.size (by rfl) y
def out3_7 (x0 : Vec F S256x1024 .bf16) (x3 : Vec F S1024x2048 .bf16) (x4 : Vec F S1024x2048 .bf16) : Vec F S256x2048 .f32 :=
  View.canon [⟨gh7, k3_pay14 (gxs x0) (gxc x0) (View.ld x3 gw7) (View.ld x4 gw7)⟩,
    ⟨gh6, k3_pay14 (gxs x0) (gxc x0) (View.ld x3 gw6) (View.ld x4 gw6)⟩,
    ⟨gh5, k3_pay14 (gxs x0) (gxc x0) (View.ld x3 gw5) (View.ld x4 gw5)⟩,
    ⟨gh4, k3_pay14 (gxs x0) (gxc x0) (View.ld x3 gw4) (View.ld x4 gw4)⟩,
    ⟨gh3, k3_pay14 (gxs x0) (gxc x0) (View.ld x3 gw3) (View.ld x4 gw3)⟩,
    ⟨gh2, k3_pay14 (gxs x0) (gxc x0) (View.ld x3 gw2) (View.ld x4 gw2)⟩,
    ⟨gh1, k3_pay14 (gxs x0) (gxc x0) (View.ld x3 gw1) (View.ld x4 gw1)⟩,
    ⟨gh0, k3_pay14 (gxs x0) (gxc x0) (View.ld x3 gw0) (View.ld x4 gw0)⟩]
def out3_8 (x0 : Vec F S256x1024 .bf16) (x1 : Vec F S1024x2048 .bf16) (x2 : Vec F S1024x2048 .bf16) : Vec F S256x2048 .f32 :=
  View.canon [⟨gh7, k3_pay15 (gxv x0) (View.ld x1 gw7) (View.ld x2 gw7)⟩,
    ⟨gh6, k3_pay15 (gxv x0) (View.ld x1 gw6) (View.ld x2 gw6)⟩,
    ⟨gh5, k3_pay15 (gxv x0) (View.ld x1 gw5) (View.ld x2 gw5)⟩,
    ⟨gh4, k3_pay15 (gxv x0) (View.ld x1 gw4) (View.ld x2 gw4)⟩,
    ⟨gh3, k3_pay15 (gxv x0) (View.ld x1 gw3) (View.ld x2 gw3)⟩,
    ⟨gh2, k3_pay15 (gxv x0) (View.ld x1 gw2) (View.ld x2 gw2)⟩,
    ⟨gh1, k3_pay15 (gxv x0) (View.ld x1 gw1) (View.ld x2 gw1)⟩,
    ⟨gh0, k3_pay15 (gxv x0) (View.ld x1 gw0) (View.ld x2 gw0)⟩]
def out3_9 (x0 : Vec F S256x1024 .bf16) (x2 : Vec F S1024x2048 .bf16) (x3 : Vec F S1024x2048 .bf16) : Vec F S256x2048 .bf16 :=
  View.canon [⟨gh7, k3_pay16 (gxv x0) (gxs x0) (gxc x0) (View.ld x2 gw7) (View.ld x3 gw7)⟩,
    ⟨gh6, k3_pay16 (gxv x0) (gxs x0) (gxc x0) (View.ld x2 gw6) (View.ld x3 gw6)⟩,
    ⟨gh5, k3_pay16 (gxv x0) (gxs x0) (gxc x0) (View.ld x2 gw5) (View.ld x3 gw5)⟩,
    ⟨gh4, k3_pay16 (gxv x0) (gxs x0) (gxc x0) (View.ld x2 gw4) (View.ld x3 gw4)⟩,
    ⟨gh3, k3_pay16 (gxv x0) (gxs x0) (gxc x0) (View.ld x2 gw3) (View.ld x3 gw3)⟩,
    ⟨gh2, k3_pay16 (gxv x0) (gxs x0) (gxc x0) (View.ld x2 gw2) (View.ld x3 gw2)⟩,
    ⟨gh1, k3_pay16 (gxv x0) (gxs x0) (gxc x0) (View.ld x2 gw1) (View.ld x3 gw1)⟩,
    ⟨gh0, k3_pay16 (gxv x0) (gxs x0) (gxc x0) (View.ld x2 gw0) (View.ld x3 gw0)⟩]
def out3_10 (x0 : Vec F S256x1024 .bf16) (x1 : Vec F S1024x2048 .bf16) (x4 : Vec F S1024x2048 .bf16) : Vec F S256x2048 .bf16 :=
  View.canon [⟨gh7, k3_pay17 (gxv x0) (gxs x0) (gxc x0) (View.ld x1 gw7) (View.ld x4 gw7)⟩,
    ⟨gh6, k3_pay17 (gxv x0) (gxs x0) (gxc x0) (View.ld x1 gw6) (View.ld x4 gw6)⟩,
    ⟨gh5, k3_pay17 (gxv x0) (gxs x0) (gxc x0) (View.ld x1 gw5) (View.ld x4 gw5)⟩,
    ⟨gh4, k3_pay17 (gxv x0) (gxs x0) (gxc x0) (View.ld x1 gw4) (View.ld x4 gw4)⟩,
    ⟨gh3, k3_pay17 (gxv x0) (gxs x0) (gxc x0) (View.ld x1 gw3) (View.ld x4 gw3)⟩,
    ⟨gh2, k3_pay17 (gxv x0) (gxs x0) (gxc x0) (View.ld x1 gw2) (View.ld x4 gw2)⟩,
    ⟨gh1, k3_pay17 (gxv x0) (gxs x0) (gxc x0) (View.ld x1 gw1) (View.ld x4 gw1)⟩,
    ⟨gh0, k3_pay17 (gxv x0) (gxs x0) (gxc x0) (View.ld x1 gw0) (View.ld x4 gw0)⟩]
def out3_11 (x0 : Vec F S256x1024 .bf16) (x3 : Vec F S1024x2048 .bf16) (x4 : Vec F S1024x2048 .bf16) : Vec F S256x128 .f32 :=
  View.canon [⟨gp, maximumf (maximumf (maximumf (maximumf (maximumf (maximumf (maximumf (foldAbs (k3_pay14 (gxs x0) (gxc x0) (View.ld x3 gw0) (View.ld x4 gw0))) (foldAbs (k3_pay14 (gxs x0) (gxc x0) (View.ld x3 gw1) (View.ld x4 gw1)))) (foldAbs (k3_pay14 (gxs x0) (gxc x0) (View.ld x3 gw2) (View.ld x4 gw2)))) (foldAbs (k3_pay14 (gxs x0) (gxc x0) (View.ld x3 gw3) (View.ld x4 gw3)))) (foldAbs (k3_pay14 (gxs x0) (gxc x0) (View.ld x3 gw4) (View.ld x4 gw4)))) (foldAbs (k3_pay14 (gxs x0) (gxc x0) (View.ld x3 gw5) (View.ld x4 gw5)))) (foldAbs (k3_pay14 (gxs x0) (gxc x0) (View.ld x3 gw6) (View.ld x4 gw6)))) (foldAbs (k3_pay14 (gxs x0) (gxc x0) (View.ld x3 gw7) (View.ld x4 gw7)))⟩]
def out3_12 (x0 : Vec F S256x1024 .bf16) (x1 : Vec F S1024x2048 .bf16) (x2 : Vec F S1024x2048 .bf16) : Vec F S256x128 .f32 :=
  View.canon [⟨gp, maximumf (maximumf (maximumf (maximumf (maximumf (maximumf (maximumf (foldAbs (k3_pay15 (gxv x0) (View.ld x1 gw0) (View.ld x2 gw0))) (foldAbs (k3_pay15 (gxv x0) (View.ld x1 gw1) (View.ld x2 gw1)))) (foldAbs (k3_pay15 (gxv x0) (View.ld x1 gw2) (View.ld x2 gw2)))) (foldAbs (k3_pay15 (gxv x0) (View.ld x1 gw3) (View.ld x2 gw3)))) (foldAbs (k3_pay15 (gxv x0) (View.ld x1 gw4) (View.ld x2 gw4)))) (foldAbs (k3_pay15 (gxv x0) (View.ld x1 gw5) (View.ld x2 gw5)))) (foldAbs (k3_pay15 (gxv x0) (View.ld x1 gw6) (View.ld x2 gw6)))) (foldAbs (k3_pay15 (gxv x0) (View.ld x1 gw7) (View.ld x2 gw7)))⟩]

/-! ## The body's triple -/

set_option maxHeartbeats 2000000 in
theorem sound_kernel3 (c : Dev nD) (E : Set ℕ) (i : grid3.Coords) (arg2 : Memref sig .tc .vmem S256x1024 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S256x1024 .i8) (harg7 : arg7.IsWhole) (arg8 : Memref sig .tc .vmem S6x1536 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x128 .f32) (harg13 : arg13.IsWhole) (arg14 : Memref sig .tc .vmem S256x128 .f32) (harg14 : arg14.IsWhole)
    (x0 : Vec F S256x1024 .bf16) (x1 : Vec F S1024x2048 .bf16) (x2 : Vec F S1024x2048 .bf16) (x3 : Vec F S1024x2048 .bf16) (x4 : Vec F S1024x2048 .bf16) (y : Vec F S6x1536 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out3_5 x0) ∗ owns (c : Thread nD τ) arg8 fullShare (VecWindow.put y (k3_off1 i) S1x256.size (rowScale3 x0)) ∗ owns (c : Thread nD τ) arg9 fullShare (out3_7 x0 x3 x4) ∗ owns (c : Thread nD τ) arg10 fullShare (out3_8 x0 x1 x2) ∗ owns (c : Thread nD τ) arg11 fullShare (out3_9 x0 x2 x3) ∗ owns (c : Thread nD τ) arg12 fullShare (out3_10 x0 x1 x4) ∗ owns (c : Thread nD τ) arg13 fullShare (out3_11 x0 x3 x4) ∗ owns (c : Thread nD τ) arg14 fullShare (out3_12 x0 x1 x2)) -∗ K ⟨⟩))
      ⊢ wp frame (wpE (defs₀ (F := F)) Variants.none c none) E (cc3_gate_up i arg2 harg2 arg3 harg3 arg4 harg4 arg5 harg5 arg6 harg6 arg7 harg7 arg8 harg8 arg9 harg9 arg10 harg10 arg11 harg11 arg12 harg12 arg13 harg13 arg14 harg14) K := by
  simp only [cc3_gate_up_eq_skeleton]; unfold cc3_gate_up_skel
  simp only [k3_part1_eq_skeleton, k3_part2_eq_skeleton, k3_part3_eq_skeleton, k3_part4_eq_skeleton, k3_part5_eq_skeleton, k3_part6_eq_skeleton, k3_part7_eq_skeleton, k3_part8_eq_skeleton, k3_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf0 hf1 hf2 hf3 hf4 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover3_5 _)).trans ?_
    rfl
  isplitl [H6]
  · iexists _; isplitr
    swap; · iexact H6
    ipureintro
    exact View.read_writes_cons_put _ _ _ _ [] rfl
  isplitl [H7]
  · iexists _; isplitr
    swap; · iexact H7
    ipureintro
    refine (View.read_writes_eq_canon _ _ _ (cover3_f _ _ _ _ _ _ _ _)).trans ?_
    rfl
  isplitl [H8]
  · iexists _; isplitr
    swap; · iexact H8
    ipureintro
    refine (View.read_writes_eq_canon _ _ _ (cover3_f _ _ _ _ _ _ _ _)).trans ?_
    rfl
  isplitl [H9]
  · iexists _; isplitr
    swap; · iexact H9
    ipureintro
    refine (View.read_writes_eq_canon _ _ _ (cover3_b _ _ _ _ _ _ _ _)).trans ?_
    rfl
  isplitl [H10]
  · iexists _; isplitr
    swap; · iexact H10
    ipureintro
    refine (View.read_writes_eq_canon _ _ _ (cover3_b _ _ _ _ _ _ _ _)).trans ?_
    rfl
  isplitl [H11]
  · iexists _; isplitr
    swap; · iexact H11
    ipureintro
    refine (View.read_writes_eq_canon _ _ _ (cover3_p _)).trans ?_
    rfl
  iexists _; isplitr
  swap; · iexact H12
  ipureintro
  refine (View.read_writes_eq_canon _ _ _ (cover3_p _)).trans ?_
  rfl

/-! ## The proof data -/

theorem N3 : cfg3.N = 72 := rfl

/-- Every token's scale: token `256 * (6 * r + q) + l` at row `r`, column `256 * q + l`, from the block of point `6 * r + q`. -/
def xsAll3 (c : Dev nD) : Vec F S6x1536 .f32 := fun j =>
  rowScale3 (iblk3 V c 0 ⟨6 * (j 0).val + (j 1).val / 256, by
    have h0 : (j 0).val < 6 := (j 0).isLt
    have h1 : (j 1).val < 1536 := (j 1).isLt
    rw [N3]; omega⟩) (ix2 0 ⟨(j 1).val % 256, Nat.mod_lt _ (by omega)⟩)

/-- The arrays as the region finds them; each input's buffer left at its block, each output's at `out3_W`; the scales' buffer at its final contents. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t)
    | ⟨6, _⟩ => xsAll3 V c
    | ⟨7, _⟩ => out3_7 (iblk3 V c 0 t) (iblk3 V c 3 t) (iblk3 V c 4 t)
    | ⟨8, _⟩ => out3_8 (iblk3 V c 0 t) (iblk3 V c 1 t) (iblk3 V c 2 t)
    | ⟨9, _⟩ => out3_9 (iblk3 V c 0 t) (iblk3 V c 2 t) (iblk3 V c 3 t)
    | ⟨10, _⟩ => out3_10 (iblk3 V c 0 t) (iblk3 V c 1 t) (iblk3 V c 4 t)
    | ⟨11, _⟩ => out3_11 (iblk3 V c 0 t) (iblk3 V c 3 t) (iblk3 V c 4 t)
    | ⟨12, _⟩ => out3_12 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) := by dsimp only [dat3]
theorem after3_6 (c : Dev nD) (t : Fin cfg3.N) : (dat3 V c).after 6 t = xsAll3 V c := by dsimp only [dat3]
theorem after3_7 (c : Dev nD) (t : Fin cfg3.N) : (dat3 V c).after 7 t = out3_7 (iblk3 V c 0 t) (iblk3 V c 3 t) (iblk3 V c 4 t) := by dsimp only [dat3]
theorem after3_8 (c : Dev nD) (t : Fin cfg3.N) : (dat3 V c).after 8 t = out3_8 (iblk3 V c 0 t) (iblk3 V c 1 t) (iblk3 V c 2 t) := by dsimp only [dat3]
theorem after3_9 (c : Dev nD) (t : Fin cfg3.N) : (dat3 V c).after 9 t = out3_9 (iblk3 V c 0 t) (iblk3 V c 2 t) (iblk3 V c 3 t) := by dsimp only [dat3]
theorem after3_10 (c : Dev nD) (t : Fin cfg3.N) : (dat3 V c).after 10 t = out3_10 (iblk3 V c 0 t) (iblk3 V c 1 t) (iblk3 V c 4 t) := by dsimp only [dat3]
theorem after3_11 (c : Dev nD) (t : Fin cfg3.N) : (dat3 V c).after 11 t = out3_11 (iblk3 V c 0 t) (iblk3 V c 3 t) (iblk3 V c 4 t) := by dsimp only [dat3]
theorem after3_12 (c : Dev nD) (t : Fin cfg3.N) : (dat3 V c).after 12 t = out3_12 (iblk3 V c 0 t) (iblk3 V c 1 t) (iblk3 V c 2 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- The window of scales is the one held to a predicate. -/
def fgt3 : Fin cfg3.W → Bool
  | ⟨6, _⟩ => true
  | _ => false

/-- After point `t` the scales of the points up to `t` are in place. -/
def Rl3 (c : Dev nD) : (w : Fin cfg3.W) → Fin cfg3.N → ((cfg3.win w).block.Idx → Elt F (cfg3.win w).elt) → Prop
  | ⟨6, _⟩ => fun t X => ∀ j : S6x1536.Idx, 6 * (j 0).val + (j 1).val / 256 ≤ t.val → X j = xsAll3 V c j
  | _ => fun _ _ => True

theorem Rl3_exact (c : Dev nD) (w : Fin cfg3.W) (hw : fgt3 w = true) (t : Fin cfg3.N) (ht : (cfg3.win w).flush t = true)
    (X : (cfg3.win w).block.Idx → Elt F (cfg3.win w).elt) (hX : Rl3 V c w t X) : X = (dat3 V c).after w t := by
  match w, hw with
  | ⟨6, _⟩, _ =>
    rw [show (dat3 V c).after ⟨6, _⟩ t = xsAll3 V c from after3_6 V c t]
    have h71 : t.val % 72 = 71 := (flush3_6 t).mp ht
    exact funext fun (j : S6x1536.Idx) => (show ∀ j : S6x1536.Idx, 6 * (j 0).val + (j 1).val / 256 ≤ t.val → X j = xsAll3 V c j from hX) j (by
      have h0 : (j 0).val < 6 := (j 0).isLt
      have h1 : (j 1).val < 1536 := (j 1).isLt
      omega)

theorem off3_eq : ∀ t : Fin cfg3.N, k3_off1 (grid3.coords t) = ![t.val % 36 / 6, t.val % 36 % 6 * 256] := by decide +kernel

theorem index3_0 : ∀ t : Fin cfg3.N, win3_0.index t = ![t.val % 36, 0] := by decide +kernel

/-- The token block of point `t` holds the 256 tokens from `256 * (t % 36)` on. -/
theorem iblk3_0_apply (c : Dev nD) (t : Fin cfg3.N) (j : S256x1024.Idx) :
    (iblk3 V c 0 t : Vec F S256x1024 .bf16) j
      = (V c main_v3 : Vec F S9216x1024 .bf16) (ix2 ⟨256 * (t.val % 36) + (j 0).val, by
          have h0 : (j 0).val < 256 := (j 0).isLt
          omega⟩ (j 1)) := by
  show (V c main_v3 : Vec F S9216x1024 .bf16) ((win3_0.rect t).emb j) = _
  refine congrArg _ (funext fun a => Fin.ext ?_)
  rw [win3_0.rect_emb_val t j a rfl, index3_0]
  match a with
  | ⟨0, _⟩ => show t.val % 36 * 256 + (j 0).val = 256 * (t.val % 36) + (j 0).val; omega
  | ⟨1, _⟩ => show 0 * 1024 + (j 1).val = (j 1).val; omega

/-- The token block of a point is that of the same point of the first pass. -/
theorem iblk3_mod (c : Dev nD) (t t' : Fin cfg3.N) (h : t'.val = t.val % 36) :
    (iblk3 V c 0 t' : Vec F S256x1024 .bf16) = (iblk3 V c 0 t : Vec F S256x1024 .bf16) := by
  funext j
  rw [iblk3_0_apply, iblk3_0_apply]
  have e : t'.val % 36 = t.val % 36 := by omega
  simp only [e]

/-- One point's step of the scales. -/
theorem row_step3 (c : Dev nD) (t : Fin cfg3.N) (Y : Vec F S6x1536 .f32) (hY : (((dat3 V c).toRRel fgt3 (Rl3 V c)).Finds 6 t Y)) :
    Rl3 V c 6 t (VecWindow.put Y (k3_off1 (grid3.coords t)) S1x256.size (rowScale3 (iblk3 V c 0 t))) := by
  intro j hj
  have h0 : (j 0).val < 6 := (j 0).isLt
  have h1 : (j 1).val < 1536 := (j 1).isLt
  have ht : t.val < 72 := t.isLt
  rw [off3_eq]
  unfold VecWindow.put
  split
  · rename_i h
    have a0 := h 0
    have a1 := h 1
    simp at a0 a1
    unfold xsAll3
    rw [iblk3_mod V c t ⟨6 * (j 0).val + (j 1).val / 256, by rw [N3]; omega⟩ (by show _ = _; simp; omega)]
    congr 1
    funext a
    apply Fin.ext
    match a with
    | ⟨0, _⟩ => simp; omega
    | ⟨1, _⟩ => simp; omega
  · rename_i h
    have hne : 6 * (j 0).val + (j 1).val / 256 ≠ t.val % 36 := fun e => h fun a => by
      match a with
      | ⟨0, _⟩ => simp; omega
      | ⟨1, _⟩ => simp; omega
    have hpos : t.val ≠ 0 := fun e => hne (by rw [e] at hj ⊢; omega)
    have hp : Rl3 V c 6 ⟨t.val - 1, Nat.lt_of_le_of_lt (Nat.sub_le _ _) t.isLt⟩ Y :=
      Cert.RowData.finds_prev (dat3 V c) rfl rfl hpos (by
        cases hfl : (cfg3.win 6).flush ⟨t.val - 1, Nat.lt_of_le_of_lt (Nat.sub_le _ _) t.isLt⟩
        · rfl
        · have := (flush3_6 _).mp hfl
          simp at this; omega) hY
    exact hp j (by show _ ≤ t.val - 1; omega)

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ Y, ⌜((dat3 V c).toRRel fgt3 (Rl3 V c)).Finds 6 t Y⌝ ∗ owns (c : Thread nD τ) (st3_6 t) fullShare Y)
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ (∃ X, ⌜Rl3 V c 6 t X⌝ ∗ owns (c : Thread nD τ) (st3_6 t) fullShare X)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t))

set_option maxHeartbeats 1000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_7, after3_8, after3_9, after3_10, after3_11, after3_12]
  iintro ⟨HΦ, Ho, ⟨%d0, H0⟩, ⟨%d1, H1⟩, ⟨%d2, H2⟩, ⟨%d3, H3⟩, ⟨%d4, H4⟩, ⟨%d5, H5⟩, ⟨%y, %hy, H6⟩, ⟨%d7, H7⟩, ⟨%d8, H8⟩, ⟨%d9, H9⟩, ⟨%d10, H10⟩, ⟨%d11, H11⟩, ⟨%d12, H12⟩⟩
  iapply (sound_kernel3 c Set.univ (grid3.coords t) _ _ _ _ _ _ _ _ _ _ _ _ _ _ _ _ _ _ _ _ _ _ _ _ _ _ (iblk3 V c 0 t) (iblk3 V c 1 t) (iblk3 V c 2 t) (iblk3 V c 3 t) (iblk3 V c 4 t) y _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; exact row_step3 V c t y hy
  isplitl [H7]; · iexact H7
  isplitl [H8]; · iexact H8
  isplitl [H9]; · iexact H9
  isplitl [H10]; · iexact H10
  isplitl [H11]; · iexact H11
  iexact H12

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) :
    Pipeline.BodyObligationRel (dat3 (F := F) V c) (defs₀ (F := F)) Variants.none () Set.univ fgt3 (Rl3 V c) := fun t => by
  rw [bigSep_W3, bigSep_W3, defs₀_row3]
  exact triple_restated (sound_body3 V c t) rfl .rfl fun _ => .rfl

end Cert.KernelIdeal.Hand
-- ==== Proof.KernelIdeal.Down.lean ====
/- The down region: what its body leaves, the triple by cases of the point, the proof data (the partly stored windows held to predicates, the accumulator carried) and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pointwise.Index
public import Idealize.ShloMosaic.Lib.VecWindow
public import proofs.«01_k».proof.Proof.RowData

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when a region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev dM : Rect S256x4096 := Rect.unit (s := S256x4096) ![0, 0] S256x4096.size inb_S256x4096_S256x4096_0_0
abbrev dP : Rect S256x256 := Rect.unit (s := S256x256) ![0, 0] S256x256.size inb_S256x256_S256x256_0_0
abbrev dE : Rect S4x1024 := Rect.unit (s := S4x1024) ![0, 0] S4x1024.size inb_S4x1024_S4x1024_0_0
abbrev dAll : Rect S4x8x1024 := Rect.unit (s := S4x8x1024) ![0, 0, 0] S4x8x1024.size inb_S4x8x1024_S4x8x1024_0_0_0
abbrev dw0 : Rect S4096x1024 := Rect.unit (s := S4096x1024) ![0, 0] S4096x256.size inb_S4096x1024_S4096x256_0_0
abbrev dy0 : Rect S256x1024 := Rect.unit (s := S256x1024) ![0, 0] S256x256.size inb_S256x1024_S256x256_0_0
abbrev da00 : Rect S4x8x1024 := Rect.unit (s := S4x8x1024) ![0, 0, 0] S1x8x256.size inb_S4x8x1024_S1x8x256_0_0_0
abbrev da10 : Rect S4x8x1024 := Rect.unit (s := S4x8x1024) ![1, 0, 0] S1x8x256.size inb_S4x8x1024_S1x8x256_1_0_0
abbrev da20 : Rect S4x8x1024 := Rect.unit (s := S4x8x1024) ![2, 0, 0] S1x8x256.size inb_S4x8x1024_S1x8x256_2_0_0
abbrev da30 : Rect S4x8x1024 := Rect.unit (s := S4x8x1024) ![3, 0, 0] S1x8x256.size inb_S4x8x1024_S1x8x256_3_0_0
abbrev dw1 : Rect S4096x1024 := Rect.unit (s := S4096x1024) ![0, 256] S4096x256.size inb_S4096x1024_S4096x256_0_256
abbrev dy1 : Rect S256x1024 := Rect.unit (s := S256x1024) ![0, 256] S256x256.size inb_S256x1024_S256x256_0_256
abbrev da01 : Rect S4x8x1024 := Rect.unit (s := S4x8x1024) ![0, 0, 256] S1x8x256.size inb_S4x8x1024_S1x8x256_0_0_256
abbrev da11 : Rect S4x8x1024 := Rect.unit (s := S4x8x1024) ![1, 0, 256] S1x8x256.size inb_S4x8x1024_S1x8x256_1_0_256
abbrev da21 : Rect S4x8x1024 := Rect.unit (s := S4x8x1024) ![2, 0, 256] S1x8x256.size inb_S4x8x1024_S1x8x256_2_0_256
abbrev da31 : Rect S4x8x1024 := Rect.unit (s := S4x8x1024) ![3, 0, 256] S1x8x256.size inb_S4x8x1024_S1x8x256_3_0_256
abbrev dw2 : Rect S4096x1024 := Rect.unit (s := S4096x1024) ![0, 512] S4096x256.size inb_S4096x1024_S4096x256_0_512
abbrev dy2 : Rect S256x1024 := Rect.unit (s := S256x1024) ![0, 512] S256x256.size inb_S256x1024_S256x256_0_512
abbrev da02 : Rect S4x8x1024 := Rect.unit (s := S4x8x1024) ![0, 0, 512] S1x8x256.size inb_S4x8x1024_S1x8x256_0_0_512
abbrev da12 : Rect S4x8x1024 := Rect.unit (s := S4x8x1024) ![1, 0, 512] S1x8x256.size inb_S4x8x1024_S1x8x256_1_0_512
abbrev da22 : Rect S4x8x1024 := Rect.unit (s := S4x8x1024) ![2, 0, 512] S1x8x256.size inb_S4x8x1024_S1x8x256_2_0_512
abbrev da32 : Rect S4x8x1024 := Rect.unit (s := S4x8x1024) ![3, 0, 512] S1x8x256.size inb_S4x8x1024_S1x8x256_3_0_512
abbrev dw3 : Rect S4096x1024 := Rect.unit (s := S4096x1024) ![0, 768] S4096x256.size inb_S4096x1024_S4096x256_0_768
abbrev dy3 : Rect S256x1024 := Rect.unit (s := S256x1024) ![0, 768] S256x256.size inb_S256x1024_S256x256_0_768
abbrev da03 : Rect S4x8x1024 := Rect.unit (s := S4x8x1024) ![0, 0, 768] S1x8x256.size inb_S4x8x1024_S1x8x256_0_0_768
abbrev da13 : Rect S4x8x1024 := Rect.unit (s := S4x8x1024) ![1, 0, 768] S1x8x256.size inb_S4x8x1024_S1x8x256_1_0_768
abbrev da23 : Rect S4x8x1024 := Rect.unit (s := S4x8x1024) ![2, 0, 768] S1x8x256.size inb_S4x8x1024_S1x8x256_2_0_768
abbrev da33 : Rect S4x8x1024 := Rect.unit (s := S4x8x1024) ![3, 0, 768] S1x8x256.size inb_S4x8x1024_S1x8x256_3_0_768

/-! ## What the body leaves, by functions of one chunk of 256 columns -/

/-- The 32 groups of 8 rows of a chunk, added. -/
def colSum8 (e : FVec F S256x256 .f32) : FVec F S8x256 .f32 :=
  addf (addf (addf (addf (addf (addf (addf (addf (addf (addf (addf (addf (addf (addf (addf (addf (addf (addf (addf (addf (addf (addf (addf (addf (addf (addf (addf (addf (addf (addf (addf (extractStridedSlice S8x256 ![0, 0] e slices_S256x256_o0_0_S8x256) (extractStridedSlice S8x256 ![8, 0] e slices_S256x256_o8_0_S8x256)) (extractStridedSlice S8x256 ![16, 0] e slices_S256x256_o16_0_S8x256)) (extractStridedSlice S8x256 ![24, 0] e slices_S256x256_o24_0_S8x256)) (extractStridedSlice S8x256 ![32, 0] e slices_S256x256_o32_0_S8x256)) (extractStridedSlice S8x256 ![40, 0] e slices_S256x256_o40_0_S8x256)) (extractStridedSlice S8x256 ![48, 0] e slices_S256x256_o48_0_S8x256)) (extractStridedSlice S8x256 ![56, 0] e slices_S256x256_o56_0_S8x256)) (extractStridedSlice S8x256 ![64, 0] e slices_S256x256_o64_0_S8x256)) (extractStridedSlice S8x256 ![72, 0] e slices_S256x256_o72_0_S8x256)) (extractStridedSlice S8x256 ![80, 0] e slices_S256x256_o80_0_S8x256)) (extractStridedSlice S8x256 ![88, 0] e slices_S256x256_o88_0_S8x256)) (extractStridedSlice S8x256 ![96, 0] e slices_S256x256_o96_0_S8x256)) (extractStridedSlice S8x256 ![104, 0] e slices_S256x256_o104_0_S8x256)) (extractStridedSlice S8x256 ![112, 0] e slices_S256x256_o112_0_S8x256)) (extractStridedSlice S8x256 ![120, 0] e slices_S256x256_o120_0_S8x256)) (extractStridedSlice S8x256 ![128, 0] e slices_S256x256_o128_0_S8x256)) (extractStridedSlice S8x256 ![136, 0] e slices_S256x256_o136_0_S8x256)) (extractStridedSlice S8x256 ![144, 0] e slices_S256x256_o144_0_S8x256)) (extractStridedSlice S8x256 ![152, 0] e slices_S256x256_o152_0_S8x256)) (extractStridedSlice S8x256 ![160, 0] e slices_S256x256_o160_0_S8x256)) (extractStridedSlice S8x256 ![168, 0] e slices_S256x256_o168_0_S8x256)) (extractStridedSlice S8x256 ![176, 0] e slices_S256x256_o176_0_S8x256)) (extractStridedSlice S8x256 ![184, 0] e slices_S256x256_o184_0_S8x256)) (extractStridedSlice S8x256 ![192, 0] e slices_S256x256_o192_0_S8x256)) (extractStridedSlice S8x256 ![200, 0] e slices_S256x256_o200_0_S8x256)) (extractStridedSlice S8x256 ![208, 0] e slices_S256x256_o208_0_S8x256)) (extractStridedSlice S8x256 ![216, 0] e slices_S256x256_o216_0_S8x256)) (extractStridedSlice S8x256 ![224, 0] e slices_S256x256_o224_0_S8x256)) (extractStridedSlice S8x256 ![232, 0] e slices_S256x256_o232_0_S8x256)) (extractStridedSlice S8x256 ![240, 0] e slices_S256x256_o240_0_S8x256)) (extractStridedSlice S8x256 ![248, 0] e slices_S256x256_o248_0_S8x256)
/-- The two halves of a chunk's columns, added. -/
def foldAdd (e : FVec F S256x256 .f32) : FVec F S256x128 .f32 :=
  addf (extractStridedSlice S256x128 ![0, 0] e slices_S256x256_o0_0_S256x128) (extractStridedSlice S256x128 ![0, 128] e slices_S256x256_o0_128_S256x128)
/-- One piece of the accumulator after a chunk. -/
def accPiece (v : Vec F S1x8x256 .f32) (e : FVec F S256x256 .f32) : FVec F S1x8x256 .f32 :=
  shapeCast S1x8x256 (addf (shapeCast S8x256 v shapeCasts_S1x8x256_S8x256) (colSum8 e)) shapeCasts_S8x256_S1x8x256
abbrev sq (e : FVec F S256x256 .f32) : FVec F S256x256 .f32 := mulf e e

abbrev dhr (x1 : Vec F S256x4096 .f32) : FVec F S256x4096 .bf16 := k4_pay3 (View.ld x1 dM)
abbrev dfs (x4 : Vec F S256x256 .f32) : FVec F S256x1 .f32 := k4_pay8 (k4_pay4 (View.ld x4 dP)) (k4_pay5 (View.ld x4 dP))
abbrev dfc (x0 : Vec F S256x4096 .f32) (x4 : Vec F S256x256 .f32) : FVec F S256x4096 .bf16 := k4_pay11 (k4_pay4 (View.ld x4 dP)) (k4_pay5 (View.ld x4 dP)) (View.ld x0 dM)
/-- The differences' squares of the four variants, for a chunk `w` of the weights and `d` of the unpacked weights. -/
def eSq0 (x0 : Vec F S256x4096 .f32) (x1 : Vec F S256x4096 .f32) (x4 : Vec F S256x256 .f32) (w d : Vec F S4096x256 .bf16) : FVec F S256x256 .f32 := k4_pay23 (dhr x1) (dfs x4) (dfc x0 x4) w d
def eSq1 (x1 : Vec F S256x4096 .f32) (x2 : Vec F S256x4096 .bf16) (w : Vec F S4096x256 .bf16) : FVec F S256x256 .f32 := k4_pay29 (k4_pay18 (dhr x1) w) (k4_pay19 (View.ld x2 dM) w)
def eSq2 (x1 : Vec F S256x4096 .f32) (x3 : Vec F S256x4096 .bf16) (w : Vec F S4096x256 .bf16) : FVec F S256x256 .f32 := k4_pay29 (k4_pay18 (dhr x1) w) (k4_pay20 (View.ld x3 dM) w)
def eSq3 (x1 : Vec F S256x4096 .f32) (x5 : Vec F S256x256 .f32) (w d : Vec F S4096x256 .bf16) : FVec F S256x256 .f32 :=
  k4_pay29 (k4_pay18 (dhr x1) w) (k4_pay21 (k4_pay14 (View.ld x5 dP)) (k4_pay17 (View.ld x5 dP) (View.ld x1 dM)) d)
def ySq (x1 : Vec F S256x4096 .f32) (w : Vec F S4096x256 .bf16) : FVec F S256x256 .f32 := sq (k4_pay18 (dhr x1) w)
/-- The row of token sums of variant 0. -/
def etRow0 (x0 : Vec F S256x4096 .f32) (x1 : Vec F S256x4096 .f32) (x4 : Vec F S256x256 .f32) (x6 : Vec F S4096x1024 .bf16) (x7 : Vec F S4096x1024 .bf16) : FVec F S1x1x256 .f32 :=
  k4_pay122 (addf (addf (addf (foldAdd (eSq0 x0 x1 x4 (View.ld x6 dw0) (View.ld x7 dw0))) (foldAdd (eSq0 x0 x1 x4 (View.ld x6 dw1) (View.ld x7 dw1)))) (foldAdd (eSq0 x0 x1 x4 (View.ld x6 dw2) (View.ld x7 dw2)))) (foldAdd (eSq0 x0 x1 x4 (View.ld x6 dw3) (View.ld x7 dw3))))
/-- The row of token sums of variant 1. -/
def etRow1 (x1 : Vec F S256x4096 .f32) (x2 : Vec F S256x4096 .bf16) (x6 : Vec F S4096x1024 .bf16) : FVec F S1x1x256 .f32 :=
  k4_pay122 (addf (addf (addf (foldAdd (eSq1 x1 x2 (View.ld x6 dw0))) (foldAdd (eSq1 x1 x2 (View.ld x6 dw1)))) (foldAdd (eSq1 x1 x2 (View.ld x6 dw2)))) (foldAdd (eSq1 x1 x2 (View.ld x6 dw3))))
/-- The row of token sums of variant 2. -/
def etRow2 (x1 : Vec F S256x4096 .f32) (x3 : Vec F S256x4096 .bf16) (x6 : Vec F S4096x1024 .bf16) : FVec F S1x1x256 .f32 :=
  k4_pay122 (addf (addf (addf (foldAdd (eSq2 x1 x3 (View.ld x6 dw0))) (foldAdd (eSq2 x1 x3 (View.ld x6 dw1)))) (foldAdd (eSq2 x1 x3 (View.ld x6 dw2)))) (foldAdd (eSq2 x1 x3 (View.ld x6 dw3))))
/-- The row of token sums of variant 3. -/
def etRow3 (x1 : Vec F S256x4096 .f32) (x5 : Vec F S256x256 .f32) (x6 : Vec F S4096x1024 .bf16) (x7 : Vec F S4096x1024 .bf16) : FVec F S1x1x256 .f32 :=
  k4_pay122 (addf (addf (addf (foldAdd (eSq3 x1 x5 (View.ld x6 dw0) (View.ld x7 dw0))) (foldAdd (eSq3 x1 x5 (View.ld x6 dw1) (View.ld x7 dw1)))) (foldAdd (eSq3 x1 x5 (View.ld x6 dw2) (View.ld x7 dw2)))) (foldAdd (eSq3 x1 x5 (View.ld x6 dw3) (View.ld x7 dw3))))
/-- The row of token sums of the reference's squares. -/
def stRow (x1 : Vec F S256x4096 .f32) (x6 : Vec F S4096x1024 .bf16) : FVec F S1x256 .f32 :=
  k4_pay127 (addf (addf (addf (foldAdd (ySq x1 (View.ld x6 dw0))) (foldAdd (ySq x1 (View.ld x6 dw1)))) (foldAdd (ySq x1 (View.ld x6 dw2)))) (foldAdd (ySq x1 (View.ld x6 dw3))))
def fsRow (x4 : Vec F S256x256 .f32) : FVec F S1x256 .f32 := k4_pay7 (k4_pay4 (View.ld x4 dP)) (k4_pay5 (View.ld x4 dP))
def rsRow (x5 : Vec F S256x256 .f32) : FVec F S1x256 .f32 := k4_pay13 (View.ld x5 dP)
def out4_11 (x1 : Vec F S256x4096 .f32) (x6 : Vec F S4096x1024 .bf16) : Vec F S256x1024 .bf16 :=
  View.canon [⟨dy3, k4_pay22 (dhr x1) (View.ld x6 dw3)⟩, ⟨dy2, k4_pay22 (dhr x1) (View.ld x6 dw2)⟩, ⟨dy1, k4_pay22 (dhr x1) (View.ld x6 dw1)⟩, ⟨dy0, k4_pay22 (dhr x1) (View.ld x6 dw0)⟩]
def out4_12 (x0 : Vec F S256x4096 .f32) (x4 : Vec F S256x256 .f32) : Vec F S256x4096 .i8 :=
  View.canon [⟨dM, k4_pay10 (k4_pay4 (View.ld x4 dP)) (k4_pay5 (View.ld x4 dP)) (View.ld x0 dM)⟩]
def out4_14 (x1 : Vec F S256x4096 .f32) (x5 : Vec F S256x256 .f32) : Vec F S256x4096 .i8 :=
  View.canon [⟨dM, k4_pay16 (View.ld x5 dP) (View.ld x1 dM)⟩]
/-- The accumulator after a point. -/
def accStep (x0 : Vec F S256x4096 .f32) (x1 : Vec F S256x4096 .f32) (x2 : Vec F S256x4096 .bf16) (x3 : Vec F S256x4096 .bf16) (x4 : Vec F S256x256 .f32) (x5 : Vec F S256x256 .f32) (x6 : Vec F S4096x1024 .bf16) (x7 : Vec F S4096x1024 .bf16) (a : Vec F S4x8x1024 .f32) : Vec F S4x8x1024 .f32 :=
  View.canon [⟨da33, accPiece (View.ld a da33) (eSq3 x1 x5 (View.ld x6 dw3) (View.ld x7 dw3))⟩,
    ⟨da23, accPiece (View.ld a da23) (eSq2 x1 x3 (View.ld x6 dw3))⟩,
    ⟨da13, accPiece (View.ld a da13) (eSq1 x1 x2 (View.ld x6 dw3))⟩,
    ⟨da03, accPiece (View.ld a da03) (eSq0 x0 x1 x4 (View.ld x6 dw3) (View.ld x7 dw3))⟩,
    ⟨da32, accPiece (View.ld a da32) (eSq3 x1 x5 (View.ld x6 dw2) (View.ld x7 dw2))⟩,
    ⟨da22, accPiece (View.ld a da22) (eSq2 x1 x3 (View.ld x6 dw2))⟩,
    ⟨da12, accPiece (View.ld a da12) (eSq1 x1 x2 (View.ld x6 dw2))⟩,
    ⟨da02, accPiece (View.ld a da02) (eSq0 x0 x1 x4 (View.ld x6 dw2) (View.ld x7 dw2))⟩,
    ⟨da31, accPiece (View.ld a da31) (eSq3 x1 x5 (View.ld x6 dw1) (View.ld x7 dw1))⟩,
    ⟨da21, accPiece (View.ld a da21) (eSq2 x1 x3 (View.ld x6 dw1))⟩,
    ⟨da11, accPiece (View.ld a da11) (eSq1 x1 x2 (View.ld x6 dw1))⟩,
    ⟨da01, accPiece (View.ld a da01) (eSq0 x0 x1 x4 (View.ld x6 dw1) (View.ld x7 dw1))⟩,
    ⟨da30, accPiece (View.ld a da30) (eSq3 x1 x5 (View.ld x6 dw0) (View.ld x7 dw0))⟩,
    ⟨da20, accPiece (View.ld a da20) (eSq2 x1 x3 (View.ld x6 dw0))⟩,
    ⟨da10, accPiece (View.ld a da10) (eSq1 x1 x2 (View.ld x6 dw0))⟩,
    ⟨da00, accPiece (View.ld a da00) (eSq0 x0 x1 x4 (View.ld x6 dw0) (View.ld x7 dw0))⟩]
/-- The column sums, from the accumulator. -/
def ecOut (a : Vec F S4x8x1024 .f32) : Vec F S4x1024 .f32 := View.canon [⟨dE, k4_pay1 (View.ld a dAll)⟩]

theorem cover4_e (p0 : Vec F S4x1024 .f32) (y : S4x1024.Idx) :
    ∃ pc ∈ ([⟨dE, p0⟩] : List (View.Piece (Elt F) S4x1024 .f32)), y ∈ pc.1.set :=
  View.cover_of_tiled [⟨dE, p0⟩] S4x1024.size (by rfl) y
theorem cover4_i (p0 : Vec F S256x4096 .i8) (y : S256x4096.Idx) :
    ∃ pc ∈ ([⟨dM, p0⟩] : List (View.Piece (Elt F) S256x4096 .i8)), y ∈ pc.1.set :=
  View.cover_of_tiled [⟨dM, p0⟩] S256x4096.size (by rfl) y
theorem cover4_y (p0 p1 p2 p3 : Vec F S256x256 .bf16) (y : S256x1024.Idx) :
    ∃ pc ∈ ([⟨dy3, p3⟩, ⟨dy2, p2⟩, ⟨dy1, p1⟩, ⟨dy0, p0⟩] : List (View.Piece (Elt F) S256x1024 .bf16)), y ∈ pc.1.set :=
  View.cover_of_tiled [⟨dy3, p3⟩, ⟨dy2, p2⟩, ⟨dy1, p1⟩, ⟨dy0, p0⟩] S256x256.size (by rfl) y
theorem cover4_a (p33 p23 p13 p03 p32 p22 p12 p02 p31 p21 p11 p01 p30 p20 p10 p00 : Vec F S1x8x256 .f32) (y : S4x8x1024.Idx) :
    ∃ pc ∈ ([⟨da33, p33⟩, ⟨da23, p23⟩, ⟨da13, p13⟩, ⟨da03, p03⟩, ⟨da32, p32⟩, ⟨da22, p22⟩, ⟨da12, p12⟩, ⟨da02, p02⟩, ⟨da31, p31⟩, ⟨da21, p21⟩, ⟨da11, p11⟩, ⟨da01, p01⟩, ⟨da30, p30⟩, ⟨da20, p20⟩, ⟨da10, p10⟩, ⟨da00, p00⟩] : List (View.Piece (Elt F) S4x8x1024 .f32)), y ∈ pc.1.set :=
  View.cover_of_tiled [⟨da33, p33⟩, ⟨da23, p23⟩, ⟨da13, p13⟩, ⟨da03, p03⟩, ⟨da32, p32⟩, ⟨da22, p22⟩, ⟨da12, p12⟩, ⟨da02, p02⟩, ⟨da31, p31⟩, ⟨da21, p21⟩, ⟨da11, p11⟩, ⟨da01, p01⟩, ⟨da30, p30⟩, ⟨da20, p20⟩, ⟨da10, p10⟩, ⟨da00, p00⟩] S1x8x256.size (by rfl) y
/-- The same over a store of the whole. -/
theorem cover4_az (p33 p23 p13 p03 p32 p22 p12 p02 p31 p21 p11 p01 p30 p20 p10 p00 : Vec F S1x8x256 .f32) (z : Vec F S4x8x1024 .f32) (y : S4x8x1024.Idx) :
    ∃ pc ∈ ([⟨da33, p33⟩, ⟨da23, p23⟩, ⟨da13, p13⟩, ⟨da03, p03⟩, ⟨da32, p32⟩, ⟨da22, p22⟩, ⟨da12, p12⟩, ⟨da02, p02⟩, ⟨da31, p31⟩, ⟨da21, p21⟩, ⟨da11, p11⟩, ⟨da01, p01⟩, ⟨da30, p30⟩, ⟨da20, p20⟩, ⟨da10, p10⟩, ⟨da00, p00⟩, ⟨dAll, z⟩] : List (View.Piece (Elt F) S4x8x1024 .f32)), y ∈ pc.1.set := by
  obtain ⟨pc, h, hy⟩ := cover4_a p33 p23 p13 p03 p32 p22 p12 p02 p31 p21 p11 p01 p30 p20 p10 p00 y
  exact ⟨pc, by
    have h' := List.mem_append_left ([⟨dAll, z⟩] : List (View.Piece (Elt F) S4x8x1024 .f32)) h
    exact h', hy⟩

/-- Four stores of rows of the token sums, read back. -/
theorem read_put4 (v : View sig .tc .vmem S4x6x1536 .f32) (f : v.ty.Contents (Elt F)) {o1 o2 o3 o4 : Fin 3 → ℕ}
    (h1 : ∀ a, o1 a + S1x1x256.size a ≤ S4x6x1536.size a) (h2 : ∀ a, o2 a + S1x1x256.size a ≤ S4x6x1536.size a)
    (h3 : ∀ a, o3 a + S1x1x256.size a ≤ S4x6x1536.size a) (h4 : ∀ a, o4 a + S1x1x256.size a ≤ S4x6x1536.size a)
    (w1 w2 w3 w4 : Vec F S1x1x256 .f32) :
    v.read (Elt F) (v.writes (Elt F) f [⟨Rect.unit (s := S4x6x1536) o4 S1x1x256.size h4, w4⟩, ⟨Rect.unit (s := S4x6x1536) o3 S1x1x256.size h3, w3⟩,
        ⟨Rect.unit (s := S4x6x1536) o2 S1x1x256.size h2, w2⟩, ⟨Rect.unit (s := S4x6x1536) o1 S1x1x256.size h1, w1⟩])
      = VecWindow.put (VecWindow.put (VecWindow.put (VecWindow.put (v.read (Elt F) f) o1 S1x1x256.size w1) o2 S1x1x256.size w2) o3 S1x1x256.size w3) o4 S1x1x256.size w4 := by
  rw [View.read_writes_cons_put _ _ _ _ _ rfl, View.read_writes_cons_put _ _ _ _ _ rfl, View.read_writes_cons_put _ _ _ _ _ rfl, View.read_writes_cons_put _ _ _ _ _ rfl]
  rfl

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 := by decide +kernel
abbrev cond4_1 (i : grid4.Coords) : Prop := k4_cond2 i = 1#1
theorem hcond4_1 : ∀ t : Fin cfg4.N, cond4_1 (grid4.coords t) ↔ t.val = 35 := by decide +kernel

/-! ## The body's triple, by cases: the first point, a middle point, the last point -/

/-- A list of writes over a write of the whole, all apart from a box. -/
inductive Clear (r : Rect S4x8x1024) (z : Vec F S4x8x1024 .f32) : List (View.Piece (Elt F) S4x8x1024 .f32) → Prop
  | base : Clear r z [⟨dAll, z⟩]
  | step (p : View.Piece (Elt F) S4x8x1024 .f32) (L : List (View.Piece (Elt F) S4x8x1024 .f32)) (h : Disjoint p.1.set r.set) (hL : Clear r z L) : Clear r z (p :: L)

theorem clear_readCov (v : View sig .tc .vmem S4x8x1024 .f32) (L : List (View.Piece (Elt F) S4x8x1024 .f32)) (r : Rect S4x8x1024)
    (z : Vec F S4x8x1024 .f32) (h : Clear r z L) : v.readCov L r.toLoadRect = View.ld z r := by
  induction h with
  | base =>
    show View.ld (v.read (Elt F) (v.writes (Elt F) v.junk [⟨dAll, z⟩])) r = _
    exact congrArg (fun x => View.ld x r) (View.read_writes_full v v.junk _ z [])
  | step p L h hL ih =>
    exact (View.readCov_cons_of_disjoint v p L r.toLoadRect h).trans ih

theorem accPiece_eq {x : FVec F S1x8x256 .f32} (v v' : Vec F S1x8x256 .f32) (e : FVec F S256x256 .f32) (hx : x = accPiece v e) (h : v = v') :
    x = accPiece v' e := by rw [hx, h]

theorem canon16 {p33 p23 p13 p03 p32 p22 p12 p02 p31 p21 p11 p01 p30 p20 p10 p00 q33 q23 q13 q03 q32 q22 q12 q02 q31 q21 q11 q01 q30 q20 q10 q00 : Vec F S1x8x256 .f32} (h33 : p33 = q33) (h23 : p23 = q23) (h13 : p13 = q13) (h03 : p03 = q03) (h32 : p32 = q32) (h22 : p22 = q22) (h12 : p12 = q12) (h02 : p02 = q02) (h31 : p31 = q31) (h21 : p21 = q21) (h11 : p11 = q11) (h01 : p01 = q01) (h30 : p30 = q30) (h20 : p20 = q20) (h10 : p10 = q10) (h00 : p00 = q00) :
    (View.canon [⟨da33, p33⟩, ⟨da23, p23⟩, ⟨da13, p13⟩, ⟨da03, p03⟩, ⟨da32, p32⟩, ⟨da22, p22⟩, ⟨da12, p12⟩, ⟨da02, p02⟩, ⟨da31, p31⟩, ⟨da21, p21⟩, ⟨da11, p11⟩, ⟨da01, p01⟩, ⟨da30, p30⟩, ⟨da20, p20⟩, ⟨da10, p10⟩, ⟨da00, p00⟩] : Vec F S4x8x1024 .f32) = View.canon [⟨da33, q33⟩, ⟨da23, q23⟩, ⟨da13, q13⟩, ⟨da03, q03⟩, ⟨da32, q32⟩, ⟨da22, q22⟩, ⟨da12, q12⟩, ⟨da02, q02⟩, ⟨da31, q31⟩, ⟨da21, q21⟩, ⟨da11, q11⟩, ⟨da01, q01⟩, ⟨da30, q30⟩, ⟨da20, q20⟩, ⟨da10, q10⟩, ⟨da00, q00⟩] := by
  rw [h33, h23, h13, h03, h32, h22, h12, h02, h31, h21, h11, h01, h30, h20, h10, h00]

theorem writes_append {S : Shape} {e : EltTy} (v : View sig .tc .vmem S e) (f : v.ty.Contents (Elt F)) (L M : List (View.Piece (Elt F) S e)) :
    v.writes (Elt F) f (L ++ M) = v.writes (Elt F) (v.writes (Elt F) f M) L := by
  induction L with
  | nil => rfl
  | cons p L ih => exact congrArg (fun g => (v.slice p.1).write (Elt F) g p.2 Finset.univ) ih

/-- The accumulator's 16 pieces stored over a store of the whole. -/
theorem read_writes_az (v : View sig .tc .vmem S4x8x1024 .f32) (f : v.ty.Contents (Elt F)) (p33 p23 p13 p03 p32 p22 p12 p02 p31 p21 p11 p01 p30 p20 p10 p00 : Vec F S1x8x256 .f32) (z : Vec F S4x8x1024 .f32) :
    v.read (Elt F) (v.writes (Elt F) f [⟨da33, p33⟩, ⟨da23, p23⟩, ⟨da13, p13⟩, ⟨da03, p03⟩, ⟨da32, p32⟩, ⟨da22, p22⟩, ⟨da12, p12⟩, ⟨da02, p02⟩, ⟨da31, p31⟩, ⟨da21, p21⟩, ⟨da11, p11⟩, ⟨da01, p01⟩, ⟨da30, p30⟩, ⟨da20, p20⟩, ⟨da10, p10⟩, ⟨da00, p00⟩, ⟨dAll, z⟩]) = View.canon [⟨da33, p33⟩, ⟨da23, p23⟩, ⟨da13, p13⟩, ⟨da03, p03⟩, ⟨da32, p32⟩, ⟨da22, p22⟩, ⟨da12, p12⟩, ⟨da02, p02⟩, ⟨da31, p31⟩, ⟨da21, p21⟩, ⟨da11, p11⟩, ⟨da01, p01⟩, ⟨da30, p30⟩, ⟨da20, p20⟩, ⟨da10, p10⟩, ⟨da00, p00⟩] :=
  (congrArg (v.read (Elt F)) (writes_append v f [⟨da33, p33⟩, ⟨da23, p23⟩, ⟨da13, p13⟩, ⟨da03, p03⟩, ⟨da32, p32⟩, ⟨da22, p22⟩, ⟨da12, p12⟩, ⟨da02, p02⟩, ⟨da31, p31⟩, ⟨da21, p21⟩, ⟨da11, p11⟩, ⟨da01, p01⟩, ⟨da30, p30⟩, ⟨da20, p20⟩, ⟨da10, p10⟩, ⟨da00, p00⟩] [⟨dAll, z⟩])).trans (View.read_writes_eq_canon v _ [⟨da33, p33⟩, ⟨da23, p23⟩, ⟨da13, p13⟩, ⟨da03, p03⟩, ⟨da32, p32⟩, ⟨da22, p22⟩, ⟨da12, p12⟩, ⟨da02, p02⟩, ⟨da31, p31⟩, ⟨da21, p21⟩, ⟨da11, p11⟩, ⟨da01, p01⟩, ⟨da30, p30⟩, ⟨da20, p20⟩, ⟨da10, p10⟩, ⟨da00, p00⟩] (cover4_a p33 p23 p13 p03 p32 p22 p12 p02 p31 p21 p11 p01 p30 p20 p10 p00))

set_option maxHeartbeats 4000000 in
theorem sound_kernel4_A (c : Dev nD) (E : Set ℕ) (i : grid4.Coords) (arg1 : Memref sig .tc .vmem S256x4096 .f32) (harg1 : arg1.IsWhole) (arg2 : Memref sig .tc .vmem S256x4096 .f32) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x256 .f32) (harg5 : arg5.IsWhole) (arg6 : Memref sig .tc .vmem S256x256 .f32) (harg6 : arg6.IsWhole) (arg7 : Memref sig .tc .vmem S4096x1024 .bf16) (harg7 : arg7.IsWhole) (arg8 : Memref sig .tc .vmem S4096x1024 .bf16) (harg8 : arg8.IsWhole) (arg9 : Memref sig .tc .vmem S4x6x1536 .f32) (harg9 : arg9.IsWhole) (arg10 : Memref sig .tc .vmem S4x1024 .f32) (harg10 : arg10.IsWhole) (arg11 : Memref sig .tc .vmem S6x1536 .f32) (harg11 : arg11.IsWhole) (arg12 : Memref sig .tc .vmem S256x1024 .bf16) (harg12 : arg12.IsWhole) (arg13 : Memref sig .tc .vmem S256x4096 .i8) (harg13 : arg13.IsWhole) (arg14 : Memref sig .tc .vmem S6x1536 .f32) (harg14 : arg14.IsWhole) (arg15 : Memref sig .tc .vmem S256x4096 .i8) (harg15 : arg15.IsWhole) (arg16 : Memref sig .tc .vmem S6x1536 .f32) (harg16 : arg16.IsWhole) (arg17 : Memref sig .tc .vmem S4x8x1024 .f32) (harg17 : arg17.IsWhole)
    (hc0 : cond4_0 i) (hc1 : ¬cond4_1 i)
    (x0 : Vec F S256x4096 .f32) (x1 : Vec F S256x4096 .f32) (x2 : Vec F S256x4096 .bf16) (x3 : Vec F S256x4096 .bf16) (x4 : Vec F S256x256 .f32) (x5 : Vec F S256x256 .f32) (x6 : Vec F S4096x1024 .bf16) (x7 : Vec F S4096x1024 .bf16) (y8 : Vec F S4x6x1536 .f32) (y9 : Vec F S4x1024 .f32) (y10 : Vec F S6x1536 .f32) (y13 : Vec F S6x1536 .f32) (y15 : Vec F S6x1536 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ owns (c : Thread nD τ) arg11 fullShare y10 ∗ (∃ d, owns (c : Thread nD τ) arg12 fullShare d) ∗ (∃ d, owns (c : Thread nD τ) arg13 fullShare d) ∗ owns (c : Thread nD τ) arg14 fullShare y13 ∗ (∃ d, owns (c : Thread nD τ) arg15 fullShare d) ∗ owns (c : Thread nD τ) arg16 fullShare y15 ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (VecWindow.put (VecWindow.put (VecWindow.put (VecWindow.put y8 (k4_off2 i) S1x1x256.size (etRow0 x0 x1 x4 x6 x7)) (k4_off3 i) S1x1x256.size (etRow1 x1 x2 x6)) (k4_off4 i) S1x1x256.size (etRow2 x1 x3 x6)) (k4_off5 i) S1x1x256.size (etRow3 x1 x5 x6 x7)) ∗ owns (c : Thread nD τ) arg10 fullShare y9 ∗ owns (c : Thread nD τ) arg11 fullShare (VecWindow.put y10 (k4_off1 i) S1x256.size (stRow x1 x6)) ∗ owns (c : Thread nD τ) arg12 fullShare (out4_11 x1 x6) ∗ owns (c : Thread nD τ) arg13 fullShare (out4_12 x0 x4) ∗ owns (c : Thread nD τ) arg14 fullShare (VecWindow.put y13 (k4_off1 i) S1x256.size (fsRow x4)) ∗ owns (c : Thread nD τ) arg15 fullShare (out4_14 x1 x5) ∗ owns (c : Thread nD τ) arg16 fullShare (VecWindow.put y15 (k4_off1 i) S1x256.size (rsRow x5)) ∗ owns (c : Thread nD τ) arg17 fullShare (accStep x0 x1 x2 x3 x4 x5 x6 x7 k4_pay2)) -∗ K ⟨⟩))
      ⊢ wp frame (wpE (defs₀ (F := F)) Variants.none c none) E (cc4_down i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc4_down_eq_skeleton]; unfold cc4_down_skel
  simp only [k4_part30_eq_skeleton, k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%d14, %f14, -, H14⟩, ⟨%f15, %hf15, H15⟩, ⟨%d16, %f16, -, H16⟩, Hk⟩
  subst hf0 hf1 hf2 hf3 hf4 hf5 hf6 hf7 hf8 hf9 hf10 hf13 hf15
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact read_put4 _ _ _ _ _ _ _ _ _ _
  isplitl [H9]
  · iexists f9; isplitr; · ipureintro; rfl
    iexact H9
  isplitl [H10]
  · iexists _; isplitr
    swap; · iexact H10
    ipureintro
    exact View.read_writes_cons_put _ _ _ _ [] rfl
  isplitl [H11]
  · iexists _; isplitr
    swap; · iexact H11
    ipureintro
    refine (View.read_writes_eq_canon _ _ _ (cover4_y _ _ _ _)).trans ?_
    rfl
  isplitl [H12]
  · iexists _; isplitr
    swap; · iexact H12
    ipureintro
    refine (View.read_writes_eq_canon _ _ _ (cover4_i _)).trans ?_
    rfl
  isplitl [H13]
  · iexists _; isplitr
    swap; · iexact H13
    ipureintro
    exact View.read_writes_cons_put _ _ _ _ [] rfl
  isplitl [H14]
  · iexists _; isplitr
    swap; · iexact H14
    ipureintro
    refine (View.read_writes_eq_canon _ _ _ (cover4_i _)).trans ?_
    rfl
  isplitl [H15]
  · iexists _; isplitr
    swap; · iexact H15
    ipureintro
    exact View.read_writes_cons_put _ _ _ _ [] rfl
  iexists _; isplitr
  swap; · iexact H16
  ipureintro
  refine (read_writes_az _ _ _ _ _ _ _ _ _ _ _ _ _ _ _ _ _ _ _).trans ?_
  refine canon16 ?_ ?_ ?_ ?_ ?_ ?_ ?_ ?_ ?_ ?_ ?_ ?_ ?_ ?_ ?_ ?_
  · refine accPiece_eq _ _ _ rfl ?_
    refine clear_readCov _ _ _ _ ?_
    refine Clear.step _ _ (Rect.unit_disjoint (inb := inb_S4x8x1024_S1x8x256_2_0_768) (inb' := inb_S4x8x1024_S1x8x256_3_0_768) 0 (.inl (by decide))) ?_
    refine Clear.step _ _ (Rect.unit_disjoint (inb := inb_S4x8x1024_S1x8x256_1_0_768) (inb' := inb_S4x8x1024_S1x8x256_3_0_768) 0 (.inl (by decide))) ?_
    refine Clear.step _ _ (Rect.unit_disjoint (inb := inb_S4x8x1024_S1x8x256_0_0_768) (inb' := inb_S4x8x1024_S1x8x256_3_0_768) 0 (.inl (by decide))) ?_
    refine Clear.step _ _ (Rect.unit_disjoint (inb := inb_S4x8x1024_S1x8x256_3_0_512) (inb' := inb_S4x8x1024_S1x8x256_3_0_768) 2 (.inl (by decide))) ?_
    refine Clear.step _ _ (Rect.unit_disjoint (inb := inb_S4x8x1024_S1x8x256_2_0_512) (inb' := inb_S4x8x1024_S1x8x256_3_0_768) 0 (.inl (by decide))) ?_
    refine Clear.step _ _ (Rect.unit_disjoint (inb := inb_S4x8x1024_S1x8x256_1_0_512) (inb' := inb_S4x8x1024_S1x8x256_3_0_768) 0 (.inl (by decide))) ?_
    refine Clear.step _ _ (Rect.unit_disjoint (inb := inb_S4x8x1024_S1x8x256_0_0_512) (inb' := inb_S4x8x1024_S1x8x256_3_0_768) 0 (.inl (by decide))) ?_
    refine Clear.step _ _ (Rect.unit_disjoint (inb := inb_S4x8x1024_S1x8x256_3_0_256) (inb' := inb_S4x8x1024_S1x8x256_3_0_768) 2 (.inl (by decide))) ?_
    refine Clear.step _ _ (Rect.unit_disjoint (inb := inb_S4x8x1024_S1x8x256_2_0_256) (inb' := inb_S4x8x1024_S1x8x256_3_0_768) 0 (.inl (by decide))) ?_
    refine Clear.step _ _ (Rect.unit_disjoint (inb := inb_S4x8x1024_S1x8x256_1_0_256) (inb' := inb_S4x8x1024_S1x8x256_3_0_768) 0 (.inl (by decide))) ?_
    refine Clear.step _ _ (Rect.unit_disjoint (inb := inb_S4x8x1024_S1x8x256_0_0_256) (inb' := inb_S4x8x1024_S1x8x256_3_0_768) 0 (.inl (by decide))) ?_
    refine Clear.step _ _ (Rect.unit_disjoint (inb := inb_S4x8x1024_S1x8x256_3_0_0) (inb' := inb_S4x8x1024_S1x8x256_3_0_768) 2 (.inl (by decide))) ?_
    refine Clear.step _ _ (Rect.unit_disjoint (inb := inb_S4x8x1024_S1x8x256_2_0_0) (inb' := inb_S4x8x1024_S1x8x256_3_0_768) 0 (.inl (by decide))) ?_
    refine Clear.step _ _ (Rect.unit_disjoint (inb := inb_S4x8x1024_S1x8x256_1_0_0) (inb' := inb_S4x8x1024_S1x8x256_3_0_768) 0 (.inl (by decide))) ?_
    refine Clear.step _ _ (Rect.unit_disjoint (inb := inb_S4x8x1024_S1x8x256_0_0_0) (inb' := inb_S4x8x1024_S1x8x256_3_0_768) 0 (.inl (by decide))) ?_
    exact Clear.base
  · refine accPiece_eq _ _ _ rfl ?_
    refine clear_readCov _ _ _ _ ?_
    refine Clear.step _ _ (Rect.unit_disjoint (inb := inb_S4x8x1024_S1x8x256_1_0_768) (inb' := inb_S4x8x1024_S1x8x256_2_0_768) 0 (.inl (by decide))) ?_
    refine Clear.step _ _ (Rect.unit_disjoint (inb := inb_S4x8x1024_S1x8x256_0_0_768) (inb' := inb_S4x8x1024_S1x8x256_2_0_768) 0 (.inl (by decide))) ?_
    refine Clear.step _ _ (Rect.unit_disjoint (inb := inb_S4x8x1024_S1x8x256_3_0_512) (inb' := inb_S4x8x1024_S1x8x256_2_0_768) 0 (.inr (by decide))) ?_
    refine Clear.step _ _ (Rect.unit_disjoint (inb := inb_S4x8x1024_S1x8x256_2_0_512) (inb' := inb_S4x8x1024_S1x8x256_2_0_768) 2 (.inl (by decide))) ?_
    refine Clear.step _ _ (Rect.unit_disjoint (inb := inb_S4x8x1024_S1x8x256_1_0_512) (inb' := inb_S4x8x1024_S1x8x256_2_0_768) 0 (.inl (by decide))) ?_
    refine Clear.step _ _ (Rect.unit_disjoint (inb := inb_S4x8x1024_S1x8x256_0_0_512) (inb' := inb_S4x8x1024_S1x8x256_2_0_768) 0 (.inl (by decide))) ?_
    refine Clear.step _ _ (Rect.unit_disjoint (inb := inb_S4x8x1024_S1x8x256_3_0_256) (inb' := inb_S4x8x1024_S1x8x256_2_0_768) 0 (.inr (by decide))) ?_
    refine Clear.step _ _ (Rect.unit_disjoint (inb := inb_S4x8x1024_S1x8x256_2_0_256) (inb' := inb_S4x8x1024_S1x8x256_2_0_768) 2 (.inl (by decide))) ?_
    refine Clear.step _ _ (Rect.unit_disjoint (inb := inb_S4x8x1024_S1x8x256_1_0_256) (inb' := inb_S4x8x1024_S1x8x256_2_0_768) 0 (.inl (by decide))) ?_
    refine Clear.step _ _ (Rect.unit_disjoint (inb := inb_S4x8x1024_S1x8x256_0_0_256) (inb' := inb_S4x8x1024_S1x8x256_2_0_768) 0 (.inl (by decide))) ?_
    refine Clear.step _ _ (Rect.unit_disjoint (inb := inb_S4x8x1024_S1x8x256_3_0_0) (inb' := inb_S4x8x1024_S1x8x256_2_0_768) 0 (.inr (by decide))) ?_
    refine Clear.step _ _ (Rect.unit_disjoint (inb := inb_S4x8x1024_S1x8x256_2_0_0) (inb' := inb_S4x8x1024_S1x8x256_2_0_768) 2 (.inl (by decide))) ?_
    refine Clear.step _ _ (Rect.unit_disjoint (inb := inb_S4x8x1024_S1x8x256_1_0_0) (inb' := inb_S4x8x1024_S1x8x256_2_0_768) 0 (.inl (by decide))) ?_
    refine Clear.step _ _ (Rect.unit_disjoint (inb := inb_S4x8x1024_S1x8x256_0_0_0) (inb' := inb_S4x8x1024_S1x8x256_2_0_768) 0 (.inl (by decide))) ?_
    exact Clear.base
  · refine accPiece_eq _ _ _ rfl ?_
    refine clear_readCov _ _ _ _ ?_
    refine Clear.step _ _ (Rect.unit_disjoint (inb := inb_S4x8x1024_S1x8x256_0_0_768) (inb' := inb_S4x8x1024_S1x8x256_1_0_768) 0 (.inl (by decide))) ?_
    refine Clear.step _ _ (Rect.unit_disjoint (inb := inb_S4x8x1024_S1x8x256_3_0_512) (inb' := inb_S4x8x1024_S1x8x256_1_0_768) 0 (.inr (by decide))) ?_
    refine Clear.step _ _ (Rect.unit_disjoint (inb := inb_S4x8x1024_S1x8x256_2_0_512) (inb' := inb_S4x8x1024_S1x8x256_1_0_768) 0 (.inr (by decide))) ?_
    refine Clear.step _ _ (Rect.unit_disjoint (inb := inb_S4x8x1024_S1x8x256_1_0_512) (inb' := inb_S4x8x1024_S1x8x256_1_0_768) 2 (.inl (by decide))) ?_
    refine Clear.step _ _ (Rect.unit_disjoint (inb := inb_S4x8x1024_S1x8x256_0_0_512) (inb' := inb_S4x8x1024_S1x8x256_1_0_768) 0 (.inl (by decide))) ?_
    refine Clear.step _ _ (Rect.unit_disjoint (inb := inb_S4x8x1024_S1x8x256_3_0_256) (inb' := inb_S4x8x1024_S1x8x256_1_0_768) 0 (.inr (by decide))) ?_
    refine Clear.step _ _ (Rect.unit_disjoint (inb := inb_S4x8x1024_S1x8x256_2_0_256) (inb' := inb_S4x8x1024_S1x8x256_1_0_768) 0 (.inr (by decide))) ?_
    refine Clear.step _ _ (Rect.unit_disjoint (inb := inb_S4x8x1024_S1x8x256_1_0_256) (inb' := inb_S4x8x1024_S1x8x256_1_0_768) 2 (.inl (by decide))) ?_
    refine Clear.step _ _ (Rect.unit_disjoint (inb := inb_S4x8x1024_S1x8x256_0_0_256) (inb' := inb_S4x8x1024_S1x8x256_1_0_768) 0 (.inl (by decide))) ?_
    refine Clear.step _ _ (Rect.unit_disjoint (inb := inb_S4x8x1024_S1x8x256_3_0_0) (inb' := inb_S4x8x1024_S1x8x256_1_0_768) 0 (.inr (by decide))) ?_
    refine Clear.step _ _ (Rect.unit_disjoint (inb := inb_S4x8x1024_S1x8x256_2_0_0) (inb' := inb_S4x8x1024_S1x8x256_1_0_768) 0 (.inr (by decide))) ?_
    refine Clear.step _ _ (Rect.unit_disjoint (inb := inb_S4x8x1024_S1x8x256_1_0_0) (inb' := inb_S4x8x1024_S1x8x256_1_0_768) 2 (.inl (by decide))) ?_
    refine Clear.step _ _ (Rect.unit_disjoint (inb := inb_S4x8x1024_S1x8x256_0_0_0) (inb' := inb_S4x8x1024_S1x8x256_1_0_768) 0 (.inl (by decide))) ?_
    exact Clear.base
  · refine accPiece_eq _ _ _ rfl ?_
    refine clear_readCov _ _ _ _ ?_
    refine Clear.step _ _ (Rect.unit_disjoint (inb := inb_S4x8x1024_S1x8x256_3_0_512) (inb' := inb_S4x8x1024_S1x8x256_0_0_768) 0 (.inr (by decide))) ?_
    refine Clear.step _ _ (Rect.unit_disjoint (inb := inb_S4x8x1024_S1x8x256_2_0_512) (inb' := inb_S4x8x1024_S1x8x256_0_0_768) 0 (.inr (by decide))) ?_
    refine Clear.step _ _ (Rect.unit_disjoint (inb := inb_S4x8x1024_S1x8x256_1_0_512) (inb' := inb_S4x8x1024_S1x8x256_0_0_768) 0 (.inr (by decide))) ?_
    refine Clear.step _ _ (Rect.unit_disjoint (inb := inb_S4x8x1024_S1x8x256_0_0_512) (inb' := inb_S4x8x1024_S1x8x256_0_0_768) 2 (.inl (by decide))) ?_
    refine Clear.step _ _ (Rect.unit_disjoint (inb := inb_S4x8x1024_S1x8x256_3_0_256) (inb' := inb_S4x8x1024_S1x8x256_0_0_768) 0 (.inr (by decide))) ?_
    refine Clear.step _ _ (Rect.unit_disjoint (inb := inb_S4x8x1024_S1x8x256_2_0_256) (inb' := inb_S4x8x1024_S1x8x256_0_0_768) 0 (.inr (by decide))) ?_
    refine Clear.step _ _ (Rect.unit_disjoint (inb := inb_S4x8x1024_S1x8x256_1_0_256) (inb' := inb_S4x8x1024_S1x8x256_0_0_768) 0 (.inr (by decide))) ?_
    refine Clear.step _ _ (Rect.unit_disjoint (inb := inb_S4x8x1024_S1x8x256_0_0_256) (inb' := inb_S4x8x1024_S1x8x256_0_0_768) 2 (.inl (by decide))) ?_
    refine Clear.step _ _ (Rect.unit_disjoint (inb := inb_S4x8x1024_S1x8x256_3_0_0) (inb' := inb_S4x8x1024_S1x8x256_0_0_768) 0 (.inr (by decide))) ?_
    refine Clear.step _ _ (Rect.unit_disjoint (inb := inb_S4x8x1024_S1x8x256_2_0_0) (inb' := inb_S4x8x1024_S1x8x256_0_0_768) 0 (.inr (by decide))) ?_
    refine Clear.step _ _ (Rect.unit_disjoint (inb := inb_S4x8x1024_S1x8x256_1_0_0) (inb' := inb_S4x8x1024_S1x8x256_0_0_768) 0 (.inr (by decide))) ?_
    refine Clear.step _ _ (Rect.unit_disjoint (inb := inb_S4x8x1024_S1x8x256_0_0_0) (inb' := inb_S4x8x1024_S1x8x256_0_0_768) 2 (.inl (by decide))) ?_
    exact Clear.base
  · refine accPiece_eq _ _ _ rfl ?_
    refine clear_readCov _ _ _ _ ?_
    refine Clear.step _ _ (Rect.unit_disjoint (inb := inb_S4x8x1024_S1x8x256_2_0_512) (inb' := inb_S4x8x1024_S1x8x256_3_0_512) 0 (.inl (by decide))) ?_
    refine Clear.step _ _ (Rect.unit_disjoint (inb := inb_S4x8x1024_S1x8x256_1_0_512) (inb' := inb_S4x8x1024_S1x8x256_3_0_512) 0 (.inl (by decide))) ?_
    refine Clear.step _ _ (Rect.unit_disjoint (inb := inb_S4x8x1024_S1x8x256_0_0_512) (inb' := inb_S4x8x1024_S1x8x256_3_0_512) 0 (.inl (by decide))) ?_
    refine Clear.step _ _ (Rect.unit_disjoint (inb := inb_S4x8x1024_S1x8x256_3_0_256) (inb' := inb_S4x8x1024_S1x8x256_3_0_512) 2 (.inl (by decide))) ?_
    refine Clear.step _ _ (Rect.unit_disjoint (inb := inb_S4x8x1024_S1x8x256_2_0_256) (inb' := inb_S4x8x1024_S1x8x256_3_0_512) 0 (.inl (by decide))) ?_
    refine Clear.step _ _ (Rect.unit_disjoint (inb := inb_S4x8x1024_S1x8x256_1_0_256) (inb' := inb_S4x8x1024_S1x8x256_3_0_512) 0 (.inl (by decide))) ?_
    refine Clear.step _ _ (Rect.unit_disjoint (inb := inb_S4x8x1024_S1x8x256_0_0_256) (inb' := inb_S4x8x1024_S1x8x256_3_0_512) 0 (.inl (by decide))) ?_
    refine Clear.step _ _ (Rect.unit_disjoint (inb := inb_S4x8x1024_S1x8x256_3_0_0) (inb' := inb_S4x8x1024_S1x8x256_3_0_512) 2 (.inl (by decide))) ?_
    refine Clear.step _ _ (Rect.unit_disjoint (inb := inb_S4x8x1024_S1x8x256_2_0_0) (inb' := inb_S4x8x1024_S1x8x256_3_0_512) 0 (.inl (by decide))) ?_
    refine Clear.step _ _ (Rect.unit_disjoint (inb := inb_S4x8x1024_S1x8x256_1_0_0) (inb' := inb_S4x8x1024_S1x8x256_3_0_512) 0 (.inl (by decide))) ?_
    refine Clear.step _ _ (Rect.unit_disjoint (inb := inb_S4x8x1024_S1x8x256_0_0_0) (inb' := inb_S4x8x1024_S1x8x256_3_0_512) 0 (.inl (by decide))) ?_
    exact Clear.base
  · refine accPiece_eq _ _ _ rfl ?_
    refine clear_readCov _ _ _ _ ?_
    refine Clear.step _ _ (Rect.unit_disjoint (inb := inb_S4x8x1024_S1x8x256_1_0_512) (inb' := inb_S4x8x1024_S1x8x256_2_0_512) 0 (.inl (by decide))) ?_
    refine Clear.step _ _ (Rect.unit_disjoint (inb := inb_S4x8x1024_S1x8x256_0_0_512) (inb' := inb_S4x8x1024_S1x8x256_2_0_512) 0 (.inl (by decide))) ?_
    refine Clear.step _ _ (Rect.unit_disjoint (inb := inb_S4x8x1024_S1x8x256_3_0_256) (inb' := inb_S4x8x1024_S1x8x256_2_0_512) 0 (.inr (by decide))) ?_
    refine Clear.step _ _ (Rect.unit_disjoint (inb := inb_S4x8x1024_S1x8x256_2_0_256) (inb' := inb_S4x8x1024_S1x8x256_2_0_512) 2 (.inl (by decide))) ?_
    refine Clear.step _ _ (Rect.unit_disjoint (inb := inb_S4x8x1024_S1x8x256_1_0_256) (inb' := inb_S4x8x1024_S1x8x256_2_0_512) 0 (.inl (by decide))) ?_
    refine Clear.step _ _ (Rect.unit_disjoint (inb := inb_S4x8x1024_S1x8x256_0_0_256) (inb' := inb_S4x8x1024_S1x8x256_2_0_512) 0 (.inl (by decide))) ?_
    refine Clear.step _ _ (Rect.unit_disjoint (inb := inb_S4x8x1024_S1x8x256_3_0_0) (inb' := inb_S4x8x1024_S1x8x256_2_0_512) 0 (.inr (by decide))) ?_
    refine Clear.step _ _ (Rect.unit_disjoint (inb := inb_S4x8x1024_S1x8x256_2_0_0) (inb' := inb_S4x8x1024_S1x8x256_2_0_512) 2 (.inl (by decide))) ?_
    refine Clear.step _ _ (Rect.unit_disjoint (inb := inb_S4x8x1024_S1x8x256_1_0_0) (inb' := inb_S4x8x1024_S1x8x256_2_0_512) 0 (.inl (by decide))) ?_
    refine Clear.step _ _ (Rect.unit_disjoint (inb := inb_S4x8x1024_S1x8x256_0_0_0) (inb' := inb_S4x8x1024_S1x8x256_2_0_512) 0 (.inl (by decide))) ?_
    exact Clear.base
  · refine accPiece_eq _ _ _ rfl ?_
    refine clear_readCov _ _ _ _ ?_
    refine Clear.step _ _ (Rect.unit_disjoint (inb := inb_S4x8x1024_S1x8x256_0_0_512) (inb' := inb_S4x8x1024_S1x8x256_1_0_512) 0 (.inl (by decide))) ?_
    refine Clear.step _ _ (Rect.unit_disjoint (inb := inb_S4x8x1024_S1x8x256_3_0_256) (inb' := inb_S4x8x1024_S1x8x256_1_0_512) 0 (.inr (by decide))) ?_
    refine Clear.step _ _ (Rect.unit_disjoint (inb := inb_S4x8x1024_S1x8x256_2_0_256) (inb' := inb_S4x8x1024_S1x8x256_1_0_512) 0 (.inr (by decide))) ?_
    refine Clear.step _ _ (Rect.unit_disjoint (inb := inb_S4x8x1024_S1x8x256_1_0_256) (inb' := inb_S4x8x1024_S1x8x256_1_0_512) 2 (.inl (by decide))) ?_
    refine Clear.step _ _ (Rect.unit_disjoint (inb := inb_S4x8x1024_S1x8x256_0_0_256) (inb' := inb_S4x8x1024_S1x8x256_1_0_512) 0 (.inl (by decide))) ?_
    refine Clear.step _ _ (Rect.unit_disjoint (inb := inb_S4x8x1024_S1x8x256_3_0_0) (inb' := inb_S4x8x1024_S1x8x256_1_0_512) 0 (.inr (by decide))) ?_
    refine Clear.step _ _ (Rect.unit_disjoint (inb := inb_S4x8x1024_S1x8x256_2_0_0) (inb' := inb_S4x8x1024_S1x8x256_1_0_512) 0 (.inr (by decide))) ?_
    refine Clear.step _ _ (Rect.unit_disjoint (inb := inb_S4x8x1024_S1x8x256_1_0_0) (inb' := inb_S4x8x1024_S1x8x256_1_0_512) 2 (.inl (by decide))) ?_
    refine Clear.step _ _ (Rect.unit_disjoint (inb := inb_S4x8x1024_S1x8x256_0_0_0) (inb' := inb_S4x8x1024_S1x8x256_1_0_512) 0 (.inl (by decide))) ?_
    exact Clear.base
  · refine accPiece_eq _ _ _ rfl ?_
    refine clear_readCov _ _ _ _ ?_
    refine Clear.step _ _ (Rect.unit_disjoint (inb := inb_S4x8x1024_S1x8x256_3_0_256) (inb' := inb_S4x8x1024_S1x8x256_0_0_512) 0 (.inr (by decide))) ?_
    refine Clear.step _ _ (Rect.unit_disjoint (inb := inb_S4x8x1024_S1x8x256_2_0_256) (inb' := inb_S4x8x1024_S1x8x256_0_0_512) 0 (.inr (by decide))) ?_
    refine Clear.step _ _ (Rect.unit_disjoint (inb := inb_S4x8x1024_S1x8x256_1_0_256) (inb' := inb_S4x8x1024_S1x8x256_0_0_512) 0 (.inr (by decide))) ?_
    refine Clear.step _ _ (Rect.unit_disjoint (inb := inb_S4x8x1024_S1x8x256_0_0_256) (inb' := inb_S4x8x1024_S1x8x256_0_0_512) 2 (.inl (by decide))) ?_
    refine Clear.step _ _ (Rect.unit_disjoint (inb := inb_S4x8x1024_S1x8x256_3_0_0) (inb' := inb_S4x8x1024_S1x8x256_0_0_512) 0 (.inr (by decide))) ?_
    refine Clear.step _ _ (Rect.unit_disjoint (inb := inb_S4x8x1024_S1x8x256_2_0_0) (inb' := inb_S4x8x1024_S1x8x256_0_0_512) 0 (.inr (by decide))) ?_
    refine Clear.step _ _ (Rect.unit_disjoint (inb := inb_S4x8x1024_S1x8x256_1_0_0) (inb' := inb_S4x8x1024_S1x8x256_0_0_512) 0 (.inr (by decide))) ?_
    refine Clear.step _ _ (Rect.unit_disjoint (inb := inb_S4x8x1024_S1x8x256_0_0_0) (inb' := inb_S4x8x1024_S1x8x256_0_0_512) 2 (.inl (by decide))) ?_
    exact Clear.base
  · refine accPiece_eq _ _ _ rfl ?_
    refine clear_readCov _ _ _ _ ?_
    refine Clear.step _ _ (Rect.unit_disjoint (inb := inb_S4x8x1024_S1x8x256_2_0_256) (inb' := inb_S4x8x1024_S1x8x256_3_0_256) 0 (.inl (by decide))) ?_
    refine Clear.step _ _ (Rect.unit_disjoint (inb := inb_S4x8x1024_S1x8x256_1_0_256) (inb' := inb_S4x8x1024_S1x8x256_3_0_256) 0 (.inl (by decide))) ?_
    refine Clear.step _ _ (Rect.unit_disjoint (inb := inb_S4x8x1024_S1x8x256_0_0_256) (inb' := inb_S4x8x1024_S1x8x256_3_0_256) 0 (.inl (by decide))) ?_
    refine Clear.step _ _ (Rect.unit_disjoint (inb := inb_S4x8x1024_S1x8x256_3_0_0) (inb' := inb_S4x8x1024_S1x8x256_3_0_256) 2 (.inl (by decide))) ?_
    refine Clear.step _ _ (Rect.unit_disjoint (inb := inb_S4x8x1024_S1x8x256_2_0_0) (inb' := inb_S4x8x1024_S1x8x256_3_0_256) 0 (.inl (by decide))) ?_
    refine Clear.step _ _ (Rect.unit_disjoint (inb := inb_S4x8x1024_S1x8x256_1_0_0) (inb' := inb_S4x8x1024_S1x8x256_3_0_256) 0 (.inl (by decide))) ?_
    refine Clear.step _ _ (Rect.unit_disjoint (inb := inb_S4x8x1024_S1x8x256_0_0_0) (inb' := inb_S4x8x1024_S1x8x256_3_0_256) 0 (.inl (by decide))) ?_
    exact Clear.base
  · refine accPiece_eq _ _ _ rfl ?_
    refine clear_readCov _ _ _ _ ?_
    refine Clear.step _ _ (Rect.unit_disjoint (inb := inb_S4x8x1024_S1x8x256_1_0_256) (inb' := inb_S4x8x1024_S1x8x256_2_0_256) 0 (.inl (by decide))) ?_
    refine Clear.step _ _ (Rect.unit_disjoint (inb := inb_S4x8x1024_S1x8x256_0_0_256) (inb' := inb_S4x8x1024_S1x8x256_2_0_256) 0 (.inl (by decide))) ?_
    refine Clear.step _ _ (Rect.unit_disjoint (inb := inb_S4x8x1024_S1x8x256_3_0_0) (inb' := inb_S4x8x1024_S1x8x256_2_0_256) 0 (.inr (by decide))) ?_
    refine Clear.step _ _ (Rect.unit_disjoint (inb := inb_S4x8x1024_S1x8x256_2_0_0) (inb' := inb_S4x8x1024_S1x8x256_2_0_256) 2 (.inl (by decide))) ?_
    refine Clear.step _ _ (Rect.unit_disjoint (inb := inb_S4x8x1024_S1x8x256_1_0_0) (inb' := inb_S4x8x1024_S1x8x256_2_0_256) 0 (.inl (by decide))) ?_
    refine Clear.step _ _ (Rect.unit_disjoint (inb := inb_S4x8x1024_S1x8x256_0_0_0) (inb' := inb_S4x8x1024_S1x8x256_2_0_256) 0 (.inl (by decide))) ?_
    exact Clear.base
  · refine accPiece_eq _ _ _ rfl ?_
    refine clear_readCov _ _ _ _ ?_
    refine Clear.step _ _ (Rect.unit_disjoint (inb := inb_S4x8x1024_S1x8x256_0_0_256) (inb' := inb_S4x8x1024_S1x8x256_1_0_256) 0 (.inl (by decide))) ?_
    refine Clear.step _ _ (Rect.unit_disjoint (inb := inb_S4x8x1024_S1x8x256_3_0_0) (inb' := inb_S4x8x1024_S1x8x256_1_0_256) 0 (.inr (by decide))) ?_
    refine Clear.step _ _ (Rect.unit_disjoint (inb := inb_S4x8x1024_S1x8x256_2_0_0) (inb' := inb_S4x8x1024_S1x8x256_1_0_256) 0 (.inr (by decide))) ?_
    refine Clear.step _ _ (Rect.unit_disjoint (inb := inb_S4x8x1024_S1x8x256_1_0_0) (inb' := inb_S4x8x1024_S1x8x256_1_0_256) 2 (.inl (by decide))) ?_
    refine Clear.step _ _ (Rect.unit_disjoint (inb := inb_S4x8x1024_S1x8x256_0_0_0) (inb' := inb_S4x8x1024_S1x8x256_1_0_256) 0 (.inl (by decide))) ?_
    exact Clear.base
  · refine accPiece_eq _ _ _ rfl ?_
    refine clear_readCov _ _ _ _ ?_
    refine Clear.step _ _ (Rect.unit_disjoint (inb := inb_S4x8x1024_S1x8x256_3_0_0) (inb' := inb_S4x8x1024_S1x8x256_0_0_256) 0 (.inr (by decide))) ?_
    refine Clear.step _ _ (Rect.unit_disjoint (inb := inb_S4x8x1024_S1x8x256_2_0_0) (inb' := inb_S4x8x1024_S1x8x256_0_0_256) 0 (.inr (by decide))) ?_
    refine Clear.step _ _ (Rect.unit_disjoint (inb := inb_S4x8x1024_S1x8x256_1_0_0) (inb' := inb_S4x8x1024_S1x8x256_0_0_256) 0 (.inr (by decide))) ?_
    refine Clear.step _ _ (Rect.unit_disjoint (inb := inb_S4x8x1024_S1x8x256_0_0_0) (inb' := inb_S4x8x1024_S1x8x256_0_0_256) 2 (.inl (by decide))) ?_
    exact Clear.base
  · refine accPiece_eq _ _ _ rfl ?_
    refine clear_readCov _ _ _ _ ?_
    refine Clear.step _ _ (Rect.unit_disjoint (inb := inb_S4x8x1024_S1x8x256_2_0_0) (inb' := inb_S4x8x1024_S1x8x256_3_0_0) 0 (.inl (by decide))) ?_
    refine Clear.step _ _ (Rect.unit_disjoint (inb := inb_S4x8x1024_S1x8x256_1_0_0) (inb' := inb_S4x8x1024_S1x8x256_3_0_0) 0 (.inl (by decide))) ?_
    refine Clear.step _ _ (Rect.unit_disjoint (inb := inb_S4x8x1024_S1x8x256_0_0_0) (inb' := inb_S4x8x1024_S1x8x256_3_0_0) 0 (.inl (by decide))) ?_
    exact Clear.base
  · refine accPiece_eq _ _ _ rfl ?_
    refine clear_readCov _ _ _ _ ?_
    refine Clear.step _ _ (Rect.unit_disjoint (inb := inb_S4x8x1024_S1x8x256_1_0_0) (inb' := inb_S4x8x1024_S1x8x256_2_0_0) 0 (.inl (by decide))) ?_
    refine Clear.step _ _ (Rect.unit_disjoint (inb := inb_S4x8x1024_S1x8x256_0_0_0) (inb' := inb_S4x8x1024_S1x8x256_2_0_0) 0 (.inl (by decide))) ?_
    exact Clear.base
  · refine accPiece_eq _ _ _ rfl ?_
    refine clear_readCov _ _ _ _ ?_
    refine Clear.step _ _ (Rect.unit_disjoint (inb := inb_S4x8x1024_S1x8x256_0_0_0) (inb' := inb_S4x8x1024_S1x8x256_1_0_0) 0 (.inl (by decide))) ?_
    exact Clear.base
  · refine accPiece_eq _ _ _ rfl ?_
    refine clear_readCov _ _ _ _ ?_
    exact Clear.base

set_option maxHeartbeats 4000000 in
theorem sound_kernel4_B (c : Dev nD) (E : Set ℕ) (i : grid4.Coords) (arg1 : Memref sig .tc .vmem S256x4096 .f32) (harg1 : arg1.IsWhole) (arg2 : Memref sig .tc .vmem S256x4096 .f32) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x256 .f32) (harg5 : arg5.IsWhole) (arg6 : Memref sig .tc .vmem S256x256 .f32) (harg6 : arg6.IsWhole) (arg7 : Memref sig .tc .vmem S4096x1024 .bf16) (harg7 : arg7.IsWhole) (arg8 : Memref sig .tc .vmem S4096x1024 .bf16) (harg8 : arg8.IsWhole) (arg9 : Memref sig .tc .vmem S4x6x1536 .f32) (harg9 : arg9.IsWhole) (arg10 : Memref sig .tc .vmem S4x1024 .f32) (harg10 : arg10.IsWhole) (arg11 : Memref sig .tc .vmem S6x1536 .f32) (harg11 : arg11.IsWhole) (arg12 : Memref sig .tc .vmem S256x1024 .bf16) (harg12 : arg12.IsWhole) (arg13 : Memref sig .tc .vmem S256x4096 .i8) (harg13 : arg13.IsWhole) (arg14 : Memref sig .tc .vmem S6x1536 .f32) (harg14 : arg14.IsWhole) (arg15 : Memref sig .tc .vmem S256x4096 .i8) (harg15 : arg15.IsWhole) (arg16 : Memref sig .tc .vmem S6x1536 .f32) (harg16 : arg16.IsWhole) (arg17 : Memref sig .tc .vmem S4x8x1024 .f32) (harg17 : arg17.IsWhole)
    (hc0 : ¬cond4_0 i) (hc1 : ¬cond4_1 i)
    (x0 : Vec F S256x4096 .f32) (x1 : Vec F S256x4096 .f32) (x2 : Vec F S256x4096 .bf16) (x3 : Vec F S256x4096 .bf16) (x4 : Vec F S256x256 .f32) (x5 : Vec F S256x256 .f32) (x6 : Vec F S4096x1024 .bf16) (x7 : Vec F S4096x1024 .bf16) (y8 : Vec F S4x6x1536 .f32) (y9 : Vec F S4x1024 .f32) (y10 : Vec F S6x1536 .f32) (y13 : Vec F S6x1536 .f32) (y15 : Vec F S6x1536 .f32) (a : Vec F S4x8x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ owns (c : Thread nD τ) arg11 fullShare y10 ∗ (∃ d, owns (c : Thread nD τ) arg12 fullShare d) ∗ (∃ d, owns (c : Thread nD τ) arg13 fullShare d) ∗ owns (c : Thread nD τ) arg14 fullShare y13 ∗ (∃ d, owns (c : Thread nD τ) arg15 fullShare d) ∗ owns (c : Thread nD τ) arg16 fullShare y15 ∗ owns (c : Thread nD τ) arg17 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (VecWindow.put (VecWindow.put (VecWindow.put (VecWindow.put y8 (k4_off2 i) S1x1x256.size (etRow0 x0 x1 x4 x6 x7)) (k4_off3 i) S1x1x256.size (etRow1 x1 x2 x6)) (k4_off4 i) S1x1x256.size (etRow2 x1 x3 x6)) (k4_off5 i) S1x1x256.size (etRow3 x1 x5 x6 x7)) ∗ owns (c : Thread nD τ) arg10 fullShare y9 ∗ owns (c : Thread nD τ) arg11 fullShare (VecWindow.put y10 (k4_off1 i) S1x256.size (stRow x1 x6)) ∗ owns (c : Thread nD τ) arg12 fullShare (out4_11 x1 x6) ∗ owns (c : Thread nD τ) arg13 fullShare (out4_12 x0 x4) ∗ owns (c : Thread nD τ) arg14 fullShare (VecWindow.put y13 (k4_off1 i) S1x256.size (fsRow x4)) ∗ owns (c : Thread nD τ) arg15 fullShare (out4_14 x1 x5) ∗ owns (c : Thread nD τ) arg16 fullShare (VecWindow.put y15 (k4_off1 i) S1x256.size (rsRow x5)) ∗ owns (c : Thread nD τ) arg17 fullShare (accStep x0 x1 x2 x3 x4 x5 x6 x7 a)) -∗ K ⟨⟩))
      ⊢ wp frame (wpE (defs₀ (F := F)) Variants.none c none) E (cc4_down i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc4_down_eq_skeleton]; unfold cc4_down_skel
  simp only [k4_part1_eq_skeleton, k4_part2_eq_skeleton, k4_part3_eq_skeleton, k4_part4_eq_skeleton, k4_part5_eq_skeleton, k4_part6_eq_skeleton, k4_part7_eq_skeleton, k4_part8_eq_skeleton, k4_part9_eq_skeleton, k4_part10_eq_skeleton, k4_part11_eq_skeleton, k4_part12_eq_skeleton, k4_part13_eq_skeleton, k4_part14_eq_skeleton, k4_part15_eq_skeleton, k4_part16_eq_skeleton, k4_part17_eq_skeleton, k4_part18_eq_skeleton, k4_part19_eq_skeleton, k4_part20_eq_skeleton, k4_part21_eq_skeleton, k4_part22_eq_skeleton, k4_part23_eq_skeleton, k4_part24_eq_skeleton, k4_part25_eq_skeleton, k4_part26_eq_skeleton, k4_part27_eq_skeleton, k4_part28_eq_skeleton, k4_part29_eq_skeleton, k4_part30_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%d14, %f14, -, H14⟩, ⟨%f15, %hf15, H15⟩, ⟨%f16, %hf16, H16⟩, Hk⟩
  subst hf0 hf1 hf2 hf3 hf4 hf5 hf6 hf7 hf8 hf9 hf10 hf13 hf15 hf16
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact read_put4 _ _ _ _ _ _ _ _ _ _
  isplitl [H9]
  · iexists f9; isplitr; · ipureintro; rfl
    iexact H9
  isplitl [H10]
  · iexists _; isplitr
    swap; · iexact H10
    ipureintro
    exact View.read_writes_cons_put _ _ _ _ [] rfl
  isplitl [H11]
  · iexists _; isplitr
    swap; · iexact H11
    ipureintro
    refine (View.read_writes_eq_canon _ _ _ (cover4_y _ _ _ _)).trans ?_
    rfl
  isplitl [H12]
  · iexists _; isplitr
    swap; · iexact H12
    ipureintro
    refine (View.read_writes_eq_canon _ _ _ (cover4_i _)).trans ?_
    rfl
  isplitl [H13]
  · iexists _; isplitr
    swap; · iexact H13
    ipureintro
    exact View.read_writes_cons_put _ _ _ _ [] rfl
  isplitl [H14]
  · iexists _; isplitr
    swap; · iexact H14
    ipureintro
    refine (View.read_writes_eq_canon _ _ _ (cover4_i _)).trans ?_
    rfl
  isplitl [H15]
  · iexists _; isplitr
    swap; · iexact H15
    ipureintro
    exact View.read_writes_cons_put _ _ _ _ [] rfl
  iexists _; isplitr
  swap; · iexact H16
  ipureintro
  refine (View.read_writes_eq_canon _ _ _ (cover4_a _ _ _ _ _ _ _ _ _ _ _ _ _ _ _ _)).trans ?_
  rfl

set_option maxHeartbeats 4000000 in
theorem sound_kernel4_C (c : Dev nD) (E : Set ℕ) (i : grid4.Coords) (arg1 : Memref sig .tc .vmem S256x4096 .f32) (harg1 : arg1.IsWhole) (arg2 : Memref sig .tc .vmem S256x4096 .f32) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x256 .f32) (harg5 : arg5.IsWhole) (arg6 : Memref sig .tc .vmem S256x256 .f32) (harg6 : arg6.IsWhole) (arg7 : Memref sig .tc .vmem S4096x1024 .bf16) (harg7 : arg7.IsWhole) (arg8 : Memref sig .tc .vmem S4096x1024 .bf16) (harg8 : arg8.IsWhole) (arg9 : Memref sig .tc .vmem S4x6x1536 .f32) (harg9 : arg9.IsWhole) (arg10 : Memref sig .tc .vmem S4x1024 .f32) (harg10 : arg10.IsWhole) (arg11 : Memref sig .tc .vmem S6x1536 .f32) (harg11 : arg11.IsWhole) (arg12 : Memref sig .tc .vmem S256x1024 .bf16) (harg12 : arg12.IsWhole) (arg13 : Memref sig .tc .vmem S256x4096 .i8) (harg13 : arg13.IsWhole) (arg14 : Memref sig .tc .vmem S6x1536 .f32) (harg14 : arg14.IsWhole) (arg15 : Memref sig .tc .vmem S256x4096 .i8) (harg15 : arg15.IsWhole) (arg16 : Memref sig .tc .vmem S6x1536 .f32) (harg16 : arg16.IsWhole) (arg17 : Memref sig .tc .vmem S4x8x1024 .f32) (harg17 : arg17.IsWhole)
    (hc0 : ¬cond4_0 i) (hc1 : cond4_1 i)
    (x0 : Vec F S256x4096 .f32) (x1 : Vec F S256x4096 .f32) (x2 : Vec F S256x4096 .bf16) (x3 : Vec F S256x4096 .bf16) (x4 : Vec F S256x256 .f32) (x5 : Vec F S256x256 .f32) (x6 : Vec F S4096x1024 .bf16) (x7 : Vec F S4096x1024 .bf16) (y8 : Vec F S4x6x1536 .f32) (y9 : Vec F S4x1024 .f32) (y10 : Vec F S6x1536 .f32) (y13 : Vec F S6x1536 .f32) (y15 : Vec F S6x1536 .f32) (a : Vec F S4x8x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ owns (c : Thread nD τ) arg11 fullShare y10 ∗ (∃ d, owns (c : Thread nD τ) arg12 fullShare d) ∗ (∃ d, owns (c : Thread nD τ) arg13 fullShare d) ∗ owns (c : Thread nD τ) arg14 fullShare y13 ∗ (∃ d, owns (c : Thread nD τ) arg15 fullShare d) ∗ owns (c : Thread nD τ) arg16 fullShare y15 ∗ owns (c : Thread nD τ) arg17 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (VecWindow.put (VecWindow.put (VecWindow.put (VecWindow.put y8 (k4_off2 i) S1x1x256.size (etRow0 x0 x1 x4 x6 x7)) (k4_off3 i) S1x1x256.size (etRow1 x1 x2 x6)) (k4_off4 i) S1x1x256.size (etRow2 x1 x3 x6)) (k4_off5 i) S1x1x256.size (etRow3 x1 x5 x6 x7)) ∗ owns (c : Thread nD τ) arg10 fullShare (ecOut (accStep x0 x1 x2 x3 x4 x5 x6 x7 a)) ∗ owns (c : Thread nD τ) arg11 fullShare (VecWindow.put y10 (k4_off1 i) S1x256.size (stRow x1 x6)) ∗ owns (c : Thread nD τ) arg12 fullShare (out4_11 x1 x6) ∗ owns (c : Thread nD τ) arg13 fullShare (out4_12 x0 x4) ∗ owns (c : Thread nD τ) arg14 fullShare (VecWindow.put y13 (k4_off1 i) S1x256.size (fsRow x4)) ∗ owns (c : Thread nD τ) arg15 fullShare (out4_14 x1 x5) ∗ owns (c : Thread nD τ) arg16 fullShare (VecWindow.put y15 (k4_off1 i) S1x256.size (rsRow x5)) ∗ owns (c : Thread nD τ) arg17 fullShare (accStep x0 x1 x2 x3 x4 x5 x6 x7 a)) -∗ K ⟨⟩))
      ⊢ wp frame (wpE (defs₀ (F := F)) Variants.none c none) E (cc4_down i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc4_down_eq_skeleton]; unfold cc4_down_skel
  simp only [k4_part1_eq_skeleton, k4_part2_eq_skeleton, k4_part3_eq_skeleton, k4_part4_eq_skeleton, k4_part5_eq_skeleton, k4_part6_eq_skeleton, k4_part7_eq_skeleton, k4_part8_eq_skeleton, k4_part9_eq_skeleton, k4_part10_eq_skeleton, k4_part11_eq_skeleton, k4_part12_eq_skeleton, k4_part13_eq_skeleton, k4_part14_eq_skeleton, k4_part15_eq_skeleton, k4_part16_eq_skeleton, k4_part17_eq_skeleton, k4_part18_eq_skeleton, k4_part19_eq_skeleton, k4_part20_eq_skeleton, k4_part21_eq_skeleton, k4_part22_eq_skeleton, k4_part23_eq_skeleton, k4_part24_eq_skeleton, k4_part25_eq_skeleton, k4_part26_eq_skeleton, k4_part27_eq_skeleton, k4_part28_eq_skeleton, k4_part29_eq_skeleton, k4_part30_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%d14, %f14, -, H14⟩, ⟨%f15, %hf15, H15⟩, ⟨%f16, %hf16, H16⟩, Hk⟩
  subst hf0 hf1 hf2 hf3 hf4 hf5 hf6 hf7 hf8 hf9 hf10 hf13 hf15 hf16
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact read_put4 _ _ _ _ _ _ _ _ _ _
  isplitl [H9]
  · iexists _; isplitr
    swap; · iexact H9
    ipureintro
    refine (View.read_writes_eq_canon _ _ _ (cover4_e _)).trans ?_
    exact congrArg (fun v : Vec F S4x8x1024 .f32 => (View.canon [⟨dE, k4_pay1 v⟩] : Vec F S4x1024 .f32)) ((fun L => View.readCov_eq_canon' _ L _ : ∀ L : List (View.Piece (Elt F) S4x8x1024 .f32), (arg17.view.readCov L dAll.toLoadRect : Vec F S4x8x1024 .f32) = View.ld (View.canon L) dAll) _)
  isplitl [H10]
  · iexists _; isplitr
    swap; · iexact H10
    ipureintro
    exact View.read_writes_cons_put _ _ _ _ [] rfl
  isplitl [H11]
  · iexists _; isplitr
    swap; · iexact H11
    ipureintro
    refine (View.read_writes_eq_canon _ _ _ (cover4_y _ _ _ _)).trans ?_
    rfl
  isplitl [H12]
  · iexists _; isplitr
    swap; · iexact H12
    ipureintro
    refine (View.read_writes_eq_canon _ _ _ (cover4_i _)).trans ?_
    rfl
  isplitl [H13]
  · iexists _; isplitr
    swap; · iexact H13
    ipureintro
    exact View.read_writes_cons_put _ _ _ _ [] rfl
  isplitl [H14]
  · iexists _; isplitr
    swap; · iexact H14
    ipureintro
    refine (View.read_writes_eq_canon _ _ _ (cover4_i _)).trans ?_
    rfl
  isplitl [H15]
  · iexists _; isplitr
    swap; · iexact H15
    ipureintro
    exact View.read_writes_cons_put _ _ _ _ [] rfl
  iexists _; isplitr
  swap; · iexact H16
  ipureintro
  refine (View.read_writes_eq_canon _ _ _ (cover4_a _ _ _ _ _ _ _ _ _ _ _ _ _ _ _ _)).trans ?_
  rfl

/-! ## The proof data -/

theorem N4 : cfg4.N = 36 := rfl

/-- The point whose tokens hold token `1536 * r + q`. -/
def ptOf (r : Fin 6) (q : Fin 1536) : Fin cfg4.N := ⟨6 * r.val + q.val / 256, by
  have h0 : r.val < 6 := r.isLt
  have h1 : q.val < 1536 := q.isLt
  rw [N4]; omega⟩

/-- A row of 256 a point put together over the points. -/
def rowsOf (R : Fin cfg4.N → FVec F S1x256 .f32) : Vec F S6x1536 .f32 := fun j =>
  R (ptOf (j 0) (j 1)) (ix2 0 ⟨(j 1).val % 256, Nat.mod_lt _ (by omega)⟩)
/-- The same for the four variants. -/
def rows4Of (R : Fin 4 → Fin cfg4.N → FVec F S1x1x256 .f32) : Vec F S4x6x1536 .f32 := fun j =>
  R (j 0) (ptOf (j 1) (j 2)) (ix3 0 0 ⟨(j 2).val % 256, Nat.mod_lt _ (by omega)⟩)

/-- The accumulator before point `n`. -/
def accN (c : Dev nD) : ℕ → Vec F S4x8x1024 .f32
  | 0 => k4_pay2
  | n + 1 => if h : n < cfg4.N then accStep (iblk4 V c 0 ⟨n, h⟩) (iblk4 V c 1 ⟨n, h⟩) (iblk4 V c 2 ⟨n, h⟩) (iblk4 V c 3 ⟨n, h⟩) (iblk4 V c 4 ⟨n, h⟩) (iblk4 V c 5 ⟨n, h⟩) (iblk4 V c 6 ⟨n, h⟩) (iblk4 V c 7 ⟨n, h⟩) (accN c n) else accN c n

theorem accN_succ (c : Dev nD) (t : Fin cfg4.N) : accN V c (t.val + 1) = accStep (iblk4 V c 0 t) (iblk4 V c 1 t) (iblk4 V c 2 t) (iblk4 V c 3 t) (iblk4 V c 4 t) (iblk4 V c 5 t) (iblk4 V c 6 t) (iblk4 V c 7 t) (accN V c t.val) :=
  (dif_pos t.isLt).trans rfl

def etRows4 (c : Dev nD) (k : Fin 4) (t : Fin cfg4.N) : FVec F S1x1x256 .f32 := match k with
  | 0 => etRow0 (iblk4 V c 0 t) (iblk4 V c 1 t) (iblk4 V c 4 t) (iblk4 V c 6 t) (iblk4 V c 7 t)
  | 1 => etRow1 (iblk4 V c 1 t) (iblk4 V c 2 t) (iblk4 V c 6 t)
  | 2 => etRow2 (iblk4 V c 1 t) (iblk4 V c 3 t) (iblk4 V c 6 t)
  | 3 => etRow3 (iblk4 V c 1 t) (iblk4 V c 5 t) (iblk4 V c 6 t) (iblk4 V c 7 t)
def etAll4 (c : Dev nD) : Vec F S4x6x1536 .f32 := rows4Of (etRows4 V c)
def ecAll4 (c : Dev nD) : Vec F S4x1024 .f32 := ecOut (accN V c 36)
def stAll4 (c : Dev nD) : Vec F S6x1536 .f32 := rowsOf fun t => stRow (iblk4 V c 1 t) (iblk4 V c 6 t)
def fsAll4 (c : Dev nD) : Vec F S6x1536 .f32 := rowsOf fun t => fsRow (iblk4 V c 4 t)
def rsAll4 (c : Dev nD) : Vec F S6x1536 .f32 := rowsOf fun t => rsRow (iblk4 V c 5 t)

abbrev scM4 : Memref sig .tc .vmem S4x8x1024 .f32 := Memref.whole cc4_scratch0

/-- The invariant before position `n`: the scratch at anything before the first point, afterwards at the accumulator. -/
def Phi4 (c : Dev nD) : ℕ → sProp 𝕄
  | 0 => Pipeline.ΦA spec4 c
  | n + 1 => iprop((owns (c : Thread nD τ) scM4 fullShare (accN V c (n + 1))
      ∗ Pipeline.scopedRestBut (Ix := Unit) (Name := ℕ) (U := UR sig nD τ) (Lvl := ℕ) (Val := Elt F) spec4 c [cc4_scratch0]) ∗ (∃ r, prngReg c r))

theorem PhiA4_eq (c : Dev nD) :
    (Pipeline.ΦA spec4 c : sProp 𝕄)
      = iprop(((∃ d, owns (c : Thread nD τ) scM4 fullShare d)
        ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-- The arrays as the region finds them; each input's buffer left at its block, each output's at what the body leaves or, partly stored, at its final contents. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => etAll4 V c
    | ⟨9, _⟩ => ecAll4 V c
    | ⟨10, _⟩ => stAll4 V c
    | ⟨11, _⟩ => out4_11 (iblk4 V c 1 t) (iblk4 V c 6 t)
    | ⟨12, _⟩ => out4_12 (iblk4 V c 0 t) (iblk4 V c 4 t)
    | ⟨13, _⟩ => fsAll4 V c
    | ⟨14, _⟩ => out4_14 (iblk4 V c 1 t) (iblk4 V c 5 t)
    | ⟨15, _⟩ => rsAll4 V c
    | ⟨_ + 16, h⟩ => absurd h (Nat.not_lt.mpr (Nat.le_add_left 16 _))
  Φ t := Phi4 V c t.val
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = etAll4 V c := by dsimp only [dat4]
theorem after4_9 (c : Dev nD) (t : Fin cfg4.N) : (dat4 V c).after 9 t = ecAll4 V c := by dsimp only [dat4]
theorem after4_10 (c : Dev nD) (t : Fin cfg4.N) : (dat4 V c).after 10 t = stAll4 V c := by dsimp only [dat4]
theorem after4_11 (c : Dev nD) (t : Fin cfg4.N) : (dat4 V c).after 11 t = out4_11 (iblk4 V c 1 t) (iblk4 V c 6 t) := by dsimp only [dat4]
theorem after4_12 (c : Dev nD) (t : Fin cfg4.N) : (dat4 V c).after 12 t = out4_12 (iblk4 V c 0 t) (iblk4 V c 4 t) := by dsimp only [dat4]
theorem after4_13 (c : Dev nD) (t : Fin cfg4.N) : (dat4 V c).after 13 t = fsAll4 V c := by dsimp only [dat4]
theorem after4_14 (c : Dev nD) (t : Fin cfg4.N) : (dat4 V c).after 14 t = out4_14 (iblk4 V c 1 t) (iblk4 V c 5 t) := by dsimp only [dat4]
theorem after4_15 (c : Dev nD) (t : Fin cfg4.N) : (dat4 V c).after 15 t = rsAll4 V c := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d

/-- The windows held to a predicate: the rows of sums and of scales, and the column sums, stored at the last point alone. -/
def fgt4 : Fin cfg4.W → Bool
  | ⟨8, _⟩ => true
  | ⟨9, _⟩ => true
  | ⟨10, _⟩ => true
  | ⟨13, _⟩ => true
  | ⟨15, _⟩ => true
  | _ => false

/-- A row window after point `t`: the rows of the points up to `t` are in place. -/
def RowsTo (A X : Vec F S6x1536 .f32) (n : ℕ) : Prop := ∀ j : S6x1536.Idx, 6 * (j 0).val + (j 1).val / 256 < n → X j = A j
def Rows4To (A X : Vec F S4x6x1536 .f32) (n : ℕ) : Prop := ∀ j : S4x6x1536.Idx, 6 * (j 1).val + (j 2).val / 256 < n → X j = A j

def Rl4 (c : Dev nD) : (w : Fin cfg4.W) → Fin cfg4.N → ((cfg4.win w).block.Idx → Elt F (cfg4.win w).elt) → Prop
  | ⟨8, _⟩ => fun t X => Rows4To (etAll4 V c) X (t.val + 1)
  | ⟨9, _⟩ => fun t X => t.val = 35 → (X : Vec F S4x1024 .f32) = ecAll4 V c
  | ⟨10, _⟩ => fun t X => RowsTo (stAll4 V c) X (t.val + 1)
  | ⟨13, _⟩ => fun t X => RowsTo (fsAll4 V c) X (t.val + 1)
  | ⟨15, _⟩ => fun t X => RowsTo (rsAll4 V c) X (t.val + 1)
  | _ => fun _ _ => True

theorem RowsTo.all {A X : Vec F S6x1536 .f32} {n : ℕ} (h : RowsTo A X n) (hn : n = 36) : X = A := funext fun j => h j (by
  have h0 : (j 0).val < 6 := (j 0).isLt
  have h1 : (j 1).val < 1536 := (j 1).isLt
  omega)
theorem Rows4To.all {A X : Vec F S4x6x1536 .f32} {n : ℕ} (h : Rows4To A X n) (hn : n = 36) : X = A := funext fun j => h j (by
  have h0 : (j 1).val < 6 := (j 1).isLt
  have h1 : (j 2).val < 1536 := (j 2).isLt
  omega)

theorem Rl4_exact (c : Dev nD) (w : Fin cfg4.W) (hw : fgt4 w = true) (t : Fin cfg4.N) (ht : (cfg4.win w).flush t = true)
    (X : (cfg4.win w).block.Idx → Elt F (cfg4.win w).elt) (hX : Rl4 V c w t X) : X = (dat4 V c).after w t := by
  have hN : t.val < 36 := t.isLt
  match w, hw with
  | ⟨8, _⟩, _ =>
    rw [show (dat4 V c).after ⟨8, _⟩ t = etAll4 V c from after4_8 V c t]
    have h35 : t.val % 36 = 35 := (flush4_8 t).mp ht
    exact Rows4To.all (n := t.val + 1) hX (by omega)
  | ⟨9, _⟩, _ =>
    rw [show (dat4 V c).after ⟨9, _⟩ t = ecAll4 V c from after4_9 V c t]
    have h35 : t.val % 36 = 35 := (flush4_9 t).mp ht
    exact (show t.val = 35 → (X : Vec F S4x1024 .f32) = ecAll4 V c from hX) (by omega)
  | ⟨10, _⟩, _ =>
    rw [show (dat4 V c).after ⟨10, _⟩ t = stAll4 V c from after4_10 V c t]
    have h35 : t.val % 36 = 35 := (flush4_10 t).mp ht
    exact RowsTo.all (n := t.val + 1) hX (by omega)
  | ⟨13, _⟩, _ =>
    rw [show (dat4 V c).after ⟨13, _⟩ t = fsAll4 V c from after4_13 V c t]
    have h35 : t.val % 36 = 35 := (flush4_13 t).mp ht
    exact RowsTo.all (n := t.val + 1) hX (by omega)
  | ⟨15, _⟩, _ =>
    rw [show (dat4 V c).after ⟨15, _⟩ t = rsAll4 V c from after4_15 V c t]
    have h35 : t.val % 36 = 35 := (flush4_15 t).mp ht
    exact RowsTo.all (n := t.val + 1) hX (by omega)

theorem off4_1_eq : ∀ t : Fin cfg4.N, k4_off1 (grid4.coords t) = ![t.val / 6, t.val % 6 * 256] := by decide +kernel
theorem off4_2_eq : ∀ t : Fin cfg4.N, k4_off2 (grid4.coords t) = ![0, t.val / 6, t.val % 6 * 256] := by decide +kernel
theorem off4_3_eq : ∀ t : Fin cfg4.N, k4_off3 (grid4.coords t) = ![1, t.val / 6, t.val % 6 * 256] := by decide +kernel
theorem off4_4_eq : ∀ t : Fin cfg4.N, k4_off4 (grid4.coords t) = ![2, t.val / 6, t.val % 6 * 256] := by decide +kernel
theorem off4_5_eq : ∀ t : Fin cfg4.N, k4_off5 (grid4.coords t) = ![3, t.val / 6, t.val % 6 * 256] := by decide +kernel

/-- One point's row put in place. -/
theorem put_row (R : Fin cfg4.N → FVec F S1x256 .f32) (t : Fin cfg4.N) (Y : Vec F S6x1536 .f32) (hY : RowsTo (rowsOf R) Y t.val) :
    RowsTo (rowsOf R) (VecWindow.put Y (k4_off1 (grid4.coords t)) S1x256.size (R t)) (t.val + 1) := by
  intro j hj
  have h0 : (j 0).val < 6 := (j 0).isLt
  have h1 : (j 1).val < 1536 := (j 1).isLt
  rw [off4_1_eq]
  unfold VecWindow.put
  split
  · rename_i h
    have a0 := h 0
    have a1 := h 1
    simp at a0 a1
    unfold rowsOf
    rw [show ptOf (j 0) (j 1) = t from Fin.ext (by show 6 * (j 0).val + (j 1).val / 256 = t.val; omega)]
    congr 1
    funext a
    apply Fin.ext
    match a with
    | ⟨0, _⟩ => simp; omega
    | ⟨1, _⟩ => simp; omega
  · rename_i h
    refine hY j (Nat.lt_of_le_of_ne (Nat.le_of_lt_succ hj) fun e => h fun a => ?_)
    match a with
    | ⟨0, _⟩ => simp; omega
    | ⟨1, _⟩ => simp; omega

/-- One store of a variant's row, at an index. -/
theorem put_row4 (A Y : Vec F S4x6x1536 .f32) (R : Fin 4 → Fin cfg4.N → FVec F S1x1x256 .f32) (hA : A = rows4Of R) (t : Fin cfg4.N) (k : Fin 4) (j : S4x6x1536.Idx)
    (hj : 6 * (j 1).val + (j 2).val / 256 < t.val + 1) (hY : 6 * (j 1).val + (j 2).val / 256 < t.val ∨ (j 0).val < k.val → Y j = A j) :
    6 * (j 1).val + (j 2).val / 256 < t.val ∨ (j 0).val < k.val + 1 → VecWindow.put Y ![k.val, t.val / 6, t.val % 6 * 256] S1x1x256.size (R k t) j = A j := by
  intro hc
  have h0 : (j 0).val < 4 := (j 0).isLt
  have h1 : (j 1).val < 6 := (j 1).isLt
  have h2 : (j 2).val < 1536 := (j 2).isLt
  unfold VecWindow.put
  split
  · rename_i h
    have a0 := h 0
    have a1 := h 1
    have a2 := h 2
    simp at a0 a1 a2
    rw [hA]; unfold rows4Of
    rw [show ptOf (j 1) (j 2) = t from Fin.ext (by show 6 * (j 1).val + (j 2).val / 256 = t.val; omega), show (j 0 : Fin 4) = k from Fin.ext (by omega)]
    congr 1
    funext a
    apply Fin.ext
    match a with
    | ⟨0, _⟩ => simp; omega
    | ⟨1, _⟩ => simp; omega
    | ⟨2, _⟩ => simp; omega
  · rename_i h
    refine hY ?_
    by_contra hn
    refine h fun a => ?_
    match a with
    | ⟨0, _⟩ => simp; omega
    | ⟨1, _⟩ => simp; omega
    | ⟨2, _⟩ => simp; omega

theorem put_rows4 (R : Fin 4 → Fin cfg4.N → FVec F S1x1x256 .f32) (t : Fin cfg4.N) (Y : Vec F S4x6x1536 .f32) (hY : Rows4To (rows4Of R) Y t.val) :
    Rows4To (rows4Of R) (VecWindow.put (VecWindow.put (VecWindow.put (VecWindow.put Y (k4_off2 (grid4.coords t)) S1x1x256.size (R 0 t)) (k4_off3 (grid4.coords t)) S1x1x256.size (R 1 t))
      (k4_off4 (grid4.coords t)) S1x1x256.size (R 2 t)) (k4_off5 (grid4.coords t)) S1x1x256.size (R 3 t)) (t.val + 1) := by
  intro j hj
  have h0 : (j 0).val < 4 := (j 0).isLt
  rw [off4_2_eq, off4_3_eq, off4_4_eq, off4_5_eq]
  exact put_row4 _ _ R rfl t 3 j hj (put_row4 _ _ R rfl t 2 j hj (put_row4 _ _ R rfl t 1 j hj (put_row4 _ _ R rfl t 0 j hj
    (fun h => h.elim (hY j) (fun h => absurd h (Nat.not_lt_zero _)))))) (.inr h0)

theorem prev4_8 (c : Dev nD) (t : Fin cfg4.N) (Y : Vec F S4x6x1536 .f32) (hY : (((dat4 V c).toRRel fgt4 (Rl4 V c)).Finds 8 t Y)) : Rows4To (etAll4 V c) Y t.val := by
  have hN : t.val < 36 := t.isLt
  by_cases hpos : t.val = 0
  · intro j hj; rw [hpos] at hj; exact absurd hj (Nat.not_lt_zero _)
  · have hp : Rl4 V c 8 ⟨t.val - 1, Nat.lt_of_le_of_lt (Nat.sub_le _ _) t.isLt⟩ Y :=
      Cert.RowData.finds_prev (dat4 V c) rfl rfl hpos (by
        cases hfl : (cfg4.win 8).flush ⟨t.val - 1, Nat.lt_of_le_of_lt (Nat.sub_le _ _) t.isLt⟩
        · rfl
        · have := (flush4_8 _).mp hfl
          simp at this; omega) hY
    have e : t.val - 1 + 1 = t.val := by omega
    intro j hj
    exact (show Rows4To (etAll4 V c) Y (t.val - 1 + 1) from hp) j (by rw [e]; exact hj)

theorem prev4_10 (c : Dev nD) (t : Fin cfg4.N) (Y : Vec F S6x1536 .f32) (hY : (((dat4 V c).toRRel fgt4 (Rl4 V c)).Finds 10 t Y)) : RowsTo (stAll4 V c) Y t.val := by
  have hN : t.val < 36 := t.isLt
  by_cases hpos : t.val = 0
  · intro j hj; rw [hpos] at hj; exact absurd hj (Nat.not_lt_zero _)
  · have hp : Rl4 V c 10 ⟨t.val - 1, Nat.lt_of_le_of_lt (Nat.sub_le _ _) t.isLt⟩ Y :=
      Cert.RowData.finds_prev (dat4 V c) rfl rfl hpos (by
        cases hfl : (cfg4.win 10).flush ⟨t.val - 1, Nat.lt_of_le_of_lt (Nat.sub_le _ _) t.isLt⟩
        · rfl
        · have := (flush4_10 _).mp hfl
          simp at this; omega) hY
    have e : t.val - 1 + 1 = t.val := by omega
    intro j hj
    exact (show RowsTo (stAll4 V c) Y (t.val - 1 + 1) from hp) j (by rw [e]; exact hj)

theorem prev4_13 (c : Dev nD) (t : Fin cfg4.N) (Y : Vec F S6x1536 .f32) (hY : (((dat4 V c).toRRel fgt4 (Rl4 V c)).Finds 13 t Y)) : RowsTo (fsAll4 V c) Y t.val := by
  have hN : t.val < 36 := t.isLt
  by_cases hpos : t.val = 0
  · intro j hj; rw [hpos] at hj; exact absurd hj (Nat.not_lt_zero _)
  · have hp : Rl4 V c 13 ⟨t.val - 1, Nat.lt_of_le_of_lt (Nat.sub_le _ _) t.isLt⟩ Y :=
      Cert.RowData.finds_prev (dat4 V c) rfl rfl hpos (by
        cases hfl : (cfg4.win 13).flush ⟨t.val - 1, Nat.lt_of_le_of_lt (Nat.sub_le _ _) t.isLt⟩
        · rfl
        · have := (flush4_13 _).mp hfl
          simp at this; omega) hY
    have e : t.val - 1 + 1 = t.val := by omega
    intro j hj
    exact (show RowsTo (fsAll4 V c) Y (t.val - 1 + 1) from hp) j (by rw [e]; exact hj)

theorem prev4_15 (c : Dev nD) (t : Fin cfg4.N) (Y : Vec F S6x1536 .f32) (hY : (((dat4 V c).toRRel fgt4 (Rl4 V c)).Finds 15 t Y)) : RowsTo (rsAll4 V c) Y t.val := by
  have hN : t.val < 36 := t.isLt
  by_cases hpos : t.val = 0
  · intro j hj; rw [hpos] at hj; exact absurd hj (Nat.not_lt_zero _)
  · have hp : Rl4 V c 15 ⟨t.val - 1, Nat.lt_of_le_of_lt (Nat.sub_le _ _) t.isLt⟩ Y :=
      Cert.RowData.finds_prev (dat4 V c) rfl rfl hpos (by
        cases hfl : (cfg4.win 15).flush ⟨t.val - 1, Nat.lt_of_le_of_lt (Nat.sub_le _ _) t.isLt⟩
        · rfl
        · have := (flush4_15 _).mp hfl
          simp at this; omega) hY
    have e : t.val - 1 + 1 = t.val := by omega
    intro j hj
    exact (show RowsTo (rsAll4 V c) Y (t.val - 1 + 1) from hp) j (by rw [e]; exact hj)

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ Y, ⌜((dat4 V c).toRRel fgt4 (Rl4 V c)).Finds 8 t Y⌝ ∗ owns (c : Thread nD τ) (st4_8 t) fullShare Y)
    ∗ (∃ Y, ⌜((dat4 V c).toRRel fgt4 (Rl4 V c)).Finds 9 t Y⌝ ∗ owns (c : Thread nD τ) (st4_9 t) fullShare Y)
    ∗ (∃ Y, ⌜((dat4 V c).toRRel fgt4 (Rl4 V c)).Finds 10 t Y⌝ ∗ owns (c : Thread nD τ) (st4_10 t) fullShare Y)
    ∗ (∃ d, owns (c : Thread nD τ) (st4_11 t) fullShare ((dat4 V c).before 11 t d))
    ∗ (∃ d, owns (c : Thread nD τ) (st4_12 t) fullShare ((dat4 V c).before 12 t d))
    ∗ (∃ Y, ⌜((dat4 V c).toRRel fgt4 (Rl4 V c)).Finds 13 t Y⌝ ∗ owns (c : Thread nD τ) (st4_13 t) fullShare Y)
    ∗ (∃ d, owns (c : Thread nD τ) (st4_14 t) fullShare ((dat4 V c).before 14 t d))
    ∗ (∃ Y, ⌜((dat4 V c).toRRel fgt4 (Rl4 V c)).Finds 15 t Y⌝ ∗ owns (c : Thread nD τ) (st4_15 t) fullShare Y))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ (∃ X, ⌜Rl4 V c 8 t X⌝ ∗ owns (c : Thread nD τ) (st4_8 t) fullShare X)
    ∗ (∃ X, ⌜Rl4 V c 9 t X⌝ ∗ owns (c : Thread nD τ) (st4_9 t) fullShare X)
    ∗ (∃ X, ⌜Rl4 V c 10 t X⌝ ∗ owns (c : Thread nD τ) (st4_10 t) fullShare X)
    ∗ owns (c : Thread nD τ) (st4_11 t) fullShare ((dat4 V c).after 11 t)
    ∗ owns (c : Thread nD τ) (st4_12 t) fullShare ((dat4 V c).after 12 t)
    ∗ (∃ X, ⌜Rl4 V c 13 t X⌝ ∗ owns (c : Thread nD τ) (st4_13 t) fullShare X)
    ∗ owns (c : Thread nD τ) (st4_14 t) fullShare ((dat4 V c).after 14 t)
    ∗ (∃ X, ⌜Rl4 V c 15 t X⌝ ∗ owns (c : Thread nD τ) (st4_15 t) fullShare X))

set_option maxHeartbeats 2000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7]
  rw [show (dat4 V c).Φ t.succ = Phi4 V c (t.val + 1) from rfl, show (dat4 V c).Φ t.castSucc = Phi4 V c t.val from rfl,
    show (dat4 V c).owesAt () t.succ = (dat4 V c).owesAt () t.castSucc from rfl,
    after4_0, after4_1, after4_2, after4_3, after4_4, after4_5, after4_6, after4_7, after4_11, after4_12, after4_14]
  have hN : t.val < 36 := t.isLt
  by_cases h0 : t.val = 0
  · skip
    rw [show Phi4 V c t.val = Pipeline.ΦA spec4 c from by rw [h0]; rfl, PhiA4_eq]
    rw [show Phi4 V c (t.val + 1) = iprop((owns (c : Thread nD τ) scM4 fullShare (accN V c (t.val + 1))
      ∗ Pipeline.scopedRestBut (Ix := Unit) (Name := ℕ) (U := UR sig nD τ) (Lvl := ℕ) (Val := Elt F) spec4 c [cc4_scratch0]) ∗ (∃ r, prngReg c r)) from rfl, accN_succ]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%y8, %hy8, H8⟩, ⟨%y9, %hy9, H9⟩, ⟨%y10, %hy10, H10⟩, ⟨%d11, H11⟩, ⟨%d12, H12⟩, ⟨%y13, %hy13, H13⟩, ⟨%d14, H14⟩, ⟨%y15, %hy15, H15⟩⟩
    iapply (sound_kernel4_A c Set.univ (grid4.coords t) _ _ _ _ _ _ _ _ _ _ _ _ _ _ _ _ _ _ _ _ _ _ _ _ _ _ _ _ _ _ _ _ _ _ ((hcond4_0 t).mpr h0) (fun h => absurd ((hcond4_1 t).mp h) (by omega)) (iblk4 V c 0 t) (iblk4 V c 1 t) (iblk4 V c 2 t) (iblk4 V c 3 t) (iblk4 V c 4 t) (iblk4 V c 5 t) (iblk4 V c 6 t) (iblk4 V c 7 t) y8 y9 y10 y13 y15 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexact H13
    isplitl [H14]; · iexists _; iexact H14
    isplitl [H15]; · iexact H15
    isplitl [HS]; · iexact HS
    iintro ⟨H0, H1, H2, H3, H4, H5, H6, H7, H8, H9, H10, H11, H12, H13, H14, H15, HS⟩
    rw [show accN V c t.val = k4_pay2 from by rw [h0]; rfl]
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; isplitr
      swap; · iexact H8
      ipureintro
      exact put_rows4 (etRows4 V c) t y8 (prev4_8 V c t y8 hy8)
    isplitl [H9]
    · iexists _; isplitr
      swap; · iexact H9
      ipureintro
      intro h; exact absurd h (by omega)
    isplitl [H10]
    · iexists _; isplitr
      swap; · iexact H10
      ipureintro
      exact put_row (fun t => stRow (iblk4 V c 1 t) (iblk4 V c 6 t)) t y10 (prev4_10 V c t y10 hy10)
    isplitl [H11]; · iexact H11
    isplitl [H12]; · iexact H12
    isplitl [H13]
    · iexists _; isplitr
      swap; · iexact H13
      ipureintro
      exact put_row (fun t => fsRow (iblk4 V c 4 t)) t y13 (prev4_13 V c t y13 hy13)
    isplitl [H14]; · iexact H14
    iexists _; isplitr
    swap; · iexact H15
    ipureintro
    exact put_row (fun t => rsRow (iblk4 V c 5 t)) t y15 (prev4_15 V c t y15 hy15)
  by_cases h1 : t.val = 35
  · skip
    rw [show Phi4 V c t.val = iprop((owns (c : Thread nD τ) scM4 fullShare (accN V c t.val)
      ∗ Pipeline.scopedRestBut (Ix := Unit) (Name := ℕ) (U := UR sig nD τ) (Lvl := ℕ) (Val := Elt F) spec4 c [cc4_scratch0]) ∗ (∃ r, prngReg c r)) from by
        obtain ⟨n, hn⟩ : ∃ n, t.val = n + 1 := ⟨t.val - 1, by omega⟩
        rw [hn]; rfl]
    rw [show Phi4 V c (t.val + 1) = iprop((owns (c : Thread nD τ) scM4 fullShare (accN V c (t.val + 1))
      ∗ Pipeline.scopedRestBut (Ix := Unit) (Name := ℕ) (U := UR sig nD τ) (Lvl := ℕ) (Val := Elt F) spec4 c [cc4_scratch0]) ∗ (∃ r, prngReg c r)) from rfl, accN_succ]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%y8, %hy8, H8⟩, ⟨%y9, %hy9, H9⟩, ⟨%y10, %hy10, H10⟩, ⟨%d11, H11⟩, ⟨%d12, H12⟩, ⟨%y13, %hy13, H13⟩, ⟨%d14, H14⟩, ⟨%y15, %hy15, H15⟩⟩
    iapply (sound_kernel4_C c Set.univ (grid4.coords t) _ _ _ _ _ _ _ _ _ _ _ _ _ _ _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) y8 y9 y10 y13 y15 (accN V c t.val) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexact H13
    isplitl [H14]; · iexists _; iexact H14
    isplitl [H15]; · iexact H15
    isplitl [HS]; · iexact HS
    iintro ⟨H0, H1, H2, H3, H4, H5, H6, H7, H8, H9, H10, H11, H12, H13, H14, H15, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; isplitr
      swap; · iexact H8
      ipureintro
      exact put_rows4 (etRows4 V c) t y8 (prev4_8 V c t y8 hy8)
    isplitl [H9]
    · iexists _; isplitr
      swap; · iexact H9
      ipureintro
      intro h; unfold ecAll4; rw [← show t.val + 1 = 36 by omega, accN_succ]
    isplitl [H10]
    · iexists _; isplitr
      swap; · iexact H10
      ipureintro
      exact put_row (fun t => stRow (iblk4 V c 1 t) (iblk4 V c 6 t)) t y10 (prev4_10 V c t y10 hy10)
    isplitl [H11]; · iexact H11
    isplitl [H12]; · iexact H12
    isplitl [H13]
    · iexists _; isplitr
      swap; · iexact H13
      ipureintro
      exact put_row (fun t => fsRow (iblk4 V c 4 t)) t y13 (prev4_13 V c t y13 hy13)
    isplitl [H14]; · iexact H14
    iexists _; isplitr
    swap; · iexact H15
    ipureintro
    exact put_row (fun t => rsRow (iblk4 V c 5 t)) t y15 (prev4_15 V c t y15 hy15)
  · skip
    rw [show Phi4 V c t.val = iprop((owns (c : Thread nD τ) scM4 fullShare (accN V c t.val)
      ∗ Pipeline.scopedRestBut (Ix := Unit) (Name := ℕ) (U := UR sig nD τ) (Lvl := ℕ) (Val := Elt F) spec4 c [cc4_scratch0]) ∗ (∃ r, prngReg c r)) from by
        obtain ⟨n, hn⟩ : ∃ n, t.val = n + 1 := ⟨t.val - 1, by omega⟩
        rw [hn]; rfl]
    rw [show Phi4 V c (t.val + 1) = iprop((owns (c : Thread nD τ) scM4 fullShare (accN V c (t.val + 1))
      ∗ Pipeline.scopedRestBut (Ix := Unit) (Name := ℕ) (U := UR sig nD τ) (Lvl := ℕ) (Val := Elt F) spec4 c [cc4_scratch0]) ∗ (∃ r, prngReg c r)) from rfl, accN_succ]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%y8, %hy8, H8⟩, ⟨%y9, %hy9, H9⟩, ⟨%y10, %hy10, H10⟩, ⟨%d11, H11⟩, ⟨%d12, H12⟩, ⟨%y13, %hy13, H13⟩, ⟨%d14, H14⟩, ⟨%y15, %hy15, H15⟩⟩
    iapply (sound_kernel4_B c Set.univ (grid4.coords t) _ _ _ _ _ _ _ _ _ _ _ _ _ _ _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) y8 y9 y10 y13 y15 (accN V c t.val) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexact H13
    isplitl [H14]; · iexists _; iexact H14
    isplitl [H15]; · iexact H15
    isplitl [HS]; · iexact HS
    iintro ⟨H0, H1, H2, H3, H4, H5, H6, H7, H8, H9, H10, H11, H12, H13, H14, H15, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; isplitr
      swap; · iexact H8
      ipureintro
      exact put_rows4 (etRows4 V c) t y8 (prev4_8 V c t y8 hy8)
    isplitl [H9]
    · iexists _; isplitr
      swap; · iexact H9
      ipureintro
      intro h; exact absurd h (by omega)
    isplitl [H10]
    · iexists _; isplitr
      swap; · iexact H10
      ipureintro
      exact put_row (fun t => stRow (iblk4 V c 1 t) (iblk4 V c 6 t)) t y10 (prev4_10 V c t y10 hy10)
    isplitl [H11]; · iexact H11
    isplitl [H12]; · iexact H12
    isplitl [H13]
    · iexists _; isplitr
      swap; · iexact H13
      ipureintro
      exact put_row (fun t => fsRow (iblk4 V c 4 t)) t y13 (prev4_13 V c t y13 hy13)
    isplitl [H14]; · iexact H14
    iexists _; isplitr
    swap; · iexact H15
    ipureintro
    exact put_row (fun t => rsRow (iblk4 V c 5 t)) t y15 (prev4_15 V c t y15 hy15)

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) :
    Pipeline.BodyObligationRel (dat4 (F := F) V c) (defs₀ (F := F)) Variants.none () Set.univ fgt4 (Rl4 V c) := fun t => by
  rw [bigSep_W4, bigSep_W4, defs₀_row4]
  exact triple_restated (sound_body4 V c t) rfl .rfl fun _ => .rfl

/-- What the launch hands the region is the invariant before the first point. -/
theorem hin4 (c : Dev nD) : Pipeline.ΦA spec4 c ⊢ (dat4 V c).Φ 0 := by
  rw [show (dat4 V c).Φ 0 = Pipeline.ΦA spec4 c from rfl]

/-- After the last point the accumulator's contents are forgotten. -/
theorem hout4 (c : Dev nD) : (dat4 V c).Φ (Fin.last cfg4.N) ⊢ Pipeline.ΦA spec4 c := by
  rw [show (dat4 V c).Φ (Fin.last cfg4.N) = Phi4 V c 36 from rfl, PhiA4_eq]
  show iprop((owns (c : Thread nD τ) scM4 fullShare (accN V c 36)
      ∗ Pipeline.scopedRestBut (Ix := Unit) (Name := ℕ) (U := UR sig nD τ) (Lvl := ℕ) (Val := Elt F) spec4 c [cc4_scratch0]) ∗ (∃ r, prngReg c r)) ⊢ _
  iintro ⟨⟨HS, Hr⟩, Hg⟩
  isplitl [HS Hr]
  · isplitl [HS]
    · iexists _; iexact HS
    iexact Hr
  iexact Hg

end Cert.KernelIdeal.Hand
-- ==== Proof.KernelIdeal.Run.lean ====
/- The run of the five calls and of the host operations between them: the buffer contents at each boundary, and the frame. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.UnfoldOut
public import proofs.«01_k».proof.Proof.RowData
public import proofs.«01_k».proof.Proof.KernelIdeal.Deq
public import proofs.«01_k».proof.Proof.KernelIdeal.Gate
public import proofs.«01_k».proof.Proof.KernelIdeal.Down

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch (Lib/StableHlo/Run.lean
    `after_of_writes_sub`) -/

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v3]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps5` allocates a buffer. -/
theorem hostOps5_fresh : (hostOps5 : List (HloOp τ sig (Elt F))).Forall fun op => op.fresh = ∅ := by
  simp only [List.Forall]; repeat' constructor
/-- The reference each operation of `hostOps5` writes, in order. -/
abbrev hostOps5_W : List (Ref sig .tc) := [main_v6, main_v7, main_v8, main_v9]
theorem hostOps5_writes : (hostOps5 : List (HloOp τ sig (Elt F))).Forall fun op => op.writes ⊆ (hostOps5_W.map (Proc.devRef (τ := τ) .tc)).toFinset :=
  StableHlo.forall_writes_sub_of_map rfl
/-- `hostOps5` writes none of the argument arrays (checked: each argument against each reference it writes). -/
theorem hostOps5_args : ∀ a ∈ argRefs, a ∉ hostOps5_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b

/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A reference that is none of region 1's OUTPUT arrays keeps its entry contents across it: an input window's
    array is never written back (`Dat.arrAt_in`, `A_eq1`); any other buffer is left as is. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- A reference that is none of region 2's OUTPUT arrays keeps its entry contents across it: an input window's
    array is never written back (`Dat.arrAt_in`, `A_eq2`); any other buffer is left as is. -/
theorem W3_of (c : Dev nD) (r : Ref sig .tc) (h : ∀ w : Fin cfg2.W, Pipeline.arrRef spec2 w = r → (cfg2.win w).isOut = false) :
    W3 m ρ c (Proc.devRef .tc r) = W2 m ρ c (Proc.devRef .tc r) := by
  by_cases hw : ∃ w : Fin cfg2.W, Pipeline.arrRef spec2 w = r
  · obtain ⟨w, rfl⟩ := hw
    exact (W3_arr m ρ c w).trans (((dat2 (V2 m ρ) c).arrAt_in w (h w rfl) _).trans (A_eq2 (V2 m ρ) c w))
  · exact W3_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn2 a ha)).trans (W2_args m ρ c a ha)
/-- The same read at the TensorCore's references (region 2's exit contents). -/
abbrev V3 : (c : Dev nD) → (b : Ref sig .tc) → Buf (Elt F) ((c : Thread nD τ).loc b) := fun c b => W3 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- After `hostOps3` (region 3's entry). -/
abbrev W4 : Dev nD → Valuation τ sig (Elt F) := fun c => StableHlo.after hostOps3 (W3 m ρ c)
/-- A reference `hostOps3` does not write keeps its contents across it. -/
theorem W4_of (c : Dev nD) (r : Ref sig .tc) (h : r ∉ hostOps3_W) : W4 m ρ c (Proc.devRef .tc r) = W3 m ρ c (Proc.devRef .tc r) :=
  StableHlo.after_of_writes_sub hostOps3 _ hostOps3_writes h
theorem W4_args (c : Dev nD) : ∀ a ∈ argRefs, W4 m ρ c (Proc.devRef .tc a) = m ((c : Thread nD τ).loc a) :=
  fun a ha => (W4_of m ρ c a (hostOps3_args a ha)).trans (W3_args m ρ c a ha)
/-- The same read at the TensorCore's references (what region 3's proof data take). -/
abbrev V4 : (c : Dev nD) → (b : Ref sig .tc) → Buf (Elt F) ((c : Thread nD τ).loc b) := fun c b => W4 m ρ c b

/-- At region 3's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- A reference that is none of region 3's OUTPUT arrays keeps its entry contents across it: an input window's
    array is never written back (`Dat.arrAt_in`, `A_eq3`); any other buffer is left as is. -/
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn3 a ha)).trans (W4_args m ρ c a ha)
/-- The same read at the TensorCore's references (region 3's exit contents). -/
abbrev V5 : (c : Dev nD) → (b : Ref sig .tc) → Buf (Elt F) ((c : Thread nD τ).loc b) := fun c b => W5 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- At region 4's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
/-- A reference that is none of region 4's OUTPUT arrays keeps its entry contents across it: an input window's
    array is never written back (`Dat.arrAt_in`, `A_eq4`); any other buffer is left as is. -/
theorem W6_of (c : Dev nD) (r : Ref sig .tc) (h : ∀ w : Fin cfg4.W, Pipeline.arrRef spec4 w = r → (cfg4.win w).isOut = false) :
    W6 m ρ c (Proc.devRef .tc r) = W5 m ρ c (Proc.devRef .tc r) := by
  by_cases hw : ∃ w : Fin cfg4.W, Pipeline.arrRef spec4 w = r
  · obtain ⟨w, rfl⟩ := hw
    exact (W6_arr m ρ c w).trans (((dat4 (V5 m ρ) c).arrAt_in w (h w rfl) _).trans (A_eq4 (V5 m ρ) c w))
  · exact W6_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn4 a ha)).trans (W5_args m ρ c a ha)
/-- The same read at the TensorCore's references (region 4's exit contents). -/
abbrev V6 : (c : Dev nD) → (b : Ref sig .tc) → Buf (Elt F) ((c : Thread nD τ).loc b) := fun c b => W6 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-- After `hostOps5`. -/
abbrev W7 : Dev nD → Valuation τ sig (Elt F) := fun c => StableHlo.after hostOps5 (W6 m ρ c)
/-- A reference `hostOps5` does not write keeps its contents across it. -/
theorem W7_of (c : Dev nD) (r : Ref sig .tc) (h : r ∉ hostOps5_W) : W7 m ρ c (Proc.devRef .tc r) = W6 m ρ c (Proc.devRef .tc r) :=
  StableHlo.after_of_writes_sub hostOps5 _ hostOps5_writes h
theorem W7_args (c : Dev nD) : ∀ a ∈ argRefs, W7 m ρ c (Proc.devRef .tc a) = m ((c : Thread nD τ).loc a) :=
  fun a ha => (W7_of m ρ c a (hostOps5_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)
theorem W7_main_arg6 (c : Dev nD) : W7 m ρ c (Proc.devRef .tc main_arg6) = m ((c : Thread nD τ).loc main_arg6) :=
  W7_args m ρ c main_arg6 (by decide)
theorem W7_main_arg7 (c : Dev nD) : W7 m ρ c (Proc.devRef .tc main_arg7) = m ((c : Thread nD τ).loc main_arg7) :=
  W7_args m ρ c main_arg7 (by decide)
theorem W7_main_arg8 (c : Dev nD) : W7 m ρ c (Proc.devRef .tc main_arg8) = m ((c : Thread nD τ).loc main_arg8) :=
  W7_args m ρ c main_arg8 (by decide)
theorem W7_main_arg9 (c : Dev nD) : W7 m ρ c (Proc.devRef .tc main_arg9) = m ((c : Thread nD τ).loc main_arg9) :=
  W7_args m ρ c main_arg9 (by decide)

/-! ## The proof data family and the thread state -/

/-- The prefetched tables' admissible contents: no pipeline has a table. -/
abbrev adm : (p : Fin 5) → (pcfgs (F := F) p).Adm := fun p => (cfgs p).toPCfg_adm
/-- Every pipeline's exact proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V4 m ρ) c
  | ⟨4, _⟩ => fun c => dat4 (V5 m ρ) c
/-- The data of the run: the windows that a body stores row by row are held to the predicates of the two last regions. -/
def rdats : (p : Fin 5) → (c : Dev nD) → RDat τ (Elt F) Unit ℕ (UR sig nD τ) ℕ (Pipeline.pin (pcfgs (F := F)) adm p) c
  | ⟨0, _⟩ => fun c => (dat0 (V0 m ρ) c).toR
  | ⟨1, _⟩ => fun c => (dat1 (V1 m ρ) c).toR
  | ⟨2, _⟩ => fun c => (dat2 (V2 m ρ) c).toR
  | ⟨3, _⟩ => fun c => (dat3 (V4 m ρ) c).toRRel fgt3 (Rl3 (V4 m ρ) c)
  | ⟨4, _⟩ => fun c => (dat4 (V5 m ρ) c).toRRel fgt4 (Rl4 (V5 m ρ) c)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).toR
  hwaits := RDat.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := RDat.arrays_of_unscopedBufs (p := 0) (pcfgs (F := F)) adm (rdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    have hx : (rdats m ρ 0 c).arraysAt cfg0.N ⊢ ((pdats m ρ 0 c).arrays ((pdats m ρ 0 c).arrAt · cfg0.N) : sProp 𝕄) :=
      (pdats m ρ 0 c).toR_arraysAt_post cfg0.N
    iintro ⟨Ha, HO, HY, Hrest⟩
    ihave Hb := hx $$ Ha
    imodintro
    isplitl [Hb Hrest]
    · iapply hjoin; isplitl [Hb] <;> iassumption
    isplitl [HY]; · iexact HY
    unfold RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg1 : RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).toR
  hwaits := RDat.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := RDat.arrays_of_unscopedBufs (p := 1) (pcfgs (F := F)) adm (rdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    have hx : (rdats m ρ 1 c).arraysAt cfg1.N ⊢ ((pdats m ρ 1 c).arrays ((pdats m ρ 1 c).arrAt · cfg1.N) : sProp 𝕄) :=
      (pdats m ρ 1 c).toR_arraysAt_post cfg1.N
    iintro ⟨Ha, HO, HY, Hrest⟩
    ihave Hb := hx $$ Ha
    imodintro
    isplitl [Hb Hrest]
    · iapply hjoin; isplitl [Hb] <;> iassumption
    isplitl [HY]; · iexact HY
    unfold RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg2 : RDat.RegionSeg (pcfgs (F := F)) adm (rdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).toR
  hwaits := RDat.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := RDat.arrays_of_unscopedBufs (p := 2) (pcfgs (F := F)) adm (rdats m ρ) launch2.win launch2.arr_whole c
      ((pdats m ρ 2 c).share_full fun _ => rfl) (V2 m ρ c) (A_eq2 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    have hx : (rdats m ρ 2 c).arraysAt cfg2.N ⊢ ((pdats m ρ 2 c).arrays ((pdats m ρ 2 c).arrAt · cfg2.N) : sProp 𝕄) :=
      (pdats m ρ 2 c).toR_arraysAt_post cfg2.N
    iintro ⟨Ha, HO, HY, Hrest⟩
    ihave Hb := hx $$ Ha
    imodintro
    isplitl [Hb Hrest]
    · iapply hjoin; isplitl [Hb] <;> iassumption
    isplitl [HY]; · iexact HY
    unfold RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg3 : RDat.RegionSeg (pcfgs (F := F)) adm (rdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).toRRel
  hwaits := RDat.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := RDat.arrays_of_unscopedBufs (p := 3) (pcfgs (F := F)) adm (rdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    have hx : (rdats m ρ 3 c).arraysAt cfg3.N ⊢ ((pdats m ρ 3 c).arrays ((pdats m ρ 3 c).arrAt · cfg3.N) : sProp 𝕄) :=
      Cert.RowData.arraysAt_exact (dat3 (V4 m ρ) c) fgt3 (Rl3 (V4 m ρ) c) (Rl3_exact (V4 m ρ) c) cfg3.N
    iintro ⟨Ha, HO, HY, Hrest⟩
    ihave Hb := hx $$ Ha
    imodintro
    isplitl [Hb Hrest]
    · iapply hjoin; isplitl [Hb] <;> iassumption
    isplitl [HY]; · iexact HY
    unfold RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 4 (custom_call 4) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg4 : RDat.RegionSeg (pcfgs (F := F)) adm (rdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).toRRel
  hwaits := RDat.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := RDat.arrays_of_unscopedBufs (p := 4) (pcfgs (F := F)) adm (rdats m ρ) launch4.win launch4.arr_whole c
      ((pdats m ρ 4 c).share_full fun _ => rfl) (V5 m ρ c) (A_eq4 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V5 m ρ) c)
    unfold Pipeline.ΦA
    iintro ⟨Hp, -, Hr⟩
    isplitl [Hr]; · iexact Hr
    iexact Hp
  hout c := by
    rw [Pipeline.ownSems0_none]
    refine BIBase.Entails.trans (hout4 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    have hx : (rdats m ρ 4 c).arraysAt cfg4.N ⊢ ((pdats m ρ 4 c).arrays ((pdats m ρ 4 c).arrAt · cfg4.N) : sProp 𝕄) :=
      Cert.RowData.arraysAt_exact (dat4 (V5 m ρ) c) fgt4 (Rl4 (V5 m ρ) c) (Rl4_exact (V5 m ρ) c) cfg4.N
    iintro ⟨Ha, HO, HY, Hrest⟩
    ihave Hb := hx $$ Ha
    imodintro
    isplitl [Hb Hrest]
    · iapply hjoin; isplitl [Hb] <;> iassumption
    isplitl [HY]; · iexact HY
    unfold RDat.owesAt Pipeline.owesWithin
    icases HO with ⟨%W, -, HO⟩; iexists W; iexact HO

/-! ## @main as segments, and the launch -/

/-- @main's 7 segments in order: a host segment per stretch from its boundary's contents, a region per pallas_call. -/
abbrev segs : List (RDat.Seg (pcfgs (F := F)) adm (rdats m ρ) () defs₀ 𝒱₀ L lv) :=
  [ .region (reg0 m ρ),
    .region (reg1 m ρ),
    .region (reg2 m ρ),
    .host (hseg hostOps3 hostOps3_sub hostOps3_fresh (W3 m ρ)),
    .region (reg3 m ρ),
    .region (reg4 m ρ),
    .host (hseg hostOps5 hostOps5_sub hostOps5_fresh (W6 m ρ)) ]
/-- @main IS the run of the segments. -/
theorem main_run (c : Dev nD) : main (F := F) c = RDat.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main terminates, nothing faulting, with every unscoped
    buffer at the last boundary's contents and every semaphore counter at zero. -/
theorem run : θ_run defs (onTc (τ := τ) (main (F := F))) ⟨m, fun _ => 0, ρ⟩ (fun r => (∀ (c : Dev nD) (b : Ref sig .tc),
      ¬ (Proc.devRef .tc b : DevRef τ sig).isScoped → r.2.mem ((c.tc : Thread nD τ).loc b) = W7 m ρ c (Proc.devRef .tc b))
      ∧ r.2.sem = fun _ => 0) :=
  RDat.θ_run_regions_kit_sems (pcfgs (F := F)) adm (rdats m ρ) () cellOf_inj emb₁ defs₀ 𝒱₀ L lv m ρ main (segs m ρ)
    (fun c Q => by rw [main_run m ρ c])
    (by show List.Nodup ([0, 1, 2, 3, 4] : List (Fin 5)); decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [RDat.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨fun c b hb => h c _ (mem_uc b hb), funext fun g => hz g (.inr (no_unscoped g.2))⟩)

/-- THE FRAME: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨(h.1 c main_arg0 (by decide)).trans (W7_main_arg0 m ρ c),
    (h.1 c main_arg1 (by decide)).trans (W7_main_arg1 m ρ c),
    (h.1 c main_arg2 (by decide)).trans (W7_main_arg2 m ρ c),
    (h.1 c main_arg3 (by decide)).trans (W7_main_arg3 m ρ c),
    (h.1 c main_arg4 (by decide)).trans (W7_main_arg4 m ρ c),
    (h.1 c main_arg5 (by decide)).trans (W7_main_arg5 m ρ c),
    (h.1 c main_arg6 (by decide)).trans (W7_main_arg6 m ρ c),
    (h.1 c main_arg7 (by decide)).trans (W7_main_arg7 m ρ c),
    (h.1 c main_arg8 (by decide)).trans (W7_main_arg8 m ρ c),
    (h.1 c main_arg9 (by decide)).trans (W7_main_arg9 m ρ c)⟩, h.2⟩) (run m ρ)

end Cert.KernelIdeal.Hand

end
-- ==== Proof.Spec.lean ====
module

public import Idealize.ShloMosaic.Lib.Pointwise
public import Idealize.ShloMosaic.Lib.Pipeline.Value

@[expose] public section

/-! # The value both programs compute

Rows of activations are quantised to signed 8-bit codes with one scale per row; weights are packed as signed
4-bit codes, two rows to a byte, with one scale per group of 128 rows and column. Everything is stated on
functions of plain row and column numbers, with the extended reals as numbers. -/

noncomputable section

namespace Cert.Spec

open Idealize.ShloMosaic

/-- A rank-2 array as a function of its row and column. -/
abbrev mat {α : Type} {n p : Nat} (w : (⟨2, ![n, p]⟩ : Shape).Idx → α) (k : Fin n) (j : Fin p) : α := w (ix2 k j)

/-- The largest code. -/
abbrev c127 : EReal := Ideal.ofBits .f32 1123942400#32

/-- The smallest code. -/
abbrev cm127 : EReal := Ideal.ofBits .f32 3271426048#32

/-- The absolute value. -/
abbrev absE (x : EReal) : EReal := FloatOps.absf (F := Ideal) (φ := .f32) x

/-- The largest absolute value of a row (bottom for an empty row). -/
def amax {n : Nat} (v : Fin n → EReal) : EReal := Finset.univ.sup fun k => absE (v k)

/-- A row's scale, from its largest absolute value. -/
def scaleOf (m : EReal) : EReal := if 0 < m then Ideal.div m c127 else 1

/-- A number in units of a scale, rounded to an integer and clipped to the codes. -/
def quant (v s : EReal) : EReal := min c127 (max cm127 (Ideal.liftRound Ideal.roundHalfEven (Ideal.div v s)))

/-- The code as an 8-bit word. -/
def code (v s : EReal) : BitVec 8 := FloatOps.fptosi (F := Ideal) (φ := .f32) 8 (quant v s)

/-- The scale of a row. -/
def rscale {n : Nat} (v : Fin n → EReal) : EReal := scaleOf (amax v)

/-- The quantised row. -/
def rquant {n : Nat} (v : Fin n → EReal) (k : Fin n) : EReal := quant (v k) (rscale v)

/-- The codes of a row. -/
def rcode {n : Nat} (v : Fin n → EReal) (k : Fin n) : BitVec 8 := code (v k) (rscale v)

/-- A row times a matrix. -/
def dot {n p : Nat} (v : Fin n → EReal) (w : Fin n → Fin p → EReal) (j : Fin p) : EReal := ∑ k, v k * w k j

/-- A quantised row times a matrix, scaled back. -/
def qdot {n p : Nat} (v : Fin n → EReal) (w : Fin n → Fin p → EReal) (j : Fin p) : EReal :=
  dot (rquant v) w j * rscale v

/-- The gate's activation. -/
def silu (g : EReal) : EReal := g * Ideal.logistic g

/-- The activation entering the down projection: gate `g` against `u`. -/
def hid {p : Nat} (g u : Fin p → EReal) (j : Fin p) : EReal := silu (g j) * u j

/-- The signed value of the low (`hi = false`) or the high half of a byte. -/
def nib (w : BitVec 8) (hi : Bool) : EReal :=
  FloatOps.sitofp (F := Ideal) .f32 ((bif hi then (w.setWidth 32) <<< 24 else (w.setWidth 32) <<< 28).sshiftRight 28)

/-- A squared difference. -/
def sqdiff (a b : EReal) : EReal := (a - b) * (a - b)

/-- A dequantised weight: row `k` of column `j`. -/
def deq {n p g N : Nat} (hn : N = 2 * n) (hg : N = 128 * g) (wq : Fin n → Fin p → BitVec 8) (ws : Fin g → Fin p → EReal)
    (k : Fin N) (j : Fin p) : EReal :=
  nib (wq ⟨k.val / 2, by omega⟩ j) (decide (k.val % 2 = 1)) * ws ⟨k.val / 128, by omega⟩ j

/-! ## Constants, codes and maxima -/

theorem c127_eq : c127 = ((127 : ℝ) : EReal) := by
  simp [c127, Ideal.ofBits, Ideal.ieee, -EReal.coe_mul]; norm_num

theorem cm127_eq : cm127 = ((-127 : ℝ) : EReal) := by
  simp [cm127, Ideal.ofBits, Ideal.ieee, -EReal.coe_mul, -EReal.coe_neg]; norm_num

theorem ninf_eq : Ideal.ofBits .f32 4286578688#32 = (⊥ : EReal) := by
  simp [Ideal.ofBits, Ideal.ieee]

/-- A quantised number is an integer between the smallest and the largest code. -/
theorem quant_int (v s : EReal) : ∃ n : ℤ, -127 ≤ n ∧ n ≤ 127 ∧ quant v s = ((n : ℝ) : EReal) := by
  unfold quant
  rw [c127_eq, cm127_eq]
  generalize Ideal.div v s = x
  induction x using EReal.rec with
  | bot => exact ⟨-127, by norm_num, by norm_num, by
      rw [show Ideal.liftRound Ideal.roundHalfEven ⊥ = ⊥ from rfl, max_eq_left bot_le, min_eq_right]
      · norm_num
      · exact_mod_cast (by norm_num : (-127 : ℝ) ≤ 127)⟩
  | top => exact ⟨127, by norm_num, by norm_num, by
      rw [show Ideal.liftRound Ideal.roundHalfEven ⊤ = ⊤ from rfl, max_eq_right le_top, min_eq_left le_top]
      norm_num⟩
  | coe r =>
    refine ⟨min 127 (max (-127) (Ideal.roundHalfEven r)), by omega, by omega, ?_⟩
    rw [show Ideal.liftRound Ideal.roundHalfEven (r : EReal) = ((Ideal.roundHalfEven r : ℝ) : EReal) from rfl]
    have hm : Monotone (fun x : ℤ => ((x : ℝ) : EReal)) := fun a b h =>
      EReal.coe_le_coe_iff.mpr (Int.cast_le.mpr h)
    have e := hm.map_min (a := 127) (b := max (-127) (Ideal.roundHalfEven r))
    have e' := hm.map_max (a := -127) (b := Ideal.roundHalfEven r)
    exact (e.trans (by rw [e']; norm_num)).symm

theorem fptosi_int (n : ℤ) (w : Nat) (h0 : (-(2 ^ (w - 1) : Nat) : ℤ) ≤ n) (h1 : n ≤ ((2 ^ (w - 1) : Nat) : ℤ) - 1) :
    Ideal.fptosi w ((n : ℝ) : EReal) = BitVec.ofInt w n := by
  unfold Ideal.fptosi
  congr 1
  show max _ (min _ (if (0 : ℝ) ≤ (n : ℝ) then ⌊(n : ℝ)⌋ else ⌈(n : ℝ)⌉)) = n
  rw [Int.floor_intCast, Int.ceil_intCast, ite_self, min_eq_right h1, max_eq_right h0]

/-- The 8-bit code is the 32-bit one, cut. -/
theorem code_cut (v s : EReal) :
    (FloatOps.fptosi (F := Ideal) (φ := .f32) 32 (quant v s)).setWidth 8 = code v s := by
  obtain ⟨n, h0, h1, h⟩ := quant_int v s
  show (Ideal.fptosi 32 (quant v s)).setWidth 8 = Ideal.fptosi 8 (quant v s)
  rw [h, fptosi_int n 32 (by norm_num; omega) (by norm_num; omega), fptosi_int n 8 (by norm_num; omega) (by norm_num; omega)]
  apply BitVec.eq_of_toNat_eq
  simp only [BitVec.toNat_setWidth, BitVec.toNat_ofInt]
  omega

/-- A code's value is the quantised number. -/
theorem code_val (v s : EReal) : FloatOps.sitofp (F := Ideal) .bf16 ((code v s).signExtend 32) = quant v s := by
  obtain ⟨n, h0, h1, h⟩ := quant_int v s
  show ((((Ideal.fptosi 8 (quant v s)).signExtend 32).toInt : ℝ) : EReal) = quant v s
  rw [h, fptosi_int n 8 (by norm_num; omega) (by norm_num; omega), BitVec.toInt_signExtend_of_le (by norm_num), BitVec.toInt_ofInt]
  have e : n.bmod (2 ^ 8) = n := by
    rw [Int.bmod_def]; norm_num; omega
  rw [e]

/-- The running maximum of absolute values from minus infinity. -/
theorem fold_amax {n : Nat} (v : Fin n → EReal) :
    Finset.fold max (Ideal.ofBits .f32 4286578688#32) (fun x => FloatOps.absf (F := Ideal) (φ := .f32) (v x)) Finset.univ = amax v := by
  rw [ninf_eq]; rfl

theorem clip127 : FloatOps.sitofp (F := Ideal) .f32 (127#32) = c127 := by
  rw [c127_eq]; show ((((127#32 : BitVec 32).toInt : ℤ) : ℝ) : EReal) = _
  rw [show (127#32 : BitVec 32).toInt = 127 by decide]; norm_num

theorem clipm127 : FloatOps.sitofp (F := Ideal) .f32 (4294967169#32) = cm127 := by
  rw [cm127_eq]; show ((((4294967169#32 : BitVec 32).toInt : ℤ) : ℝ) : EReal) = _
  rw [show (4294967169#32 : BitVec 32).toInt = -127 by decide]; norm_num

theorem nib_lo_word : ∀ w : BitVec 8, ((w.setWidth 32 <<< 28).sshiftRight 28)
    = Scalar.select (IntOp.cmpi CmpIPredicate.sge (IntOp.andi (w.setWidth 32) 15#32) 8#32)
        (IntOp.subi (IntOp.andi (w.setWidth 32) 15#32) 16#32) (IntOp.andi (w.setWidth 32) 15#32) := by decide +kernel

theorem nib_hi_word : ∀ w : BitVec 8, ((w.setWidth 32 <<< 24).sshiftRight 28)
    = Scalar.select (IntOp.cmpi CmpIPredicate.sge (IntOp.shrsi .host (w.setWidth 32) 4#32) 8#32)
        (IntOp.subi (IntOp.shrsi .host (w.setWidth 32) 4#32) 16#32) (IntOp.shrsi .host (w.setWidth 32) 4#32) := by decide +kernel

theorem nib_lo_kernel : ∀ w : BitVec 8, IntOp.shrsi .vector (IntOp.shli .vector (w.setWidth 32) 28#32) 28#32
    = (w.setWidth 32 <<< 28).sshiftRight 28 := by decide +kernel

theorem nib_hi_kernel : ∀ w : BitVec 8, IntOp.shrsi .vector (IntOp.shli .vector (w.setWidth 32) 24#32) 28#32
    = (w.setWidth 32 <<< 24).sshiftRight 28 := by decide +kernel

/-- A sum over an even number of terms, even places and odd places apart. -/
theorem sum_even_odd {n N : Nat} (hn : N = 2 * n) (f : Fin N → EReal) :
    ∑ k, f k = (∑ k : Fin n, f ⟨2 * k.val, by omega⟩) + ∑ k : Fin n, f ⟨2 * k.val + 1, by omega⟩ := by
  subst hn
  rw [← Finset.sum_add_distrib, ← Equiv.sum_comp ((finProdFinEquiv (m := n) (n := 2)).trans (finCongr (Nat.mul_comm n 2))),
    Fintype.sum_prod_type]
  refine Finset.sum_congr rfl fun k _ => ?_
  rw [Fin.sum_univ_two]
  congr 1 <;> exact congrArg f (Fin.ext (by simp [finProdFinEquiv, Nat.add_comm]))

/-- The quantised projection, the bytes' low halves and high halves apart. -/
theorem qdot_deq {n p g N : Nat} (hn : N = 2 * n) (hg : N = 128 * g) (v : Fin N → EReal) (wq : Fin n → Fin p → BitVec 8)
    (ws : Fin g → Fin p → EReal) (j : Fin p) :
    qdot v (deq hn hg wq ws) j
      = ((∑ k : Fin n, rquant v ⟨2 * k.val, by omega⟩ * (nib (wq k j) false * ws ⟨k.val / 64, by omega⟩ j))
          + ∑ k : Fin n, rquant v ⟨2 * k.val + 1, by omega⟩ * (nib (wq k j) true * ws ⟨k.val / 64, by omega⟩ j)) * rscale v := by
  have e0 : ∀ k : Fin n, deq hn hg wq ws ⟨2 * k.val, by omega⟩ j = nib (wq k j) false * ws ⟨k.val / 64, by omega⟩ j := fun k => by
    have h1 : (⟨2 * k.val / 2, by omega⟩ : Fin n) = k := Fin.ext (by show 2 * k.val / 2 = k.val; omega)
    have h2 : (⟨2 * k.val / 128, by omega⟩ : Fin g) = ⟨k.val / 64, by omega⟩ := Fin.ext (by show 2 * k.val / 128 = k.val / 64; omega)
    have h3 : decide (2 * k.val % 2 = 1) = false := decide_eq_false (by omega)
    unfold deq; rw [h1, h2, h3]
  have e1 : ∀ k : Fin n, deq hn hg wq ws ⟨2 * k.val + 1, by omega⟩ j = nib (wq k j) true * ws ⟨k.val / 64, by omega⟩ j := fun k => by
    have h1 : (⟨(2 * k.val + 1) / 2, by omega⟩ : Fin n) = k := Fin.ext (by show (2 * k.val + 1) / 2 = k.val; omega)
    have h2 : (⟨(2 * k.val + 1) / 128, by omega⟩ : Fin g) = ⟨k.val / 64, by omega⟩ := Fin.ext (by show (2 * k.val + 1) / 128 = k.val / 64; omega)
    have h3 : decide ((2 * k.val + 1) % 2 = 1) = true := decide_eq_true (by omega)
    unfold deq; rw [h1, h2, h3]
  unfold qdot dot
  rw [sum_even_odd hn]
  simp only [e0, e1]

/-! ## The pieces as the host program prints them -/

theorem host_scale (m : EReal) :
    Scalar.select (FloatOps.cmpf (F := Ideal) (φ := .f32) .ogt m (FloatOps.ofBits (F := Ideal) .f32 0x00000000#32))
      (FloatOps.hostDivf (F := Ideal) (φ := .f32) m (FloatOps.ofBits (F := Ideal) .f32 0x42FE0000#32))
      (FloatOps.ofBits (F := Ideal) .f32 0x3F800000#32) = scaleOf m := by
  show Scalar.select (BitVec.ofBool (decide (Ideal.ofBits .f32 0x00000000#32 < m))) (Ideal.div m c127) (Ideal.ofBits .f32 0x3F800000#32) = _
  rw [Ideal.ofBits_zero_f32, Ideal.ofBits_one_f32]
  unfold scaleOf
  by_cases h : 0 < m
  · rw [decide_eq_true h, if_pos h]; rfl
  · rw [decide_eq_false h, if_neg h]; rfl

theorem host_quant (v s : EReal) :
    FloatOps.minimumf (F := Ideal) (φ := .f32) (FloatOps.sitofp .f32 (127#32))
      (FloatOps.maximumf (F := Ideal) (φ := .f32) (FloatOps.sitofp .f32 (4294967169#32))
        (FloatOps.hostUnary (F := Ideal) (φ := .f32) .roundeven (FloatOps.hostDivf (F := Ideal) (φ := .f32) v s))) = quant v s := by
  rw [clip127, clipm127]; rfl

theorem host_silu (g : EReal) :
    FloatOps.mulf (F := Ideal) (φ := .f32) g
      (FloatOps.hostDivf (F := Ideal) (φ := .f32) (FloatOps.ofBits (F := Ideal) .f32 0x3F800000#32)
        (FloatOps.addf (F := Ideal) (φ := .f32) (FloatOps.ofBits (F := Ideal) .f32 0x3F800000#32)
          (FloatOps.hostUnary (F := Ideal) (φ := .f32) .exp (FloatOps.negf (F := Ideal) (φ := .f32) g)))) = silu g := by
  show g * Ideal.div (Ideal.ofBits .f32 0x3F800000#32) (Ideal.ofBits .f32 0x3F800000#32 + Ideal.exp (-g)) = _
  rw [Ideal.ofBits_one_f32]; rfl

end Cert.Spec
-- ==== Proof.RefRows.lean ====
/- The reference read at an index: the quantised activations and their projections. -/
module

public import proofs.«01_k».proof.Proof.Spec
public import proofs.«01_k».proof.Proof.Gen.ReferenceIdeal.Read

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic
open Cert.Spec

/-- Position `s` of sequence `b` of the input. -/
abbrev xrow (x0 : (⟨S6x1536x1024, .bf16⟩ : BufTy).Contents (Elt Ideal)) (b : Fin 6) (s : Fin 1536) (k : Fin 1024) : EReal :=
  x0 (ix3 b s k)

section Input

variable (x0 : (⟨S6x1536x1024, .bf16⟩ : BufTy).Contents (Elt Ideal)) (b : Fin 6) (s : Fin 1536)

theorem v4_eq : val_main_v4 (F := Ideal) x0 (ix2 b s) = amax (xrow x0 b s) := by
  pointwise [val_main_v4, val_main_cst]
  exact fold_amax (xrow x0 b s)

theorem v9_eq : val_main_v9 (F := Ideal) x0 (ix2 b s) = rscale (xrow x0 b s) := by
  rw [val_main_v9_apply, val_main_v6_apply, val_main_v8_apply, val_main_v5_apply, val_main_v7_apply, val_main_call0_v1_apply, v4_eq]
  exact host_scale _

theorem v14_eq (k : Fin 1024) : val_main_v14 (F := Ideal) x0 (ix3 b s k) = rquant (xrow x0 b s) k := by
  rw [val_main_v14_apply, val_main_call2_v2_apply, val_main_v13_apply, val_main_v12_apply, val_main_v11_apply,
    val_main_v10_apply, val_main_call2_v4_apply, val_main_call2_v1_apply, show idx_main_v10 (idx_main_v11 (ix3 b s k)) = ix2 b s from eq_ix2 _, v9_eq]
  exact host_quant _ _

theorem v16_eq (k : Fin 1024) : val_main_v16 (F := Ideal) x0 (ix3 b s k) = rcode (xrow x0 b s) k := by
  rw [val_main_v16_apply, val_main_v15_apply, v14_eq]
  exact code_cut _ _

theorem v41_eq (k : Fin 512) : val_main_v41 (F := Ideal) x0 (ix3 b s k) = rquant (xrow x0 b s) ⟨2 * k.val, by omega⟩ := by
  have e : val_main_v40 (F := Ideal) x0 (ix3 b s k) = val_main_v39 (F := Ideal) x0 (ix3 b s ⟨2 * k.val, by omega⟩) := by
    pointwise [val_main_v40]
  rw [val_main_v41_apply, e, val_main_v39_apply, v16_eq]
  exact code_val _ _

theorem v43_eq (k : Fin 512) : val_main_v43 (F := Ideal) x0 (ix3 b s k) = rquant (xrow x0 b s) ⟨2 * k.val + 1, by omega⟩ := by
  have e : val_main_v42 (F := Ideal) x0 (ix3 b s k) = val_main_v39 (F := Ideal) x0 (ix3 b s ⟨2 * k.val + 1, by omega⟩) := by
    pointwise [val_main_v42]
    exact congrArg (fun q => val_main_v39 (F := Ideal) x0 (ix3 b s q)) (Fin.ext (Nat.add_comm _ _))
  rw [val_main_v43_apply, e, val_main_v39_apply, v16_eq]
  exact code_val _ _

end Input

section Gate

variable (x0 : (⟨S6x1536x1024, .bf16⟩ : BufTy).Contents (Elt Ideal)) (x4 : (⟨S512x4096, .i8⟩ : BufTy).Contents (Elt Ideal))
  (x7 : (⟨S8x4096, .f32⟩ : BufTy).Contents (Elt Ideal)) (b : Fin 6) (s : Fin 1536)

theorem v29_eq (k : Fin 512) (j : Fin 4096) :
    val_main_v29 (F := Ideal) x4 x7 (ix2 k j) = nib (mat x4 k j) false * mat x7 ⟨k.val / 64, by omega⟩ j := by
  pointwise [val_main_v29, val_main_v28, val_main_v27, val_main_v26, val_main_v25, val_main_v24, val_main_v23, val_main_v22, val_main_v21, val_main_v20, val_main_v19, val_main_v18, val_main_v17, val_main_c_4, val_main_c_5, val_main_c_6]
  rw [← nib_lo_word]; rfl

theorem v38_eq (k : Fin 512) (j : Fin 4096) :
    val_main_v38 (F := Ideal) x4 x7 (ix2 k j) = nib (mat x4 k j) true * mat x7 ⟨k.val / 64, by omega⟩ j := by
  pointwise [val_main_v38, val_main_v37, val_main_v36, val_main_v35, val_main_v34, val_main_v33, val_main_v32, val_main_v31, val_main_v30, val_main_v20, val_main_v19, val_main_v18, val_main_v17, val_main_c_7, val_main_c_8, val_main_c_9]
  rw [← nib_hi_word]; rfl

/-- The quantised gate projection. -/
theorem v49_eq (j : Fin 4096) : val_main_v49 (F := Ideal) x0 x4 x7 (ix3 b s j)
    = qdot (xrow x0 b s) (deq (by decide) (by decide) (mat x4) (mat x7)) j := by
  have e0 : val_main_v44 (F := Ideal) x0 x4 x7 (ix3 b s j)
      = ∑ k, val_main_v41 (F := Ideal) x0 (ix3 b s k) * val_main_v29 (F := Ideal) x4 x7 (ix2 k j) := by pointwise [val_main_v44]
  have e1 : val_main_v45 (F := Ideal) x0 x4 x7 (ix3 b s j)
      = ∑ k, val_main_v43 (F := Ideal) x0 (ix3 b s k) * val_main_v38 (F := Ideal) x4 x7 (ix2 k j) := by pointwise [val_main_v45]
  rw [val_main_v49_apply, val_main_v46_apply, val_main_v48_apply, val_main_v47_apply,
    show idx_main_v47 (idx_main_v48 (ix3 b s j)) = ix2 b s from eq_ix2 _, v9_eq, e0, e1, qdot_deq]
  simp only [v41_eq, v43_eq, v29_eq, v38_eq]
  rfl

/-- The gate's activation, quantised. -/
theorem v89_eq (j : Fin 4096) : val_main_v89 (F := Ideal) x0 x4 x7 (ix3 b s j)
    = silu (qdot (xrow x0 b s) (deq (by decide) (by decide) (mat x4) (mat x7)) j) := by
  rw [val_main_v89_apply, val_main_v88_apply, val_main_v87_apply, val_main_v86_apply, val_main_v85_apply, val_main_v84_apply,
    val_main_v83_apply, v49_eq]
  exact host_silu _

end Gate

end Cert.ReferenceIdeal.Read
end
-- ==== Proof.RefHidden.lean ====
/- The reference read at an index: the four hidden rows and their projections. -/
module

public import proofs.«01_k».proof.Proof.RefRows

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic
open Cert.Spec

variable (x0 : (⟨S6x1536x1024, .bf16⟩ : BufTy).Contents (Elt Ideal))
  (x1 x2 : (⟨S1024x4096, .bf16⟩ : BufTy).Contents (Elt Ideal)) (x3 : (⟨S4096x1024, .bf16⟩ : BufTy).Contents (Elt Ideal))
  (x4 x5 : (⟨S512x4096, .i8⟩ : BufTy).Contents (Elt Ideal)) (x6 : (⟨S2048x1024, .i8⟩ : BufTy).Contents (Elt Ideal))
  (x7 x8 : (⟨S8x4096, .f32⟩ : BufTy).Contents (Elt Ideal)) (x9 : (⟨S32x1024, .f32⟩ : BufTy).Contents (Elt Ideal))
  (b : Fin 6) (s : Fin 1536)

/-- The gate and up projections, dequantised. -/
abbrev upW (w : (⟨S512x4096, .i8⟩ : BufTy).Contents (Elt Ideal)) (g : (⟨S8x4096, .f32⟩ : BufTy).Contents (Elt Ideal)) :
    Fin 1024 → Fin 4096 → EReal := deq (by decide) (by decide) (mat w) (mat g)

/-- The down projection, dequantised. -/
abbrev downW (w : (⟨S2048x1024, .i8⟩ : BufTy).Contents (Elt Ideal)) (g : (⟨S32x1024, .f32⟩ : BufTy).Contents (Elt Ideal)) :
    Fin 4096 → Fin 1024 → EReal := deq (by decide) (by decide) (mat w) (mat g)

/-- The hidden row with both projections quantised. -/
abbrev hfull : Fin 4096 → EReal := hid (qdot (xrow x0 b s) (upW x4 x7)) (qdot (xrow x0 b s) (upW x5 x8))
/-- The hidden row with the gate quantised. -/
abbrev hgate : Fin 4096 → EReal := hid (qdot (xrow x0 b s) (upW x4 x7)) (dot (xrow x0 b s) (mat x2))
/-- The hidden row with the up projection quantised. -/
abbrev hup : Fin 4096 → EReal := hid (dot (xrow x0 b s) (mat x1)) (qdot (xrow x0 b s) (upW x5 x8))
/-- The hidden row with nothing quantised. -/
abbrev href : Fin 4096 → EReal := hid (dot (xrow x0 b s) (mat x1)) (dot (xrow x0 b s) (mat x2))

theorem v82_eq (j : Fin 4096) : val_main_v82 (F := Ideal) x0 x5 x8 (ix3 b s j) = qdot (xrow x0 b s) (upW x5 x8) j :=
  v49_eq x0 x5 x8 b s j

theorem v0_eq (j : Fin 4096) : val_main_v0 (F := Ideal) x0 x1 (ix3 b s j) = dot (xrow x0 b s) (mat x1) j := by
  pointwise [val_main_v0]
  rfl

theorem v1_eq (j : Fin 4096) : val_main_v1 (F := Ideal) x0 x2 (ix3 b s j) = dot (xrow x0 b s) (mat x2) j :=
  v0_eq x0 x2 b s j

theorem v96_eq (j : Fin 4096) : val_main_v96 (F := Ideal) x0 x1 (ix3 b s j) = silu (dot (xrow x0 b s) (mat x1) j) := by
  rw [val_main_v96_apply, val_main_v95_apply, val_main_v94_apply, val_main_v93_apply, val_main_v92_apply, val_main_v91_apply,
    val_main_v90_apply, v0_eq]
  exact host_silu _

theorem v97_eq (j : Fin 4096) : val_main_v97 (F := Ideal) x0 x4 x5 x7 x8 (ix3 b s j) = hfull x0 x4 x5 x7 x8 b s j := by
  rw [val_main_v97_apply, v89_eq, v82_eq]; rfl

theorem v98_eq (j : Fin 4096) : val_main_v98 (F := Ideal) x0 x2 x4 x7 (ix3 b s j) = hgate x0 x2 x4 x7 b s j := by
  rw [val_main_v98_apply, v89_eq, v1_eq]; rfl

theorem v99_eq (j : Fin 4096) : val_main_v99 (F := Ideal) x0 x1 x5 x8 (ix3 b s j) = hup x0 x1 x5 x8 b s j := by
  rw [val_main_v99_apply, v96_eq, v82_eq]; rfl

theorem v100_eq (j : Fin 4096) : val_main_v100 (F := Ideal) x0 x1 x2 (ix3 b s j) = href x0 x1 x2 b s j := by
  rw [val_main_v100_apply, v96_eq, v1_eq]; rfl

/-! ## The down projections -/

/-- The projection of the unquantised hidden row. -/
theorem v102_eq (j : Fin 1024) : val_main_v102 (F := Ideal) x0 x1 x2 x3 (ix3 b s j) = dot (href x0 x1 x2 b s) (mat x3) j := by
  have e : val_main_v102 (F := Ideal) x0 x1 x2 x3 (ix3 b s j)
      = ∑ k, val_main_v101 (F := Ideal) x0 x1 x2 (ix3 b s k) * x3 (ix2 k j) := by pointwise [val_main_v102]
  rw [e]
  refine Finset.sum_congr rfl fun k _ => ?_
  rw [val_main_v101_apply, v100_eq]; rfl

theorem v151_eq (j : Fin 1024) : val_main_v151 (F := Ideal) x0 x2 x3 x4 x7 (ix3 b s j) = dot (hgate x0 x2 x4 x7 b s) (mat x3) j := by
  have e : val_main_v151 (F := Ideal) x0 x2 x3 x4 x7 (ix3 b s j)
      = ∑ k, val_main_v150 (F := Ideal) x0 x2 x4 x7 (ix3 b s k) * x3 (ix2 k j) := by pointwise [val_main_v151]
  rw [e]
  refine Finset.sum_congr rfl fun k _ => ?_
  rw [val_main_v150_apply, v98_eq]; rfl

theorem v153_eq (j : Fin 1024) : val_main_v153 (F := Ideal) x0 x1 x3 x5 x8 (ix3 b s j) = dot (hup x0 x1 x5 x8 b s) (mat x3) j := by
  have e : val_main_v153 (F := Ideal) x0 x1 x3 x5 x8 (ix3 b s j)
      = ∑ k, val_main_v152 (F := Ideal) x0 x1 x5 x8 (ix3 b s k) * x3 (ix2 k j) := by pointwise [val_main_v153]
  rw [e]
  refine Finset.sum_congr rfl fun k _ => ?_
  rw [val_main_v152_apply, v99_eq]; rfl

theorem v129_eq (k : Fin 2048) (j : Fin 1024) :
    val_main_v129 (F := Ideal) x6 x9 (ix2 k j) = nib (mat x6 k j) false * mat x9 ⟨k.val / 64, by omega⟩ j := by
  pointwise [val_main_v129, val_main_v128, val_main_v127, val_main_v126, val_main_v125, val_main_v124, val_main_v123, val_main_v122, val_main_v121, val_main_v120, val_main_v119, val_main_v118, val_main_v117, val_main_c_26, val_main_c_27, val_main_c_28]
  rw [← nib_lo_word]; rfl

theorem v138_eq (k : Fin 2048) (j : Fin 1024) :
    val_main_v138 (F := Ideal) x6 x9 (ix2 k j) = nib (mat x6 k j) true * mat x9 ⟨k.val / 64, by omega⟩ j := by
  pointwise [val_main_v138, val_main_v137, val_main_v136, val_main_v135, val_main_v134, val_main_v133, val_main_v132, val_main_v131, val_main_v130, val_main_v120, val_main_v119, val_main_v118, val_main_v117, val_main_c_29, val_main_c_30, val_main_c_31]
  rw [← nib_hi_word]; rfl

section Full

/-- The scale of the fully quantised hidden row. -/
theorem v109_eq : val_main_v109 (F := Ideal) x0 x4 x5 x7 x8 (ix2 b s) = rscale (hfull x0 x4 x5 x7 x8 b s) := by
  have e : val_main_v104 (F := Ideal) x0 x4 x5 x7 x8 (ix2 b s) = amax (hfull x0 x4 x5 x7 x8 b s) := by
    have e1 : val_main_v104 (F := Ideal) x0 x4 x5 x7 x8 (ix2 b s)
        = Finset.fold max (Ideal.ofBits .f32 4286578688#32) (fun k => val_main_v103 (F := Ideal) x0 x4 x5 x7 x8 (ix3 b s k)) Finset.univ := by
      pointwise [val_main_v104, val_main_cst_20]
    rw [e1]
    simp only [val_main_v103_apply, v97_eq]
    exact fold_amax _
  rw [val_main_v109_apply, val_main_v106_apply, val_main_v108_apply, val_main_v105_apply, val_main_v107_apply, val_main_call7_v1_apply, e]
  exact host_scale _

theorem v114_eq (k : Fin 4096) : val_main_v114 (F := Ideal) x0 x4 x5 x7 x8 (ix3 b s k) = rquant (hfull x0 x4 x5 x7 x8 b s) k := by
  rw [val_main_v114_apply, val_main_call9_v2_apply, val_main_v113_apply, val_main_v112_apply, val_main_v111_apply,
    val_main_v110_apply, val_main_call9_v4_apply, val_main_call9_v1_apply, show idx_main_v110 (idx_main_v111 (ix3 b s k)) = ix2 b s from eq_ix2 _,
    v109_eq, v97_eq]
  exact host_quant _ _

theorem v116_eq (k : Fin 4096) : val_main_v116 (F := Ideal) x0 x4 x5 x7 x8 (ix3 b s k) = rcode (hfull x0 x4 x5 x7 x8 b s) k := by
  rw [val_main_v116_apply, val_main_v115_apply, v114_eq]
  exact code_cut _ _

theorem v141_eq (k : Fin 2048) :
    val_main_v141 (F := Ideal) x0 x4 x5 x7 x8 (ix3 b s k) = rquant (hfull x0 x4 x5 x7 x8 b s) ⟨2 * k.val, by omega⟩ := by
  have e : val_main_v140 (F := Ideal) x0 x4 x5 x7 x8 (ix3 b s k) = val_main_v139 (F := Ideal) x0 x4 x5 x7 x8 (ix3 b s ⟨2 * k.val, by omega⟩) := by
    pointwise [val_main_v140]
  rw [val_main_v141_apply, e, val_main_v139_apply, v116_eq]
  exact code_val _ _

theorem v143_eq (k : Fin 2048) :
    val_main_v143 (F := Ideal) x0 x4 x5 x7 x8 (ix3 b s k) = rquant (hfull x0 x4 x5 x7 x8 b s) ⟨2 * k.val + 1, by omega⟩ := by
  have e : val_main_v142 (F := Ideal) x0 x4 x5 x7 x8 (ix3 b s k) = val_main_v139 (F := Ideal) x0 x4 x5 x7 x8 (ix3 b s ⟨2 * k.val + 1, by omega⟩) := by
    pointwise [val_main_v142]
    exact congrArg (fun q => val_main_v139 (F := Ideal) x0 x4 x5 x7 x8 (ix3 b s q)) (Fin.ext (Nat.add_comm _ _))
  rw [val_main_v143_apply, e, val_main_v139_apply, v116_eq]
  exact code_val _ _

/-- The quantised projection of the fully quantised hidden row. -/
theorem v149_eq (j : Fin 1024) : val_main_v149 (F := Ideal) x0 x4 x5 x6 x7 x8 x9 (ix3 b s j)
    = qdot (hfull x0 x4 x5 x7 x8 b s) (downW x6 x9) j := by
  have e0 : val_main_v144 (F := Ideal) x0 x4 x5 x6 x7 x8 x9 (ix3 b s j)
      = ∑ k, val_main_v141 (F := Ideal) x0 x4 x5 x7 x8 (ix3 b s k) * val_main_v129 (F := Ideal) x6 x9 (ix2 k j) := by pointwise [val_main_v144]
  have e1 : val_main_v145 (F := Ideal) x0 x4 x5 x6 x7 x8 x9 (ix3 b s j)
      = ∑ k, val_main_v143 (F := Ideal) x0 x4 x5 x7 x8 (ix3 b s k) * val_main_v138 (F := Ideal) x6 x9 (ix2 k j) := by pointwise [val_main_v145]
  rw [val_main_v149_apply, val_main_v146_apply, val_main_v148_apply, val_main_v147_apply,
    show idx_main_v147 (idx_main_v148 (ix3 b s j)) = ix2 b s from eq_ix2 _, v109_eq, e0, e1, qdot_deq]
  simp only [v141_eq, v143_eq, v129_eq, v138_eq]
  rfl

end Full

section Ref

/-- The scale of the unquantised hidden row. -/
theorem v160_eq : val_main_v160 (F := Ideal) x0 x1 x2 (ix2 b s) = rscale (href x0 x1 x2 b s) := by
  have e : val_main_v155 (F := Ideal) x0 x1 x2 (ix2 b s) = amax (href x0 x1 x2 b s) := by
    have e1 : val_main_v155 (F := Ideal) x0 x1 x2 (ix2 b s)
        = Finset.fold max (Ideal.ofBits .f32 4286578688#32) (fun k => val_main_v154 (F := Ideal) x0 x1 x2 (ix3 b s k)) Finset.univ := by
      pointwise [val_main_v155, val_main_cst_32]
    rw [e1]
    simp only [val_main_v154_apply, v100_eq]
    exact fold_amax _
  rw [val_main_v160_apply, val_main_v157_apply, val_main_v159_apply, val_main_v156_apply, val_main_v158_apply, val_main_call12_v1_apply, e]
  exact host_scale _

theorem v165_eq (k : Fin 4096) : val_main_v165 (F := Ideal) x0 x1 x2 (ix3 b s k) = rquant (href x0 x1 x2 b s) k := by
  rw [val_main_v165_apply, val_main_call14_v2_apply, val_main_v164_apply, val_main_v163_apply, val_main_v162_apply,
    val_main_v161_apply, val_main_call14_v4_apply, val_main_call14_v1_apply, show idx_main_v161 (idx_main_v162 (ix3 b s k)) = ix2 b s from eq_ix2 _,
    v160_eq, v100_eq]
  exact host_quant _ _

theorem v167_eq (k : Fin 4096) : val_main_v167 (F := Ideal) x0 x1 x2 (ix3 b s k) = rcode (href x0 x1 x2 b s) k := by
  rw [val_main_v167_apply, val_main_v166_apply, v165_eq]
  exact code_cut _ _

theorem v192_eq (k : Fin 2048) :
    val_main_v192 (F := Ideal) x0 x1 x2 (ix3 b s k) = rquant (href x0 x1 x2 b s) ⟨2 * k.val, by omega⟩ := by
  have e : val_main_v191 (F := Ideal) x0 x1 x2 (ix3 b s k) = val_main_v190 (F := Ideal) x0 x1 x2 (ix3 b s ⟨2 * k.val, by omega⟩) := by
    pointwise [val_main_v191]
  rw [val_main_v192_apply, e, val_main_v190_apply, v167_eq]
  exact code_val _ _

theorem v194_eq (k : Fin 2048) :
    val_main_v194 (F := Ideal) x0 x1 x2 (ix3 b s k) = rquant (href x0 x1 x2 b s) ⟨2 * k.val + 1, by omega⟩ := by
  have e : val_main_v193 (F := Ideal) x0 x1 x2 (ix3 b s k) = val_main_v190 (F := Ideal) x0 x1 x2 (ix3 b s ⟨2 * k.val + 1, by omega⟩) := by
    pointwise [val_main_v193]
    exact congrArg (fun q => val_main_v190 (F := Ideal) x0 x1 x2 (ix3 b s q)) (Fin.ext (Nat.add_comm _ _))
  rw [val_main_v194_apply, e, val_main_v190_apply, v167_eq]
  exact code_val _ _

/-- The quantised projection of the unquantised hidden row. -/
theorem v200_eq (j : Fin 1024) : val_main_v200 (F := Ideal) x0 x1 x2 x6 x9 (ix3 b s j)
    = qdot (href x0 x1 x2 b s) (downW x6 x9) j := by
  have e0 : val_main_v195 (F := Ideal) x0 x1 x2 x6 x9 (ix3 b s j)
      = ∑ k, val_main_v192 (F := Ideal) x0 x1 x2 (ix3 b s k) * val_main_v129 (F := Ideal) x6 x9 (ix2 k j) := by
    pointwise [val_main_v195]; rfl
  have e1 : val_main_v196 (F := Ideal) x0 x1 x2 x6 x9 (ix3 b s j)
      = ∑ k, val_main_v194 (F := Ideal) x0 x1 x2 (ix3 b s k) * val_main_v138 (F := Ideal) x6 x9 (ix2 k j) := by
    pointwise [val_main_v196]; rfl
  rw [val_main_v200_apply, val_main_v197_apply, val_main_v199_apply, val_main_v198_apply,
    show idx_main_v198 (idx_main_v199 (ix3 b s j)) = ix2 b s from eq_ix2 _, v160_eq, e0, e1, qdot_deq]
  simp only [v192_eq, v194_eq, v129_eq, v138_eq]
  rfl

end Ref

end Cert.ReferenceIdeal.Read
end
-- ==== Proof.RefOut.lean ====
/- The reference's results read at an index. -/
module

public import proofs.«01_k».proof.Proof.RefHidden

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic
open Cert.Spec

variable (x0 : (⟨S6x1536x1024, .bf16⟩ : BufTy).Contents (Elt Ideal))
  (x1 x2 : (⟨S1024x4096, .bf16⟩ : BufTy).Contents (Elt Ideal)) (x3 : (⟨S4096x1024, .bf16⟩ : BufTy).Contents (Elt Ideal))
  (x4 x5 : (⟨S512x4096, .i8⟩ : BufTy).Contents (Elt Ideal)) (x6 : (⟨S2048x1024, .i8⟩ : BufTy).Contents (Elt Ideal))
  (x7 x8 : (⟨S8x4096, .f32⟩ : BufTy).Contents (Elt Ideal)) (x9 : (⟨S32x1024, .f32⟩ : BufTy).Contents (Elt Ideal))
  (b : Fin 6) (s : Fin 1536)

/-- The four outputs compared with the unquantised one. -/
def yvar (k : Fin 4) (b : Fin 6) (s : Fin 1536) (d : Fin 1024) : EReal := match k with
  | ⟨0, _⟩ => qdot (hfull x0 x4 x5 x7 x8 b s) (downW x6 x9) d
  | ⟨1, _⟩ => dot (hgate x0 x2 x4 x7 b s) (mat x3) d
  | ⟨2, _⟩ => dot (hup x0 x1 x5 x8 b s) (mat x3) d
  | ⟨3, _⟩ => qdot (href x0 x1 x2 b s) (downW x6 x9) d

/-- The unquantised output. -/
abbrev yref (b : Fin 6) (s : Fin 1536) (d : Fin 1024) : EReal := dot (href x0 x1 x2 b s) (mat x3) d

theorem v205_eq (k : Fin 4) (d : Fin 1024) : val_main_v205 (F := Ideal) x0 x1 x2 x3 x4 x5 x6 x7 x8 x9 (ix4 k b s d)
    = yvar x0 x1 x2 x3 x4 x5 x6 x7 x8 x9 k b s d := by
  unfold val_main_v205
  have h0 : ∀ i, val_main_v201 (F := Ideal) x0 x4 x5 x6 x7 x8 x9 i = val_main_v149 (F := Ideal) x0 x4 x5 x6 x7 x8 x9 (ix3 (i 1) (i 2) (i 3)) := fun i =>
    (val_main_v201_apply x0 x4 x5 x6 x7 x8 x9 i).trans (congrArg _ (eq_ix3 _))
  have h1 : ∀ i, val_main_v202 (F := Ideal) x0 x2 x3 x4 x7 i = val_main_v151 (F := Ideal) x0 x2 x3 x4 x7 (ix3 (i 1) (i 2) (i 3)) := fun i =>
    (val_main_v202_apply x0 x2 x3 x4 x7 i).trans (congrArg _ (eq_ix3 _))
  have h2 : ∀ i, val_main_v203 (F := Ideal) x0 x1 x3 x5 x8 i = val_main_v153 (F := Ideal) x0 x1 x3 x5 x8 (ix3 (i 1) (i 2) (i 3)) := fun i =>
    (val_main_v203_apply x0 x1 x3 x5 x8 i).trans (congrArg _ (eq_ix3 _))
  have h3 : ∀ i, val_main_v204 (F := Ideal) x0 x1 x2 x6 x9 i = val_main_v200 (F := Ideal) x0 x1 x2 x6 x9 (ix3 (i 1) (i 2) (i 3)) := fun i =>
    (val_main_v204_apply x0 x1 x2 x6 x9 i).trans (congrArg _ (eq_ix3 _))
  generalize val_main_v201 (F := Ideal) x0 x4 x5 x6 x7 x8 x9 = z0 at *
  generalize val_main_v202 (F := Ideal) x0 x2 x3 x4 x7 = z1 at *
  generalize val_main_v203 (F := Ideal) x0 x1 x3 x5 x8 = z2 at *
  generalize val_main_v204 (F := Ideal) x0 x1 x2 x6 x9 = z3 at *
  pointwise []
  match k with
  | ⟨0, _⟩ => exact (h0 _).trans (v149_eq x0 x4 x5 x6 x7 x8 x9 b s d)
  | ⟨1, _⟩ => exact (h1 _).trans (v151_eq x0 x2 x3 x4 x7 b s d)
  | ⟨2, _⟩ => exact (h2 _).trans (v153_eq x0 x1 x3 x5 x8 b s d)
  | ⟨3, _⟩ => exact (h3 _).trans (v200_eq x0 x1 x2 x6 x9 b s d)

/-- The squared difference of a variant and the unquantised output. -/
theorem v209_eq (k : Fin 4) (d : Fin 1024) : val_main_v209 (F := Ideal) x0 x1 x2 x3 x4 x5 x6 x7 x8 x9 (ix4 k b s d)
    = sqdiff (yvar x0 x1 x2 x3 x4 x5 x6 x7 x8 x9 k b s d) (yref x0 x1 x2 x3 b s d) := by
  rw [val_main_v209_apply, val_main_v208_apply, v205_eq, val_main_v207_apply, val_main_v206_apply,
    show idx_main_v206 (idx_main_v207 (ix4 k b s d)) = ix3 b s d from eq_ix3 _, v102_eq]
  rfl

/-- Each position's error of each variant. -/
theorem v210_eq (k : Fin 4) : val_main_v210 (F := Ideal) x0 x1 x2 x3 x4 x5 x6 x7 x8 x9 (ix3 k b s)
    = ∑ d, sqdiff (yvar x0 x1 x2 x3 x4 x5 x6 x7 x8 x9 k b s d) (yref x0 x1 x2 x3 b s d) := by
  have e : val_main_v210 (F := Ideal) x0 x1 x2 x3 x4 x5 x6 x7 x8 x9 (ix3 k b s)
      = ∑ d, val_main_v209 (F := Ideal) x0 x1 x2 x3 x4 x5 x6 x7 x8 x9 (ix4 k b s d) := by pointwise [val_main_v210, val_main_cst_44]
  rw [e]
  simp only [v209_eq]

/-- The sum over the two middle axes. -/
theorem sum_mid (x : S4x6x1536x1024.Idx → EReal) (k : Fin 4) (d : Fin 1024) :
    Ideal.hostReduceAdd reducesTo_S4x6x1536x1024_S4x1024_d1_2 x 0 (ix2 k d) = ∑ b : Fin 6, ∑ s : Fin 1536, x (ix4 k b s d) := by
  unfold Ideal.hostReduceAdd
  rw [zero_add, ← Fintype.sum_prod_type' (f := fun (b : Fin 6) (s : Fin 1536) => x (ix4 k b s d))]
  have hd : ∀ i : S4x6x1536x1024.Idx, reducesTo_S4x6x1536x1024_S4x1024_d1_2.drop i = ix2 (i 0) (i 3) := fun i => by
    refine (eq_ix2 _).trans (congrArg₂ ix2 (Fin.ext ?_) (Fin.ext ?_))
    · exact reducesTo_S4x6x1536x1024_S4x1024_d1_2.drop_apply_val_of_eq i 0 0
    · exact reducesTo_S4x6x1536x1024_S4x1024_d1_2.drop_apply_val_of_eq i 1 3
  refine Finset.sum_nbij' (i := fun i => ((i 1 : Fin 6), (i 2 : Fin 1536))) (j := fun p => ix4 k p.1 p.2 d)
    (fun i _ => Finset.mem_univ _) (fun p _ => ?_) (fun i hi => ?_) (fun p _ => rfl) (fun i hi => ?_)
  · exact Finset.mem_filter.mpr ⟨Finset.mem_univ _, hd _⟩
  · have h := (hd i).symm.trans (Finset.mem_filter.mp hi).2
    have h0 : (i 0 : Fin 4) = k := congrFun h 0
    have h3 : (i 3 : Fin 1024) = d := congrFun h 1
    subst h0 h3
    exact (eq_ix4 i).symm
  · have h := (hd i).symm.trans (Finset.mem_filter.mp hi).2
    have h0 : (i 0 : Fin 4) = k := congrFun h 0
    have h3 : (i 3 : Fin 1024) = d := congrFun h 1
    subst h0 h3
    exact congrArg x (eq_ix4 i)

/-- Each channel's error of each variant. -/
theorem v211_eq (k : Fin 4) (d : Fin 1024) : val_main_v211 (F := Ideal) x0 x1 x2 x3 x4 x5 x6 x7 x8 x9 (ix2 k d)
    = ∑ b : Fin 6, ∑ s : Fin 1536, sqdiff (yvar x0 x1 x2 x3 x4 x5 x6 x7 x8 x9 k b s d) (yref x0 x1 x2 x3 b s d) := by
  pointwise [val_main_v211, val_main_cst_45]
  rw [sum_mid]
  simp only [v209_eq]

/-- Each position's squared output. -/
theorem v213_eq : val_main_v213 (F := Ideal) x0 x1 x2 x3 (ix2 b s) = ∑ d, yref x0 x1 x2 x3 b s d * yref x0 x1 x2 x3 b s d := by
  have e : val_main_v213 (F := Ideal) x0 x1 x2 x3 (ix2 b s) = ∑ d, val_main_v212 (F := Ideal) x0 x1 x2 x3 (ix3 b s d) := by
    pointwise [val_main_v213, val_main_cst_46]
  rw [e]
  simp only [val_main_v212_apply, v102_eq]
  rfl

/-- The unquantised output. -/
theorem v214_eq (d : Fin 1024) : val_main_v214 (F := Ideal) x0 x1 x2 x3 (ix3 b s d) = yref x0 x1 x2 x3 b s d := by
  rw [val_main_v214_apply, v102_eq]; rfl

end Cert.ReferenceIdeal.Read
end
-- ==== Proof.KernelIdeal.DeqVal.lean ====
/- The dequantised weights, element by element. -/
module

public import proofs.«01_k».proof.Proof.Spec
public import proofs.«01_k».proof.Proof.KernelIdeal.Deq
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pipeline (Dat Cfg Window)
open Cert.Spec

theorem deqGroup_apply (s : FVec Ideal S1x1024 .f32) (w : Vec Ideal S64x1024 .i8) (r : Fin 128) (l : Fin 1024) :
    deqGroup s w (ix2 r l) = nib (w (ix2 ⟨r.val / 2, by omega⟩ l)) (decide (r.val % 2 = 1)) * s (ix2 0 l) := by
  pointwise [deqGroup]
  rw [nib_lo_kernel, nib_hi_kernel]
  by_cases h : r.val % 2 = 0
  · rw [if_pos h, decide_eq_false (by omega)]; rfl
  · rw [if_neg h, decide_eq_true (by omega)]; rfl

/-- What the block holds at row `y 0`, column `y 1`. -/
def deqAt (x0 : Vec Ideal S512x1024 .i8) (x1 : Vec Ideal S8x1024 .f32) (y : S1024x1024.Idx) : EReal :=
  deq (n := 512) (p := 1024) (g := 8) (N := 1024) (by decide) (by decide) (mat x0) (mat x1) (y 0) (y 1)

/-- One group's piece, wherever it is stored. -/
theorem deq_piece (x0 : Vec Ideal S512x1024 .i8) (x1 : Vec Ideal S8x1024 .f32) (s : FVec Ideal S1x1024 .f32) (w : Vec Ideal S64x1024 .i8)
    (g : Fin 8) (hs : ∀ l : Fin 1024, s (ix2 0 l) = x1 (ix2 g l))
    (hw : ∀ (r : Fin 64) (l : Fin 1024), w (ix2 r l) = x0 (ix2 ⟨64 * g.val + r.val, by omega⟩ l))
    (x : S128x1024.Idx) (z : S1024x1024.Idx) (h0 : (z 0).val = 128 * g.val + (x 0).val) (h1 : (z 1).val = (x 1).val) :
    deqGroup s w x = deqAt x0 x1 z := by
  obtain ⟨r, l, rfl⟩ : ∃ (r : Fin 128) (l : Fin 1024), x = ix2 r l := ⟨x 0, x 1, eq_ix2 x⟩
  replace h0 : (z 0).val = 128 * g.val + r.val := h0
  replace h1 : z 1 = l := Fin.ext h1
  rw [deqGroup_apply, hs, hw]
  unfold deqAt deq
  rw [h1]
  have e1 : (⟨64 * g.val + (⟨r.val / 2, by omega⟩ : Fin 64).val, by show 64 * g.val + r.val / 2 < 512; omega⟩ : Fin 512) = ⟨(z 0).val / 2, by omega⟩ :=
    Fin.ext (by show 64 * g.val + r.val / 2 = (z 0).val / 2; omega)
  have e2 : g = ⟨(z 0).val / 128, by omega⟩ := Fin.ext (by show g.val = (z 0).val / 128; omega)
  have e3 : r.val % 2 = (z 0).val % 2 := by omega
  rw [e1, e3]
  congr 2
  exact congrArg (fun q => ix2 q l) e2

theorem deqBlock_apply (x0 : Vec Ideal S512x1024 .i8) (x1 : Vec Ideal S8x1024 .f32) (y : S1024x1024.Idx) :
    deqBlock x0 x1 y = deqAt x0 x1 y := by
  refine View.canon_apply_of_pieces (Val := Elt Ideal) (e := .bf16) (deqAt x0 x1) _ ?_ y (cover_deq _ _ _ _ _ _ _ _ y)
  simp only [List.mem_cons, List.not_mem_nil, or_false, forall_eq_or_imp, forall_eq]
  refine ⟨?_, ?_, ?_, ?_, ?_, ?_, ?_, ?_⟩
  · exact fun x => deq_piece x0 x1 _ _ 7 (fun l => by pointwise [k0_pay2]) (fun r l => by pointwise []) x _ (by rw [Rect.emb_apply]; show 896 + 1 * (x 0).val = _; omega) (by rw [Rect.emb_apply]; show 0 + 1 * (x 1).val = _; omega)
  · exact fun x => deq_piece x0 x1 _ _ 6 (fun l => by pointwise [k0_pay2]) (fun r l => by pointwise []) x _ (by rw [Rect.emb_apply]; show 768 + 1 * (x 0).val = _; omega) (by rw [Rect.emb_apply]; show 0 + 1 * (x 1).val = _; omega)
  · exact fun x => deq_piece x0 x1 _ _ 5 (fun l => by pointwise [k0_pay2]) (fun r l => by pointwise []) x _ (by rw [Rect.emb_apply]; show 640 + 1 * (x 0).val = _; omega) (by rw [Rect.emb_apply]; show 0 + 1 * (x 1).val = _; omega)
  · exact fun x => deq_piece x0 x1 _ _ 4 (fun l => by pointwise [k0_pay2]) (fun r l => by pointwise []) x _ (by rw [Rect.emb_apply]; show 512 + 1 * (x 0).val = _; omega) (by rw [Rect.emb_apply]; show 0 + 1 * (x 1).val = _; omega)
  · exact fun x => deq_piece x0 x1 _ _ 3 (fun l => by pointwise [k0_pay2]) (fun r l => by pointwise []) x _ (by rw [Rect.emb_apply]; show 384 + 1 * (x 0).val = _; omega) (by rw [Rect.emb_apply]; show 0 + 1 * (x 1).val = _; omega)
  · exact fun x => deq_piece x0 x1 _ _ 2 (fun l => by pointwise [k0_pay2]) (fun r l => by pointwise []) x _ (by rw [Rect.emb_apply]; show 256 + 1 * (x 0).val = _; omega) (by rw [Rect.emb_apply]; show 0 + 1 * (x 1).val = _; omega)
  · exact fun x => deq_piece x0 x1 _ _ 1 (fun l => by pointwise [k0_pay2]) (fun r l => by pointwise []) x _ (by rw [Rect.emb_apply]; show 128 + 1 * (x 0).val = _; omega) (by rw [Rect.emb_apply]; show 0 + 1 * (x 1).val = _; omega)
  · exact fun x => deq_piece x0 x1 _ _ 0 (fun l => by pointwise [k0_pay2]) (fun r l => by pointwise []) x _ (by rw [Rect.emb_apply]; show 0 + 1 * (x 0).val = _; omega) (by rw [Rect.emb_apply]; show 0 + 1 * (x 1).val = _; omega)

end Cert.KernelIdeal.Hand
end
-- ==== Proof.KernelIdeal.DeqArr.lean ====
/- The three dequantising regions, array by array. -/
module

public import proofs.«01_k».proof.Proof.Spec
public import proofs.«01_k».proof.Proof.KernelIdeal.DeqVal
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pipeline (Dat Cfg Window)
open Cert.Spec

/-- Equal codes, equal halves and equal scales give equal weights. -/
theorem deq_congr {n p g N n' p' g' N' : Nat} {hn : N = 2 * n} {hg : N = 128 * g} {hn' : N' = 2 * n'} {hg' : N' = 128 * g'}
    {wq : Fin n → Fin p → BitVec 8} {ws : Fin g → Fin p → EReal} {wq' : Fin n' → Fin p' → BitVec 8} {ws' : Fin g' → Fin p' → EReal}
    {k : Fin N} {j : Fin p} {k' : Fin N'} {j' : Fin p'} (h : k.val % 2 = k'.val % 2)
    (hw : wq ⟨k.val / 2, by omega⟩ j = wq' ⟨k'.val / 2, by omega⟩ j') (hs : ws ⟨k.val / 128, by omega⟩ j = ws' ⟨k'.val / 128, by omega⟩ j') :
    deq hn hg wq ws k j = deq hn' hg' wq' ws' k' j' := by
  unfold deq; rw [hw, hs, h]

variable (V : (c : Dev nD) → (b : Ref sig .tc) → Buf (Elt Ideal) ((c : Thread nD τ).loc b))

/-- Two places of a matrix with equal coordinates are one. -/
theorem ix2_of_val {n p : Nat} {z w : (⟨2, ![n, p]⟩ : Shape).Idx} (h0 : (z 0).val = (w 0).val) (h1 : (z 1).val = (w 1).val) : z = w :=
  funext fun a => Fin.ext (match a with | ⟨0, _⟩ => h0 | ⟨1, _⟩ => h1)

theorem index0 : ∀ t : Fin cfg0.N, win0_0.index t = ![0, t.val] ∧ win0_1.index t = ![0, t.val] ∧ win0_2.index t = ![0, t.val] := by decide +kernel

theorem iblk0_0_apply (c : Dev nD) (t : Fin cfg0.N) (j : (⟨2, ![512, 1024]⟩ : Shape).Idx) (z : (⟨2, ![512, 4096]⟩ : Shape).Idx)
    (h0 : (z 0).val = 0 * 512 + (j 0).val) (h1 : (z 1).val = t.val * 1024 + (j 1).val) : iblk0 V c 0 t j = V c main_arg4 z := by
  show V c main_arg4 ((win0_0.rect t).emb j) = _
  refine congrArg _ (ix2_of_val ?_ ?_)
  · rw [win0_0.rect_emb_val t j 0 rfl, (index0 t).1]; exact h0.symm
  · rw [win0_0.rect_emb_val t j 1 rfl, (index0 t).1]; exact h1.symm

theorem iblk0_1_apply (c : Dev nD) (t : Fin cfg0.N) (j : (⟨2, ![8, 1024]⟩ : Shape).Idx) (z : (⟨2, ![8, 4096]⟩ : Shape).Idx)
    (h0 : (z 0).val = 0 * 8 + (j 0).val) (h1 : (z 1).val = t.val * 1024 + (j 1).val) : iblk0 V c 1 t j = V c main_arg7 z := by
  show V c main_arg7 ((win0_1.rect t).emb j) = _
  refine congrArg _ (ix2_of_val ?_ ?_)
  · rw [win0_1.rect_emb_val t j 0 rfl, (index0 t).2.1]; exact h0.symm
  · rw [win0_1.rect_emb_val t j 1 rfl, (index0 t).2.1]; exact h1.symm

/-- Region 0 leaves the rebuilt weights in its result array. -/
theorem arr0 (c : Dev nD) : (dat0 V c).arrAt 2 cfg0.N
    = (fun y => deq (n := 512) (p := 4096) (g := 8) (N := 1024) (by decide) (by decide) (mat (V c main_arg4)) (mat (V c main_arg7)) (y 0) (y 1) : S1024x4096.Idx → EReal) := by
  refine (dat0 V c).arrAt_eq_of_covers 2 _ (by decide +kernel) fun t hf y => ?_
  blk_simp
  rw [after0_2, deqBlock_apply]
  have e0 := win0_2.rect_emb_val t y 0 rfl
  have e1 := win0_2.rect_emb_val t y 1 rfl
  rw [(index0 t).2.2] at e0 e1
  replace e0 : (((win0_2.blk t).view.emb y) 0).val = 0 * 1024 + (y 0).val := e0
  replace e1 : (((win0_2.blk t).view.emb y) 1).val = t.val * 1024 + (y 1).val := e1
  have hy : (y 0).val < 1024 := (y 0).isLt
  refine deq_congr (by omega) ?_ ?_
  · exact iblk0_0_apply V c t _ _ (show _ / 2 = _ + _ / 2 by omega) e1
  · exact iblk0_1_apply V c t _ _ (show _ / 128 = _ + _ / 128 by omega) e1

theorem index1 : ∀ t : Fin cfg1.N, win1_0.index t = ![0, t.val] ∧ win1_1.index t = ![0, t.val] ∧ win1_2.index t = ![0, t.val] := by decide +kernel

theorem iblk1_0_apply (c : Dev nD) (t : Fin cfg1.N) (j : (⟨2, ![512, 1024]⟩ : Shape).Idx) (z : (⟨2, ![512, 4096]⟩ : Shape).Idx)
    (h0 : (z 0).val = 0 * 512 + (j 0).val) (h1 : (z 1).val = t.val * 1024 + (j 1).val) : iblk1 V c 0 t j = V c main_arg5 z := by
  show V c main_arg5 ((win1_0.rect t).emb j) = _
  refine congrArg _ (ix2_of_val ?_ ?_)
  · rw [win1_0.rect_emb_val t j 0 rfl, (index1 t).1]; exact h0.symm
  · rw [win1_0.rect_emb_val t j 1 rfl, (index1 t).1]; exact h1.symm

theorem iblk1_1_apply (c : Dev nD) (t : Fin cfg1.N) (j : (⟨2, ![8, 1024]⟩ : Shape).Idx) (z : (⟨2, ![8, 4096]⟩ : Shape).Idx)
    (h0 : (z 0).val = 0 * 8 + (j 0).val) (h1 : (z 1).val = t.val * 1024 + (j 1).val) : iblk1 V c 1 t j = V c main_arg8 z := by
  show V c main_arg8 ((win1_1.rect t).emb j) = _
  refine congrArg _ (ix2_of_val ?_ ?_)
  · rw [win1_1.rect_emb_val t j 0 rfl, (index1 t).2.1]; exact h0.symm
  · rw [win1_1.rect_emb_val t j 1 rfl, (index1 t).2.1]; exact h1.symm

/-- Region 1 leaves the rebuilt weights in its result array. -/
theorem arr1 (c : Dev nD) : (dat1 V c).arrAt 2 cfg1.N
    = (fun y => deq (n := 512) (p := 4096) (g := 8) (N := 1024) (by decide) (by decide) (mat (V c main_arg5)) (mat (V c main_arg8)) (y 0) (y 1) : S1024x4096.Idx → EReal) := by
  refine (dat1 V c).arrAt_eq_of_covers 2 _ (by decide +kernel) fun t hf y => ?_
  blk_simp
  rw [after1_2, deqBlock_apply]
  have e0 := win1_2.rect_emb_val t y 0 rfl
  have e1 := win1_2.rect_emb_val t y 1 rfl
  rw [(index1 t).2.2] at e0 e1
  replace e0 : (((win1_2.blk t).view.emb y) 0).val = 0 * 1024 + (y 0).val := e0
  replace e1 : (((win1_2.blk t).view.emb y) 1).val = t.val * 1024 + (y 1).val := e1
  have hy : (y 0).val < 1024 := (y 0).isLt
  refine deq_congr (by omega) ?_ ?_
  · exact iblk1_0_apply V c t _ _ (show _ / 2 = _ + _ / 2 by omega) e1
  · exact iblk1_1_apply V c t _ _ (show _ / 128 = _ + _ / 128 by omega) e1

theorem index2 : ∀ t : Fin cfg2.N, win2_0.index t = ![t.val, 0] ∧ win2_1.index t = ![t.val, 0] ∧ win2_2.index t = ![t.val, 0] := by decide +kernel

theorem iblk2_0_apply (c : Dev nD) (t : Fin cfg2.N) (j : (⟨2, ![512, 1024]⟩ : Shape).Idx) (z : (⟨2, ![2048, 1024]⟩ : Shape).Idx)
    (h0 : (z 0).val = t.val * 512 + (j 0).val) (h1 : (z 1).val = 0 * 1024 + (j 1).val) : iblk2 V c 0 t j = V c main_arg6 z := by
  show V c main_arg6 ((win2_0.rect t).emb j) = _
  refine congrArg _ (ix2_of_val ?_ ?_)
  · rw [win2_0.rect_emb_val t j 0 rfl, (index2 t).1]; exact h0.symm
  · rw [win2_0.rect_emb_val t j 1 rfl, (index2 t).1]; exact h1.symm

theorem iblk2_1_apply (c : Dev nD) (t : Fin cfg2.N) (j : (⟨2, ![8, 1024]⟩ : Shape).Idx) (z : (⟨2, ![32, 1024]⟩ : Shape).Idx)
    (h0 : (z 0).val = t.val * 8 + (j 0).val) (h1 : (z 1).val = 0 * 1024 + (j 1).val) : iblk2 V c 1 t j = V c main_arg9 z := by
  show V c main_arg9 ((win2_1.rect t).emb j) = _
  refine congrArg _ (ix2_of_val ?_ ?_)
  · rw [win2_1.rect_emb_val t j 0 rfl, (index2 t).2.1]; exact h0.symm
  · rw [win2_1.rect_emb_val t j 1 rfl, (index2 t).2.1]; exact h1.symm

/-- Region 2 leaves the rebuilt weights in its result array. -/
theorem arr2 (c : Dev nD) : (dat2 V c).arrAt 2 cfg2.N
    = (fun y => deq (n := 2048) (p := 1024) (g := 32) (N := 4096) (by decide) (by decide) (mat (V c main_arg6)) (mat (V c main_arg9)) (y 0) (y 1) : S4096x1024.Idx → EReal) := by
  refine (dat2 V c).arrAt_eq_of_covers 2 _ (by decide +kernel) fun t hf y => ?_
  blk_simp
  rw [after2_2, deqBlock_apply]
  have e0 := win2_2.rect_emb_val t y 0 rfl
  have e1 := win2_2.rect_emb_val t y 1 rfl
  rw [(index2 t).2.2] at e0 e1
  replace e0 : (((win2_2.blk t).view.emb y) 0).val = t.val * 1024 + (y 0).val := e0
  replace e1 : (((win2_2.blk t).view.emb y) 1).val = 0 * 1024 + (y 1).val := e1
  have hy : (y 0).val < 1024 := (y 0).isLt
  refine deq_congr (by omega) ?_ ?_
  · exact iblk2_0_apply V c t _ _ (show _ / 2 = _ + _ / 2 by omega) e1
  · exact iblk2_1_apply V c t _ _ (show _ / 128 = _ + _ / 128 by omega) e1

end Cert.KernelIdeal.Hand
end
-- ==== Proof.KernelIdeal.GateBlk.lean ====
/- What one point of the gate and up region computes. -/
module

public import proofs.«01_k».proof.Proof.Spec
public import proofs.«01_k».proof.Proof.KernelIdeal.DeqArr
public import proofs.«01_k».proof.Proof.KernelIdeal.Gate
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pipeline (Dat Cfg Window)
open Cert.Spec

/-- Row `r` of a block. -/
abbrev brow {n p : Nat} (x : (⟨2, ![n, p]⟩ : Shape).Idx → EReal) (r : Fin n) : Fin p → EReal := fun k => x (ix2 r k)

theorem gx_ld (x0 : Vec Ideal S256x1024 .bf16) : View.ld x0 gx = x0 := by
  funext j
  show x0 (gx.emb j) = x0 j
  refine congrArg x0 (ix2_of_val ?_ ?_)
  · rw [Rect.emb_apply]; show 0 + 1 * (j 0).val = _; omega
  · rw [Rect.emb_apply]; show 0 + 1 * (j 1).val = _; omega

/-- A family of numbers that stays below a row's largest magnitude and reaches every magnitude of the row has that maximum. -/
theorem sup_eq_amax {n m : Nat} (v : Fin n → EReal) (u : Fin m → EReal) (h1 : ∀ i, u i ≤ amax v) (h2 : ∀ k, ∃ i, absE (v k) ≤ u i) :
    Finset.univ.sup u = amax v :=
  le_antisymm (Finset.sup_le fun i _ => h1 i)
    (Finset.sup_le fun k _ => (h2 k).elim fun i hi => le_trans hi (Finset.le_sup (Finset.mem_univ i)))

theorem le_amax {n : Nat} (v : Fin n → EReal) (k : Fin n) : absE (v k) ≤ amax v := Finset.le_sup (f := fun k => absE (v k)) (Finset.mem_univ k)

theorem fold_sup {n : Nat} (u : Fin n → EReal) : Finset.fold max (Ideal.ofBits .f32 4286578688#32) u Finset.univ = Finset.univ.sup u := by
  rw [ninf_eq]; rfl

theorem k3_pay4_amax (x0 : Vec Ideal S256x1024 .bf16) (r : Fin 256) :
    Finset.fold max (Ideal.ofBits .f32 4286578688#32) (fun x => k3_pay4 x0 (ix2 r x)) Finset.univ = amax (brow x0 r) := by
  rw [fold_sup]
  have e : ∀ x, k3_pay4 x0 (ix2 r x) = _ := fun x => by pointwise [k3_pay4, k3_pay3]; exact rfl
  refine sup_eq_amax _ _ (fun x => ?_) fun k => ⟨⟨k.val % 128, Nat.mod_lt _ (by decide)⟩, ?_⟩
  · rw [e]
    simp only [max_le_iff]
    and_intros <;> exact le_amax (brow x0 r) _
  · rw [e]
    simp only [le_max_iff]
    have hk : ∀ q : Fin 1024, q.val = k.val → absE (x0 (ix2 r k)) ≤ absE (x0 (ix2 r q)) := fun q h => by rw [show q = k from Fin.ext h]
    rcases (by omega : k.val / 128 = 0 ∨ k.val / 128 = 1 ∨ k.val / 128 = 2 ∨ k.val / 128 = 3 ∨ k.val / 128 = 4 ∨ k.val / 128 = 5 ∨ k.val / 128 = 6 ∨ k.val / 128 = 7) with h | h | h | h | h | h | h | h
    · iterate 7 left
      exact hk _ (by show k.val % 128 = _; omega)
    · iterate 6 left
      right; exact hk _ (by show 128 + k.val % 128 = _; omega)
    · iterate 5 left
      right; exact hk _ (by show 256 + k.val % 128 = _; omega)
    · iterate 4 left
      right; exact hk _ (by show 384 + k.val % 128 = _; omega)
    · iterate 3 left
      right; exact hk _ (by show 512 + k.val % 128 = _; omega)
    · iterate 2 left
      right; exact hk _ (by show 640 + k.val % 128 = _; omega)
    · left
      right; exact hk _ (by show 768 + k.val % 128 = _; omega)
    · right; exact hk _ (by show 896 + k.val % 128 = _; omega)

theorem k3_pay5_apply (x0 : Vec Ideal S256x1024 .bf16) (r : Fin 256) : k3_pay5 x0 (ix2 r 0) = rscale (brow x0 r) := by
  pointwise [k3_pay5]
  rw [k3_pay4_amax]; rfl

theorem k3_pay6_apply (x0 : Vec Ideal S256x1024 .bf16) (r : Fin 256) (k : Fin 1024) : k3_pay6 x0 (ix2 r k) = rquant (brow x0 r) k := by
  pointwise [k3_pay6, k3_pay3]
  rw [k3_pay5_apply]; rfl

theorem k3_pay8_apply (x0 : Vec Ideal S256x1024 .bf16) (r : Fin 256) (k : Fin 1024) : k3_pay8 x0 (ix2 r k) = rquant (brow x0 r) k := by
  pointwise [k3_pay8]
  exact k3_pay6_apply x0 r k

theorem k3_pay7_apply (x0 : Vec Ideal S256x1024 .bf16) (r : Fin 256) (k : Fin 1024) : k3_pay7 x0 (ix2 r k) = rcode (brow x0 r) k := by
  pointwise [k3_pay7]
  rw [k3_pay6_apply]; rfl

theorem rowScale3_apply (x0 : Vec Ideal S256x1024 .bf16) (l : Fin 256) : rowScale3 x0 (ix2 0 l) = rscale (brow x0 l) := by
  unfold rowScale3
  rw [gx_ld]
  pointwise [k3_pay9]
  by_cases h : l.val < 128
  · simp only [dif_pos h]
    exact congrArg scaleOf (k3_pay4_amax x0 l)
  · simp only [dif_neg h]
    exact (congrArg scaleOf (k3_pay4_amax x0 ⟨128 + (l.val - 128), by omega⟩)).trans
      (congrArg (fun q => rscale (brow x0 q)) (Fin.ext (by show 128 + (l.val - 128) = l.val; omega)))

/-! ## The hidden blocks -/

section Hidden

variable (s : FVec Ideal S256x1 .f32) (v1 q : FVec Ideal S256x1024 .bf16) (y z : FVec Ideal S1024x256 .bf16) (v : Fin 1024 → EReal) (r l : Fin 256)

theorem k3_pay10_apply (h1 : ∀ k, v1 (ix2 r k) = v k) : k3_pay10 v1 z (ix2 r l) = dot v (mat z) l := by
  pointwise [k3_pay10]
  simp only [h1]; rfl

theorem k3_pay11_apply (hs : s (ix2 r 0) = rscale v) (hq : ∀ k, q (ix2 r k) = rquant v k) : k3_pay11 s q z (ix2 r l) = qdot v (mat z) l := by
  pointwise [k3_pay11]
  simp only [hs, hq]; rfl

theorem k3_pay12_apply (h1 : ∀ k, v1 (ix2 r k) = v k) : k3_pay12 v1 y (ix2 r l) = silu (dot v (mat y) l) := by
  pointwise [k3_pay12]
  simp only [h1]; rfl

theorem k3_pay13_apply (hs : s (ix2 r 0) = rscale v) (hq : ∀ k, q (ix2 r k) = rquant v k) : k3_pay13 s q y (ix2 r l) = silu (qdot v (mat y) l) := by
  pointwise [k3_pay13]
  simp only [hs, hq]; rfl

theorem k3_pay14_apply (hs : s (ix2 r 0) = rscale v) (hq : ∀ k, q (ix2 r k) = rquant v k) :
    k3_pay14 s q y z (ix2 r l) = hid (qdot v (mat y)) (qdot v (mat z)) l := by
  pointwise [k3_pay14]
  rw [k3_pay13_apply s q y v r l hs hq, k3_pay11_apply s q z v r l hs hq]; rfl

theorem k3_pay15_apply (h1 : ∀ k, v1 (ix2 r k) = v k) : k3_pay15 v1 y z (ix2 r l) = hid (dot v (mat y)) (dot v (mat z)) l := by
  pointwise [k3_pay15]
  rw [k3_pay12_apply v1 y v r l h1, k3_pay10_apply v1 z v r l h1]; rfl

theorem k3_pay16_apply (h1 : ∀ k, v1 (ix2 r k) = v k) (hs : s (ix2 r 0) = rscale v) (hq : ∀ k, q (ix2 r k) = rquant v k) :
    k3_pay16 v1 s q y z (ix2 r l) = hid (qdot v (mat z)) (dot v (mat y)) l := by
  pointwise [k3_pay16]
  rw [k3_pay13_apply s q z v r l hs hq, k3_pay10_apply v1 y v r l h1]; rfl

theorem k3_pay17_apply (h1 : ∀ k, v1 (ix2 r k) = v k) (hs : s (ix2 r 0) = rscale v) (hq : ∀ k, q (ix2 r k) = rquant v k) :
    k3_pay17 v1 s q y z (ix2 r l) = hid (dot v (mat y)) (qdot v (mat z)) l := by
  pointwise [k3_pay17]
  rw [k3_pay12_apply v1 y v r l h1, k3_pay11_apply s q z v r l hs hq]; rfl

end Hidden

/-! ## The blocks a point leaves -/

theorem out3_5_apply (x0 : Vec Ideal S256x1024 .bf16) (r : Fin 256) (k : Fin 1024) : out3_5 x0 (ix2 r k) = rcode (brow x0 r) k := by
  refine View.canon_apply_of_pieces (Val := Elt Ideal) (e := .i8) (fun y : S256x1024.Idx => rcode (brow x0 (y 0)) (y 1)) _ ?_ (ix2 r k) (cover3_5 _ _)
  simp only [List.mem_cons, List.not_mem_nil, or_false, forall_eq]
  intro x
  rw [gx_ld, show gx.emb x = x from ix2_of_val (by rw [Rect.emb_apply]; show 0 + 1 * (x 0).val = _; omega) (by rw [Rect.emb_apply]; show 0 + 1 * (x 1).val = _; omega)]
  obtain ⟨a, b, rfl⟩ : ∃ (a : Fin 256) (b : Fin 1024), x = ix2 a b := ⟨x 0, x 1, eq_ix2 x⟩
  exact k3_pay7_apply x0 a b

section Chunk

/-- The 256 columns of a weight block from column `o` on. -/
abbrev wcols (o : Nat) (iw : ∀ a, (![0, o] : Fin 2 → Nat) a + S1024x256.size a ≤ S1024x2048.size a) : Rect S1024x2048 := Rect.unit (s := S1024x2048) ![0, o] S1024x256.size iw

/-- The 256 columns of a hidden block from column `o` on. -/
abbrev hcols (o : Nat) (ih : ∀ a, (![0, o] : Fin 2 → Nat) a + S256x256.size a ≤ S256x2048.size a) : Rect S256x2048 := Rect.unit (s := S256x2048) ![0, o] S256x256.size ih

variable (x0 : Vec Ideal S256x1024 .bf16) (Y Z : Vec Ideal S1024x2048 .bf16) (o : Nat) (iw : ∀ a, (![0, o] : Fin 2 → Nat) a + S1024x256.size a ≤ S1024x2048.size a)

theorem dot_wcols (v : Fin 1024 → EReal) (l : Fin 256) (L : Fin 2048) (hL : L.val = o + l.val) :
    dot v (mat (View.ld Y (wcols o iw))) l = dot v (mat Y) L := by
  unfold dot
  refine Finset.sum_congr rfl fun k _ => congrArg (v k * ·) ?_
  show Y ((wcols o iw).emb (ix2 k l)) = Y (ix2 k L)
  refine congrArg Y (ix2_of_val ?_ ?_)
  · rw [Rect.emb_apply]; show 0 + 1 * k.val = k.val; omega
  · rw [Rect.emb_apply]; show o + 1 * l.val = L.val; omega

theorem qdot_wcols (v : Fin 1024 → EReal) (l : Fin 256) (L : Fin 2048) (hL : L.val = o + l.val) :
    qdot v (mat (View.ld Y (wcols o iw))) l = qdot v (mat Y) L := congrArg (· * rscale v) (dot_wcols Y o iw _ l L hL)

theorem gxs_apply (r : Fin 256) : gxs x0 (ix2 r 0) = rscale (brow x0 r) := by rw [gxs, gx_ld]; exact k3_pay5_apply x0 r
theorem gxc_apply (r : Fin 256) (k : Fin 1024) : gxc x0 (ix2 r k) = rquant (brow x0 r) k := by rw [gxc, gx_ld]; exact k3_pay8_apply x0 r k
theorem gxv_apply (r : Fin 256) (k : Fin 1024) : gxv x0 (ix2 r k) = brow x0 r k := by rw [gxv, gx_ld]; pointwise [k3_pay3]

theorem hid_congr {p p' : Nat} {g u : Fin p → EReal} {g' u' : Fin p' → EReal} {l : Fin p} {L : Fin p'} (hg : g l = g' L) (hu : u l = u' L) : hid g u l = hid g' u' L := by
  unfold hid; rw [hg, hu]

theorem chunk14 (r l : Fin 256) (L : Fin 2048) (hL : L.val = o + l.val) :
    k3_pay14 (gxs x0) (gxc x0) (View.ld Y (wcols o iw)) (View.ld Z (wcols o iw)) (ix2 r l) = hid (qdot (brow x0 r) (mat Y)) (qdot (brow x0 r) (mat Z)) L :=
  (k3_pay14_apply (gxs x0) (gxc x0) _ _ _ r l (gxs_apply x0 r) (fun k => gxc_apply x0 r k)).trans (hid_congr (qdot_wcols Y o iw _ l L hL) (qdot_wcols Z o iw _ l L hL))

theorem piece14 (ih : ∀ a, (![0, o] : Fin 2 → Nat) a + S256x256.size a ≤ S256x2048.size a) (x : S256x256.Idx) :
    k3_pay14 (gxs x0) (gxc x0) (View.ld Y (wcols o iw)) (View.ld Z (wcols o iw)) x = (fun i : S256x2048.Idx => hid (qdot (brow x0 (i 0)) (mat Y)) (qdot (brow x0 (i 0)) (mat Z)) (i 1)) ((hcols o ih).emb x) := by
  obtain ⟨r, l, rfl⟩ : ∃ r l : Fin 256, x = ix2 r l := ⟨x 0, x 1, eq_ix2 x⟩
  have e0 : ((hcols o ih).emb (ix2 r l)) 0 = r := Fin.ext (by rw [Rect.emb_apply]; show 0 + 1 * r.val = r.val; omega)
  have e1 : (((hcols o ih).emb (ix2 r l)) 1).val = o + l.val := by rw [Rect.emb_apply]; show o + 1 * l.val = o + l.val; omega
  show _ = hid (qdot (brow x0 (((hcols o ih).emb (ix2 r l)) 0)) (mat Y)) (qdot (brow x0 (((hcols o ih).emb (ix2 r l)) 0)) (mat Z)) (((hcols o ih).emb (ix2 r l)) 1)
  rw [e0]
  exact chunk14 x0 Y Z o iw r l _ e1

theorem chunk15 (r l : Fin 256) (L : Fin 2048) (hL : L.val = o + l.val) :
    k3_pay15 (gxv x0) (View.ld Y (wcols o iw)) (View.ld Z (wcols o iw)) (ix2 r l) = hid (dot (brow x0 r) (mat Y)) (dot (brow x0 r) (mat Z)) L :=
  (k3_pay15_apply (gxv x0) _ _ _ r l (fun k => gxv_apply x0 r k)).trans (hid_congr (dot_wcols Y o iw _ l L hL) (dot_wcols Z o iw _ l L hL))

theorem piece15 (ih : ∀ a, (![0, o] : Fin 2 → Nat) a + S256x256.size a ≤ S256x2048.size a) (x : S256x256.Idx) :
    k3_pay15 (gxv x0) (View.ld Y (wcols o iw)) (View.ld Z (wcols o iw)) x = (fun i : S256x2048.Idx => hid (dot (brow x0 (i 0)) (mat Y)) (dot (brow x0 (i 0)) (mat Z)) (i 1)) ((hcols o ih).emb x) := by
  obtain ⟨r, l, rfl⟩ : ∃ r l : Fin 256, x = ix2 r l := ⟨x 0, x 1, eq_ix2 x⟩
  have e0 : ((hcols o ih).emb (ix2 r l)) 0 = r := Fin.ext (by rw [Rect.emb_apply]; show 0 + 1 * r.val = r.val; omega)
  have e1 : (((hcols o ih).emb (ix2 r l)) 1).val = o + l.val := by rw [Rect.emb_apply]; show o + 1 * l.val = o + l.val; omega
  show _ = hid (dot (brow x0 (((hcols o ih).emb (ix2 r l)) 0)) (mat Y)) (dot (brow x0 (((hcols o ih).emb (ix2 r l)) 0)) (mat Z)) (((hcols o ih).emb (ix2 r l)) 1)
  rw [e0]
  exact chunk15 x0 Y Z o iw r l _ e1

theorem chunk16 (r l : Fin 256) (L : Fin 2048) (hL : L.val = o + l.val) :
    k3_pay16 (gxv x0) (gxs x0) (gxc x0) (View.ld Y (wcols o iw)) (View.ld Z (wcols o iw)) (ix2 r l) = hid (qdot (brow x0 r) (mat Z)) (dot (brow x0 r) (mat Y)) L :=
  (k3_pay16_apply (gxs x0) (gxv x0) (gxc x0) _ _ _ r l (fun k => gxv_apply x0 r k) (gxs_apply x0 r) (fun k => gxc_apply x0 r k)).trans (hid_congr (qdot_wcols Z o iw _ l L hL) (dot_wcols Y o iw _ l L hL))

theorem piece16 (ih : ∀ a, (![0, o] : Fin 2 → Nat) a + S256x256.size a ≤ S256x2048.size a) (x : S256x256.Idx) :
    k3_pay16 (gxv x0) (gxs x0) (gxc x0) (View.ld Y (wcols o iw)) (View.ld Z (wcols o iw)) x = (fun i : S256x2048.Idx => hid (qdot (brow x0 (i 0)) (mat Z)) (dot (brow x0 (i 0)) (mat Y)) (i 1)) ((hcols o ih).emb x) := by
  obtain ⟨r, l, rfl⟩ : ∃ r l : Fin 256, x = ix2 r l := ⟨x 0, x 1, eq_ix2 x⟩
  have e0 : ((hcols o ih).emb (ix2 r l)) 0 = r := Fin.ext (by rw [Rect.emb_apply]; show 0 + 1 * r.val = r.val; omega)
  have e1 : (((hcols o ih).emb (ix2 r l)) 1).val = o + l.val := by rw [Rect.emb_apply]; show o + 1 * l.val = o + l.val; omega
  show _ = hid (qdot (brow x0 (((hcols o ih).emb (ix2 r l)) 0)) (mat Z)) (dot (brow x0 (((hcols o ih).emb (ix2 r l)) 0)) (mat Y)) (((hcols o ih).emb (ix2 r l)) 1)
  rw [e0]
  exact chunk16 x0 Y Z o iw r l _ e1

theorem chunk17 (r l : Fin 256) (L : Fin 2048) (hL : L.val = o + l.val) :
    k3_pay17 (gxv x0) (gxs x0) (gxc x0) (View.ld Y (wcols o iw)) (View.ld Z (wcols o iw)) (ix2 r l) = hid (dot (brow x0 r) (mat Y)) (qdot (brow x0 r) (mat Z)) L :=
  (k3_pay17_apply (gxs x0) (gxv x0) (gxc x0) _ _ _ r l (fun k => gxv_apply x0 r k) (gxs_apply x0 r) (fun k => gxc_apply x0 r k)).trans (hid_congr (dot_wcols Y o iw _ l L hL) (qdot_wcols Z o iw _ l L hL))

theorem piece17 (ih : ∀ a, (![0, o] : Fin 2 → Nat) a + S256x256.size a ≤ S256x2048.size a) (x : S256x256.Idx) :
    k3_pay17 (gxv x0) (gxs x0) (gxc x0) (View.ld Y (wcols o iw)) (View.ld Z (wcols o iw)) x = (fun i : S256x2048.Idx => hid (dot (brow x0 (i 0)) (mat Y)) (qdot (brow x0 (i 0)) (mat Z)) (i 1)) ((hcols o ih).emb x) := by
  obtain ⟨r, l, rfl⟩ : ∃ r l : Fin 256, x = ix2 r l := ⟨x 0, x 1, eq_ix2 x⟩
  have e0 : ((hcols o ih).emb (ix2 r l)) 0 = r := Fin.ext (by rw [Rect.emb_apply]; show 0 + 1 * r.val = r.val; omega)
  have e1 : (((hcols o ih).emb (ix2 r l)) 1).val = o + l.val := by rw [Rect.emb_apply]; show o + 1 * l.val = o + l.val; omega
  show _ = hid (dot (brow x0 (((hcols o ih).emb (ix2 r l)) 0)) (mat Y)) (qdot (brow x0 (((hcols o ih).emb (ix2 r l)) 0)) (mat Z)) (((hcols o ih).emb (ix2 r l)) 1)
  rw [e0]
  exact chunk17 x0 Y Z o iw r l _ e1

end Chunk

theorem out3_7_apply (x0 : Vec Ideal S256x1024 .bf16) (x3 x4 : Vec Ideal S1024x2048 .bf16) (i : S256x2048.Idx) :
    out3_7 x0 x3 x4 i = hid (qdot (brow x0 (i 0)) (mat x3)) (qdot (brow x0 (i 0)) (mat x4)) (i 1) := by
  refine View.canon_apply_of_pieces (Val := Elt Ideal) (e := .f32) (fun i : S256x2048.Idx => hid (qdot (brow x0 (i 0)) (mat x3)) (qdot (brow x0 (i 0)) (mat x4)) (i 1)) _ ?_ i (cover3_f _ _ _ _ _ _ _ _ _)
  simp only [List.mem_cons, List.not_mem_nil, or_false, forall_eq_or_imp, forall_eq]
  refine ⟨?_, ?_, ?_, ?_, ?_, ?_, ?_, ?_⟩ <;> exact piece14 x0 x3 x4 _ _ _

theorem out3_8_apply (x0 : Vec Ideal S256x1024 .bf16) (x1 x2 : Vec Ideal S1024x2048 .bf16) (i : S256x2048.Idx) :
    out3_8 x0 x1 x2 i = hid (dot (brow x0 (i 0)) (mat x1)) (dot (brow x0 (i 0)) (mat x2)) (i 1) := by
  refine View.canon_apply_of_pieces (Val := Elt Ideal) (e := .f32) (fun i : S256x2048.Idx => hid (dot (brow x0 (i 0)) (mat x1)) (dot (brow x0 (i 0)) (mat x2)) (i 1)) _ ?_ i (cover3_f _ _ _ _ _ _ _ _ _)
  simp only [List.mem_cons, List.not_mem_nil, or_false, forall_eq_or_imp, forall_eq]
  refine ⟨?_, ?_, ?_, ?_, ?_, ?_, ?_, ?_⟩ <;> exact piece15 x0 x1 x2 _ _ _

theorem out3_9_apply (x0 : Vec Ideal S256x1024 .bf16) (x2 x3 : Vec Ideal S1024x2048 .bf16) (i : S256x2048.Idx) :
    out3_9 x0 x2 x3 i = hid (qdot (brow x0 (i 0)) (mat x3)) (dot (brow x0 (i 0)) (mat x2)) (i 1) := by
  refine View.canon_apply_of_pieces (Val := Elt Ideal) (e := .bf16) (fun i : S256x2048.Idx => hid (qdot (brow x0 (i 0)) (mat x3)) (dot (brow x0 (i 0)) (mat x2)) (i 1)) _ ?_ i (cover3_b _ _ _ _ _ _ _ _ _)
  simp only [List.mem_cons, List.not_mem_nil, or_false, forall_eq_or_imp, forall_eq]
  refine ⟨?_, ?_, ?_, ?_, ?_, ?_, ?_, ?_⟩ <;> exact piece16 x0 x2 x3 _ _ _

theorem out3_10_apply (x0 : Vec Ideal S256x1024 .bf16) (x1 x4 : Vec Ideal S1024x2048 .bf16) (i : S256x2048.Idx) :
    out3_10 x0 x1 x4 i = hid (dot (brow x0 (i 0)) (mat x1)) (qdot (brow x0 (i 0)) (mat x4)) (i 1) := by
  refine View.canon_apply_of_pieces (Val := Elt Ideal) (e := .bf16) (fun i : S256x2048.Idx => hid (dot (brow x0 (i 0)) (mat x1)) (qdot (brow x0 (i 0)) (mat x4)) (i 1)) _ ?_ i (cover3_b _ _ _ _ _ _ _ _ _)
  simp only [List.mem_cons, List.not_mem_nil, or_false, forall_eq_or_imp, forall_eq]
  refine ⟨?_, ?_, ?_, ?_, ?_, ?_, ?_, ?_⟩ <;> exact piece17 x0 x1 x4 _ _ _

/-! ## The folded magnitudes -/

theorem foldAbs_apply (h : FVec Ideal S256x256 .f32) (r : Fin 256) (l : Fin 128) :
    foldAbs h (ix2 r l) = max (absE (h (ix2 r ⟨l.val, by omega⟩))) (absE (h (ix2 r ⟨128 + l.val, by omega⟩))) := by
  pointwise [foldAbs]

theorem sup16 (f : Fin 16 → EReal) : max (max (max (max (max (max (max (max (f 0) (f 1)) (max (f 2) (f 3))) (max (f 4) (f 5))) (max (f 6) (f 7))) (max (f 8) (f 9))) (max (f 10) (f 11))) (max (f 12) (f 13))) (max (f 14) (f 15)) = Finset.univ.sup f := by
  apply le_antisymm
  · simp only [max_le_iff]
    and_intros <;> exact Finset.le_sup (Finset.mem_univ _)
  · refine Finset.sup_le fun q _ => ?_
    fin_cases q <;> simp [le_max_iff]

/-- Every 128th magnitude of a row of 2048, from the one at `l` on: the largest. -/
def fold2048 (H : Fin 2048 → EReal) (l : Fin 128) : EReal := Finset.univ.sup fun q : Fin 16 => absE (H ⟨128 * q.val + l.val, by omega⟩)

theorem foldAbs_all (h0 h1 h2 h3 h4 h5 h6 h7 : FVec Ideal S256x256 .f32) (r : Fin 256) (H : Fin 2048 → EReal)
    (e0 : ∀ (l : Fin 256) (L : Fin 2048), L.val = 0 + l.val → h0 (ix2 r l) = H L) (e1 : ∀ (l : Fin 256) (L : Fin 2048), L.val = 256 + l.val → h1 (ix2 r l) = H L)
    (e2 : ∀ (l : Fin 256) (L : Fin 2048), L.val = 512 + l.val → h2 (ix2 r l) = H L) (e3 : ∀ (l : Fin 256) (L : Fin 2048), L.val = 768 + l.val → h3 (ix2 r l) = H L)
    (e4 : ∀ (l : Fin 256) (L : Fin 2048), L.val = 1024 + l.val → h4 (ix2 r l) = H L) (e5 : ∀ (l : Fin 256) (L : Fin 2048), L.val = 1280 + l.val → h5 (ix2 r l) = H L)
    (e6 : ∀ (l : Fin 256) (L : Fin 2048), L.val = 1536 + l.val → h6 (ix2 r l) = H L) (e7 : ∀ (l : Fin 256) (L : Fin 2048), L.val = 1792 + l.val → h7 (ix2 r l) = H L)
    (l : Fin 128) :
    maximumf (maximumf (maximumf (maximumf (maximumf (maximumf (maximumf (foldAbs h0) (foldAbs h1)) (foldAbs h2)) (foldAbs h3)) (foldAbs h4)) (foldAbs h5)) (foldAbs h6)) (foldAbs h7) (ix2 r l)
      = fold2048 H l := by
  pointwise []
  simp only [foldAbs_apply]
  rw [e0 _ ⟨128 * 0 + l.val, by omega⟩ (by simp), e0 _ ⟨128 * 1 + l.val, by omega⟩ (by simp), e1 _ ⟨128 * 2 + l.val, by omega⟩ (by simp), e1 _ ⟨128 * 3 + l.val, by omega⟩ (by simp; omega),
    e2 _ ⟨128 * 4 + l.val, by omega⟩ (by simp), e2 _ ⟨128 * 5 + l.val, by omega⟩ (by simp; omega), e3 _ ⟨128 * 6 + l.val, by omega⟩ (by simp), e3 _ ⟨128 * 7 + l.val, by omega⟩ (by simp; omega),
    e4 _ ⟨128 * 8 + l.val, by omega⟩ (by simp), e4 _ ⟨128 * 9 + l.val, by omega⟩ (by simp; omega), e5 _ ⟨128 * 10 + l.val, by omega⟩ (by simp), e5 _ ⟨128 * 11 + l.val, by omega⟩ (by simp; omega),
    e6 _ ⟨128 * 12 + l.val, by omega⟩ (by simp), e6 _ ⟨128 * 13 + l.val, by omega⟩ (by simp; omega), e7 _ ⟨128 * 14 + l.val, by omega⟩ (by simp), e7 _ ⟨128 * 15 + l.val, by omega⟩ (by simp; omega)]
  exact sup16 fun q : Fin 16 => absE (H ⟨128 * q.val + l.val, by omega⟩)

theorem out3_11_apply (x0 : Vec Ideal S256x1024 .bf16) (x3 x4 : Vec Ideal S1024x2048 .bf16) (i : S256x128.Idx) :
    out3_11 x0 x3 x4 i = fold2048 (hid (qdot (brow x0 (i 0)) (mat x3)) (qdot (brow x0 (i 0)) (mat x4))) (i 1) := by
  refine View.canon_apply_of_pieces (Val := Elt Ideal) (e := .f32) (fun i : S256x128.Idx => fold2048 (hid (qdot (brow x0 (i 0)) (mat x3)) (qdot (brow x0 (i 0)) (mat x4))) (i 1)) _ ?_ i (cover3_p _ _)
  simp only [List.mem_cons, List.not_mem_nil, or_false, forall_eq]
  intro x
  rw [show gp.emb x = x from ix2_of_val (by rw [Rect.emb_apply]; show 0 + 1 * (x 0).val = _; omega) (by rw [Rect.emb_apply]; show 0 + 1 * (x 1).val = _; omega)]
  obtain ⟨r, l, rfl⟩ : ∃ (r : Fin 256) (l : Fin 128), x = ix2 r l := ⟨x 0, x 1, eq_ix2 x⟩
  exact foldAbs_all _ _ _ _ _ _ _ _ r (hid (qdot (brow x0 r) (mat x3)) (qdot (brow x0 r) (mat x4))) (fun l L => chunk14 x0 x3 x4 _ _ r l L) (fun l L => chunk14 x0 x3 x4 _ _ r l L) (fun l L => chunk14 x0 x3 x4 _ _ r l L) (fun l L => chunk14 x0 x3 x4 _ _ r l L) (fun l L => chunk14 x0 x3 x4 _ _ r l L) (fun l L => chunk14 x0 x3 x4 _ _ r l L) (fun l L => chunk14 x0 x3 x4 _ _ r l L) (fun l L => chunk14 x0 x3 x4 _ _ r l L) l

theorem out3_12_apply (x0 : Vec Ideal S256x1024 .bf16) (x1 x2 : Vec Ideal S1024x2048 .bf16) (i : S256x128.Idx) :
    out3_12 x0 x1 x2 i = fold2048 (hid (dot (brow x0 (i 0)) (mat x1)) (dot (brow x0 (i 0)) (mat x2))) (i 1) := by
  refine View.canon_apply_of_pieces (Val := Elt Ideal) (e := .f32) (fun i : S256x128.Idx => fold2048 (hid (dot (brow x0 (i 0)) (mat x1)) (dot (brow x0 (i 0)) (mat x2))) (i 1)) _ ?_ i (cover3_p _ _)
  simp only [List.mem_cons, List.not_mem_nil, or_false, forall_eq]
  intro x
  rw [show gp.emb x = x from ix2_of_val (by rw [Rect.emb_apply]; show 0 + 1 * (x 0).val = _; omega) (by rw [Rect.emb_apply]; show 0 + 1 * (x 1).val = _; omega)]
  obtain ⟨r, l, rfl⟩ : ∃ (r : Fin 256) (l : Fin 128), x = ix2 r l := ⟨x 0, x 1, eq_ix2 x⟩
  exact foldAbs_all _ _ _ _ _ _ _ _ r (hid (dot (brow x0 r) (mat x1)) (dot (brow x0 r) (mat x2))) (fun l L => chunk15 x0 x1 x2 _ _ r l L) (fun l L => chunk15 x0 x1 x2 _ _ r l L) (fun l L => chunk15 x0 x1 x2 _ _ r l L) (fun l L => chunk15 x0 x1 x2 _ _ r l L) (fun l L => chunk15 x0 x1 x2 _ _ r l L) (fun l L => chunk15 x0 x1 x2 _ _ r l L) (fun l L => chunk15 x0 x1 x2 _ _ r l L) (fun l L => chunk15 x0 x1 x2 _ _ r l L) l

end Cert.KernelIdeal.Hand
end
-- ==== Proof.KernelIdeal.GateArr.lean ====
/- What the gate and up region leaves in its arrays. -/
module

public import proofs.«01_k».proof.Proof.Spec
public import proofs.«01_k».proof.Proof.KernelIdeal.GateBlk
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pipeline (Dat Cfg Window)
open Cert.Spec

variable (V : (c : Dev nD) → (b : Ref sig .tc) → Buf (Elt Ideal) ((c : Thread nD τ).loc b))

theorem index3_1 : ∀ t : Fin cfg3.N, win3_1.index t = ![0, t.val / 36] := by decide +kernel
theorem index3_2 : ∀ t : Fin cfg3.N, win3_2.index t = ![0, t.val / 36] := by decide +kernel
theorem index3_3 : ∀ t : Fin cfg3.N, win3_3.index t = ![0, t.val / 36] := by decide +kernel
theorem index3_4 : ∀ t : Fin cfg3.N, win3_4.index t = ![0, t.val / 36] := by decide +kernel
theorem index3_5 : ∀ t : Fin cfg3.N, win3_5.index t = ![t.val % 36, 0] := by decide +kernel
theorem index3_6 : ∀ t : Fin cfg3.N, win3_6.index t = ![0, 0] := by decide +kernel
theorem index3_7 : ∀ t : Fin cfg3.N, win3_7.index t = ![t.val % 36, t.val / 36] := by decide +kernel
theorem index3_8 : ∀ t : Fin cfg3.N, win3_8.index t = ![t.val % 36, t.val / 36] := by decide +kernel
theorem index3_9 : ∀ t : Fin cfg3.N, win3_9.index t = ![t.val % 36, t.val / 36] := by decide +kernel
theorem index3_10 : ∀ t : Fin cfg3.N, win3_10.index t = ![t.val % 36, t.val / 36] := by decide +kernel
theorem index3_11 : ∀ t : Fin cfg3.N, win3_11.index t = ![t.val % 36, t.val / 36] := by decide +kernel
theorem index3_12 : ∀ t : Fin cfg3.N, win3_12.index t = ![t.val % 36, t.val / 36] := by decide +kernel

theorem iblk3_0_at (c : Dev nD) (t : Fin cfg3.N) (j : (⟨2, ![256, 1024]⟩ : Shape).Idx) (z : (⟨2, ![9216, 1024]⟩ : Shape).Idx)
    (h0 : (z 0).val = t.val % 36 * 256 + (j 0).val) (h1 : (z 1).val = 0 * 1024 + (j 1).val) : iblk3 V c 0 t j = V c main_v3 z := by
  show V c main_v3 ((win3_0.rect t).emb j) = _
  refine congrArg _ (ix2_of_val ?_ ?_)
  · rw [win3_0.rect_emb_val t j 0 rfl, index3_0 t]; exact h0.symm
  · rw [win3_0.rect_emb_val t j 1 rfl, index3_0 t]; exact h1.symm

theorem iblk3_1_at (c : Dev nD) (t : Fin cfg3.N) (j : (⟨2, ![1024, 2048]⟩ : Shape).Idx) (z : (⟨2, ![1024, 4096]⟩ : Shape).Idx)
    (h0 : (z 0).val = 0 * 1024 + (j 0).val) (h1 : (z 1).val = t.val / 36 * 2048 + (j 1).val) : iblk3 V c 1 t j = V c main_arg1 z := by
  show V c main_arg1 ((win3_1.rect t).emb j) = _
  refine congrArg _ (ix2_of_val ?_ ?_)
  · rw [win3_1.rect_emb_val t j 0 rfl, index3_1 t]; exact h0.symm
  · rw [win3_1.rect_emb_val t j 1 rfl, index3_1 t]; exact h1.symm

theorem iblk3_2_at (c : Dev nD) (t : Fin cfg3.N) (j : (⟨2, ![1024, 2048]⟩ : Shape).Idx) (z : (⟨2, ![1024, 4096]⟩ : Shape).Idx)
    (h0 : (z 0).val = 0 * 1024 + (j 0).val) (h1 : (z 1).val = t.val / 36 * 2048 + (j 1).val) : iblk3 V c 2 t j = V c main_arg2 z := by
  show V c main_arg2 ((win3_2.rect t).emb j) = _
  refine congrArg _ (ix2_of_val ?_ ?_)
  · rw [win3_2.rect_emb_val t j 0 rfl, index3_2 t]; exact h0.symm
  · rw [win3_2.rect_emb_val t j 1 rfl, index3_2 t]; exact h1.symm

theorem iblk3_3_at (c : Dev nD) (t : Fin cfg3.N) (j : (⟨2, ![1024, 2048]⟩ : Shape).Idx) (z : (⟨2, ![1024, 4096]⟩ : Shape).Idx)
    (h0 : (z 0).val = 0 * 1024 + (j 0).val) (h1 : (z 1).val = t.val / 36 * 2048 + (j 1).val) : iblk3 V c 3 t j = V c main_v0 z := by
  show V c main_v0 ((win3_3.rect t).emb j) = _
  refine congrArg _ (ix2_of_val ?_ ?_)
  · rw [win3_3.rect_emb_val t j 0 rfl, index3_3 t]; exact h0.symm
  · rw [win3_3.rect_emb_val t j 1 rfl, index3_3 t]; exact h1.symm

theorem iblk3_4_at (c : Dev nD) (t : Fin cfg3.N) (j : (⟨2, ![1024, 2048]⟩ : Shape).Idx) (z : (⟨2, ![1024, 4096]⟩ : Shape).Idx)
    (h0 : (z 0).val = 0 * 1024 + (j 0).val) (h1 : (z 1).val = t.val / 36 * 2048 + (j 1).val) : iblk3 V c 4 t j = V c main_v1 z := by
  show V c main_v1 ((win3_4.rect t).emb j) = _
  refine congrArg _ (ix2_of_val ?_ ?_)
  · rw [win3_4.rect_emb_val t j 0 rfl, index3_4 t]; exact h0.symm
  · rw [win3_4.rect_emb_val t j 1 rfl, index3_4 t]; exact h1.symm

/-- Row `r` of the tokens. -/
abbrev tok (c : Dev nD) (r : Fin 9216) : Fin 1024 → EReal := brow (V c main_v3 : S9216x1024.Idx → EReal) r

theorem brow_iblk3 (c : Dev nD) (t : Fin cfg3.N) (r : Fin 256) (R : Fin 9216) (h : R.val = t.val % 36 * 256 + r.val) : brow (iblk3 V c 0 t) r = tok V c R :=
  funext fun k => iblk3_0_at V c t (ix2 r k) (ix2 R k) h (by show k.val = 0 * 1024 + k.val; omega)

theorem dot_iblk3_1 (c : Dev nD) (t : Fin cfg3.N) (v : Fin 1024 → EReal) (l : Fin 2048) (L : Fin 4096) (h : L.val = t.val / 36 * 2048 + l.val) :
    dot v (mat (iblk3 V c 1 t)) l = dot v (mat (V c main_arg1 : S1024x4096.Idx → EReal)) L :=
  Finset.sum_congr rfl fun k _ => congrArg (v k * ·) (iblk3_1_at V c t (ix2 k l) (ix2 k L) (by show k.val = 0 * 1024 + k.val; omega) h)

theorem dot_iblk3_2 (c : Dev nD) (t : Fin cfg3.N) (v : Fin 1024 → EReal) (l : Fin 2048) (L : Fin 4096) (h : L.val = t.val / 36 * 2048 + l.val) :
    dot v (mat (iblk3 V c 2 t)) l = dot v (mat (V c main_arg2 : S1024x4096.Idx → EReal)) L :=
  Finset.sum_congr rfl fun k _ => congrArg (v k * ·) (iblk3_2_at V c t (ix2 k l) (ix2 k L) (by show k.val = 0 * 1024 + k.val; omega) h)

theorem dot_iblk3_3 (c : Dev nD) (t : Fin cfg3.N) (v : Fin 1024 → EReal) (l : Fin 2048) (L : Fin 4096) (h : L.val = t.val / 36 * 2048 + l.val) :
    dot v (mat (iblk3 V c 3 t)) l = dot v (mat (V c main_v0 : S1024x4096.Idx → EReal)) L :=
  Finset.sum_congr rfl fun k _ => congrArg (v k * ·) (iblk3_3_at V c t (ix2 k l) (ix2 k L) (by show k.val = 0 * 1024 + k.val; omega) h)

theorem dot_iblk3_4 (c : Dev nD) (t : Fin cfg3.N) (v : Fin 1024 → EReal) (l : Fin 2048) (L : Fin 4096) (h : L.val = t.val / 36 * 2048 + l.val) :
    dot v (mat (iblk3 V c 4 t)) l = dot v (mat (V c main_v1 : S1024x4096.Idx → EReal)) L :=
  Finset.sum_congr rfl fun k _ => congrArg (v k * ·) (iblk3_4_at V c t (ix2 k l) (ix2 k L) (by show k.val = 0 * 1024 + k.val; omega) h)

/-- The hidden row `r`: gate and up both through the quantised tokens and weights. -/
def hidQQ (c : Dev nD) (r : Fin 9216) : Fin 4096 → EReal := hid (qdot (tok V c r) (mat (V c main_v0 : S1024x4096.Idx → EReal))) (qdot (tok V c r) (mat (V c main_v1 : S1024x4096.Idx → EReal)))

/-- The hidden row `r`: gate and up both through the weights as given. -/
def hidDD (c : Dev nD) (r : Fin 9216) : Fin 4096 → EReal := hid (dot (tok V c r) (mat (V c main_arg1 : S1024x4096.Idx → EReal))) (dot (tok V c r) (mat (V c main_arg2 : S1024x4096.Idx → EReal)))

/-- The hidden row `r`: gate through the quantised, up through the given weights. -/
def hidQD (c : Dev nD) (r : Fin 9216) : Fin 4096 → EReal := hid (qdot (tok V c r) (mat (V c main_v0 : S1024x4096.Idx → EReal))) (dot (tok V c r) (mat (V c main_arg2 : S1024x4096.Idx → EReal)))

/-- The hidden row `r`: gate through the given, up through the quantised weights. -/
def hidDQ (c : Dev nD) (r : Fin 9216) : Fin 4096 → EReal := hid (dot (tok V c r) (mat (V c main_arg1 : S1024x4096.Idx → EReal))) (qdot (tok V c r) (mat (V c main_v1 : S1024x4096.Idx → EReal)))

/-- The 16 lanes `l` of the column half `l / 128` of a row of 4096: the largest magnitude. -/
def fold4096 (H : Fin 4096 → EReal) (l : Fin 256) : EReal := fold2048 (fun j => H ⟨l.val / 128 * 2048 + j.val, by omega⟩) ⟨l.val % 128, Nat.mod_lt _ (by decide)⟩

/-- Folding the lanes once more gives the largest magnitude of the row. -/
theorem sup_fold4096 (H : Fin 4096 → EReal) : Finset.univ.sup (fold4096 H) = amax H := by
  refine sup_eq_amax _ _ (fun l => by unfold fold4096 fold2048; exact Finset.sup_le fun q _ => le_amax H _) fun k => ?_
  refine ⟨⟨k.val / 2048 * 128 + k.val % 128, by omega⟩, ?_⟩
  refine le_trans (le_of_eq ?_) (Finset.le_sup (f := fun q : Fin 16 => absE (H ⟨(k.val / 2048 * 128 + k.val % 128) / 128 * 2048 + (128 * q.val + (k.val / 2048 * 128 + k.val % 128) % 128), by omega⟩)) (Finset.mem_univ ⟨k.val % 2048 / 128, by omega⟩))
  exact congrArg (fun q => absE (H q)) (Fin.ext (by show k.val = _ + (128 * (k.val % 2048 / 128) + _); omega))

theorem hid_iblk_congr {g u : Fin 2048 → EReal} {g' u' : Fin 4096 → EReal} (l : Fin 128) (L : Fin 256) (f : Nat) (hl : L.val = f * 128 + l.val)
    (h : ∀ (j : Fin 2048) (J : Fin 4096), J.val = f * 2048 + j.val → hid g u j = hid g' u' J) : fold2048 (hid g u) l = fold4096 (hid g' u') L := by
  unfold fold4096
  rw [show (⟨L.val % 128, Nat.mod_lt _ (by decide)⟩ : Fin 128) = l from Fin.ext (by show L.val % 128 = l.val; omega)]
  refine congrArg (fun H => fold2048 H l) (funext fun j => h j _ ?_)
  show L.val / 128 * 2048 + j.val = _
  rw [show L.val / 128 = f by omega]

theorem arr3_5 (c : Dev nD) : (dat3 V c).arrAt 5 cfg3.N = (fun y => rcode (tok V c (y 0)) (y 1) : S9216x1024.Idx → BitVec 8) := by
  refine (dat3 V c).arrAt_eq_of_covers 5 _ (by decide +kernel) fun t hf y => ?_
  blk_simp
  rw [after3_5]
  have e0 := win3_5.rect_emb_val t y 0 rfl
  have e1 := win3_5.rect_emb_val t y 1 rfl
  rw [index3_5 t] at e0 e1
  replace e0 : (((win3_5.blk t).view.emb y) 0).val = t.val % 36 * 256 + (y 0).val := e0
  replace e1 : (((win3_5.blk t).view.emb y) 1).val = 0 * 1024 + (y 1).val := e1
  refine (congrArg _ (eq_ix2 y)).trans ((out3_5_apply _ (y 0) (y 1)).trans ?_)
  rw [brow_iblk3 V c t _ _ e0]
  exact congrArg (rcode _) (Fin.ext (by rw [e1]; omega))

theorem xsAll3_apply (c : Dev nD) (y : S6x1536.Idx) (R : Fin 9216) (h : R.val = 1536 * (y 0).val + (y 1).val) : xsAll3 V c y = rscale (tok V c R) := by
  have h0 : (y 0).val < 6 := (y 0).isLt
  have h1 : (y 1).val < 1536 := (y 1).isLt
  unfold xsAll3
  rw [rowScale3_apply]
  refine congrArg _ (brow_iblk3 V c _ _ R ?_)
  show R.val = (6 * (y 0).val + (y 1).val / 256) % 36 * 256 + (y 1).val % 256
  omega

theorem arr3_6 (c : Dev nD) : (dat3 V c).arrAt 6 cfg3.N = (fun y => xsAll3 V c y : S6x1536.Idx → EReal) := by
  refine (dat3 V c).arrAt_eq_of_covers 6 _ (by decide +kernel) fun t hf y => ?_
  blk_simp
  rw [after3_6]
  have e0 := win3_6.rect_emb_val t y 0 rfl
  have e1 := win3_6.rect_emb_val t y 1 rfl
  rw [index3_6 t] at e0 e1
  replace e0 : (((win3_6.blk t).view.emb y) 0).val = 0 * 6 + (y 0).val := e0
  replace e1 : (((win3_6.blk t).view.emb y) 1).val = 0 * 1536 + (y 1).val := e1
  exact congrArg (xsAll3 V c) (ix2_of_val (by omega) (by omega))

theorem arr3_7 (c : Dev nD) : (dat3 V c).arrAt 7 cfg3.N = (fun y => hidQQ V c (y 0) (y 1) : S9216x4096.Idx → EReal) := by
  refine (dat3 V c).arrAt_eq_of_covers 7 _ (by decide +kernel) fun t hf y => ?_
  blk_simp
  rw [after3_7]
  have e0 := win3_7.rect_emb_val t y 0 rfl
  have e1 := win3_7.rect_emb_val t y 1 rfl
  rw [index3_7 t] at e0 e1
  replace e0 : (((win3_7.blk t).view.emb y) 0).val = t.val % 36 * 256 + (y 0).val := e0
  replace e1 : (((win3_7.blk t).view.emb y) 1).val = t.val / 36 * 2048 + (y 1).val := e1
  rw [out3_7_apply, brow_iblk3 V c t _ _ e0]
  exact hid_congr (congrArg (· * rscale _) (dot_iblk3_3 V c t _ _ _ e1)) (congrArg (· * rscale _) (dot_iblk3_4 V c t _ _ _ e1))

theorem arr3_8 (c : Dev nD) : (dat3 V c).arrAt 8 cfg3.N = (fun y => hidDD V c (y 0) (y 1) : S9216x4096.Idx → EReal) := by
  refine (dat3 V c).arrAt_eq_of_covers 8 _ (by decide +kernel) fun t hf y => ?_
  blk_simp
  rw [after3_8]
  have e0 := win3_8.rect_emb_val t y 0 rfl
  have e1 := win3_8.rect_emb_val t y 1 rfl
  rw [index3_8 t] at e0 e1
  replace e0 : (((win3_8.blk t).view.emb y) 0).val = t.val % 36 * 256 + (y 0).val := e0
  replace e1 : (((win3_8.blk t).view.emb y) 1).val = t.val / 36 * 2048 + (y 1).val := e1
  rw [out3_8_apply, brow_iblk3 V c t _ _ e0]
  exact hid_congr (dot_iblk3_1 V c t _ _ _ e1) (dot_iblk3_2 V c t _ _ _ e1)

theorem arr3_9 (c : Dev nD) : (dat3 V c).arrAt 9 cfg3.N = (fun y => hidQD V c (y 0) (y 1) : S9216x4096.Idx → EReal) := by
  refine (dat3 V c).arrAt_eq_of_covers 9 _ (by decide +kernel) fun t hf y => ?_
  blk_simp
  rw [after3_9]
  have e0 := win3_9.rect_emb_val t y 0 rfl
  have e1 := win3_9.rect_emb_val t y 1 rfl
  rw [index3_9 t] at e0 e1
  replace e0 : (((win3_9.blk t).view.emb y) 0).val = t.val % 36 * 256 + (y 0).val := e0
  replace e1 : (((win3_9.blk t).view.emb y) 1).val = t.val / 36 * 2048 + (y 1).val := e1
  rw [out3_9_apply, brow_iblk3 V c t _ _ e0]
  exact hid_congr (congrArg (· * rscale _) (dot_iblk3_3 V c t _ _ _ e1)) (dot_iblk3_2 V c t _ _ _ e1)

theorem arr3_10 (c : Dev nD) : (dat3 V c).arrAt 10 cfg3.N = (fun y => hidDQ V c (y 0) (y 1) : S9216x4096.Idx → EReal) := by
  refine (dat3 V c).arrAt_eq_of_covers 10 _ (by decide +kernel) fun t hf y => ?_
  blk_simp
  rw [after3_10]
  have e0 := win3_10.rect_emb_val t y 0 rfl
  have e1 := win3_10.rect_emb_val t y 1 rfl
  rw [index3_10 t] at e0 e1
  replace e0 : (((win3_10.blk t).view.emb y) 0).val = t.val % 36 * 256 + (y 0).val := e0
  replace e1 : (((win3_10.blk t).view.emb y) 1).val = t.val / 36 * 2048 + (y 1).val := e1
  rw [out3_10_apply, brow_iblk3 V c t _ _ e0]
  exact hid_congr (dot_iblk3_1 V c t _ _ _ e1) (congrArg (· * rscale _) (dot_iblk3_4 V c t _ _ _ e1))

theorem arr3_11 (c : Dev nD) : (dat3 V c).arrAt 11 cfg3.N = (fun y => fold4096 (hidQQ V c (y 0)) (y 1) : S9216x256.Idx → EReal) := by
  refine (dat3 V c).arrAt_eq_of_covers 11 _ (by decide +kernel) fun t hf y => ?_
  blk_simp
  rw [after3_11]
  have e0 := win3_11.rect_emb_val t y 0 rfl
  have e1 := win3_11.rect_emb_val t y 1 rfl
  rw [index3_11 t] at e0 e1
  replace e0 : (((win3_11.blk t).view.emb y) 0).val = t.val % 36 * 256 + (y 0).val := e0
  replace e1 : (((win3_11.blk t).view.emb y) 1).val = t.val / 36 * 128 + (y 1).val := e1
  rw [out3_11_apply, brow_iblk3 V c t _ _ e0]
  exact hid_iblk_congr _ _ _ e1 fun j J hJ => hid_congr (congrArg (· * rscale _) (dot_iblk3_3 V c t _ _ _ hJ)) (congrArg (· * rscale _) (dot_iblk3_4 V c t _ _ _ hJ))

theorem arr3_12 (c : Dev nD) : (dat3 V c).arrAt 12 cfg3.N = (fun y => fold4096 (hidDD V c (y 0)) (y 1) : S9216x256.Idx → EReal) := by
  refine (dat3 V c).arrAt_eq_of_covers 12 _ (by decide +kernel) fun t hf y => ?_
  blk_simp
  rw [after3_12]
  have e0 := win3_12.rect_emb_val t y 0 rfl
  have e1 := win3_12.rect_emb_val t y 1 rfl
  rw [index3_12 t] at e0 e1
  replace e0 : (((win3_12.blk t).view.emb y) 0).val = t.val % 36 * 256 + (y 0).val := e0
  replace e1 : (((win3_12.blk t).view.emb y) 1).val = t.val / 36 * 128 + (y 1).val := e1
  rw [out3_12_apply, brow_iblk3 V c t _ _ e0]
  exact hid_iblk_congr _ _ _ e1 fun j J hJ => hid_congr (dot_iblk3_1 V c t _ _ _ hJ) (dot_iblk3_2 V c t _ _ _ hJ)

end Cert.KernelIdeal.Hand
end
-- ==== Proof.KernelIdeal.DownBlk.lean ====
/- What one point of the down region computes. -/
module

public import proofs.«01_k».proof.Proof.Spec
public import proofs.«01_k».proof.Proof.KernelIdeal.GateArr
public import proofs.«01_k».proof.Proof.KernelIdeal.Down
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pipeline (Dat Cfg Window)
open Cert.Spec

/-! ## The scales of the hidden rows -/

theorem full_emb {n p : Nat} (inb : ∀ a, (![0, 0] : Fin 2 → Nat) a + (⟨2, ![n, p]⟩ : Shape).size a ≤ (⟨2, ![n, p]⟩ : Shape).size a) (x : (⟨2, ![n, p]⟩ : Shape).Idx) :
    (Rect.unit (s := (⟨2, ![n, p]⟩ : Shape)) ![0, 0] (⟨2, ![n, p]⟩ : Shape).size inb).emb x = x :=
  ix2_of_val (by rw [Rect.emb_apply]; show 0 + 1 * (x 0).val = _; omega) (by rw [Rect.emb_apply]; show 0 + 1 * (x 1).val = _; omega)

theorem dM_ld {e : EltTy} (x : Vec Ideal S256x4096 e) : View.ld x dM = x := funext fun j => congrArg x (full_emb inb_S256x4096_S256x4096_0_0 j)
theorem dP_ld (x : Vec Ideal S256x256 .f32) : View.ld x dP = x := funext fun j => congrArg x (full_emb inb_S256x256_S256x256_0_0 j)

/-- The larger of the lanes `l` and `l + 128`, over the lanes. -/
theorem sup_halves (u : Fin 256 → EReal) : (Finset.univ.sup fun l : Fin 128 => max (u ⟨l.val, by omega⟩) (u ⟨128 + l.val, by omega⟩)) = Finset.univ.sup u := by
  apply le_antisymm
  · exact Finset.sup_le fun l _ => max_le (Finset.le_sup (Finset.mem_univ _)) (Finset.le_sup (Finset.mem_univ _))
  · refine Finset.sup_le fun k _ => ?_
    refine le_trans ?_ (Finset.le_sup (f := fun l : Fin 128 => max (u ⟨l.val, by omega⟩) (u ⟨128 + l.val, by omega⟩)) (Finset.mem_univ ⟨k.val % 128, by omega⟩))
    by_cases h : k.val < 128
    · exact le_trans (le_of_eq (congrArg u (Fin.ext (by show k.val = k.val % 128; omega)))) (le_max_left _ _)
    · exact le_trans (le_of_eq (congrArg u (Fin.ext (by show k.val = 128 + k.val % 128; omega)))) (le_max_right _ _)

variable (p : Vec Ideal S256x256 .f32) (x : Vec Ideal S256x4096 .f32) (r : Fin 256)

theorem k4_pay6_sup : Finset.fold max (Ideal.ofBits .f32 4286578688#32) (fun l => k4_pay6 (k4_pay4 p) (k4_pay5 p) (ix2 r l)) Finset.univ = Finset.univ.sup (brow p r) := by
  rw [fold_sup, ← sup_halves]
  refine congrArg _ (funext fun l => ?_)
  pointwise [k4_pay6, k4_pay5, k4_pay4]

theorem k4_pay12_sup : Finset.fold max (Ideal.ofBits .f32 4286578688#32) (fun l => k4_pay12 p (ix2 r l)) Finset.univ = Finset.univ.sup (brow p r) := by
  rw [fold_sup, ← sup_halves]
  refine congrArg _ (funext fun l => ?_)
  pointwise [k4_pay12]

theorem fsRow_apply : fsRow p (ix2 0 r) = scaleOf (Finset.univ.sup (brow p r)) := by
  unfold fsRow
  rw [dP_ld]
  pointwise [k4_pay7]
  by_cases h : r.val < 128
  · simp only [dif_pos h]
    exact congrArg scaleOf (k4_pay6_sup p r)
  · simp only [dif_neg h]
    exact (congrArg scaleOf (k4_pay6_sup p ⟨128 + (r.val - 128), by omega⟩)).trans
      (congrArg (fun q => scaleOf (Finset.univ.sup (brow p q))) (Fin.ext (by show 128 + (r.val - 128) = r.val; omega)))

theorem rsRow_apply : rsRow p (ix2 0 r) = scaleOf (Finset.univ.sup (brow p r)) := by
  unfold rsRow
  rw [dP_ld]
  pointwise [k4_pay13]
  by_cases h : r.val < 128
  · simp only [dif_pos h]
    exact congrArg scaleOf (k4_pay12_sup p r)
  · simp only [dif_neg h]
    exact (congrArg scaleOf (k4_pay12_sup p ⟨128 + (r.val - 128), by omega⟩)).trans
      (congrArg (fun q => scaleOf (Finset.univ.sup (brow p q))) (Fin.ext (by show 128 + (r.val - 128) = r.val; omega)))

section Row

variable (hp : Finset.univ.sup (brow p r) = amax (brow x r))
include hp

theorem k4_pay8_apply : k4_pay8 (k4_pay4 p) (k4_pay5 p) (ix2 r 0) = rscale (brow x r) := by
  pointwise [k4_pay8]
  rw [k4_pay6_sup, hp]; rfl

theorem k4_pay14_apply : k4_pay14 p (ix2 r 0) = rscale (brow x r) := by
  pointwise [k4_pay14]
  rw [k4_pay12_sup, hp]; rfl

theorem k4_pay9_apply (k : Fin 4096) : k4_pay9 (k4_pay4 p) (k4_pay5 p) x (ix2 r k) = rquant (brow x r) k := by
  pointwise [k4_pay9]
  rw [k4_pay8_apply p x r hp]; rfl

theorem k4_pay15_apply (k : Fin 4096) : k4_pay15 p x (ix2 r k) = rquant (brow x r) k := by
  pointwise [k4_pay15]
  rw [k4_pay14_apply p x r hp]; rfl

theorem k4_pay10_apply (k : Fin 4096) : k4_pay10 (k4_pay4 p) (k4_pay5 p) x (ix2 r k) = rcode (brow x r) k := by
  pointwise [k4_pay10]
  rw [k4_pay9_apply p x r hp]; rfl

theorem k4_pay16_apply (k : Fin 4096) : k4_pay16 p x (ix2 r k) = rcode (brow x r) k := by
  pointwise [k4_pay16]
  rw [k4_pay15_apply p x r hp]; rfl

theorem k4_pay11_apply (k : Fin 4096) : k4_pay11 (k4_pay4 p) (k4_pay5 p) x (ix2 r k) = rquant (brow x r) k := by
  pointwise [k4_pay11]
  exact k4_pay9_apply p x r hp k

theorem k4_pay17_apply (k : Fin 4096) : k4_pay17 p x (ix2 r k) = rquant (brow x r) k := by
  pointwise [k4_pay17]
  exact k4_pay15_apply p x r hp k

end Row

theorem out4_12_apply (hp : ∀ r, Finset.univ.sup (brow p r) = amax (brow x r)) (k : Fin 4096) : out4_12 x p (ix2 r k) = rcode (brow x r) k := by
  refine View.canon_apply_of_pieces (Val := Elt Ideal) (e := .i8) (fun y : S256x4096.Idx => rcode (brow x (y 0)) (y 1)) _ ?_ (ix2 r k) (cover4_i _ _)
  simp only [List.mem_cons, List.not_mem_nil, or_false, forall_eq]
  intro y
  rw [dP_ld, dM_ld, show dM.emb y = y from full_emb _ y]
  obtain ⟨a, b, rfl⟩ : ∃ (a : Fin 256) (b : Fin 4096), y = ix2 a b := ⟨y 0, y 1, eq_ix2 y⟩
  exact k4_pay10_apply p x a (hp a) b

theorem out4_14_apply (hp : ∀ r, Finset.univ.sup (brow p r) = amax (brow x r)) (k : Fin 4096) : out4_14 x p (ix2 r k) = rcode (brow x r) k := by
  refine View.canon_apply_of_pieces (Val := Elt Ideal) (e := .i8) (fun y : S256x4096.Idx => rcode (brow x (y 0)) (y 1)) _ ?_ (ix2 r k) (cover4_i _ _)
  simp only [List.mem_cons, List.not_mem_nil, or_false, forall_eq]
  intro y
  rw [dP_ld, dM_ld, show dM.emb y = y from full_emb _ y]
  obtain ⟨a, b, rfl⟩ : ∃ (a : Fin 256) (b : Fin 4096), y = ix2 a b := ⟨y 0, y 1, eq_ix2 y⟩
  exact k4_pay16_apply p x a (hp a) b

/-! ## The products -/

section Prod

variable (v : FVec Ideal S256x4096 .bf16) (w d : Vec Ideal S4096x256 .bf16) (l : Fin 256)

theorem k4_pay18_apply : k4_pay18 v w (ix2 r l) = dot (brow v r) (mat w) l := by
  pointwise [k4_pay18]; rfl
theorem k4_pay19_apply : k4_pay19 v w (ix2 r l) = dot (brow v r) (mat w) l := by
  pointwise [k4_pay19]; rfl
theorem k4_pay20_apply : k4_pay20 v w (ix2 r l) = dot (brow v r) (mat w) l := by
  pointwise [k4_pay20]; rfl
theorem k4_pay22_apply : k4_pay22 v w (ix2 r l) = dot (brow v r) (mat w) l := by
  pointwise [k4_pay22]; exact k4_pay18_apply r v w l
theorem k4_pay21_apply (s : FVec Ideal S256x1 .f32) (H : Fin 4096 → EReal) (hs : s (ix2 r 0) = rscale H) (hq : ∀ k, v (ix2 r k) = rquant H k) :
    k4_pay21 s v w (ix2 r l) = qdot H (mat w) l := by
  pointwise [k4_pay21]
  simp only [hs, hq]; rfl
theorem k4_pay23_apply (u : FVec Ideal S256x4096 .bf16) (s : FVec Ideal S256x1 .f32) (H : Fin 4096 → EReal) (hs : s (ix2 r 0) = rscale H) (hq : ∀ k, v (ix2 r k) = rquant H k) :
    k4_pay23 u s v w d (ix2 r l) = sqdiff (qdot H (mat d) l) (dot (brow u r) (mat w) l) := by
  pointwise [k4_pay23]
  rw [k4_pay18_apply]
  simp only [hs, hq]; rfl
theorem k4_pay29_apply (a b : FVec Ideal S256x256 .f32) : k4_pay29 a b (ix2 r l) = sqdiff (b (ix2 r l)) (a (ix2 r l)) := by
  pointwise [k4_pay29]; rfl

theorem dhr_row : brow (dhr x) r = brow x r := funext fun k => by
  show dhr x (ix2 r k) = x (ix2 r k)
  rw [dhr, dM_ld]; pointwise [k4_pay3]

end Prod

/-! ## The squares of a chunk of columns -/

/-- The 256 columns of the weights from column `o` on. -/
abbrev dcols (o : Nat) (iw : ∀ a, (![0, o] : Fin 2 → Nat) a + S4096x256.size a ≤ S4096x1024.size a) : Rect S4096x1024 := Rect.unit (s := S4096x1024) ![0, o] S4096x256.size iw

theorem dot_dcols (H : Fin 4096 → EReal) (Y : Vec Ideal S4096x1024 .bf16) (o : Nat) (iw : ∀ a, (![0, o] : Fin 2 → Nat) a + S4096x256.size a ≤ S4096x1024.size a)
    (l : Fin 256) (L : Fin 1024) (hL : L.val = o + l.val) : dot H (mat (View.ld Y (dcols o iw))) l = dot H (mat Y) L := by
  unfold dot
  refine Finset.sum_congr rfl fun k _ => congrArg (H k * ·) ?_
  show Y ((dcols o iw).emb (ix2 k l)) = Y (ix2 k L)
  refine congrArg Y (ix2_of_val ?_ ?_)
  · rw [Rect.emb_apply]; show 0 + 1 * k.val = k.val; omega
  · rw [Rect.emb_apply]; show o + 1 * l.val = L.val; omega

theorem qdot_dcols (H : Fin 4096 → EReal) (Y : Vec Ideal S4096x1024 .bf16) (o : Nat) (iw : ∀ a, (![0, o] : Fin 2 → Nat) a + S4096x256.size a ≤ S4096x1024.size a)
    (l : Fin 256) (L : Fin 1024) (hL : L.val = o + l.val) : qdot H (mat (View.ld Y (dcols o iw))) l = qdot H (mat Y) L :=
  congrArg (· * rscale H) (dot_dcols _ Y o iw l L hL)

section Sq

variable (x0 x1 : Vec Ideal S256x4096 .f32) (x2 x3 : Vec Ideal S256x4096 .bf16) (x4 x5 : Vec Ideal S256x256 .f32) (x6 x7 : Vec Ideal S4096x1024 .bf16)

/-- The squared difference of variant `k` at row `r`, column `d` of a block. -/
def sqB (k : Fin 4) (r : Fin 256) (d : Fin 1024) : EReal :=
  sqdiff (match k with
    | 0 => qdot (brow x0 r) (mat x7) d
    | 1 => dot (brow x2 r) (mat x6) d
    | 2 => dot (brow x3 r) (mat x6) d
    | 3 => qdot (brow x1 r) (mat x7) d) (dot (brow x1 r) (mat x6) d)

variable (o : Nat) (iw : ∀ a, (![0, o] : Fin 2 → Nat) a + S4096x256.size a ≤ S4096x1024.size a) (l : Fin 256) (L : Fin 1024) (hL : L.val = o + l.val)
include hL

theorem ySq_at : ySq x1 (View.ld x6 (dcols o iw)) (ix2 r l) = dot (brow x1 r) (mat x6) L * dot (brow x1 r) (mat x6) L := by
  pointwise [ySq, sq]
  rw [k4_pay18_apply, dhr_row, dot_dcols _ x6 o iw l L hL]

theorem eSq0_at (h4 : Finset.univ.sup (brow x4 r) = amax (brow x0 r)) :
    eSq0 x0 x1 x4 (View.ld x6 (dcols o iw)) (View.ld x7 (dcols o iw)) (ix2 r l) = sqB x0 x1 x2 x3 x6 x7 0 r L := by
  unfold eSq0 sqB dfs dfc
  rw [dP_ld, dM_ld, k4_pay23_apply r _ _ _ l _ _ (brow x0 r) (k4_pay8_apply x4 x0 r h4) (k4_pay11_apply x4 x0 r h4), dhr_row, dot_dcols _ x6 o iw l L hL, qdot_dcols _ x7 o iw l L hL]

theorem eSq1_at : eSq1 x1 x2 (View.ld x6 (dcols o iw)) (ix2 r l) = sqB x0 x1 x2 x3 x6 x7 1 r L := by
  unfold eSq1 sqB
  rw [dM_ld, k4_pay29_apply, k4_pay18_apply, k4_pay19_apply, dhr_row, dot_dcols _ x6 o iw l L hL, dot_dcols _ x6 o iw l L hL]

theorem eSq2_at : eSq2 x1 x3 (View.ld x6 (dcols o iw)) (ix2 r l) = sqB x0 x1 x2 x3 x6 x7 2 r L := by
  unfold eSq2 sqB
  rw [dM_ld, k4_pay29_apply, k4_pay18_apply, k4_pay20_apply, dhr_row, dot_dcols _ x6 o iw l L hL, dot_dcols _ x6 o iw l L hL]

theorem eSq3_at (h5 : Finset.univ.sup (brow x5 r) = amax (brow x1 r)) :
    eSq3 x1 x5 (View.ld x6 (dcols o iw)) (View.ld x7 (dcols o iw)) (ix2 r l) = sqB x0 x1 x2 x3 x6 x7 3 r L := by
  unfold eSq3 sqB
  rw [dP_ld, dM_ld, k4_pay29_apply, k4_pay18_apply, k4_pay21_apply r _ _ l _ (brow x1 r) (k4_pay14_apply x5 x1 r h5) (k4_pay17_apply x5 x1 r h5), dhr_row, dot_dcols _ x6 o iw l L hL, qdot_dcols _ x7 o iw l L hL]

end Sq

/-- The 256 columns of a result block from column `o` on. -/
abbrev ycols (o : Nat) (ih : ∀ a, (![0, o] : Fin 2 → Nat) a + S256x256.size a ≤ S256x1024.size a) : Rect S256x1024 := Rect.unit (s := S256x1024) ![0, o] S256x256.size ih

theorem y_piece (x1 : Vec Ideal S256x4096 .f32) (x6 : Vec Ideal S4096x1024 .bf16) (o : Nat) (iw : ∀ a, (![0, o] : Fin 2 → Nat) a + S4096x256.size a ≤ S4096x1024.size a)
    (ih : ∀ a, (![0, o] : Fin 2 → Nat) a + S256x256.size a ≤ S256x1024.size a) (y : S256x256.Idx) :
    k4_pay22 (dhr x1) (View.ld x6 (dcols o iw)) y = (fun i : S256x1024.Idx => dot (brow x1 (i 0)) (mat x6) (i 1)) ((ycols o ih).emb y) := by
  obtain ⟨a, b, rfl⟩ : ∃ a b : Fin 256, y = ix2 a b := ⟨y 0, y 1, eq_ix2 y⟩
  have e0 : ((ycols o ih).emb (ix2 a b)) 0 = a := Fin.ext (by rw [Rect.emb_apply]; show 0 + 1 * a.val = a.val; omega)
  have e1 : (((ycols o ih).emb (ix2 a b)) 1).val = o + b.val := by rw [Rect.emb_apply]; show o + 1 * b.val = o + b.val; omega
  show _ = dot (brow x1 (((ycols o ih).emb (ix2 a b)) 0)) (mat x6) (((ycols o ih).emb (ix2 a b)) 1)
  rw [e0, k4_pay22_apply, dhr_row]
  exact dot_dcols _ x6 o iw b _ e1

theorem out4_11_apply (x1 : Vec Ideal S256x4096 .f32) (x6 : Vec Ideal S4096x1024 .bf16) (i : S256x1024.Idx) : out4_11 x1 x6 i = dot (brow x1 (i 0)) (mat x6) (i 1) := by
  refine View.canon_apply_of_pieces (Val := Elt Ideal) (e := .bf16) (fun i : S256x1024.Idx => dot (brow x1 (i 0)) (mat x6) (i 1)) _ ?_ i (cover4_y _ _ _ _ _)
  simp only [List.mem_cons, List.not_mem_nil, or_false, forall_eq_or_imp, forall_eq]
  refine ⟨?_, ?_, ?_, ?_⟩ <;> exact y_piece x1 x6 _ _ _

end Cert.KernelIdeal.Hand
end
-- ==== Proof.KernelIdeal.DownSum.lean ====
/- The sums one point of the down region adds up. -/
module

public import proofs.«01_k».proof.Proof.Spec
public import proofs.«01_k».proof.Proof.KernelIdeal.DownBlk
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pipeline (Dat Cfg Window)
open Cert.Spec

/-! ## Sums along the rows -/

theorem foldAdd_apply (e : FVec Ideal S256x256 .f32) (r : Fin 256) (l : Fin 128) :
    foldAdd e (ix2 r l) = e (ix2 r ⟨l.val, by omega⟩) + e (ix2 r ⟨128 + l.val, by omega⟩) := by
  pointwise [foldAdd]

theorem sum8 (f : Fin 8 → EReal) : f 0 + f 1 + (f 2 + f 3) + (f 4 + f 5) + (f 6 + f 7) = ∑ q, f q := by
  rw [Fin.sum_univ_eight]; simp only [add_assoc]

/-- The four folded chunks of a row, added lane by lane: the row's sum. -/
theorem rowsum (e0 e1 e2 e3 : FVec Ideal S256x256 .f32) (r : Fin 256) (E : Fin 1024 → EReal)
    (h0 : ∀ (l : Fin 256) (L : Fin 1024), L.val = 0 + l.val → e0 (ix2 r l) = E L) (h1 : ∀ (l : Fin 256) (L : Fin 1024), L.val = 256 + l.val → e1 (ix2 r l) = E L)
    (h2 : ∀ (l : Fin 256) (L : Fin 1024), L.val = 512 + l.val → e2 (ix2 r l) = E L) (h3 : ∀ (l : Fin 256) (L : Fin 1024), L.val = 768 + l.val → e3 (ix2 r l) = E L) :
    ∑ l : Fin 128, addf (addf (addf (foldAdd e0) (foldAdd e1)) (foldAdd e2)) (foldAdd e3) (ix2 r l) = ∑ d, E d := by
  rw [Fin.sum_univ_tiles 8 128 rfl E, Finset.sum_comm]
  refine Finset.sum_congr rfl fun l _ => ?_
  pointwise []
  simp only [foldAdd_apply]
  rw [h0 _ ⟨0 * 128 + l.val, by omega⟩ (by simp), h0 _ ⟨1 * 128 + l.val, by omega⟩ (by simp), h1 _ ⟨2 * 128 + l.val, by omega⟩ (by simp), h1 _ ⟨3 * 128 + l.val, by omega⟩ (by simp; omega),
    h2 _ ⟨4 * 128 + l.val, by omega⟩ (by simp), h2 _ ⟨5 * 128 + l.val, by omega⟩ (by simp; omega), h3 _ ⟨6 * 128 + l.val, by omega⟩ (by simp), h3 _ ⟨7 * 128 + l.val, by omega⟩ (by simp; omega)]
  exact sum8 fun q : Fin 8 => E ⟨q.val * 128 + l.val, by omega⟩

theorem k4_pay122_apply (v : FVec Ideal S256x128 .f32) (r : Fin 256) : k4_pay122 v (ix3 0 0 r) = ∑ l, v (ix2 r l) := by
  pointwise [k4_pay122]
  by_cases h : r.val < 128
  · simp only [dif_pos h]
  · simp only [dif_neg h]
    exact congrArg (fun q : Fin 256 => ∑ l, v (ix2 q l)) (Fin.ext (by show 128 + (r.val - 128) = r.val; omega))

theorem k4_pay127_apply (v : FVec Ideal S256x128 .f32) (r : Fin 256) : k4_pay127 v (ix2 0 r) = ∑ l, v (ix2 r l) := by
  pointwise [k4_pay127]
  by_cases h : r.val < 128
  · simp only [dif_pos h]
  · simp only [dif_neg h]
    exact congrArg (fun q : Fin 256 => ∑ l, v (ix2 q l)) (Fin.ext (by show 128 + (r.val - 128) = r.val; omega))

section Rows

variable (x0 x1 : Vec Ideal S256x4096 .f32) (x2 x3 : Vec Ideal S256x4096 .bf16) (x4 x5 : Vec Ideal S256x256 .f32) (x6 x7 : Vec Ideal S4096x1024 .bf16) (r : Fin 256)

theorem stRow_apply : stRow x1 x6 (ix2 0 r) = ∑ d, dot (brow x1 r) (mat x6) d * dot (brow x1 r) (mat x6) d :=
  (k4_pay127_apply _ r).trans (rowsum _ _ _ _ r (fun d => dot (brow x1 r) (mat x6) d * dot (brow x1 r) (mat x6) d)
    (ySq_at r x1 x6 _ _) (ySq_at r x1 x6 _ _) (ySq_at r x1 x6 _ _) (ySq_at r x1 x6 _ _))

theorem etRow0_apply (h4 : Finset.univ.sup (brow x4 r) = amax (brow x0 r)) : etRow0 x0 x1 x4 x6 x7 (ix3 0 0 r) = ∑ d, sqB x0 x1 x2 x3 x6 x7 0 r d :=
  (k4_pay122_apply _ r).trans (rowsum _ _ _ _ r (sqB x0 x1 x2 x3 x6 x7 0 r)
    (fun l L h => eSq0_at r x0 x1 x2 x3 x4 x6 x7 _ _ l L h h4) (fun l L h => eSq0_at r x0 x1 x2 x3 x4 x6 x7 _ _ l L h h4)
    (fun l L h => eSq0_at r x0 x1 x2 x3 x4 x6 x7 _ _ l L h h4) (fun l L h => eSq0_at r x0 x1 x2 x3 x4 x6 x7 _ _ l L h h4))

theorem etRow1_apply : etRow1 x1 x2 x6 (ix3 0 0 r) = ∑ d, sqB x0 x1 x2 x3 x6 x7 1 r d :=
  (k4_pay122_apply _ r).trans (rowsum _ _ _ _ r (sqB x0 x1 x2 x3 x6 x7 1 r)
    (eSq1_at r x0 x1 x2 x3 x6 x7 _ _) (eSq1_at r x0 x1 x2 x3 x6 x7 _ _) (eSq1_at r x0 x1 x2 x3 x6 x7 _ _) (eSq1_at r x0 x1 x2 x3 x6 x7 _ _))

theorem etRow2_apply : etRow2 x1 x3 x6 (ix3 0 0 r) = ∑ d, sqB x0 x1 x2 x3 x6 x7 2 r d :=
  (k4_pay122_apply _ r).trans (rowsum _ _ _ _ r (sqB x0 x1 x2 x3 x6 x7 2 r)
    (eSq2_at r x0 x1 x2 x3 x6 x7 _ _) (eSq2_at r x0 x1 x2 x3 x6 x7 _ _) (eSq2_at r x0 x1 x2 x3 x6 x7 _ _) (eSq2_at r x0 x1 x2 x3 x6 x7 _ _))

theorem etRow3_apply (h5 : Finset.univ.sup (brow x5 r) = amax (brow x1 r)) : etRow3 x1 x5 x6 x7 (ix3 0 0 r) = ∑ d, sqB x0 x1 x2 x3 x6 x7 3 r d :=
  (k4_pay122_apply _ r).trans (rowsum _ _ _ _ r (sqB x0 x1 x2 x3 x6 x7 3 r)
    (fun l L h => eSq3_at r x0 x1 x2 x3 x5 x6 x7 _ _ l L h h5) (fun l L h => eSq3_at r x0 x1 x2 x3 x5 x6 x7 _ _ l L h h5)
    (fun l L h => eSq3_at r x0 x1 x2 x3 x5 x6 x7 _ _ l L h h5) (fun l L h => eSq3_at r x0 x1 x2 x3 x5 x6 x7 _ _ l L h h5))

end Rows

/-! ## Sums along the columns -/

theorem sum32 (f : Fin 32 → EReal) : f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 = ∑ g, f g := by
  simp only [Fin.sum_univ_castSucc, Fin.sum_univ_zero, zero_add]; rfl

theorem colSum8_apply (e : FVec Ideal S256x256 .f32) (i : Fin 8) (l : Fin 256) : colSum8 e (ix2 i l) = ∑ g : Fin 32, e (ix2 ⟨8 * g.val + i.val, by omega⟩ l) := by
  pointwise [colSum8]
  rw [show e (ix2 ⟨i.val, by omega⟩ l) = e (ix2 ⟨8 * (0 : Fin 32).val + i.val, by show 8 * 0 + i.val < 256; omega⟩ l) from
    congrArg (fun q => e (ix2 q l)) (Fin.ext (by show i.val = 8 * 0 + i.val; omega))]
  exact sum32 fun g : Fin 32 => e (ix2 ⟨8 * g.val + i.val, by omega⟩ l)

/-- Four rows of the accumulator's plane `k`, 256 columns from column `o` on. -/
abbrev acols (k : Fin 4) (o : Nat) (ia : ∀ a, (![k.val, 0, o] : Fin 3 → Nat) a + S1x8x256.size a ≤ S4x8x1024.size a) : Rect S4x8x1024 :=
  Rect.unit (s := S4x8x1024) ![k.val, 0, o] S1x8x256.size ia

/-- Two places of a stack of matrices with equal coordinates are one. -/
theorem ix3_of_val {m n p : Nat} {z w : (⟨3, ![m, n, p]⟩ : Shape).Idx} (h0 : (z 0).val = (w 0).val) (h1 : (z 1).val = (w 1).val) (h2 : (z 2).val = (w 2).val) : z = w :=
  funext fun a => Fin.ext (match a with | ⟨0, _⟩ => h0 | ⟨1, _⟩ => h1 | ⟨2, _⟩ => h2)

theorem acc_piece (a : Vec Ideal S4x8x1024 .f32) (e : FVec Ideal S256x256 .f32) (E : Fin 4 → Fin 256 → Fin 1024 → EReal) (k : Fin 4) (o : Nat)
    (ia : ∀ b, (![k.val, 0, o] : Fin 3 → Nat) b + S1x8x256.size b ≤ S4x8x1024.size b)
    (he : ∀ (r l : Fin 256) (L : Fin 1024), L.val = o + l.val → e (ix2 r l) = E k r L) (x : S1x8x256.Idx) :
    accPiece (View.ld a (acols k o ia)) e x = (fun z : S4x8x1024.Idx => a z + ∑ g : Fin 32, E (z 0) ⟨8 * g.val + (z 1).val, by have := (z 1).isLt; have h : (z 1).val < 8 := this; omega⟩ (z 2)) ((acols k o ia).emb x) := by
  obtain ⟨u, i, l, rfl⟩ : ∃ (u : Fin 1) (i : Fin 8) (l : Fin 256), x = ix3 u i l := ⟨x 0, x 1, x 2, eq_ix3 x⟩
  have ho : o + 256 ≤ 1024 := ia 2
  have ez : (acols k o ia).emb (ix3 u i l) = ix3 k i ⟨o + l.val, by omega⟩ :=
    ix3_of_val (by rw [Rect.emb_apply]; show k.val + 1 * u.val = k.val; omega) (by rw [Rect.emb_apply]; show 0 + 1 * i.val = i.val; omega) (by rw [Rect.emb_apply]; show o + 1 * l.val = o + l.val; omega)
  rw [ez]
  have e1 : accPiece (View.ld a (acols k o ia)) e (ix3 u i l) = a ((acols k o ia).emb (ix3 u i l)) + colSum8 e (ix2 i l) := by
    pointwise [accPiece]
    rw [ez]
  rw [e1, ez, colSum8_apply]
  exact congrArg (a _ + ·) (Finset.sum_congr rfl fun g _ => he _ l _ rfl)

theorem accStep_apply (x0 x1 : Vec Ideal S256x4096 .f32) (x2 x3 : Vec Ideal S256x4096 .bf16) (x4 x5 : Vec Ideal S256x256 .f32) (x6 x7 : Vec Ideal S4096x1024 .bf16) (a : Vec Ideal S4x8x1024 .f32)
    (h4 : ∀ r, Finset.univ.sup (brow x4 r) = amax (brow x0 r)) (h5 : ∀ r, Finset.univ.sup (brow x5 r) = amax (brow x1 r)) (k : Fin 4) (i : Fin 8) (d : Fin 1024) :
    accStep x0 x1 x2 x3 x4 x5 x6 x7 a (ix3 k i d) = a (ix3 k i d) + ∑ g : Fin 32, sqB x0 x1 x2 x3 x6 x7 k ⟨8 * g.val + i.val, by omega⟩ d := by
  refine View.canon_apply_of_pieces (Val := Elt Ideal) (e := .f32) (fun z : S4x8x1024.Idx => a z + ∑ g : Fin 32, sqB x0 x1 x2 x3 x6 x7 (z 0) ⟨8 * g.val + (z 1).val, by have := (z 1).isLt; have h : (z 1).val < 8 := this; omega⟩ (z 2)) _ ?_ (ix3 k i d) (cover4_a _ _ _ _ _ _ _ _ _ _ _ _ _ _ _ _ _)
  simp only [List.mem_cons, List.not_mem_nil, or_false, forall_eq_or_imp, forall_eq]
  refine ⟨?_, ?_, ?_, ?_, ?_, ?_, ?_, ?_, ?_, ?_, ?_, ?_, ?_, ?_, ?_, ?_⟩
  iterate 4
    exact fun x => acc_piece a _ (sqB x0 x1 x2 x3 x6 x7) 3 _ _ (fun r l L h => eSq3_at r x0 x1 x2 x3 x5 x6 x7 _ _ l L h (h5 r)) x
    exact fun x => acc_piece a _ (sqB x0 x1 x2 x3 x6 x7) 2 _ _ (fun r l L h => eSq2_at r x0 x1 x2 x3 x6 x7 _ _ l L h) x
    exact fun x => acc_piece a _ (sqB x0 x1 x2 x3 x6 x7) 1 _ _ (fun r l L h => eSq1_at r x0 x1 x2 x3 x6 x7 _ _ l L h) x
    exact fun x => acc_piece a _ (sqB x0 x1 x2 x3 x6 x7) 0 _ _ (fun r l L h => eSq0_at r x0 x1 x2 x3 x4 x6 x7 _ _ l L h (h4 r)) x

theorem k4_pay2_apply (z : S4x8x1024.Idx) : k4_pay2 (F := Ideal) z = 0 := by
  rw [eq_ix3 z]
  pointwise [k4_pay2]

theorem all_emb (x : S4x8x1024.Idx) : dAll.emb x = x :=
  ix3_of_val (by rw [Rect.emb_apply]; show 0 + 1 * (x 0).val = _; omega) (by rw [Rect.emb_apply]; show 0 + 1 * (x 1).val = _; omega) (by rw [Rect.emb_apply]; show 0 + 1 * (x 2).val = _; omega)

theorem ecOut_apply (a : Vec Ideal S4x8x1024 .f32) (k : Fin 4) (d : Fin 1024) : ecOut a (ix2 k d) = ∑ i : Fin 8, a (ix3 k i d) := by
  refine View.canon_apply_of_pieces (Val := Elt Ideal) (e := .f32) (fun y : S4x1024.Idx => ∑ i : Fin 8, a (ix3 (y 0) i (y 1))) _ ?_ (ix2 k d) (cover4_e _ _)
  simp only [List.mem_cons, List.not_mem_nil, or_false, forall_eq]
  intro y
  rw [show dE.emb y = y from full_emb _ y]
  obtain ⟨k, d, rfl⟩ : ∃ (k : Fin 4) (d : Fin 1024), y = ix2 k d := ⟨y 0, y 1, eq_ix2 y⟩
  rw [show View.ld a dAll = a from funext fun j => congrArg a (all_emb j)]
  pointwise [k4_pay1]

end Cert.KernelIdeal.Hand
end
-- ==== Proof.KernelIdeal.DownArr.lean ====
/- What the down region leaves in its arrays. -/
module

public import proofs.«01_k».proof.Proof.Spec
public import proofs.«01_k».proof.Proof.KernelIdeal.DownSum
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pipeline (Dat Cfg Window)
open Cert.Spec

variable (V : (c : Dev nD) → (b : Ref sig .tc) → Buf (Elt Ideal) ((c : Thread nD τ).loc b))

theorem index4_0 : ∀ t : Fin cfg4.N, win4_0.index t = ![t.val, 0] := by decide +kernel
theorem index4_1 : ∀ t : Fin cfg4.N, win4_1.index t = ![t.val, 0] := by decide +kernel
theorem index4_2 : ∀ t : Fin cfg4.N, win4_2.index t = ![t.val, 0] := by decide +kernel
theorem index4_3 : ∀ t : Fin cfg4.N, win4_3.index t = ![t.val, 0] := by decide +kernel
theorem index4_4 : ∀ t : Fin cfg4.N, win4_4.index t = ![t.val, 0] := by decide +kernel
theorem index4_5 : ∀ t : Fin cfg4.N, win4_5.index t = ![t.val, 0] := by decide +kernel
theorem index4_6 : ∀ t : Fin cfg4.N, win4_6.index t = ![0, 0] := by decide +kernel
theorem index4_7 : ∀ t : Fin cfg4.N, win4_7.index t = ![0, 0] := by decide +kernel
theorem index4_8 : ∀ t : Fin cfg4.N, win4_8.index t = ![0, 0, 0] := by decide +kernel
theorem index4_9 : ∀ t : Fin cfg4.N, win4_9.index t = ![0, 0] := by decide +kernel
theorem index4_10 : ∀ t : Fin cfg4.N, win4_10.index t = ![0, 0] := by decide +kernel
theorem index4_11 : ∀ t : Fin cfg4.N, win4_11.index t = ![t.val, 0] := by decide +kernel
theorem index4_12 : ∀ t : Fin cfg4.N, win4_12.index t = ![t.val, 0] := by decide +kernel
theorem index4_13 : ∀ t : Fin cfg4.N, win4_13.index t = ![0, 0] := by decide +kernel
theorem index4_14 : ∀ t : Fin cfg4.N, win4_14.index t = ![t.val, 0] := by decide +kernel
theorem index4_15 : ∀ t : Fin cfg4.N, win4_15.index t = ![0, 0] := by decide +kernel

theorem brow_iblk4_0 (c : Dev nD) (t : Fin cfg4.N) (r : Fin 256) (R : Fin 9216) (h : R.val = t.val * 256 + r.val) :
    brow (iblk4 V c 0 t) r = brow (V c main_v4_2 : S9216x4096.Idx → EReal) R := by
  funext k
  show V c main_v4_2 ((win4_0.rect t).emb (ix2 r k)) = V c main_v4_2 (ix2 R k)
  refine congrArg _ (ix2_of_val ?_ ?_)
  · rw [win4_0.rect_emb_val t (ix2 r k) 0 rfl, index4_0 t]; exact h.symm
  · rw [win4_0.rect_emb_val t (ix2 r k) 1 rfl, index4_0 t]; show 0 * 4096 + k.val = k.val; omega

theorem brow_iblk4_1 (c : Dev nD) (t : Fin cfg4.N) (r : Fin 256) (R : Fin 9216) (h : R.val = t.val * 256 + r.val) :
    brow (iblk4 V c 1 t) r = brow (V c main_v4_3 : S9216x4096.Idx → EReal) R := by
  funext k
  show V c main_v4_3 ((win4_1.rect t).emb (ix2 r k)) = V c main_v4_3 (ix2 R k)
  refine congrArg _ (ix2_of_val ?_ ?_)
  · rw [win4_1.rect_emb_val t (ix2 r k) 0 rfl, index4_1 t]; exact h.symm
  · rw [win4_1.rect_emb_val t (ix2 r k) 1 rfl, index4_1 t]; show 0 * 4096 + k.val = k.val; omega

theorem brow_iblk4_2 (c : Dev nD) (t : Fin cfg4.N) (r : Fin 256) (R : Fin 9216) (h : R.val = t.val * 256 + r.val) :
    brow (iblk4 V c 2 t) r = brow (V c main_v4_4 : S9216x4096.Idx → EReal) R := by
  funext k
  show V c main_v4_4 ((win4_2.rect t).emb (ix2 r k)) = V c main_v4_4 (ix2 R k)
  refine congrArg _ (ix2_of_val ?_ ?_)
  · rw [win4_2.rect_emb_val t (ix2 r k) 0 rfl, index4_2 t]; exact h.symm
  · rw [win4_2.rect_emb_val t (ix2 r k) 1 rfl, index4_2 t]; show 0 * 4096 + k.val = k.val; omega

theorem brow_iblk4_3 (c : Dev nD) (t : Fin cfg4.N) (r : Fin 256) (R : Fin 9216) (h : R.val = t.val * 256 + r.val) :
    brow (iblk4 V c 3 t) r = brow (V c main_v4_5 : S9216x4096.Idx → EReal) R := by
  funext k
  show V c main_v4_5 ((win4_3.rect t).emb (ix2 r k)) = V c main_v4_5 (ix2 R k)
  refine congrArg _ (ix2_of_val ?_ ?_)
  · rw [win4_3.rect_emb_val t (ix2 r k) 0 rfl, index4_3 t]; exact h.symm
  · rw [win4_3.rect_emb_val t (ix2 r k) 1 rfl, index4_3 t]; show 0 * 4096 + k.val = k.val; omega

theorem brow_iblk4_4 (c : Dev nD) (t : Fin cfg4.N) (r : Fin 256) (R : Fin 9216) (h : R.val = t.val * 256 + r.val) :
    brow (iblk4 V c 4 t) r = brow (V c main_v4_6 : S9216x256.Idx → EReal) R := by
  funext k
  show V c main_v4_6 ((win4_4.rect t).emb (ix2 r k)) = V c main_v4_6 (ix2 R k)
  refine congrArg _ (ix2_of_val ?_ ?_)
  · rw [win4_4.rect_emb_val t (ix2 r k) 0 rfl, index4_4 t]; exact h.symm
  · rw [win4_4.rect_emb_val t (ix2 r k) 1 rfl, index4_4 t]; show 0 * 256 + k.val = k.val; omega

theorem brow_iblk4_5 (c : Dev nD) (t : Fin cfg4.N) (r : Fin 256) (R : Fin 9216) (h : R.val = t.val * 256 + r.val) :
    brow (iblk4 V c 5 t) r = brow (V c main_v4_7 : S9216x256.Idx → EReal) R := by
  funext k
  show V c main_v4_7 ((win4_5.rect t).emb (ix2 r k)) = V c main_v4_7 (ix2 R k)
  refine congrArg _ (ix2_of_val ?_ ?_)
  · rw [win4_5.rect_emb_val t (ix2 r k) 0 rfl, index4_5 t]; exact h.symm
  · rw [win4_5.rect_emb_val t (ix2 r k) 1 rfl, index4_5 t]; show 0 * 256 + k.val = k.val; omega

theorem iblk4_6_eq (c : Dev nD) (t : Fin cfg4.N) : iblk4 V c 6 t = (V c main_arg3 : S4096x1024.Idx → EReal) := by
  funext j
  show V c main_arg3 ((win4_6.rect t).emb j) = V c main_arg3 j
  refine congrArg _ (ix2_of_val ?_ ?_)
  · rw [win4_6.rect_emb_val t j 0 rfl, index4_6 t]; show 0 * 4096 + (j 0).val = _; omega
  · rw [win4_6.rect_emb_val t j 1 rfl, index4_6 t]; show 0 * 1024 + (j 1).val = _; omega

theorem iblk4_7_eq (c : Dev nD) (t : Fin cfg4.N) : iblk4 V c 7 t = (V c main_v2 : S4096x1024.Idx → EReal) := by
  funext j
  show V c main_v2 ((win4_7.rect t).emb j) = V c main_v2 j
  refine congrArg _ (ix2_of_val ?_ ?_)
  · rw [win4_7.rect_emb_val t j 0 rfl, index4_7 t]; show 0 * 4096 + (j 0).val = _; omega
  · rw [win4_7.rect_emb_val t j 1 rfl, index4_7 t]; show 0 * 1024 + (j 1).val = _; omega

/-- The result row `R`. -/
def yG (c : Dev nD) (R : Fin 9216) : Fin 1024 → EReal := dot (brow (V c main_v4_3 : S9216x4096.Idx → EReal) R) (mat (V c main_arg3 : S4096x1024.Idx → EReal))

/-- The squared difference of variant `k` at row `R`, column `d`. -/
def sqG (c : Dev nD) (k : Fin 4) (R : Fin 9216) (d : Fin 1024) : EReal :=
  sqdiff (match k with
    | 0 => qdot (brow (V c main_v4_2 : S9216x4096.Idx → EReal) R) (mat (V c main_v2 : S4096x1024.Idx → EReal)) d
    | 1 => dot (brow (V c main_v4_4 : S9216x4096.Idx → EReal) R) (mat (V c main_arg3 : S4096x1024.Idx → EReal)) d
    | 2 => dot (brow (V c main_v4_5 : S9216x4096.Idx → EReal) R) (mat (V c main_arg3 : S4096x1024.Idx → EReal)) d
    | 3 => qdot (brow (V c main_v4_3 : S9216x4096.Idx → EReal) R) (mat (V c main_v2 : S4096x1024.Idx → EReal)) d) (yG V c R d)

theorem sqB_iblk4 (c : Dev nD) (t : Fin cfg4.N) (k : Fin 4) (r : Fin 256) (R : Fin 9216) (h : R.val = t.val * 256 + r.val) (d : Fin 1024) :
    sqB (iblk4 V c 0 t) (iblk4 V c 1 t) (iblk4 V c 2 t) (iblk4 V c 3 t) (iblk4 V c 6 t) (iblk4 V c 7 t) k r d = sqG V c k R d := by
  unfold sqB sqG yG
  rw [brow_iblk4_0 V c t r R h, brow_iblk4_1 V c t r R h, brow_iblk4_2 V c t r R h, brow_iblk4_3 V c t r R h, iblk4_6_eq V c t, iblk4_7_eq V c t]
  match k with
  | 0 => rfl
  | 1 => rfl
  | 2 => rfl
  | 3 => rfl

theorem ptOf_row (y0 : Fin 6) (y1 : Fin 1536) (R : Fin 9216) (h : R.val = 1536 * y0.val + y1.val) :
    R.val = (ptOf y0 y1).val * 256 + (⟨y1.val % 256, Nat.mod_lt _ (by omega)⟩ : Fin 256).val := by
  show R.val = (6 * y0.val + y1.val / 256) * 256 + y1.val % 256
  omega

theorem stAll4_apply (c : Dev nD) (y : S6x1536.Idx) (R : Fin 9216) (h : R.val = 1536 * (y 0).val + (y 1).val) : stAll4 V c y = ∑ d, yG V c R d * yG V c R d := by
  have key : ∀ (t : Fin cfg4.N) (r : Fin 256), R.val = t.val * 256 + r.val → stRow (iblk4 V c 1 t) (iblk4 V c 6 t) (ix2 0 r) = ∑ d, yG V c R d * yG V c R d := fun t r hR => by
    unfold yG
    rw [stRow_apply, brow_iblk4_1 V c t r R hR, iblk4_6_eq V c]
  exact key (ptOf (y 0) (y 1)) ⟨(y 1).val % 256, Nat.mod_lt _ (by omega)⟩ (ptOf_row (y 0) (y 1) R h)

section Peaks

variable (c : Dev nD)
  (hf : ∀ R : Fin 9216, Finset.univ.sup (brow (V c main_v4_6 : S9216x256.Idx → EReal) R) = amax (brow (V c main_v4_2 : S9216x4096.Idx → EReal) R))
  (hr : ∀ R : Fin 9216, Finset.univ.sup (brow (V c main_v4_7 : S9216x256.Idx → EReal) R) = amax (brow (V c main_v4_3 : S9216x4096.Idx → EReal) R))

include hf in
theorem peak_f (t : Fin cfg4.N) (r : Fin 256) : Finset.univ.sup (brow (iblk4 V c 4 t) r) = amax (brow (iblk4 V c 0 t) r) := by
  have ht : t.val < 36 := t.isLt
  rw [brow_iblk4_4 V c t r ⟨t.val * 256 + r.val, by omega⟩ rfl, brow_iblk4_0 V c t r ⟨t.val * 256 + r.val, by omega⟩ rfl]
  exact hf _

include hr in
theorem peak_r (t : Fin cfg4.N) (r : Fin 256) : Finset.univ.sup (brow (iblk4 V c 5 t) r) = amax (brow (iblk4 V c 1 t) r) := by
  have ht : t.val < 36 := t.isLt
  rw [brow_iblk4_5 V c t r ⟨t.val * 256 + r.val, by omega⟩ rfl, brow_iblk4_1 V c t r ⟨t.val * 256 + r.val, by omega⟩ rfl]
  exact hr _

include hf in
theorem fsAll4_apply (y : S6x1536.Idx) (R : Fin 9216) (h : R.val = 1536 * (y 0).val + (y 1).val) : fsAll4 V c y = rscale (brow (V c main_v4_2 : S9216x4096.Idx → EReal) R) := by
  have key : ∀ (t : Fin cfg4.N) (r : Fin 256), R.val = t.val * 256 + r.val → fsRow (iblk4 V c 4 t) (ix2 0 r) = rscale (brow (V c main_v4_2 : S9216x4096.Idx → EReal) R) := fun t r hR => by
    rw [fsRow_apply, brow_iblk4_4 V c t r R hR, hf]; rfl
  exact key (ptOf (y 0) (y 1)) ⟨(y 1).val % 256, Nat.mod_lt _ (by omega)⟩ (ptOf_row (y 0) (y 1) R h)

include hr in
theorem rsAll4_apply (y : S6x1536.Idx) (R : Fin 9216) (h : R.val = 1536 * (y 0).val + (y 1).val) : rsAll4 V c y = rscale (brow (V c main_v4_3 : S9216x4096.Idx → EReal) R) := by
  have key : ∀ (t : Fin cfg4.N) (r : Fin 256), R.val = t.val * 256 + r.val → rsRow (iblk4 V c 5 t) (ix2 0 r) = rscale (brow (V c main_v4_3 : S9216x4096.Idx → EReal) R) := fun t r hR => by
    rw [rsRow_apply, brow_iblk4_5 V c t r R hR, hr]; rfl
  exact key (ptOf (y 0) (y 1)) ⟨(y 1).val % 256, Nat.mod_lt _ (by omega)⟩ (ptOf_row (y 0) (y 1) R h)

include hf hr in
theorem etAll4_apply (y : S4x6x1536.Idx) (R : Fin 9216) (h : R.val = 1536 * (y 1).val + (y 2).val) : etAll4 V c y = ∑ d, sqG V c (y 0) R d := by
  have key : ∀ (k : Fin 4) (t : Fin cfg4.N) (r : Fin 256), R.val = t.val * 256 + r.val → etRows4 V c k t (ix3 0 0 r) = ∑ d, sqG V c k R d := by
    intro k t r hR
    match k with
    | 0 => exact (etRow0_apply _ _ (iblk4 V c 2 t) (iblk4 V c 3 t) _ _ _ r (peak_f V c hf t r)).trans (Finset.sum_congr rfl fun d _ => sqB_iblk4 V c t 0 r R hR d)
    | 1 => exact (etRow1_apply (iblk4 V c 0 t) _ _ (iblk4 V c 3 t) _ (iblk4 V c 7 t) r).trans (Finset.sum_congr rfl fun d _ => sqB_iblk4 V c t 1 r R hR d)
    | 2 => exact (etRow2_apply (iblk4 V c 0 t) _ (iblk4 V c 2 t) _ _ (iblk4 V c 7 t) r).trans (Finset.sum_congr rfl fun d _ => sqB_iblk4 V c t 2 r R hR d)
    | 3 => exact (etRow3_apply (iblk4 V c 0 t) _ (iblk4 V c 2 t) (iblk4 V c 3 t) _ _ _ r (peak_r V c hr t r)).trans (Finset.sum_congr rfl fun d _ => sqB_iblk4 V c t 3 r R hR d)
  exact key (y 0) (ptOf (y 1) (y 2)) ⟨(y 2).val % 256, Nat.mod_lt _ (by omega)⟩ (ptOf_row (y 1) (y 2) R h)

include hf hr in
theorem accN_apply (k : Fin 4) (i : Fin 8) (d : Fin 1024) : ∀ n ≤ 36, accN V c n (ix3 k i d)
    = ∑ t ∈ Finset.range n, if h : t < 36 then ∑ g : Fin 32, sqG V c k ⟨t * 256 + (g.val * 8 + i.val), by omega⟩ d else 0 := by
  intro n
  induction n with
  | zero => intro _; exact k4_pay2_apply _
  | succ n ih =>
    intro hn
    rw [Finset.sum_range_succ, ← ih (by omega), dif_pos (by omega : n < 36)]
    refine (congrFun (accN_succ V c ⟨n, by rw [N4]; omega⟩) (ix3 k i d)).trans ?_
    rw [accStep_apply _ _ _ _ _ _ _ _ _ (peak_f V c hf _) (peak_r V c hr _)]
    exact congrArg (accN V c n (ix3 k i d) + ·) (Finset.sum_congr rfl fun g _ => sqB_iblk4 V c _ k _ _ (by show n * 256 + (g.val * 8 + i.val) = n * 256 + (8 * g.val + i.val); omega) d)

include hf hr in
theorem ecAll4_apply (k : Fin 4) (d : Fin 1024) : ecAll4 V c (ix2 k d) = ∑ R, sqG V c k R d := by
  unfold ecAll4
  rw [ecOut_apply, Fin.sum_univ_tiles 36 256 rfl (fun R => sqG V c k R d)]
  simp only [accN_apply V c hf hr k _ d 36 le_rfl]
  rw [Finset.sum_comm, Finset.sum_range]
  refine Finset.sum_congr rfl fun t _ => ?_
  simp only [dif_pos t.isLt]
  rw [Fin.sum_univ_tiles 32 8 rfl, Finset.sum_comm]

include hf in
theorem arr4_12 : (dat4 V c).arrAt 12 cfg4.N = (fun y => rcode (brow (V c main_v4_2 : S9216x4096.Idx → EReal) (y 0)) (y 1) : S9216x4096.Idx → BitVec 8) := by
  refine (dat4 V c).arrAt_eq_of_covers 12 _ (by decide +kernel) fun t hfl y => ?_
  blk_simp
  rw [after4_12]
  have e0 := win4_12.rect_emb_val t y 0 rfl
  have e1 := win4_12.rect_emb_val t y 1 rfl
  rw [index4_12 t] at e0 e1
  replace e0 : (((win4_12.blk t).view.emb y) 0).val = t.val * 256 + (y 0).val := e0
  replace e1 : (((win4_12.blk t).view.emb y) 1).val = 0 * 4096 + (y 1).val := e1
  refine (congrArg _ (eq_ix2 y)).trans ((out4_12_apply _ _ (y 0) (peak_f V c hf t) (y 1)).trans ?_)
  rw [brow_iblk4_0 V c t _ _ e0]
  exact congrArg (rcode _) (Fin.ext (by rw [e1]; omega))

include hr in
theorem arr4_14 : (dat4 V c).arrAt 14 cfg4.N = (fun y => rcode (brow (V c main_v4_3 : S9216x4096.Idx → EReal) (y 0)) (y 1) : S9216x4096.Idx → BitVec 8) := by
  refine (dat4 V c).arrAt_eq_of_covers 14 _ (by decide +kernel) fun t hfl y => ?_
  blk_simp
  rw [after4_14]
  have e0 := win4_14.rect_emb_val t y 0 rfl
  have e1 := win4_14.rect_emb_val t y 1 rfl
  rw [index4_14 t] at e0 e1
  replace e0 : (((win4_14.blk t).view.emb y) 0).val = t.val * 256 + (y 0).val := e0
  replace e1 : (((win4_14.blk t).view.emb y) 1).val = 0 * 4096 + (y 1).val := e1
  refine (congrArg _ (eq_ix2 y)).trans ((out4_14_apply _ _ (y 0) (peak_r V c hr t) (y 1)).trans ?_)
  rw [brow_iblk4_1 V c t _ _ e0]
  exact congrArg (rcode _) (Fin.ext (by rw [e1]; omega))

end Peaks

theorem arr4_11 (c : Dev nD) : (dat4 V c).arrAt 11 cfg4.N = (fun y => yG V c (y 0) (y 1) : S9216x1024.Idx → EReal) := by
  refine (dat4 V c).arrAt_eq_of_covers 11 _ (by decide +kernel) fun t hfl y => ?_
  blk_simp
  rw [after4_11]
  have e0 := win4_11.rect_emb_val t y 0 rfl
  have e1 := win4_11.rect_emb_val t y 1 rfl
  rw [index4_11 t] at e0 e1
  replace e0 : (((win4_11.blk t).view.emb y) 0).val = t.val * 256 + (y 0).val := e0
  replace e1 : (((win4_11.blk t).view.emb y) 1).val = 0 * 1024 + (y 1).val := e1
  rw [out4_11_apply, brow_iblk4_1 V c t _ _ e0, iblk4_6_eq V c t]
  exact congrArg (yG V c _) (Fin.ext (by rw [e1]; omega))

theorem arr4_8 (c : Dev nD) : (dat4 V c).arrAt 8 cfg4.N = (fun y => etAll4 V c y : S4x6x1536.Idx → EReal) := by
  refine (dat4 V c).arrAt_eq_of_covers 8 _ (by decide +kernel) fun t hfl y => ?_
  blk_simp
  rw [after4_8]
  have e0 := win4_8.rect_emb_val t y 0 rfl
  have e1 := win4_8.rect_emb_val t y 1 rfl
  have e2 := win4_8.rect_emb_val t y 2 rfl
  rw [index4_8 t] at e0 e1 e2
  replace e0 : (((win4_8.blk t).view.emb y) 0).val = 0 * 4 + (y 0).val := e0
  replace e1 : (((win4_8.blk t).view.emb y) 1).val = 0 * 6 + (y 1).val := e1
  replace e2 : (((win4_8.blk t).view.emb y) 2).val = 0 * 1536 + (y 2).val := e2
  exact congrArg (etAll4 V c) (ix3_of_val (by omega) (by omega) (by omega))

theorem arr4_9 (c : Dev nD) : (dat4 V c).arrAt 9 cfg4.N = (fun y => ecAll4 V c y : S4x1024.Idx → EReal) := by
  refine (dat4 V c).arrAt_eq_of_covers 9 _ (by decide +kernel) fun t hfl y => ?_
  blk_simp
  rw [after4_9]
  have e0 := win4_9.rect_emb_val t y 0 rfl
  have e1 := win4_9.rect_emb_val t y 1 rfl
  rw [index4_9 t] at e0 e1
  replace e0 : (((win4_9.blk t).view.emb y) 0).val = 0 * 4 + (y 0).val := e0
  replace e1 : (((win4_9.blk t).view.emb y) 1).val = 0 * 1024 + (y 1).val := e1
  exact congrArg (ecAll4 V c) (ix2_of_val (by omega) (by omega))

theorem arr4_10 (c : Dev nD) : (dat4 V c).arrAt 10 cfg4.N = (fun y => stAll4 V c y : S6x1536.Idx → EReal) := by
  refine (dat4 V c).arrAt_eq_of_covers 10 _ (by decide +kernel) fun t hfl y => ?_
  blk_simp
  rw [after4_10]
  have e0 := win4_10.rect_emb_val t y 0 rfl
  have e1 := win4_10.rect_emb_val t y 1 rfl
  rw [index4_10 t] at e0 e1
  replace e0 : (((win4_10.blk t).view.emb y) 0).val = 0 * 6 + (y 0).val := e0
  replace e1 : (((win4_10.blk t).view.emb y) 1).val = 0 * 1536 + (y 1).val := e1
  exact congrArg (stAll4 V c) (ix2_of_val (by omega) (by omega))

theorem arr4_13 (c : Dev nD) : (dat4 V c).arrAt 13 cfg4.N = (fun y => fsAll4 V c y : S6x1536.Idx → EReal) := by
  refine (dat4 V c).arrAt_eq_of_covers 13 _ (by decide +kernel) fun t hfl y => ?_
  blk_simp
  rw [after4_13]
  have e0 := win4_13.rect_emb_val t y 0 rfl
  have e1 := win4_13.rect_emb_val t y 1 rfl
  rw [index4_13 t] at e0 e1
  replace e0 : (((win4_13.blk t).view.emb y) 0).val = 0 * 6 + (y 0).val := e0
  replace e1 : (((win4_13.blk t).view.emb y) 1).val = 0 * 1536 + (y 1).val := e1
  exact congrArg (fsAll4 V c) (ix2_of_val (by omega) (by omega))

theorem arr4_15 (c : Dev nD) : (dat4 V c).arrAt 15 cfg4.N = (fun y => rsAll4 V c y : S6x1536.Idx → EReal) := by
  refine (dat4 V c).arrAt_eq_of_covers 15 _ (by decide +kernel) fun t hfl y => ?_
  blk_simp
  rw [after4_15]
  have e0 := win4_15.rect_emb_val t y 0 rfl
  have e1 := win4_15.rect_emb_val t y 1 rfl
  rw [index4_15 t] at e0 e1
  replace e0 : (((win4_15.blk t).view.emb y) 0).val = 0 * 6 + (y 0).val := e0
  replace e1 : (((win4_15.blk t).view.emb y) 1).val = 0 * 1536 + (y 1).val := e1
  exact congrArg (rsAll4 V c) (ix2_of_val (by omega) (by omega))

end Cert.KernelIdeal.Hand
end
-- ==== Proof.KernelIdeal.Chain.lean ====
/- What the regions compute, in terms of the arguments as launched. -/
module

public import proofs.«01_k».proof.Proof.Spec
public import proofs.«01_k».proof.Proof.RefOut
public import proofs.«01_k».proof.Proof.KernelIdeal.DeqArr
public import proofs.«01_k».proof.Proof.KernelIdeal.GateArr
public import proofs.«01_k».proof.Proof.KernelIdeal.DownArr
public import proofs.«01_k».proof.Proof.KernelIdeal.Run
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pipeline (Dat Cfg Window)
open Cert.Spec

open Cert.ReferenceIdeal.Read (xrow upW downW hfull hgate hup href yvar yref)

variable (m : (ℓ : Loc nD τ sig) → Buf (Elt Ideal) ℓ) (ρ : Dev nD → PrngReg) (c : Dev nD)

/-- The arguments as launched. -/
abbrev x0 : S6x1536x1024.Idx → EReal := m ((c : Thread nD τ).loc main_arg0)
abbrev x1 : S1024x4096.Idx → EReal := m ((c : Thread nD τ).loc main_arg1)
abbrev x2 : S1024x4096.Idx → EReal := m ((c : Thread nD τ).loc main_arg2)
abbrev x3 : S4096x1024.Idx → EReal := m ((c : Thread nD τ).loc main_arg3)
abbrev x4 : S512x4096.Idx → BitVec 8 := m ((c : Thread nD τ).loc main_arg4)
abbrev x5 : S512x4096.Idx → BitVec 8 := m ((c : Thread nD τ).loc main_arg5)
abbrev x6 : S2048x1024.Idx → BitVec 8 := m ((c : Thread nD τ).loc main_arg6)
abbrev x7 : S8x4096.Idx → EReal := m ((c : Thread nD τ).loc main_arg7)
abbrev x8 : S8x4096.Idx → EReal := m ((c : Thread nD τ).loc main_arg8)
abbrev x9 : S32x1024.Idx → EReal := m ((c : Thread nD τ).loc main_arg9)

/-! ## The weights and the tokens the gate region reads -/

theorem gateW_eq : mat (V4 m ρ c main_v0 : S1024x4096.Idx → EReal) = upW (x4 m c) (x7 m c) := by
  have e : W4 m ρ c (Proc.devRef .tc main_v0) = (dat0 (V0 m ρ) c).arrAt 2 cfg0.N :=
    (W4_of m ρ c main_v0 (by decide)).trans ((W3_of_ne m ρ c main_v0 (by decide)).trans ((W2_of_ne m ρ c main_v0 (by decide)).trans (W1_arr m ρ c 2)))
  exact congrArg mat (e.trans (arr0 (V0 m ρ) c))

theorem upW_eq : mat (V4 m ρ c main_v1 : S1024x4096.Idx → EReal) = upW (x5 m c) (x8 m c) := by
  have e : W4 m ρ c (Proc.devRef .tc main_v1) = (dat1 (V1 m ρ) c).arrAt 2 cfg1.N :=
    (W4_of m ρ c main_v1 (by decide)).trans ((W3_of_ne m ρ c main_v1 (by decide)).trans (W2_arr m ρ c 2))
  refine (congrArg mat (e.trans (arr1 (V1 m ρ) c))).trans ?_
  rw [show V1 m ρ c main_arg5 = x5 m c from W1_args m ρ c main_arg5 (by decide), show V1 m ρ c main_arg8 = x8 m c from W1_args m ρ c main_arg8 (by decide)]
  rfl

theorem downW_eq : mat (V5 m ρ c main_v2 : S4096x1024.Idx → EReal) = downW (x6 m c) (x9 m c) := by
  have e : W5 m ρ c (Proc.devRef .tc main_v2) = (dat2 (V2 m ρ) c).arrAt 2 cfg2.N :=
    (W5_of_ne m ρ c main_v2 (by decide)).trans ((W4_of m ρ c main_v2 (by decide)).trans (W3_arr m ρ c 2))
  refine (congrArg mat (e.trans (arr2 (V2 m ρ) c))).trans ?_
  rw [show V2 m ρ c main_arg6 = x6 m c from W2_args m ρ c main_arg6 (by decide), show V2 m ρ c main_arg9 = x9 m c from W2_args m ρ c main_arg9 (by decide)]
  rfl

theorem gate_arg1 : (V4 m ρ c main_arg1 : S1024x4096.Idx → EReal) = x1 m c := W4_args m ρ c main_arg1 (by decide)
theorem gate_arg2 : (V4 m ρ c main_arg2 : S1024x4096.Idx → EReal) = x2 m c := W4_args m ρ c main_arg2 (by decide)
theorem down_arg3 : (V5 m ρ c main_arg3 : S4096x1024.Idx → EReal) = x3 m c := W5_args m ρ c main_arg3 (by decide)

/-- Row `R = 1536·b + s` of the flattened tokens is token `s` of batch `b`. -/
theorem tok_eq (b : Fin 6) (s : Fin 1536) (R : Fin 9216) (h : R.val = 1536 * b.val + s.val) : tok (V4 m ρ) c R = xrow (x0 m c) b s := by
  have e : W4 m ρ c (Proc.devRef .tc main_v3) = shapeCast S9216x1024 (x0 m c) shapeCasts_S6x1536x1024_S9216x1024 :=
    (show W4 m ρ c (Proc.devRef .tc main_v3) = shapeCast S9216x1024 (W3 m ρ c (Proc.devRef .tc main_arg0)) shapeCasts_S6x1536x1024_S9216x1024 from rfl).trans
      (congrArg (fun a => shapeCast S9216x1024 a shapeCasts_S6x1536x1024_S9216x1024) (W3_args m ρ c main_arg0 (by decide)))
  funext k
  refine (congrFun e (ix2 R k)).trans ?_
  pointwise []
  exact congrArg (x0 m c) (ix3_of_val (by show R.val / 1536 = b.val; omega) (by show R.val % 1536 = s.val; omega) rfl)

/-! ## The hidden rows -/

section Rows

variable (b : Fin 6) (s : Fin 1536) (R : Fin 9216) (h : R.val = 1536 * b.val + s.val)
include h

theorem hidQQ_eq : hidQQ (V4 m ρ) c R = hfull (x0 m c) (x4 m c) (x5 m c) (x7 m c) (x8 m c) b s := by
  unfold hidQQ; rw [tok_eq m ρ c b s R h, gateW_eq, upW_eq]
theorem hidDD_eq : hidDD (V4 m ρ) c R = href (x0 m c) (x1 m c) (x2 m c) b s := by
  unfold hidDD; rw [tok_eq m ρ c b s R h, gate_arg1, gate_arg2]
theorem hidQD_eq : hidQD (V4 m ρ) c R = hgate (x0 m c) (x2 m c) (x4 m c) (x7 m c) b s := by
  unfold hidQD; rw [tok_eq m ρ c b s R h, gateW_eq, gate_arg2]
theorem hidDQ_eq : hidDQ (V4 m ρ) c R = hup (x0 m c) (x1 m c) (x5 m c) (x8 m c) b s := by
  unfold hidDQ; rw [tok_eq m ρ c b s R h, gate_arg1, upW_eq]

theorem brow2_eq : brow (V5 m ρ c main_v4_2 : S9216x4096.Idx → EReal) R = hfull (x0 m c) (x4 m c) (x5 m c) (x7 m c) (x8 m c) b s :=
  (congrArg (fun a : S9216x4096.Idx → EReal => brow a R) ((W5_arr m ρ c 7).trans (arr3_7 (V4 m ρ) c))).trans (hidQQ_eq m ρ c b s R h)
theorem brow3_eq : brow (V5 m ρ c main_v4_3 : S9216x4096.Idx → EReal) R = href (x0 m c) (x1 m c) (x2 m c) b s :=
  (congrArg (fun a : S9216x4096.Idx → EReal => brow a R) ((W5_arr m ρ c 8).trans (arr3_8 (V4 m ρ) c))).trans (hidDD_eq m ρ c b s R h)
theorem brow4_eq : brow (V5 m ρ c main_v4_4 : S9216x4096.Idx → EReal) R = hgate (x0 m c) (x2 m c) (x4 m c) (x7 m c) b s :=
  (congrArg (fun a : S9216x4096.Idx → EReal => brow a R) ((W5_arr m ρ c 9).trans (arr3_9 (V4 m ρ) c))).trans (hidQD_eq m ρ c b s R h)
theorem brow5_eq : brow (V5 m ρ c main_v4_5 : S9216x4096.Idx → EReal) R = hup (x0 m c) (x1 m c) (x5 m c) (x8 m c) b s :=
  (congrArg (fun a : S9216x4096.Idx → EReal => brow a R) ((W5_arr m ρ c 10).trans (arr3_10 (V4 m ρ) c))).trans (hidDQ_eq m ρ c b s R h)

theorem yG_eq : yG (V5 m ρ) c R = yref (x0 m c) (x1 m c) (x2 m c) (x3 m c) b s := by
  unfold yG; rw [brow3_eq m ρ c b s R h, down_arg3]

theorem sqG_eq (k : Fin 4) (d : Fin 1024) : sqG (V5 m ρ) c k R d
    = sqdiff (yvar (x0 m c) (x1 m c) (x2 m c) (x3 m c) (x4 m c) (x5 m c) (x6 m c) (x7 m c) (x8 m c) (x9 m c) k b s d) (yref (x0 m c) (x1 m c) (x2 m c) (x3 m c) b s d) := by
  unfold sqG
  rw [yG_eq m ρ c b s R h, brow2_eq m ρ c b s R h, brow3_eq m ρ c b s R h, brow4_eq m ρ c b s R h, brow5_eq m ρ c b s R h, down_arg3, downW_eq]
  match k with
  | 0 => rfl
  | 1 => rfl
  | 2 => rfl
  | 3 => rfl

end Rows

/-- The row maxima the gate region leaves in lanes. -/
theorem lanes2 (R : Fin 9216) : Finset.univ.sup (brow (V5 m ρ c main_v4_6 : S9216x256.Idx → EReal) R) = amax (brow (V5 m ρ c main_v4_2 : S9216x4096.Idx → EReal) R) :=
  (congrArg (fun a : S9216x256.Idx → EReal => Finset.univ.sup (brow a R)) ((W5_arr m ρ c 11).trans (arr3_11 (V4 m ρ) c))).trans
    ((sup_fold4096 (hidQQ (V4 m ρ) c R)).trans (congrArg (fun a : S9216x4096.Idx → EReal => amax (brow a R)) ((W5_arr m ρ c 7).trans (arr3_7 (V4 m ρ) c))).symm)
theorem lanes3 (R : Fin 9216) : Finset.univ.sup (brow (V5 m ρ c main_v4_7 : S9216x256.Idx → EReal) R) = amax (brow (V5 m ρ c main_v4_3 : S9216x4096.Idx → EReal) R) :=
  (congrArg (fun a : S9216x256.Idx → EReal => Finset.univ.sup (brow a R)) ((W5_arr m ρ c 12).trans (arr3_12 (V4 m ρ) c))).trans
    ((sup_fold4096 (hidDD (V4 m ρ) c R)).trans (congrArg (fun a : S9216x4096.Idx → EReal => amax (brow a R)) ((W5_arr m ρ c 8).trans (arr3_8 (V4 m ρ) c))).symm)

end Cert.KernelIdeal.Hand
end
-- ==== Proof.KernelIdeal.Values.lean ====
/- The kernel's results are the reference's, as functions of the arguments. -/
module

public import proofs.«01_k».proof.Proof.Spec
public import proofs.«01_k».proof.Proof.KernelIdeal.Chain
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pipeline (Dat Cfg Window)
open Cert.Spec

open Cert.ReferenceIdeal.Read

variable (m : (ℓ : Loc nD τ sig) → Buf (Elt Ideal) ℓ) (ρ : Dev nD → PrngReg) (c : Dev nD)

/-- The row of the flattened arrays that holds token `s` of batch `b`. -/
abbrev flat (b : Fin 6) (s : Fin 1536) : Fin 9216 := ⟨1536 * b.val + s.val, by omega⟩

theorem unflat3 {n : ℕ} {E : Type} (f : (Shape.Idx ⟨2, ![9216, n]⟩) → E) (b : Fin 6) (s : Fin 1536) (k : Fin n) (h : b.val * 1536 + s.val < 9216) :
    f (ix2 ⟨b.val * 1536 + s.val, h⟩ k) = f (ix2 (flat b s) k) :=
  congrArg f (ix2_of_val (by show b.val * 1536 + s.val = 1536 * b.val + s.val; omega) rfl)

/-! ## The results that leave the regions in the reference's shape -/

theorem et_eq : (W7 m ρ c (Proc.devRef .tc main_v5_0) : S4x6x1536.Idx → EReal) = val_main_v210 (F := Ideal) (x0 m c) (x1 m c) (x2 m c) (x3 m c) (x4 m c) (x5 m c) (x6 m c) (x7 m c) (x8 m c) (x9 m c) := by
  refine ((W7_of m ρ c main_v5_0 (by decide)).trans ((W6_arr m ρ c 8).trans (arr4_8 (V5 m ρ) c))).trans ?_
  funext y
  obtain ⟨k, b, s, rfl⟩ : ∃ k b s, y = ix3 k b s := ⟨_, _, _, eq_ix3 y⟩
  refine (etAll4_apply (V5 m ρ) c (lanes2 m ρ c) (lanes3 m ρ c) (ix3 k b s) (flat b s) rfl).trans ?_
  rw [v210_eq]
  exact Finset.sum_congr rfl fun d _ => sqG_eq m ρ c b s (flat b s) rfl k d

theorem ec_eq : (W7 m ρ c (Proc.devRef .tc main_v5_1) : S4x1024.Idx → EReal) = val_main_v211 (F := Ideal) (x0 m c) (x1 m c) (x2 m c) (x3 m c) (x4 m c) (x5 m c) (x6 m c) (x7 m c) (x8 m c) (x9 m c) := by
  refine ((W7_of m ρ c main_v5_1 (by decide)).trans ((W6_arr m ρ c 9).trans (arr4_9 (V5 m ρ) c))).trans ?_
  funext y
  obtain ⟨k, d, rfl⟩ : ∃ k d, y = ix2 k d := ⟨_, _, eq_ix2 y⟩
  refine (ecAll4_apply (V5 m ρ) c (lanes2 m ρ c) (lanes3 m ρ c) k d).trans ?_
  rw [v211_eq, Fin.sum_univ_tiles 6 1536 rfl (fun R => sqG (V5 m ρ) c k R d)]
  exact Finset.sum_congr rfl fun b _ => Finset.sum_congr rfl fun s _ => sqG_eq m ρ c b s _ (by show b.val * 1536 + s.val = 1536 * b.val + s.val; omega) k d

theorem st_eq : (W7 m ρ c (Proc.devRef .tc main_v5_2) : S6x1536.Idx → EReal) = val_main_v213 (F := Ideal) (x0 m c) (x1 m c) (x2 m c) (x3 m c) := by
  refine ((W7_of m ρ c main_v5_2 (by decide)).trans ((W6_arr m ρ c 10).trans (arr4_10 (V5 m ρ) c))).trans ?_
  funext y
  obtain ⟨b, s, rfl⟩ : ∃ b s, y = ix2 b s := ⟨_, _, eq_ix2 y⟩
  refine (stAll4_apply (V5 m ρ) c (ix2 b s) (flat b s) rfl).trans ?_
  rw [v213_eq, yG_eq m ρ c b s (flat b s) rfl]

theorem fs_eq : (W7 m ρ c (Proc.devRef .tc main_v5_5) : S6x1536.Idx → EReal) = val_main_v109 (F := Ideal) (x0 m c) (x4 m c) (x5 m c) (x7 m c) (x8 m c) := by
  refine ((W7_of m ρ c main_v5_5 (by decide)).trans ((W6_arr m ρ c 13).trans (arr4_13 (V5 m ρ) c))).trans ?_
  funext y
  obtain ⟨b, s, rfl⟩ : ∃ b s, y = ix2 b s := ⟨_, _, eq_ix2 y⟩
  refine (fsAll4_apply (V5 m ρ) c (lanes2 m ρ c) (ix2 b s) (flat b s) rfl).trans ?_
  rw [v109_eq, brow2_eq m ρ c b s (flat b s) rfl]

theorem rs_eq : (W7 m ρ c (Proc.devRef .tc main_v5_7) : S6x1536.Idx → EReal) = val_main_v160 (F := Ideal) (x0 m c) (x1 m c) (x2 m c) := by
  refine ((W7_of m ρ c main_v5_7 (by decide)).trans ((W6_arr m ρ c 15).trans (arr4_15 (V5 m ρ) c))).trans ?_
  funext y
  obtain ⟨b, s, rfl⟩ : ∃ b s, y = ix2 b s := ⟨_, _, eq_ix2 y⟩
  refine (rsAll4_apply (V5 m ρ) c (lanes3 m ρ c) (ix2 b s) (flat b s) rfl).trans ?_
  rw [v160_eq, brow3_eq m ρ c b s (flat b s) rfl]

theorem xs_eq : (W7 m ρ c (Proc.devRef .tc main_v4_1) : S6x1536.Idx → EReal) = val_main_v9 (F := Ideal) (x0 m c) := by
  refine ((W7_of m ρ c main_v4_1 (by decide)).trans ((W6_of m ρ c main_v4_1 (by decide)).trans ((W5_arr m ρ c 6).trans (arr3_6 (V4 m ρ) c)))).trans ?_
  funext y
  obtain ⟨b, s, rfl⟩ : ∃ b s, y = ix2 b s := ⟨_, _, eq_ix2 y⟩
  refine (xsAll3_apply (V4 m ρ) c (ix2 b s) (flat b s) rfl).trans ?_
  rw [v9_eq, tok_eq m ρ c b s (flat b s) rfl]

/-! ## The results reshaped from the flattened rows -/

theorem y_eq : (W7 m ρ c (Proc.devRef .tc main_v6) : S6x1536x1024.Idx → EReal) = val_main_v214 (F := Ideal) (x0 m c) (x1 m c) (x2 m c) (x3 m c) := by
  have e : W7 m ρ c (Proc.devRef .tc main_v6) = shapeCast S6x1536x1024 (W6 m ρ c (Proc.devRef .tc main_v5_3)) shapeCasts_S9216x1024_S6x1536x1024 := rfl
  refine (e.trans (congrArg (fun a => shapeCast S6x1536x1024 a shapeCasts_S9216x1024_S6x1536x1024) ((W6_arr m ρ c 11).trans (arr4_11 (V5 m ρ) c)))).trans ?_
  funext y
  obtain ⟨b, s, k, rfl⟩ : ∃ b s k, y = ix3 b s k := ⟨_, _, _, eq_ix3 y⟩
  rw [v214_eq, ← yG_eq m ρ c b s (flat b s) rfl]
  pointwise []
  exact unflat3 (fun y : S9216x1024.Idx => (yG (V5 m ρ) c (y 0) (y 1) : EReal)) b s k _

theorem xc_eq : (W7 m ρ c (Proc.devRef .tc main_v7) : S6x1536x1024.Idx → BitVec 8) = val_main_v16 (F := Ideal) (x0 m c) := by
  have e : W7 m ρ c (Proc.devRef .tc main_v7) = shapeCast S6x1536x1024 (W6 m ρ c (Proc.devRef .tc main_v4_0)) shapeCasts_S9216x1024_S6x1536x1024 := rfl
  refine (e.trans (congrArg (fun a => shapeCast S6x1536x1024 a shapeCasts_S9216x1024_S6x1536x1024) ((W6_of m ρ c main_v4_0 (by decide)).trans ((W5_arr m ρ c 5).trans (arr3_5 (V4 m ρ) c))))).trans ?_
  funext y
  obtain ⟨b, s, k, rfl⟩ : ∃ b s k, y = ix3 b s k := ⟨_, _, _, eq_ix3 y⟩
  rw [v16_eq, ← tok_eq m ρ c b s (flat b s) rfl]
  pointwise []
  exact unflat3 (fun y : S9216x1024.Idx => (rcode (tok (V4 m ρ) c (y 0)) (y 1) : BitVec 8)) b s k _

theorem fc_eq : (W7 m ρ c (Proc.devRef .tc main_v8) : S6x1536x4096.Idx → BitVec 8) = val_main_v116 (F := Ideal) (x0 m c) (x4 m c) (x5 m c) (x7 m c) (x8 m c) := by
  have e : W7 m ρ c (Proc.devRef .tc main_v8) = shapeCast S6x1536x4096 (W6 m ρ c (Proc.devRef .tc main_v5_4)) shapeCasts_S9216x4096_S6x1536x4096 := rfl
  refine (e.trans (congrArg (fun a => shapeCast S6x1536x4096 a shapeCasts_S9216x4096_S6x1536x4096) ((W6_arr m ρ c 12).trans (arr4_12 (V5 m ρ) c (lanes2 m ρ c))))).trans ?_
  funext y
  obtain ⟨b, s, k, rfl⟩ : ∃ b s k, y = ix3 b s k := ⟨_, _, _, eq_ix3 y⟩
  rw [v116_eq, ← brow2_eq m ρ c b s (flat b s) rfl]
  pointwise []
  exact unflat3 (fun y : S9216x4096.Idx => (rcode (brow (V5 m ρ c main_v4_2 : S9216x4096.Idx → EReal) (y 0)) (y 1) : BitVec 8)) b s k _

theorem rc_eq : (W7 m ρ c (Proc.devRef .tc main_v9) : S6x1536x4096.Idx → BitVec 8) = val_main_v167 (F := Ideal) (x0 m c) (x1 m c) (x2 m c) := by
  have e : W7 m ρ c (Proc.devRef .tc main_v9) = shapeCast S6x1536x4096 (W6 m ρ c (Proc.devRef .tc main_v5_6)) shapeCasts_S9216x4096_S6x1536x4096 := rfl
  refine (e.trans (congrArg (fun a => shapeCast S6x1536x4096 a shapeCasts_S9216x4096_S6x1536x4096) ((W6_arr m ρ c 14).trans (arr4_14 (V5 m ρ) c (lanes3 m ρ c))))).trans ?_
  funext y
  obtain ⟨b, s, k, rfl⟩ : ∃ b s k, y = ix3 b s k := ⟨_, _, _, eq_ix3 y⟩
  rw [v167_eq, ← brow3_eq m ρ c b s (flat b s) rfl]
  pointwise []
  exact unflat3 (fun y : S9216x4096.Idx => (rcode (brow (V5 m ρ c main_v4_3 : S9216x4096.Idx → EReal) (y 0)) (y 1) : BitVec 8)) b s k _

end Cert.KernelIdeal.Hand
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.KernelIdeal.Values
public import proofs.«01_k».proof.Proof.Gen.ReferenceIdeal.Read
public import Idealize.ShloMosaic.Lib.Bf16Pair
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

theorem frame_ri : Cert.quiescent_ReferenceIdeal := fun m ρ _ =>
  (θ_run Cert.ReferenceIdeal.defs _ _).mono (fun r h => ⟨fun c => (h c).2.2.2.2.2.2.2.2.2.2,
      Idealize.ShloMosaic.sem_eq_zero_of_no_sems (by decide) r.2⟩)
    (Cert.ReferenceIdeal.Value.run (F := Ideal) m ρ)

theorem preserves : Cert.preserves_Kernel_KernelIdeal :=
  ⟨IdealRules.bf16_pair.packStatement _, IdealRules.bf16_pair.statement _ _⟩

/-- Both programs end with the reference's value of each result at the arguments as launched. -/
theorem algebraic : Cert.algebraic_KernelIdeal_ReferenceIdeal := fun m g m' g' _ ha =>
  ⟨fun c => Cert.ReferenceIdeal.Read.val_main_v210 (F := Ideal) (Cert.KernelIdeal.Hand.x0 m c) (Cert.KernelIdeal.Hand.x1 m c) (Cert.KernelIdeal.Hand.x2 m c) (Cert.KernelIdeal.Hand.x3 m c) (Cert.KernelIdeal.Hand.x4 m c) (Cert.KernelIdeal.Hand.x5 m c) (Cert.KernelIdeal.Hand.x6 m c) (Cert.KernelIdeal.Hand.x7 m c) (Cert.KernelIdeal.Hand.x8 m c) (Cert.KernelIdeal.Hand.x9 m c),
    fun c => Cert.ReferenceIdeal.Read.val_main_v211 (F := Ideal) (Cert.KernelIdeal.Hand.x0 m c) (Cert.KernelIdeal.Hand.x1 m c) (Cert.KernelIdeal.Hand.x2 m c) (Cert.KernelIdeal.Hand.x3 m c) (Cert.KernelIdeal.Hand.x4 m c) (Cert.KernelIdeal.Hand.x5 m c) (Cert.KernelIdeal.Hand.x6 m c) (Cert.KernelIdeal.Hand.x7 m c) (Cert.KernelIdeal.Hand.x8 m c) (Cert.KernelIdeal.Hand.x9 m c),
    fun c => Cert.ReferenceIdeal.Read.val_main_v213 (F := Ideal) (Cert.KernelIdeal.Hand.x0 m c) (Cert.KernelIdeal.Hand.x1 m c) (Cert.KernelIdeal.Hand.x2 m c) (Cert.KernelIdeal.Hand.x3 m c),
    fun c => Cert.ReferenceIdeal.Read.val_main_v214 (F := Ideal) (Cert.KernelIdeal.Hand.x0 m c) (Cert.KernelIdeal.Hand.x1 m c) (Cert.KernelIdeal.Hand.x2 m c) (Cert.KernelIdeal.Hand.x3 m c),
    fun c => Cert.ReferenceIdeal.Read.val_main_v16 (F := Ideal) (Cert.KernelIdeal.Hand.x0 m c),
    fun c => Cert.ReferenceIdeal.Read.val_main_v9 (F := Ideal) (Cert.KernelIdeal.Hand.x0 m c),
    fun c => Cert.ReferenceIdeal.Read.val_main_v116 (F := Ideal) (Cert.KernelIdeal.Hand.x0 m c) (Cert.KernelIdeal.Hand.x4 m c) (Cert.KernelIdeal.Hand.x5 m c) (Cert.KernelIdeal.Hand.x7 m c) (Cert.KernelIdeal.Hand.x8 m c),
    fun c => Cert.ReferenceIdeal.Read.val_main_v109 (F := Ideal) (Cert.KernelIdeal.Hand.x0 m c) (Cert.KernelIdeal.Hand.x4 m c) (Cert.KernelIdeal.Hand.x5 m c) (Cert.KernelIdeal.Hand.x7 m c) (Cert.KernelIdeal.Hand.x8 m c),
    fun c => Cert.ReferenceIdeal.Read.val_main_v167 (F := Ideal) (Cert.KernelIdeal.Hand.x0 m c) (Cert.KernelIdeal.Hand.x1 m c) (Cert.KernelIdeal.Hand.x2 m c),
    fun c => Cert.ReferenceIdeal.Read.val_main_v160 (F := Ideal) (Cert.KernelIdeal.Hand.x0 m c) (Cert.KernelIdeal.Hand.x1 m c) (Cert.KernelIdeal.Hand.x2 m c),
    (θ_run Cert.KernelIdeal.defs _ _).mono (fun r h c => ⟨(h.1 c Cert.KernelIdeal.main_v5_0 (by decide)).trans (Cert.KernelIdeal.Hand.et_eq m g c),
      (h.1 c Cert.KernelIdeal.main_v5_1 (by decide)).trans (Cert.KernelIdeal.Hand.ec_eq m g c),
      (h.1 c Cert.KernelIdeal.main_v5_2 (by decide)).trans (Cert.KernelIdeal.Hand.st_eq m g c),
      (h.1 c Cert.KernelIdeal.main_v6 (by decide)).trans (Cert.KernelIdeal.Hand.y_eq m g c),
      (h.1 c Cert.KernelIdeal.main_v7 (by decide)).trans (Cert.KernelIdeal.Hand.xc_eq m g c),
      (h.1 c Cert.KernelIdeal.main_v4_1 (by decide)).trans (Cert.KernelIdeal.Hand.xs_eq m g c),
      (h.1 c Cert.KernelIdeal.main_v8 (by decide)).trans (Cert.KernelIdeal.Hand.fc_eq m g c),
      (h.1 c Cert.KernelIdeal.main_v5_5 (by decide)).trans (Cert.KernelIdeal.Hand.fs_eq m g c),
      (h.1 c Cert.KernelIdeal.main_v9 (by decide)).trans (Cert.KernelIdeal.Hand.rc_eq m g c),
      (h.1 c Cert.KernelIdeal.main_v5_7 (by decide)).trans (Cert.KernelIdeal.Hand.rs_eq m g c),
      (h.1 c Cert.KernelIdeal.main_arg0 (by decide)).trans (Cert.KernelIdeal.Hand.W7_main_arg0 m g c),
      (h.1 c Cert.KernelIdeal.main_arg1 (by decide)).trans (Cert.KernelIdeal.Hand.W7_main_arg1 m g c),
      (h.1 c Cert.KernelIdeal.main_arg2 (by decide)).trans (Cert.KernelIdeal.Hand.W7_main_arg2 m g c),
      (h.1 c Cert.KernelIdeal.main_arg3 (by decide)).trans (Cert.KernelIdeal.Hand.W7_main_arg3 m g c),
      (h.1 c Cert.KernelIdeal.main_arg4 (by decide)).trans (Cert.KernelIdeal.Hand.W7_main_arg4 m g c),
      (h.1 c Cert.KernelIdeal.main_arg5 (by decide)).trans (Cert.KernelIdeal.Hand.W7_main_arg5 m g c),
      (h.1 c Cert.KernelIdeal.main_arg6 (by decide)).trans (Cert.KernelIdeal.Hand.W7_main_arg6 m g c),
      (h.1 c Cert.KernelIdeal.main_arg7 (by decide)).trans (Cert.KernelIdeal.Hand.W7_main_arg7 m g c),
      (h.1 c Cert.KernelIdeal.main_arg8 (by decide)).trans (Cert.KernelIdeal.Hand.W7_main_arg8 m g c),
      (h.1 c Cert.KernelIdeal.main_arg9 (by decide)).trans (Cert.KernelIdeal.Hand.W7_main_arg9 m g c)⟩)
      (Cert.KernelIdeal.Hand.run (F := Ideal) m g),
    (θ_run Cert.ReferenceIdeal.defs _ _).mono (fun r h c => by
      obtain ⟨e0, e1, e2, e3, e4, e5, e6, e7, e8, e9⟩ := ha c
      exact ⟨(h c).1.trans ((Cert.ReferenceIdeal.Read.val_main_v210_eq (StableHlo.launchContents m' c)).trans
        (by simp only [StableHlo.launchContents_devRef, e0, e1, e2, e3, e4, e5, e6, e7, e8, e9])),
      (h c).2.1.trans ((Cert.ReferenceIdeal.Read.val_main_v211_eq (StableHlo.launchContents m' c)).trans
        (by simp only [StableHlo.launchContents_devRef, e0, e1, e2, e3, e4, e5, e6, e7, e8, e9])),
      (h c).2.2.1.trans ((Cert.ReferenceIdeal.Read.val_main_v213_eq (StableHlo.launchContents m' c)).trans
        (by simp only [StableHlo.launchContents_devRef, e0, e1, e2, e3])),
      (h c).2.2.2.1.trans ((Cert.ReferenceIdeal.Read.val_main_v214_eq (StableHlo.launchContents m' c)).trans
        (by simp only [StableHlo.launchContents_devRef, e0, e1, e2, e3])),
      (h c).2.2.2.2.1.trans ((Cert.ReferenceIdeal.Read.val_main_v16_eq (StableHlo.launchContents m' c)).trans
        (by simp only [StableHlo.launchContents_devRef, e0])),
      (h c).2.2.2.2.2.1.trans ((Cert.ReferenceIdeal.Read.val_main_v9_eq (StableHlo.launchContents m' c)).trans
        (by simp only [StableHlo.launchContents_devRef, e0])),
      (h c).2.2.2.2.2.2.1.trans ((Cert.ReferenceIdeal.Read.val_main_v116_eq (StableHlo.launchContents m' c)).trans
        (by simp only [StableHlo.launchContents_devRef, e0, e4, e5, e7, e8])),
      (h c).2.2.2.2.2.2.2.1.trans ((Cert.ReferenceIdeal.Read.val_main_v109_eq (StableHlo.launchContents m' c)).trans
        (by simp only [StableHlo.launchContents_devRef, e0, e4, e5, e7, e8])),
      (h c).2.2.2.2.2.2.2.2.1.trans ((Cert.ReferenceIdeal.Read.val_main_v167_eq (StableHlo.launchContents m' c)).trans
        (by simp only [StableHlo.launchContents_devRef, e0, e1, e2])),
      (h c).2.2.2.2.2.2.2.2.2.1.trans ((Cert.ReferenceIdeal.Read.val_main_v160_eq (StableHlo.launchContents m' c)).trans
        (by simp only [StableHlo.launchContents_devRef, e0, e1, e2])),
      (h c).2.2.2.2.2.2.2.2.2.2⟩)
      (Cert.ReferenceIdeal.Value.run (F := Ideal) m' g')⟩

theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ, frame_ri, preserves, algebraic⟩

end Cert.Proof

end
